-- ==== Defs.lean ====
def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_attend_pre [hPre_attend_pre : Cert.Pre_attend_pre.Facts] (m : (ℓ : Loc Cert.AttendIdeal.nD Cert.AttendIdeal.τ Cert.AttendIdeal.sig) → Buf (Elt Ideal) ℓ) : Prop :=
  ∀ c : Dev Cert.AttendIdeal.nD,
    (Cert.Pre_attend_pre.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_attend_pre [hPre_attend_pre : Cert.Pre_attend_pre.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_attend_pre.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_HyOut (m : (ℓ : Loc Cert.HyOut.nD Cert.HyOut.τ Cert.HyOut.sig) → Buf (Elt Bits) ℓ) : Prop :=
  True

def Pre_HyOutIdeal (m : (ℓ : Loc Cert.HyOutIdeal.nD Cert.HyOutIdeal.τ Cert.HyOutIdeal.sig) → Buf (Elt Ideal) ℓ) : Prop :=
  True

def Pre_HyOutRefIdeal (m : (ℓ : Loc Cert.HyOutRefIdeal.nD Cert.HyOutRefIdeal.τ Cert.HyOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInIdeal_hyena_in_pre [hPre_hyena_in_pre : Cert.Pre_hyena_in_pre.Facts] (m : (ℓ : Loc Cert.HyInIdeal.nD Cert.HyInIdeal.τ Cert.HyInIdeal.sig) → Buf (Elt Ideal) ℓ) : Prop :=
  ∀ c : Dev Cert.HyInIdeal.nD,
    (Cert.Pre_hyena_in_pre.fn (F := Ideal) (m ((c.tc : Thread Cert.HyInIdeal.nD Cert.HyInIdeal.τ).loc Cert.HyInIdeal.main_arg0)) (m ((c.tc : Thread Cert.HyInIdeal.nD Cert.HyInIdeal.τ).loc Cert.HyInIdeal.main_arg1)) (m ((c.tc : Thread Cert.HyInIdeal.nD Cert.HyInIdeal.τ).loc Cert.HyInIdeal.main_arg2)) (m ((c.tc : Thread Cert.HyInIdeal.nD Cert.HyInIdeal.τ).loc Cert.HyInIdeal.main_arg3)) (m ((c.tc : Thread Cert.HyInIdeal.nD Cert.HyInIdeal.τ).loc Cert.HyInIdeal.main_arg4)) (m ((c.tc : Thread Cert.HyInIdeal.nD Cert.HyInIdeal.τ).loc Cert.HyInIdeal.main_arg5)) (m ((c.tc : Thread Cert.HyInIdeal.nD Cert.HyInIdeal.τ).loc Cert.HyInIdeal.main_arg6))) = (fun _ => 1#1)

def Pre_HyInRefIdeal (m : (ℓ : Loc Cert.HyInRefIdeal.nD Cert.HyInRefIdeal.τ Cert.HyInRefIdeal.sig) → Buf (Elt Ideal) ℓ) : Prop :=
  True

def Pre_HyInRefIdeal_hyena_in_pre [hPre_hyena_in_pre : Cert.Pre_hyena_in_pre.Facts] (m : (ℓ : Loc Cert.HyInRefIdeal.nD Cert.HyInRefIdeal.τ Cert.HyInRefIdeal.sig) → Buf (Elt Ideal) ℓ) : Prop :=
  ∀ c : Dev Cert.HyInRefIdeal.nD,
    (Cert.Pre_hyena_in_pre.fn (F := Ideal) (m ((c.tc : Thread Cert.HyInRefIdeal.nD Cert.HyInRefIdeal.τ).loc Cert.HyInRefIdeal.main_arg0)) (m ((c.tc : Thread Cert.HyInRefIdeal.nD Cert.HyInRefIdeal.τ).loc Cert.HyInRefIdeal.main_arg1)) (m ((c.tc : Thread Cert.HyInRefIdeal.nD Cert.HyInRefIdeal.τ).loc Cert.HyInRefIdeal.main_arg2)) (m ((c.tc : Thread Cert.HyInRefIdeal.nD Cert.HyInRefIdeal.τ).loc Cert.HyInRefIdeal.main_arg3)) (m ((c.tc : Thread Cert.HyInRefIdeal.nD Cert.HyInRefIdeal.τ).loc Cert.HyInRefIdeal.main_arg4)) (m ((c.tc : Thread Cert.HyInRefIdeal.nD Cert.HyInRefIdeal.τ).loc Cert.HyInRefIdeal.main_arg5)) (m ((c.tc : Thread Cert.HyInRefIdeal.nD Cert.HyInRefIdeal.τ).loc Cert.HyInRefIdeal.main_arg6))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_pre [hPre_pool_pre : Cert.Pre_pool_pre.Facts] (m : (ℓ : Loc Cert.PoolIdeal.nD Cert.PoolIdeal.τ Cert.PoolIdeal.sig) → Buf (Elt Ideal) ℓ) : Prop :=
  ∀ c : Dev Cert.PoolIdeal.nD,
    (Cert.Pre_pool_pre.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_pre [hPre_pool_pre : Cert.Pre_pool_pre.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_pre.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7))) = (fun _ => 1#1)

def Pre_LatentIn (m : (ℓ : Loc Cert.LatentIn.nD Cert.LatentIn.τ Cert.LatentIn.sig) → Buf (Elt Bits) ℓ) : Prop :=
  True

def Pre_LatentInIdeal (m : (ℓ : Loc Cert.LatentInIdeal.nD Cert.LatentInIdeal.τ Cert.LatentInIdeal.sig) → Buf (Elt Ideal) ℓ) : Prop :=
  True

def Pre_LatentInIdeal_latent_in_pre [hPre_latent_in_pre : Cert.Pre_latent_in_pre.Facts] (m : (ℓ : Loc Cert.LatentInIdeal.nD Cert.LatentInIdeal.τ Cert.LatentInIdeal.sig) → Buf (Elt Ideal) ℓ) : Prop :=
  ∀ c : Dev Cert.LatentInIdeal.nD,
    (Cert.Pre_latent_in_pre.fn (F := Ideal) (m ((c.tc : Thread Cert.LatentInIdeal.nD Cert.LatentInIdeal.τ).loc Cert.LatentInIdeal.main_arg0)) (m ((c.tc : Thread Cert.LatentInIdeal.nD Cert.LatentInIdeal.τ).loc Cert.LatentInIdeal.main_arg1)) (m ((c.tc : Thread Cert.LatentInIdeal.nD Cert.LatentInIdeal.τ).loc Cert.LatentInIdeal.main_arg2)) (m ((c.tc : Thread Cert.LatentInIdeal.nD Cert.LatentInIdeal.τ).loc Cert.LatentInIdeal.main_arg3))) = (fun _ => 1#1)

def Pre_LatentInRefIdeal (m : (ℓ : Loc Cert.LatentInRefIdeal.nD Cert.LatentInRefIdeal.τ Cert.LatentInRefIdeal.sig) → Buf (Elt Ideal) ℓ) : Prop :=
  True

def Pre_LatentInRefIdeal_latent_in_pre [hPre_latent_in_pre : Cert.Pre_latent_in_pre.Facts] (m : (ℓ : Loc Cert.LatentInRefIdeal.nD Cert.LatentInRefIdeal.τ Cert.LatentInRefIdeal.sig) → Buf (Elt Ideal) ℓ) : Prop :=
  ∀ c : Dev Cert.LatentInRefIdeal.nD,
    (Cert.Pre_latent_in_pre.fn (F := Ideal) (m ((c.tc : Thread Cert.LatentInRefIdeal.nD Cert.LatentInRefIdeal.τ).loc Cert.LatentInRefIdeal.main_arg0)) (m ((c.tc : Thread Cert.LatentInRefIdeal.nD Cert.LatentInRefIdeal.τ).loc Cert.LatentInRefIdeal.main_arg1)) (m ((c.tc : Thread Cert.LatentInRefIdeal.nD Cert.LatentInRefIdeal.τ).loc Cert.LatentInRefIdeal.main_arg2)) (m ((c.tc : Thread Cert.LatentInRefIdeal.nD Cert.LatentInRefIdeal.τ).loc Cert.LatentInRefIdeal.main_arg3))) = (fun _ => 1#1)

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesIdeal_queries_pre [hPre_queries_pre : Cert.Pre_queries_pre.Facts] (m : (ℓ : Loc Cert.QueriesIdeal.nD Cert.QueriesIdeal.τ Cert.QueriesIdeal.sig) → Buf (Elt Ideal) ℓ) : Prop :=
  ∀ c : Dev Cert.QueriesIdeal.nD,
    (Cert.Pre_queries_pre.fn (F := Ideal) (m ((c.tc : Thread Cert.QueriesIdeal.nD Cert.QueriesIdeal.τ).loc Cert.QueriesIdeal.main_arg0)) (m ((c.tc : Thread Cert.QueriesIdeal.nD Cert.QueriesIdeal.τ).loc Cert.QueriesIdeal.main_arg1)) (m ((c.tc : Thread Cert.QueriesIdeal.nD Cert.QueriesIdeal.τ).loc Cert.QueriesIdeal.main_arg2)) (m ((c.tc : Thread Cert.QueriesIdeal.nD Cert.QueriesIdeal.τ).loc Cert.QueriesIdeal.main_arg3))) = (fun _ => 1#1)

def Pre_QueriesRefIdeal (m : (ℓ : Loc Cert.QueriesRefIdeal.nD Cert.QueriesRefIdeal.τ Cert.QueriesRefIdeal.sig) → Buf (Elt Ideal) ℓ) : Prop :=
  True

def Pre_QueriesRefIdeal_queries_pre [hPre_queries_pre : Cert.Pre_queries_pre.Facts] (m : (ℓ : Loc Cert.QueriesRefIdeal.nD Cert.QueriesRefIdeal.τ Cert.QueriesRefIdeal.sig) → Buf (Elt Ideal) ℓ) : Prop :=
  ∀ c : Dev Cert.QueriesRefIdeal.nD,
    (Cert.Pre_queries_pre.fn (F := Ideal) (m ((c.tc : Thread Cert.QueriesRefIdeal.nD Cert.QueriesRefIdeal.τ).loc Cert.QueriesRefIdeal.main_arg0)) (m ((c.tc : Thread Cert.QueriesRefIdeal.nD Cert.QueriesRefIdeal.τ).loc Cert.QueriesRefIdeal.main_arg1)) (m ((c.tc : Thread Cert.QueriesRefIdeal.nD Cert.QueriesRefIdeal.τ).loc Cert.QueriesRefIdeal.main_arg2)) (m ((c.tc : Thread Cert.QueriesRefIdeal.nD Cert.QueriesRefIdeal.τ).loc Cert.QueriesRefIdeal.main_arg3))) = (fun _ => 1#1)

def Pre_KeysValues (m : (ℓ : Loc Cert.KeysValues.nD Cert.KeysValues.τ Cert.KeysValues.sig) → Buf (Elt Bits) ℓ) : Prop :=
  True

def Pre_KeysValuesIdeal (m : (ℓ : Loc Cert.KeysValuesIdeal.nD Cert.KeysValuesIdeal.τ Cert.KeysValuesIdeal.sig) → Buf (Elt Ideal) ℓ) : Prop :=
  True

def Pre_KeysValuesIdeal_keys_values_pre [hPre_keys_values_pre : Cert.Pre_keys_values_pre.Facts] (m : (ℓ : Loc Cert.KeysValuesIdeal.nD Cert.KeysValuesIdeal.τ Cert.KeysValuesIdeal.sig) → Buf (Elt Ideal) ℓ) : Prop :=
  ∀ c : Dev Cert.KeysValuesIdeal.nD,
    (Cert.Pre_keys_values_pre.fn (F := Ideal) (m ((c.tc : Thread Cert.KeysValuesIdeal.nD Cert.KeysValuesIdeal.τ).loc Cert.KeysValuesIdeal.main_arg0)) (m ((c.tc : Thread Cert.KeysValuesIdeal.nD Cert.KeysValuesIdeal.τ).loc Cert.KeysValuesIdeal.main_arg1)) (m ((c.tc : Thread Cert.KeysValuesIdeal.nD Cert.KeysValuesIdeal.τ).loc Cert.KeysValuesIdeal.main_arg2)) (m ((c.tc : Thread Cert.KeysValuesIdeal.nD Cert.KeysValuesIdeal.τ).loc Cert.KeysValuesIdeal.main_arg3))) = (fun _ => 1#1)

def Pre_KeysValuesRefIdeal (m : (ℓ : Loc Cert.KeysValuesRefIdeal.nD Cert.KeysValuesRefIdeal.τ Cert.KeysValuesRefIdeal.sig) → Buf (Elt Ideal) ℓ) : Prop :=
  True

def Pre_KeysValuesRefIdeal_keys_values_pre [hPre_keys_values_pre : Cert.Pre_keys_values_pre.Facts] (m : (ℓ : Loc Cert.KeysValuesRefIdeal.nD Cert.KeysValuesRefIdeal.τ Cert.KeysValuesRefIdeal.sig) → Buf (Elt Ideal) ℓ) : Prop :=
  ∀ c : Dev Cert.KeysValuesRefIdeal.nD,
    (Cert.Pre_keys_values_pre.fn (F := Ideal) (m ((c.tc : Thread Cert.KeysValuesRefIdeal.nD Cert.KeysValuesRefIdeal.τ).loc Cert.KeysValuesRefIdeal.main_arg0)) (m ((c.tc : Thread Cert.KeysValuesRefIdeal.nD Cert.KeysValuesRefIdeal.τ).loc Cert.KeysValuesRefIdeal.main_arg1)) (m ((c.tc : Thread Cert.KeysValuesRefIdeal.nD Cert.KeysValuesRefIdeal.τ).loc Cert.KeysValuesRefIdeal.main_arg2)) (m ((c.tc : Thread Cert.KeysValuesRefIdeal.nD Cert.KeysValuesRefIdeal.τ).loc Cert.KeysValuesRefIdeal.main_arg3))) = (fun _ => 1#1)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendIdeal_pre_attend_pre [hAttendIdeal : Cert.AttendIdeal.Facts] [hPre_attend_pre : Cert.Pre_attend_pre.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_attend_pre m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_AttendRefIdeal_pre_attend_pre [hAttendRefIdeal : Cert.AttendRefIdeal.Facts] [hPre_attend_pre : Cert.Pre_attend_pre.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_attend_pre m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_HyOut [hHyOut : Cert.HyOut.Facts] : Prop :=
  ∀ (m : (ℓ : Loc Cert.HyOut.nD Cert.HyOut.τ Cert.HyOut.sig) → Buf (Elt Bits) ℓ) (g : Dev Cert.HyOut.nD → PrngReg), Pre_HyOut m →
    θ_run (Cert.HyOut.defs (F := Bits)) (onTc (τ := Cert.HyOut.τ) (Cert.HyOut.main (F := Bits))) ⟨m, fun _ => 0, g⟩ (fun r => (∀ c : Dev Cert.HyOut.nD,
      r.2.mem ((c.tc : Thread Cert.HyOut.nD Cert.HyOut.τ).loc Cert.HyOut.main_arg0) = m ((c.tc : Thread Cert.HyOut.nD Cert.HyOut.τ).loc Cert.HyOut.main_arg0)
      ∧ r.2.mem ((c.tc : Thread Cert.HyOut.nD Cert.HyOut.τ).loc Cert.HyOut.main_arg1) = m ((c.tc : Thread Cert.HyOut.nD Cert.HyOut.τ).loc Cert.HyOut.main_arg1)
      ∧ r.2.mem ((c.tc : Thread Cert.HyOut.nD Cert.HyOut.τ).loc Cert.HyOut.main_arg2) = m ((c.tc : Thread Cert.HyOut.nD Cert.HyOut.τ).loc Cert.HyOut.main_arg2)
      ∧ r.2.mem ((c.tc : Thread Cert.HyOut.nD Cert.HyOut.τ).loc Cert.HyOut.main_arg3) = m ((c.tc : Thread Cert.HyOut.nD Cert.HyOut.τ).loc Cert.HyOut.main_arg3)
      ∧ r.2.mem ((c.tc : Thread Cert.HyOut.nD Cert.HyOut.τ).loc Cert.HyOut.main_arg4) = m ((c.tc : Thread Cert.HyOut.nD Cert.HyOut.τ).loc Cert.HyOut.main_arg4)
      ∧ r.2.mem ((c.tc : Thread Cert.HyOut.nD Cert.HyOut.τ).loc Cert.HyOut.main_arg5) = m ((c.tc : Thread Cert.HyOut.nD Cert.HyOut.τ).loc Cert.HyOut.main_arg5)
      ∧ r.2.mem ((c.tc : Thread Cert.HyOut.nD Cert.HyOut.τ).loc Cert.HyOut.main_arg6) = m ((c.tc : Thread Cert.HyOut.nD Cert.HyOut.τ).loc Cert.HyOut.main_arg6)
      ∧ r.2.mem ((c.tc : Thread Cert.HyOut.nD Cert.HyOut.τ).loc Cert.HyOut.main_arg7) = m ((c.tc : Thread Cert.HyOut.nD Cert.HyOut.τ).loc Cert.HyOut.main_arg7)
      ∧ r.2.mem ((c.tc : Thread Cert.HyOut.nD Cert.HyOut.τ).loc Cert.HyOut.main_arg8) = m ((c.tc : Thread Cert.HyOut.nD Cert.HyOut.τ).loc Cert.HyOut.main_arg8)
      ∧ r.2.mem ((c.tc : Thread Cert.HyOut.nD Cert.HyOut.τ).loc Cert.HyOut.main_arg9) = m ((c.tc : Thread Cert.HyOut.nD Cert.HyOut.τ).loc Cert.HyOut.main_arg9))
      ∧ r.2.sem = fun _ => 0)

def quiescent_HyOutIdeal [hHyOutIdeal : Cert.HyOutIdeal.Facts] : Prop :=
  ∀ (m : (ℓ : Loc Cert.HyOutIdeal.nD Cert.HyOutIdeal.τ Cert.HyOutIdeal.sig) → Buf (Elt Ideal) ℓ) (g : Dev Cert.HyOutIdeal.nD → PrngReg), Pre_HyOutIdeal m →
    θ_run (Cert.HyOutIdeal.defs (F := Ideal)) (onTc (τ := Cert.HyOutIdeal.τ) (Cert.HyOutIdeal.main (F := Ideal))) ⟨m, fun _ => 0, g⟩ (fun r => (∀ c : Dev Cert.HyOutIdeal.nD,
      r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
      ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
      ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2)
      ∧ r.2.mem ((c.tc : Thread Cert.HyOutIdeal.nD Cert.HyOutIdeal.τ).loc Cert.HyOutIdeal.main_arg3) = m ((c.tc : Thread Cert.HyOutIdeal.nD Cert.HyOutIdeal.τ).loc Cert.HyOutIdeal.main_arg3)
      ∧ r.2.mem ((c.tc : Thread Cert.HyOutIdeal.nD Cert.HyOutIdeal.τ).loc Cert.HyOutIdeal.main_arg4) = m ((c.tc : Thread Cert.HyOutIdeal.nD Cert.HyOutIdeal.τ).loc Cert.HyOutIdeal.main_arg4)
      ∧ r.2.mem ((c.tc : Thread Cert.HyOutIdeal.nD Cert.HyOutIdeal.τ).loc Cert.HyOutIdeal.main_arg5) = m ((c.tc : Thread Cert.HyOutIdeal.nD Cert.HyOutIdeal.τ).loc Cert.HyOutIdeal.main_arg5)
      ∧ r.2.mem ((c.tc : Thread Cert.HyOutIdeal.nD Cert.HyOutIdeal.τ).loc Cert.HyOutIdeal.main_arg6) = m ((c.tc : Thread Cert.HyOutIdeal.nD Cert.HyOutIdeal.τ).loc Cert.HyOutIdeal.main_arg6)
      ∧ r.2.mem ((c.tc : Thread Cert.HyOutIdeal.nD Cert.HyOutIdeal.τ).loc Cert.HyOutIdeal.main_arg7) = m ((c.tc : Thread Cert.HyOutIdeal.nD Cert.HyOutIdeal.τ).loc Cert.HyOutIdeal.main_arg7)
      ∧ r.2.mem ((c.tc : Thread Cert.HyOutIdeal.nD Cert.HyOutIdeal.τ).loc Cert.HyOutIdeal.main_arg8) = m ((c.tc : Thread Cert.HyOutIdeal.nD Cert.HyOutIdeal.τ).loc Cert.HyOutIdeal.main_arg8)
      ∧ r.2.mem ((c.tc : Thread Cert.HyOutIdeal.nD Cert.HyOutIdeal.τ).loc Cert.HyOutIdeal.main_arg9) = m ((c.tc : Thread Cert.HyOutIdeal.nD Cert.HyOutIdeal.τ).loc Cert.HyOutIdeal.main_arg9))
      ∧ r.2.sem = fun _ => 0)

def quiescent_HyOutRefIdeal [hHyOutRefIdeal : Cert.HyOutRefIdeal.Facts] : Prop :=
  ∀ (m : (ℓ : Loc Cert.HyOutRefIdeal.nD Cert.HyOutRefIdeal.τ Cert.HyOutRefIdeal.sig) → Buf (Elt Ideal) ℓ) (g : Dev Cert.HyOutRefIdeal.nD → PrngReg), Pre_HyOutRefIdeal m →
    θ_run (Cert.HyOutRefIdeal.defs (F := Ideal)) (onTc (τ := Cert.HyOutRefIdeal.τ) (Cert.HyOutRefIdeal.main (F := Ideal))) ⟨m, fun _ => 0, g⟩ (fun r => (∀ c : Dev Cert.HyOutRefIdeal.nD,
      r.2.mem ((c.tc : Thread Cert.HyOutRefIdeal.nD Cert.HyOutRefIdeal.τ).loc Cert.HyOutRefIdeal.main_arg0) = m ((c.tc : Thread Cert.HyOutRefIdeal.nD Cert.HyOutRefIdeal.τ).loc Cert.HyOutRefIdeal.main_arg0)
      ∧ r.2.mem ((c.tc : Thread Cert.HyOutRefIdeal.nD Cert.HyOutRefIdeal.τ).loc Cert.HyOutRefIdeal.main_arg1) = m ((c.tc : Thread Cert.HyOutRefIdeal.nD Cert.HyOutRefIdeal.τ).loc Cert.HyOutRefIdeal.main_arg1)
      ∧ r.2.mem ((c.tc : Thread Cert.HyOutRefIdeal.nD Cert.HyOutRefIdeal.τ).loc Cert.HyOutRefIdeal.main_arg2) = m ((c.tc : Thread Cert.HyOutRefIdeal.nD Cert.HyOutRefIdeal.τ).loc Cert.HyOutRefIdeal.main_arg2)
      ∧ r.2.mem ((c.tc : Thread Cert.HyOutRefIdeal.nD Cert.HyOutRefIdeal.τ).loc Cert.HyOutRefIdeal.main_arg3) = m ((c.tc : Thread Cert.HyOutRefIdeal.nD Cert.HyOutRefIdeal.τ).loc Cert.HyOutRefIdeal.main_arg3)
      ∧ r.2.mem ((c.tc : Thread Cert.HyOutRefIdeal.nD Cert.HyOutRefIdeal.τ).loc Cert.HyOutRefIdeal.main_arg4) = m ((c.tc : Thread Cert.HyOutRefIdeal.nD Cert.HyOutRefIdeal.τ).loc Cert.HyOutRefIdeal.main_arg4)
      ∧ r.2.mem ((c.tc : Thread Cert.HyOutRefIdeal.nD Cert.HyOutRefIdeal.τ).loc Cert.HyOutRefIdeal.main_arg5) = m ((c.tc : Thread Cert.HyOutRefIdeal.nD Cert.HyOutRefIdeal.τ).loc Cert.HyOutRefIdeal.main_arg5)
      ∧ r.2.mem ((c.tc : Thread Cert.HyOutRefIdeal.nD Cert.HyOutRefIdeal.τ).loc Cert.HyOutRefIdeal.main_arg6) = m ((c.tc : Thread Cert.HyOutRefIdeal.nD Cert.HyOutRefIdeal.τ).loc Cert.HyOutRefIdeal.main_arg6)
      ∧ r.2.mem ((c.tc : Thread Cert.HyOutRefIdeal.nD Cert.HyOutRefIdeal.τ).loc Cert.HyOutRefIdeal.main_arg7) = m ((c.tc : Thread Cert.HyOutRefIdeal.nD Cert.HyOutRefIdeal.τ).loc Cert.HyOutRefIdeal.main_arg7)
      ∧ r.2.mem ((c.tc : Thread Cert.HyOutRefIdeal.nD Cert.HyOutRefIdeal.τ).loc Cert.HyOutRefIdeal.main_arg8) = m ((c.tc : Thread Cert.HyOutRefIdeal.nD Cert.HyOutRefIdeal.τ).loc Cert.HyOutRefIdeal.main_arg8)
      ∧ r.2.mem ((c.tc : Thread Cert.HyOutRefIdeal.nD Cert.HyOutRefIdeal.τ).loc Cert.HyOutRefIdeal.main_arg9) = m ((c.tc : Thread Cert.HyOutRefIdeal.nD Cert.HyOutRefIdeal.τ).loc Cert.HyOutRefIdeal.main_arg9))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1)
      ∧ r.2.mem ((c.tc : Thread Cert.HyIn.nD Cert.HyIn.τ).loc Cert.HyIn.main_arg2) = m ((c.tc : Thread Cert.HyIn.nD Cert.HyIn.τ).loc Cert.HyIn.main_arg2)
      ∧ r.2.mem ((c.tc : Thread Cert.HyIn.nD Cert.HyIn.τ).loc Cert.HyIn.main_arg3) = m ((c.tc : Thread Cert.HyIn.nD Cert.HyIn.τ).loc Cert.HyIn.main_arg3)
      ∧ r.2.mem ((c.tc : Thread Cert.HyIn.nD Cert.HyIn.τ).loc Cert.HyIn.main_arg4) = m ((c.tc : Thread Cert.HyIn.nD Cert.HyIn.τ).loc Cert.HyIn.main_arg4)
      ∧ r.2.mem ((c.tc : Thread Cert.HyIn.nD Cert.HyIn.τ).loc Cert.HyIn.main_arg5) = m ((c.tc : Thread Cert.HyIn.nD Cert.HyIn.τ).loc Cert.HyIn.main_arg5)
      ∧ r.2.mem ((c.tc : Thread Cert.HyIn.nD Cert.HyIn.τ).loc Cert.HyIn.main_arg6) = m ((c.tc : Thread Cert.HyIn.nD Cert.HyIn.τ).loc Cert.HyIn.main_arg6))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
      ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
      ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4)
      ∧ r.2.mem ((c.tc : Thread Cert.HyInIdeal.nD Cert.HyInIdeal.τ).loc Cert.HyInIdeal.main_arg5) = m ((c.tc : Thread Cert.HyInIdeal.nD Cert.HyInIdeal.τ).loc Cert.HyInIdeal.main_arg5)
      ∧ r.2.mem ((c.tc : Thread Cert.HyInIdeal.nD Cert.HyInIdeal.τ).loc Cert.HyInIdeal.main_arg6) = m ((c.tc : Thread Cert.HyInIdeal.nD Cert.HyInIdeal.τ).loc Cert.HyInIdeal.main_arg6))
      ∧ r.2.sem = fun _ => 0)

def quiescent_HyInIdeal_pre_hyena_in_pre [hHyInIdeal : Cert.HyInIdeal.Facts] [hPre_hyena_in_pre : Cert.Pre_hyena_in_pre.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal_hyena_in_pre m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
      ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
      ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4)
      ∧ r.2.mem ((c.tc : Thread Cert.HyInIdeal.nD Cert.HyInIdeal.τ).loc Cert.HyInIdeal.main_arg5) = m ((c.tc : Thread Cert.HyInIdeal.nD Cert.HyInIdeal.τ).loc Cert.HyInIdeal.main_arg5)
      ∧ r.2.mem ((c.tc : Thread Cert.HyInIdeal.nD Cert.HyInIdeal.τ).loc Cert.HyInIdeal.main_arg6) = m ((c.tc : Thread Cert.HyInIdeal.nD Cert.HyInIdeal.τ).loc Cert.HyInIdeal.main_arg6))
      ∧ r.2.sem = fun _ => 0)

def quiescent_HyInRefIdeal [hHyInRefIdeal : Cert.HyInRefIdeal.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2)
      ∧ r.2.mem ((c.tc : Thread Cert.HyInRefIdeal.nD Cert.HyInRefIdeal.τ).loc Cert.HyInRefIdeal.main_arg3) = m ((c.tc : Thread Cert.HyInRefIdeal.nD Cert.HyInRefIdeal.τ).loc Cert.HyInRefIdeal.main_arg3)
      ∧ r.2.mem ((c.tc : Thread Cert.HyInRefIdeal.nD Cert.HyInRefIdeal.τ).loc Cert.HyInRefIdeal.main_arg4) = m ((c.tc : Thread Cert.HyInRefIdeal.nD Cert.HyInRefIdeal.τ).loc Cert.HyInRefIdeal.main_arg4)
      ∧ r.2.mem ((c.tc : Thread Cert.HyInRefIdeal.nD Cert.HyInRefIdeal.τ).loc Cert.HyInRefIdeal.main_arg5) = m ((c.tc : Thread Cert.HyInRefIdeal.nD Cert.HyInRefIdeal.τ).loc Cert.HyInRefIdeal.main_arg5)
      ∧ r.2.mem ((c.tc : Thread Cert.HyInRefIdeal.nD Cert.HyInRefIdeal.τ).loc Cert.HyInRefIdeal.main_arg6) = m ((c.tc : Thread Cert.HyInRefIdeal.nD Cert.HyInRefIdeal.τ).loc Cert.HyInRefIdeal.main_arg6))
      ∧ r.2.sem = fun _ => 0)

def quiescent_HyInRefIdeal_pre_hyena_in_pre [hHyInRefIdeal : Cert.HyInRefIdeal.Facts] [hPre_hyena_in_pre : Cert.Pre_hyena_in_pre.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal_hyena_in_pre m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2)
      ∧ r.2.mem ((c.tc : Thread Cert.HyInRefIdeal.nD Cert.HyInRefIdeal.τ).loc Cert.HyInRefIdeal.main_arg3) = m ((c.tc : Thread Cert.HyInRefIdeal.nD Cert.HyInRefIdeal.τ).loc Cert.HyInRefIdeal.main_arg3)
      ∧ r.2.mem ((c.tc : Thread Cert.HyInRefIdeal.nD Cert.HyInRefIdeal.τ).loc Cert.HyInRefIdeal.main_arg4) = m ((c.tc : Thread Cert.HyInRefIdeal.nD Cert.HyInRefIdeal.τ).loc Cert.HyInRefIdeal.main_arg4)
      ∧ r.2.mem ((c.tc : Thread Cert.HyInRefIdeal.nD Cert.HyInRefIdeal.τ).loc Cert.HyInRefIdeal.main_arg5) = m ((c.tc : Thread Cert.HyInRefIdeal.nD Cert.HyInRefIdeal.τ).loc Cert.HyInRefIdeal.main_arg5)
      ∧ r.2.mem ((c.tc : Thread Cert.HyInRefIdeal.nD Cert.HyInRefIdeal.τ).loc Cert.HyInRefIdeal.main_arg6) = m ((c.tc : Thread Cert.HyInRefIdeal.nD Cert.HyInRefIdeal.τ).loc Cert.HyInRefIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7))
      ∧ r.2.sem = fun _ => 0)

def quiescent_PoolIdeal_pre_pool_pre [hPoolIdeal : Cert.PoolIdeal.Facts] [hPre_pool_pre : Cert.Pre_pool_pre.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_pre m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7))
      ∧ r.2.sem = fun _ => 0)

def quiescent_PoolRefIdeal_pre_pool_pre [hPoolRefIdeal : Cert.PoolRefIdeal.Facts] [hPre_pool_pre : Cert.Pre_pool_pre.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_pre m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7))
      ∧ r.2.sem = fun _ => 0)

def quiescent_LatentIn [hLatentIn : Cert.LatentIn.Facts] : Prop :=
  ∀ (m : (ℓ : Loc Cert.LatentIn.nD Cert.LatentIn.τ Cert.LatentIn.sig) → Buf (Elt Bits) ℓ) (g : Dev Cert.LatentIn.nD → PrngReg), Pre_LatentIn m →
    θ_run (Cert.LatentIn.defs (F := Bits)) (onTc (τ := Cert.LatentIn.τ) (Cert.LatentIn.main (F := Bits))) ⟨m, fun _ => 0, g⟩ (fun r => (∀ c : Dev Cert.LatentIn.nD,
      r.2.mem ((c.tc : Thread Cert.LatentIn.nD Cert.LatentIn.τ).loc Cert.LatentIn.main_arg0) = m ((c.tc : Thread Cert.LatentIn.nD Cert.LatentIn.τ).loc Cert.LatentIn.main_arg0)
      ∧ r.2.mem ((c.tc : Thread Cert.LatentIn.nD Cert.LatentIn.τ).loc Cert.LatentIn.main_arg1) = m ((c.tc : Thread Cert.LatentIn.nD Cert.LatentIn.τ).loc Cert.LatentIn.main_arg1)
      ∧ r.2.mem ((c.tc : Thread Cert.LatentIn.nD Cert.LatentIn.τ).loc Cert.LatentIn.main_arg2) = m ((c.tc : Thread Cert.LatentIn.nD Cert.LatentIn.τ).loc Cert.LatentIn.main_arg2)
      ∧ r.2.mem ((c.tc : Thread Cert.LatentIn.nD Cert.LatentIn.τ).loc Cert.LatentIn.main_arg3) = m ((c.tc : Thread Cert.LatentIn.nD Cert.LatentIn.τ).loc Cert.LatentIn.main_arg3))
      ∧ r.2.sem = fun _ => 0)

def quiescent_LatentInIdeal [hLatentInIdeal : Cert.LatentInIdeal.Facts] : Prop :=
  ∀ (m : (ℓ : Loc Cert.LatentInIdeal.nD Cert.LatentInIdeal.τ Cert.LatentInIdeal.sig) → Buf (Elt Ideal) ℓ) (g : Dev Cert.LatentInIdeal.nD → PrngReg), Pre_LatentInIdeal m →
    θ_run (Cert.LatentInIdeal.defs (F := Ideal)) (onTc (τ := Cert.LatentInIdeal.τ) (Cert.LatentInIdeal.main (F := Ideal))) ⟨m, fun _ => 0, g⟩ (fun r => (∀ c : Dev Cert.LatentInIdeal.nD,
      r.2.mem ((c.tc : Thread Cert.LatentInIdeal.nD Cert.LatentInIdeal.τ).loc Cert.LatentInIdeal.main_arg0) = m ((c.tc : Thread Cert.LatentInIdeal.nD Cert.LatentInIdeal.τ).loc Cert.LatentInIdeal.main_arg0)
      ∧ r.2.mem ((c.tc : Thread Cert.LatentInIdeal.nD Cert.LatentInIdeal.τ).loc Cert.LatentInIdeal.main_arg1) = m ((c.tc : Thread Cert.LatentInIdeal.nD Cert.LatentInIdeal.τ).loc Cert.LatentInIdeal.main_arg1)
      ∧ r.2.mem ((c.tc : Thread Cert.LatentInIdeal.nD Cert.LatentInIdeal.τ).loc Cert.LatentInIdeal.main_arg2) = m ((c.tc : Thread Cert.LatentInIdeal.nD Cert.LatentInIdeal.τ).loc Cert.LatentInIdeal.main_arg2)
      ∧ r.2.mem ((c.tc : Thread Cert.LatentInIdeal.nD Cert.LatentInIdeal.τ).loc Cert.LatentInIdeal.main_arg3) = m ((c.tc : Thread Cert.LatentInIdeal.nD Cert.LatentInIdeal.τ).loc Cert.LatentInIdeal.main_arg3))
      ∧ r.2.sem = fun _ => 0)

def quiescent_LatentInIdeal_pre_latent_in_pre [hLatentInIdeal : Cert.LatentInIdeal.Facts] [hPre_latent_in_pre : Cert.Pre_latent_in_pre.Facts] : Prop :=
  ∀ (m : (ℓ : Loc Cert.LatentInIdeal.nD Cert.LatentInIdeal.τ Cert.LatentInIdeal.sig) → Buf (Elt Ideal) ℓ) (g : Dev Cert.LatentInIdeal.nD → PrngReg), Pre_LatentInIdeal_latent_in_pre m →
    θ_run (Cert.LatentInIdeal.defs (F := Ideal)) (onTc (τ := Cert.LatentInIdeal.τ) (Cert.LatentInIdeal.main (F := Ideal))) ⟨m, fun _ => 0, g⟩ (fun r => (∀ c : Dev Cert.LatentInIdeal.nD,
      r.2.mem ((c.tc : Thread Cert.LatentInIdeal.nD Cert.LatentInIdeal.τ).loc Cert.LatentInIdeal.main_arg0) = m ((c.tc : Thread Cert.LatentInIdeal.nD Cert.LatentInIdeal.τ).loc Cert.LatentInIdeal.main_arg0)
      ∧ r.2.mem ((c.tc : Thread Cert.LatentInIdeal.nD Cert.LatentInIdeal.τ).loc Cert.LatentInIdeal.main_arg1) = m ((c.tc : Thread Cert.LatentInIdeal.nD Cert.LatentInIdeal.τ).loc Cert.LatentInIdeal.main_arg1)
      ∧ r.2.mem ((c.tc : Thread Cert.LatentInIdeal.nD Cert.LatentInIdeal.τ).loc Cert.LatentInIdeal.main_arg2) = m ((c.tc : Thread Cert.LatentInIdeal.nD Cert.LatentInIdeal.τ).loc Cert.LatentInIdeal.main_arg2)
      ∧ r.2.mem ((c.tc : Thread Cert.LatentInIdeal.nD Cert.LatentInIdeal.τ).loc Cert.LatentInIdeal.main_arg3) = m ((c.tc : Thread Cert.LatentInIdeal.nD Cert.LatentInIdeal.τ).loc Cert.LatentInIdeal.main_arg3))
      ∧ r.2.sem = fun _ => 0)

def quiescent_LatentInRefIdeal [hLatentInRefIdeal : Cert.LatentInRefIdeal.Facts] : Prop :=
  ∀ (m : (ℓ : Loc Cert.LatentInRefIdeal.nD Cert.LatentInRefIdeal.τ Cert.LatentInRefIdeal.sig) → Buf (Elt Ideal) ℓ) (g : Dev Cert.LatentInRefIdeal.nD → PrngReg), Pre_LatentInRefIdeal m →
    θ_run (Cert.LatentInRefIdeal.defs (F := Ideal)) (onTc (τ := Cert.LatentInRefIdeal.τ) (Cert.LatentInRefIdeal.main (F := Ideal))) ⟨m, fun _ => 0, g⟩ (fun r => (∀ c : Dev Cert.LatentInRefIdeal.nD,
      r.2.mem ((c.tc : Thread Cert.LatentInRefIdeal.nD Cert.LatentInRefIdeal.τ).loc Cert.LatentInRefIdeal.main_arg0) = m ((c.tc : Thread Cert.LatentInRefIdeal.nD Cert.LatentInRefIdeal.τ).loc Cert.LatentInRefIdeal.main_arg0)
      ∧ r.2.mem ((c.tc : Thread Cert.LatentInRefIdeal.nD Cert.LatentInRefIdeal.τ).loc Cert.LatentInRefIdeal.main_arg1) = m ((c.tc : Thread Cert.LatentInRefIdeal.nD Cert.LatentInRefIdeal.τ).loc Cert.LatentInRefIdeal.main_arg1)
      ∧ r.2.mem ((c.tc : Thread Cert.LatentInRefIdeal.nD Cert.LatentInRefIdeal.τ).loc Cert.LatentInRefIdeal.main_arg2) = m ((c.tc : Thread Cert.LatentInRefIdeal.nD Cert.LatentInRefIdeal.τ).loc Cert.LatentInRefIdeal.main_arg2)
      ∧ r.2.mem ((c.tc : Thread Cert.LatentInRefIdeal.nD Cert.LatentInRefIdeal.τ).loc Cert.LatentInRefIdeal.main_arg3) = m ((c.tc : Thread Cert.LatentInRefIdeal.nD Cert.LatentInRefIdeal.τ).loc Cert.LatentInRefIdeal.main_arg3))
      ∧ r.2.sem = fun _ => 0)

def quiescent_LatentInRefIdeal_pre_latent_in_pre [hLatentInRefIdeal : Cert.LatentInRefIdeal.Facts] [hPre_latent_in_pre : Cert.Pre_latent_in_pre.Facts] : Prop :=
  ∀ (m : (ℓ : Loc Cert.LatentInRefIdeal.nD Cert.LatentInRefIdeal.τ Cert.LatentInRefIdeal.sig) → Buf (Elt Ideal) ℓ) (g : Dev Cert.LatentInRefIdeal.nD → PrngReg), Pre_LatentInRefIdeal_latent_in_pre m →
    θ_run (Cert.LatentInRefIdeal.defs (F := Ideal)) (onTc (τ := Cert.LatentInRefIdeal.τ) (Cert.LatentInRefIdeal.main (F := Ideal))) ⟨m, fun _ => 0, g⟩ (fun r => (∀ c : Dev Cert.LatentInRefIdeal.nD,
      r.2.mem ((c.tc : Thread Cert.LatentInRefIdeal.nD Cert.LatentInRefIdeal.τ).loc Cert.LatentInRefIdeal.main_arg0) = m ((c.tc : Thread Cert.LatentInRefIdeal.nD Cert.LatentInRefIdeal.τ).loc Cert.LatentInRefIdeal.main_arg0)
      ∧ r.2.mem ((c.tc : Thread Cert.LatentInRefIdeal.nD Cert.LatentInRefIdeal.τ).loc Cert.LatentInRefIdeal.main_arg1) = m ((c.tc : Thread Cert.LatentInRefIdeal.nD Cert.LatentInRefIdeal.τ).loc Cert.LatentInRefIdeal.main_arg1)
      ∧ r.2.mem ((c.tc : Thread Cert.LatentInRefIdeal.nD Cert.LatentInRefIdeal.τ).loc Cert.LatentInRefIdeal.main_arg2) = m ((c.tc : Thread Cert.LatentInRefIdeal.nD Cert.LatentInRefIdeal.τ).loc Cert.LatentInRefIdeal.main_arg2)
      ∧ r.2.mem ((c.tc : Thread Cert.LatentInRefIdeal.nD Cert.LatentInRefIdeal.τ).loc Cert.LatentInRefIdeal.main_arg3) = m ((c.tc : Thread Cert.LatentInRefIdeal.nD Cert.LatentInRefIdeal.τ).loc Cert.LatentInRefIdeal.main_arg3))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2)
      ∧ r.2.mem ((c.tc : Thread Cert.Queries.nD Cert.Queries.τ).loc Cert.Queries.main_arg3) = m ((c.tc : Thread Cert.Queries.nD Cert.Queries.τ).loc Cert.Queries.main_arg3))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
      ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3))
      ∧ r.2.sem = fun _ => 0)

def quiescent_QueriesIdeal_pre_queries_pre [hQueriesIdeal : Cert.QueriesIdeal.Facts] [hPre_queries_pre : Cert.Pre_queries_pre.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal_queries_pre m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
      ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1)
      ∧ r.2.mem ((c.tc : Thread Cert.QueriesRefIdeal.nD Cert.QueriesRefIdeal.τ).loc Cert.QueriesRefIdeal.main_arg2) = m ((c.tc : Thread Cert.QueriesRefIdeal.nD Cert.QueriesRefIdeal.τ).loc Cert.QueriesRefIdeal.main_arg2)
      ∧ r.2.mem ((c.tc : Thread Cert.QueriesRefIdeal.nD Cert.QueriesRefIdeal.τ).loc Cert.QueriesRefIdeal.main_arg3) = m ((c.tc : Thread Cert.QueriesRefIdeal.nD Cert.QueriesRefIdeal.τ).loc Cert.QueriesRefIdeal.main_arg3))
      ∧ r.2.sem = fun _ => 0)

def quiescent_QueriesRefIdeal_pre_queries_pre [hQueriesRefIdeal : Cert.QueriesRefIdeal.Facts] [hPre_queries_pre : Cert.Pre_queries_pre.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal_queries_pre m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1)
      ∧ r.2.mem ((c.tc : Thread Cert.QueriesRefIdeal.nD Cert.QueriesRefIdeal.τ).loc Cert.QueriesRefIdeal.main_arg2) = m ((c.tc : Thread Cert.QueriesRefIdeal.nD Cert.QueriesRefIdeal.τ).loc Cert.QueriesRefIdeal.main_arg2)
      ∧ r.2.mem ((c.tc : Thread Cert.QueriesRefIdeal.nD Cert.QueriesRefIdeal.τ).loc Cert.QueriesRefIdeal.main_arg3) = m ((c.tc : Thread Cert.QueriesRefIdeal.nD Cert.QueriesRefIdeal.τ).loc Cert.QueriesRefIdeal.main_arg3))
      ∧ r.2.sem = fun _ => 0)

def quiescent_KeysValues [hKeysValues : Cert.KeysValues.Facts] : Prop :=
  ∀ (m : (ℓ : Loc Cert.KeysValues.nD Cert.KeysValues.τ Cert.KeysValues.sig) → Buf (Elt Bits) ℓ) (g : Dev Cert.KeysValues.nD → PrngReg), Pre_KeysValues m →
    θ_run (Cert.KeysValues.defs (F := Bits)) (onTc (τ := Cert.KeysValues.τ) (Cert.KeysValues.main (F := Bits))) ⟨m, fun _ => 0, g⟩ (fun r => (∀ c : Dev Cert.KeysValues.nD,
      r.2.mem ((c.tc : Thread Cert.KeysValues.nD Cert.KeysValues.τ).loc Cert.KeysValues.main_arg0) = m ((c.tc : Thread Cert.KeysValues.nD Cert.KeysValues.τ).loc Cert.KeysValues.main_arg0)
      ∧ r.2.mem ((c.tc : Thread Cert.KeysValues.nD Cert.KeysValues.τ).loc Cert.KeysValues.main_arg1) = m ((c.tc : Thread Cert.KeysValues.nD Cert.KeysValues.τ).loc Cert.KeysValues.main_arg1)
      ∧ r.2.mem ((c.tc : Thread Cert.KeysValues.nD Cert.KeysValues.τ).loc Cert.KeysValues.main_arg2) = m ((c.tc : Thread Cert.KeysValues.nD Cert.KeysValues.τ).loc Cert.KeysValues.main_arg2)
      ∧ r.2.mem ((c.tc : Thread Cert.KeysValues.nD Cert.KeysValues.τ).loc Cert.KeysValues.main_arg3) = m ((c.tc : Thread Cert.KeysValues.nD Cert.KeysValues.τ).loc Cert.KeysValues.main_arg3))
      ∧ r.2.sem = fun _ => 0)

def quiescent_KeysValuesIdeal [hKeysValuesIdeal : Cert.KeysValuesIdeal.Facts] : Prop :=
  ∀ (m : (ℓ : Loc Cert.KeysValuesIdeal.nD Cert.KeysValuesIdeal.τ Cert.KeysValuesIdeal.sig) → Buf (Elt Ideal) ℓ) (g : Dev Cert.KeysValuesIdeal.nD → PrngReg), Pre_KeysValuesIdeal m →
    θ_run (Cert.KeysValuesIdeal.defs (F := Ideal)) (onTc (τ := Cert.KeysValuesIdeal.τ) (Cert.KeysValuesIdeal.main (F := Ideal))) ⟨m, fun _ => 0, g⟩ (fun r => (∀ c : Dev Cert.KeysValuesIdeal.nD,
      r.2.mem ((c.tc : Thread Cert.KeysValuesIdeal.nD Cert.KeysValuesIdeal.τ).loc Cert.KeysValuesIdeal.main_arg0) = m ((c.tc : Thread Cert.KeysValuesIdeal.nD Cert.KeysValuesIdeal.τ).loc Cert.KeysValuesIdeal.main_arg0)
      ∧ r.2.mem ((c.tc : Thread Cert.KeysValuesIdeal.nD Cert.KeysValuesIdeal.τ).loc Cert.KeysValuesIdeal.main_arg1) = m ((c.tc : Thread Cert.KeysValuesIdeal.nD Cert.KeysValuesIdeal.τ).loc Cert.KeysValuesIdeal.main_arg1)
      ∧ r.2.mem ((c.tc : Thread Cert.KeysValuesIdeal.nD Cert.KeysValuesIdeal.τ).loc Cert.KeysValuesIdeal.main_arg2) = m ((c.tc : Thread Cert.KeysValuesIdeal.nD Cert.KeysValuesIdeal.τ).loc Cert.KeysValuesIdeal.main_arg2)
      ∧ r.2.mem ((c.tc : Thread Cert.KeysValuesIdeal.nD Cert.KeysValuesIdeal.τ).loc Cert.KeysValuesIdeal.main_arg3) = m ((c.tc : Thread Cert.KeysValuesIdeal.nD Cert.KeysValuesIdeal.τ).loc Cert.KeysValuesIdeal.main_arg3))
      ∧ r.2.sem = fun _ => 0)

def quiescent_KeysValuesIdeal_pre_keys_values_pre [hKeysValuesIdeal : Cert.KeysValuesIdeal.Facts] [hPre_keys_values_pre : Cert.Pre_keys_values_pre.Facts] : Prop :=
  ∀ (m : (ℓ : Loc Cert.KeysValuesIdeal.nD Cert.KeysValuesIdeal.τ Cert.KeysValuesIdeal.sig) → Buf (Elt Ideal) ℓ) (g : Dev Cert.KeysValuesIdeal.nD → PrngReg), Pre_KeysValuesIdeal_keys_values_pre m →
    θ_run (Cert.KeysValuesIdeal.defs (F := Ideal)) (onTc (τ := Cert.KeysValuesIdeal.τ) (Cert.KeysValuesIdeal.main (F := Ideal))) ⟨m, fun _ => 0, g⟩ (fun r => (∀ c : Dev Cert.KeysValuesIdeal.nD,
      r.2.mem ((c.tc : Thread Cert.KeysValuesIdeal.nD Cert.KeysValuesIdeal.τ).loc Cert.KeysValuesIdeal.main_arg0) = m ((c.tc : Thread Cert.KeysValuesIdeal.nD Cert.KeysValuesIdeal.τ).loc Cert.KeysValuesIdeal.main_arg0)
      ∧ r.2.mem ((c.tc : Thread Cert.KeysValuesIdeal.nD Cert.KeysValuesIdeal.τ).loc Cert.KeysValuesIdeal.main_arg1) = m ((c.tc : Thread Cert.KeysValuesIdeal.nD Cert.KeysValuesIdeal.τ).loc Cert.KeysValuesIdeal.main_arg1)
      ∧ r.2.mem ((c.tc : Thread Cert.KeysValuesIdeal.nD Cert.KeysValuesIdeal.τ).loc Cert.KeysValuesIdeal.main_arg2) = m ((c.tc : Thread Cert.KeysValuesIdeal.nD Cert.KeysValuesIdeal.τ).loc Cert.KeysValuesIdeal.main_arg2)
      ∧ r.2.mem ((c.tc : Thread Cert.KeysValuesIdeal.nD Cert.KeysValuesIdeal.τ).loc Cert.KeysValuesIdeal.main_arg3) = m ((c.tc : Thread Cert.KeysValuesIdeal.nD Cert.KeysValuesIdeal.τ).loc Cert.KeysValuesIdeal.main_arg3))
      ∧ r.2.sem = fun _ => 0)

def quiescent_KeysValuesRefIdeal [hKeysValuesRefIdeal : Cert.KeysValuesRefIdeal.Facts] : Prop :=
  ∀ (m : (ℓ : Loc Cert.KeysValuesRefIdeal.nD Cert.KeysValuesRefIdeal.τ Cert.KeysValuesRefIdeal.sig) → Buf (Elt Ideal) ℓ) (g : Dev Cert.KeysValuesRefIdeal.nD → PrngReg), Pre_KeysValuesRefIdeal m →
    θ_run (Cert.KeysValuesRefIdeal.defs (F := Ideal)) (onTc (τ := Cert.KeysValuesRefIdeal.τ) (Cert.KeysValuesRefIdeal.main (F := Ideal))) ⟨m, fun _ => 0, g⟩ (fun r => (∀ c : Dev Cert.KeysValuesRefIdeal.nD,
      r.2.mem ((c.tc : Thread Cert.KeysValuesRefIdeal.nD Cert.KeysValuesRefIdeal.τ).loc Cert.KeysValuesRefIdeal.main_arg0) = m ((c.tc : Thread Cert.KeysValuesRefIdeal.nD Cert.KeysValuesRefIdeal.τ).loc Cert.KeysValuesRefIdeal.main_arg0)
      ∧ r.2.mem ((c.tc : Thread Cert.KeysValuesRefIdeal.nD Cert.KeysValuesRefIdeal.τ).loc Cert.KeysValuesRefIdeal.main_arg1) = m ((c.tc : Thread Cert.KeysValuesRefIdeal.nD Cert.KeysValuesRefIdeal.τ).loc Cert.KeysValuesRefIdeal.main_arg1)
      ∧ r.2.mem ((c.tc : Thread Cert.KeysValuesRefIdeal.nD Cert.KeysValuesRefIdeal.τ).loc Cert.KeysValuesRefIdeal.main_arg2) = m ((c.tc : Thread Cert.KeysValuesRefIdeal.nD Cert.KeysValuesRefIdeal.τ).loc Cert.KeysValuesRefIdeal.main_arg2)
      ∧ r.2.mem ((c.tc : Thread Cert.KeysValuesRefIdeal.nD Cert.KeysValuesRefIdeal.τ).loc Cert.KeysValuesRefIdeal.main_arg3) = m ((c.tc : Thread Cert.KeysValuesRefIdeal.nD Cert.KeysValuesRefIdeal.τ).loc Cert.KeysValuesRefIdeal.main_arg3))
      ∧ r.2.sem = fun _ => 0)

def quiescent_KeysValuesRefIdeal_pre_keys_values_pre [hKeysValuesRefIdeal : Cert.KeysValuesRefIdeal.Facts] [hPre_keys_values_pre : Cert.Pre_keys_values_pre.Facts] : Prop :=
  ∀ (m : (ℓ : Loc Cert.KeysValuesRefIdeal.nD Cert.KeysValuesRefIdeal.τ Cert.KeysValuesRefIdeal.sig) → Buf (Elt Ideal) ℓ) (g : Dev Cert.KeysValuesRefIdeal.nD → PrngReg), Pre_KeysValuesRefIdeal_keys_values_pre m →
    θ_run (Cert.KeysValuesRefIdeal.defs (F := Ideal)) (onTc (τ := Cert.KeysValuesRefIdeal.τ) (Cert.KeysValuesRefIdeal.main (F := Ideal))) ⟨m, fun _ => 0, g⟩ (fun r => (∀ c : Dev Cert.KeysValuesRefIdeal.nD,
      r.2.mem ((c.tc : Thread Cert.KeysValuesRefIdeal.nD Cert.KeysValuesRefIdeal.τ).loc Cert.KeysValuesRefIdeal.main_arg0) = m ((c.tc : Thread Cert.KeysValuesRefIdeal.nD Cert.KeysValuesRefIdeal.τ).loc Cert.KeysValuesRefIdeal.main_arg0)
      ∧ r.2.mem ((c.tc : Thread Cert.KeysValuesRefIdeal.nD Cert.KeysValuesRefIdeal.τ).loc Cert.KeysValuesRefIdeal.main_arg1) = m ((c.tc : Thread Cert.KeysValuesRefIdeal.nD Cert.KeysValuesRefIdeal.τ).loc Cert.KeysValuesRefIdeal.main_arg1)
      ∧ r.2.mem ((c.tc : Thread Cert.KeysValuesRefIdeal.nD Cert.KeysValuesRefIdeal.τ).loc Cert.KeysValuesRefIdeal.main_arg2) = m ((c.tc : Thread Cert.KeysValuesRefIdeal.nD Cert.KeysValuesRefIdeal.τ).loc Cert.KeysValuesRefIdeal.main_arg2)
      ∧ r.2.mem ((c.tc : Thread Cert.KeysValuesRefIdeal.nD Cert.KeysValuesRefIdeal.τ).loc Cert.KeysValuesRefIdeal.main_arg3) = m ((c.tc : Thread Cert.KeysValuesRefIdeal.nD Cert.KeysValuesRefIdeal.τ).loc Cert.KeysValuesRefIdeal.main_arg3))
      ∧ r.2.sem = fun _ => 0)

def preserves_Attend_AttendIdeal : Prop :=
  True

def algebraic_AttendIdeal_AttendRefIdeal_pre_attend_pre [hAttendIdeal : Cert.AttendIdeal.Facts] [hAttendRefIdeal : Cert.AttendRefIdeal.Facts] [hPre_attend_pre : Cert.Pre_attend_pre.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_attend_pre m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)
      ∧ m' ((c.tc : Thread Cert.AttendRefIdeal.nD Cert.AttendRefIdeal.τ).loc Cert.AttendRefIdeal.main_arg3) = m ((c.tc : Thread Cert.AttendIdeal.nD Cert.AttendIdeal.τ).loc Cert.AttendIdeal.main_arg3)
      ∧ m' ((c.tc : Thread Cert.AttendRefIdeal.nD Cert.AttendRefIdeal.τ).loc Cert.AttendRefIdeal.main_arg4) = m ((c.tc : Thread Cert.AttendIdeal.nD Cert.AttendIdeal.τ).loc Cert.AttendIdeal.main_arg4)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v25) = v0 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2)
          ∧ r.2.mem ((c.tc : Thread Cert.AttendRefIdeal.nD Cert.AttendRefIdeal.τ).loc Cert.AttendRefIdeal.main_arg3) = m' ((c.tc : Thread Cert.AttendRefIdeal.nD Cert.AttendRefIdeal.τ).loc Cert.AttendRefIdeal.main_arg3)
          ∧ r.2.mem ((c.tc : Thread Cert.AttendRefIdeal.nD Cert.AttendRefIdeal.τ).loc Cert.AttendRefIdeal.main_arg4) = m' ((c.tc : Thread Cert.AttendRefIdeal.nD Cert.AttendRefIdeal.τ).loc Cert.AttendRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_HyOut_HyOutIdeal : Prop :=
  True

def algebraic_HyOutIdeal_HyOutRefIdeal [hHyOutIdeal : Cert.HyOutIdeal.Facts] [hHyOutRefIdeal : Cert.HyOutRefIdeal.Facts] : Prop :=
  ∀ (m : (ℓ : Loc Cert.HyOutIdeal.nD Cert.HyOutIdeal.τ Cert.HyOutIdeal.sig) → Buf (Elt Ideal) ℓ) (g : Dev Cert.HyOutIdeal.nD → PrngReg)
    (m' : (ℓ : Loc Cert.HyOutRefIdeal.nD Cert.HyOutRefIdeal.τ Cert.HyOutRefIdeal.sig) → Buf (Elt Ideal) ℓ) (g' : Dev Cert.HyOutRefIdeal.nD → PrngReg), Pre_HyOutIdeal m →
    (∀ c : Dev Cert.HyOutIdeal.nD,
      m' ((c.tc : Thread Cert.HyOutRefIdeal.nD Cert.HyOutRefIdeal.τ).loc Cert.HyOutRefIdeal.main_arg0) = m ((c.tc : Thread Cert.HyOutIdeal.nD Cert.HyOutIdeal.τ).loc Cert.HyOutIdeal.main_arg0)
      ∧ m' ((c.tc : Thread Cert.HyOutRefIdeal.nD Cert.HyOutRefIdeal.τ).loc Cert.HyOutRefIdeal.main_arg1) = m ((c.tc : Thread Cert.HyOutIdeal.nD Cert.HyOutIdeal.τ).loc Cert.HyOutIdeal.main_arg1)
      ∧ m' ((c.tc : Thread Cert.HyOutRefIdeal.nD Cert.HyOutRefIdeal.τ).loc Cert.HyOutRefIdeal.main_arg2) = m ((c.tc : Thread Cert.HyOutIdeal.nD Cert.HyOutIdeal.τ).loc Cert.HyOutIdeal.main_arg2)
      ∧ m' ((c.tc : Thread Cert.HyOutRefIdeal.nD Cert.HyOutRefIdeal.τ).loc Cert.HyOutRefIdeal.main_arg3) = m ((c.tc : Thread Cert.HyOutIdeal.nD Cert.HyOutIdeal.τ).loc Cert.HyOutIdeal.main_arg3)
      ∧ m' ((c.tc : Thread Cert.HyOutRefIdeal.nD Cert.HyOutRefIdeal.τ).loc Cert.HyOutRefIdeal.main_arg4) = m ((c.tc : Thread Cert.HyOutIdeal.nD Cert.HyOutIdeal.τ).loc Cert.HyOutIdeal.main_arg4)
      ∧ m' ((c.tc : Thread Cert.HyOutRefIdeal.nD Cert.HyOutRefIdeal.τ).loc Cert.HyOutRefIdeal.main_arg5) = m ((c.tc : Thread Cert.HyOutIdeal.nD Cert.HyOutIdeal.τ).loc Cert.HyOutIdeal.main_arg5)
      ∧ m' ((c.tc : Thread Cert.HyOutRefIdeal.nD Cert.HyOutRefIdeal.τ).loc Cert.HyOutRefIdeal.main_arg6) = m ((c.tc : Thread Cert.HyOutIdeal.nD Cert.HyOutIdeal.τ).loc Cert.HyOutIdeal.main_arg6)
      ∧ m' ((c.tc : Thread Cert.HyOutRefIdeal.nD Cert.HyOutRefIdeal.τ).loc Cert.HyOutRefIdeal.main_arg7) = m ((c.tc : Thread Cert.HyOutIdeal.nD Cert.HyOutIdeal.τ).loc Cert.HyOutIdeal.main_arg7)
      ∧ m' ((c.tc : Thread Cert.HyOutRefIdeal.nD Cert.HyOutRefIdeal.τ).loc Cert.HyOutRefIdeal.main_arg8) = m ((c.tc : Thread Cert.HyOutIdeal.nD Cert.HyOutIdeal.τ).loc Cert.HyOutIdeal.main_arg8)
      ∧ m' ((c.tc : Thread Cert.HyOutRefIdeal.nD Cert.HyOutRefIdeal.τ).loc Cert.HyOutRefIdeal.main_arg9) = m ((c.tc : Thread Cert.HyOutIdeal.nD Cert.HyOutIdeal.τ).loc Cert.HyOutIdeal.main_arg9)) →
    ∃ (v0 : (c : Dev Cert.HyOutIdeal.nD) → Buf (Elt Ideal) ((c.tc : Thread Cert.HyOutIdeal.nD Cert.HyOutIdeal.τ).loc Cert.HyOutIdeal.main_v5)),
      θ_run (Cert.HyOutIdeal.defs (F := Ideal)) (onTc (τ := Cert.HyOutIdeal.τ) (Cert.HyOutIdeal.main (F := Ideal))) ⟨m, fun _ => 0, g⟩ (fun r => ∀ c : Dev Cert.HyOutIdeal.nD,
          r.2.mem ((c.tc : Thread Cert.HyOutIdeal.nD Cert.HyOutIdeal.τ).loc Cert.HyOutIdeal.main_v5) = v0 c
          ∧ r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
          ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
          ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2)
          ∧ r.2.mem ((c.tc : Thread Cert.HyOutIdeal.nD Cert.HyOutIdeal.τ).loc Cert.HyOutIdeal.main_arg3) = m ((c.tc : Thread Cert.HyOutIdeal.nD Cert.HyOutIdeal.τ).loc Cert.HyOutIdeal.main_arg3)
          ∧ r.2.mem ((c.tc : Thread Cert.HyOutIdeal.nD Cert.HyOutIdeal.τ).loc Cert.HyOutIdeal.main_arg4) = m ((c.tc : Thread Cert.HyOutIdeal.nD Cert.HyOutIdeal.τ).loc Cert.HyOutIdeal.main_arg4)
          ∧ r.2.mem ((c.tc : Thread Cert.HyOutIdeal.nD Cert.HyOutIdeal.τ).loc Cert.HyOutIdeal.main_arg5) = m ((c.tc : Thread Cert.HyOutIdeal.nD Cert.HyOutIdeal.τ).loc Cert.HyOutIdeal.main_arg5)
          ∧ r.2.mem ((c.tc : Thread Cert.HyOutIdeal.nD Cert.HyOutIdeal.τ).loc Cert.HyOutIdeal.main_arg6) = m ((c.tc : Thread Cert.HyOutIdeal.nD Cert.HyOutIdeal.τ).loc Cert.HyOutIdeal.main_arg6)
          ∧ r.2.mem ((c.tc : Thread Cert.HyOutIdeal.nD Cert.HyOutIdeal.τ).loc Cert.HyOutIdeal.main_arg7) = m ((c.tc : Thread Cert.HyOutIdeal.nD Cert.HyOutIdeal.τ).loc Cert.HyOutIdeal.main_arg7)
          ∧ r.2.mem ((c.tc : Thread Cert.HyOutIdeal.nD Cert.HyOutIdeal.τ).loc Cert.HyOutIdeal.main_arg8) = m ((c.tc : Thread Cert.HyOutIdeal.nD Cert.HyOutIdeal.τ).loc Cert.HyOutIdeal.main_arg8)
          ∧ r.2.mem ((c.tc : Thread Cert.HyOutIdeal.nD Cert.HyOutIdeal.τ).loc Cert.HyOutIdeal.main_arg9) = m ((c.tc : Thread Cert.HyOutIdeal.nD Cert.HyOutIdeal.τ).loc Cert.HyOutIdeal.main_arg9))
      ∧ θ_run (Cert.HyOutRefIdeal.defs (F := Ideal)) (onTc (τ := Cert.HyOutRefIdeal.τ) (Cert.HyOutRefIdeal.main (F := Ideal))) ⟨m', fun _ => 0, g'⟩ (fun r => ∀ c : Dev Cert.HyOutRefIdeal.nD,
          r.2.mem ((c.tc : Thread Cert.HyOutRefIdeal.nD Cert.HyOutRefIdeal.τ).loc Cert.HyOutRefIdeal.main_v42) = v0 c
          ∧ r.2.mem ((c.tc : Thread Cert.HyOutRefIdeal.nD Cert.HyOutRefIdeal.τ).loc Cert.HyOutRefIdeal.main_arg0) = m' ((c.tc : Thread Cert.HyOutRefIdeal.nD Cert.HyOutRefIdeal.τ).loc Cert.HyOutRefIdeal.main_arg0)
          ∧ r.2.mem ((c.tc : Thread Cert.HyOutRefIdeal.nD Cert.HyOutRefIdeal.τ).loc Cert.HyOutRefIdeal.main_arg1) = m' ((c.tc : Thread Cert.HyOutRefIdeal.nD Cert.HyOutRefIdeal.τ).loc Cert.HyOutRefIdeal.main_arg1)
          ∧ r.2.mem ((c.tc : Thread Cert.HyOutRefIdeal.nD Cert.HyOutRefIdeal.τ).loc Cert.HyOutRefIdeal.main_arg2) = m' ((c.tc : Thread Cert.HyOutRefIdeal.nD Cert.HyOutRefIdeal.τ).loc Cert.HyOutRefIdeal.main_arg2)
          ∧ r.2.mem ((c.tc : Thread Cert.HyOutRefIdeal.nD Cert.HyOutRefIdeal.τ).loc Cert.HyOutRefIdeal.main_arg3) = m' ((c.tc : Thread Cert.HyOutRefIdeal.nD Cert.HyOutRefIdeal.τ).loc Cert.HyOutRefIdeal.main_arg3)
          ∧ r.2.mem ((c.tc : Thread Cert.HyOutRefIdeal.nD Cert.HyOutRefIdeal.τ).loc Cert.HyOutRefIdeal.main_arg4) = m' ((c.tc : Thread Cert.HyOutRefIdeal.nD Cert.HyOutRefIdeal.τ).loc Cert.HyOutRefIdeal.main_arg4)
          ∧ r.2.mem ((c.tc : Thread Cert.HyOutRefIdeal.nD Cert.HyOutRefIdeal.τ).loc Cert.HyOutRefIdeal.main_arg5) = m' ((c.tc : Thread Cert.HyOutRefIdeal.nD Cert.HyOutRefIdeal.τ).loc Cert.HyOutRefIdeal.main_arg5)
          ∧ r.2.mem ((c.tc : Thread Cert.HyOutRefIdeal.nD Cert.HyOutRefIdeal.τ).loc Cert.HyOutRefIdeal.main_arg6) = m' ((c.tc : Thread Cert.HyOutRefIdeal.nD Cert.HyOutRefIdeal.τ).loc Cert.HyOutRefIdeal.main_arg6)
          ∧ r.2.mem ((c.tc : Thread Cert.HyOutRefIdeal.nD Cert.HyOutRefIdeal.τ).loc Cert.HyOutRefIdeal.main_arg7) = m' ((c.tc : Thread Cert.HyOutRefIdeal.nD Cert.HyOutRefIdeal.τ).loc Cert.HyOutRefIdeal.main_arg7)
          ∧ r.2.mem ((c.tc : Thread Cert.HyOutRefIdeal.nD Cert.HyOutRefIdeal.τ).loc Cert.HyOutRefIdeal.main_arg8) = m' ((c.tc : Thread Cert.HyOutRefIdeal.nD Cert.HyOutRefIdeal.τ).loc Cert.HyOutRefIdeal.main_arg8)
          ∧ r.2.mem ((c.tc : Thread Cert.HyOutRefIdeal.nD Cert.HyOutRefIdeal.τ).loc Cert.HyOutRefIdeal.main_arg9) = m' ((c.tc : Thread Cert.HyOutRefIdeal.nD Cert.HyOutRefIdeal.τ).loc Cert.HyOutRefIdeal.main_arg9))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)
      ∧ m' ((c.tc : Thread Cert.AttnOutRefIdeal.nD Cert.AttnOutRefIdeal.τ).loc Cert.AttnOutRefIdeal.main_arg5) = m ((c.tc : Thread Cert.AttnOutIdeal.nD Cert.AttnOutIdeal.τ).loc Cert.AttnOutIdeal.main_arg5)) →
    ∃ (v0 : (c : Dev Cert.AttnOutIdeal.nD) → Buf (Elt Ideal) ((c.tc : Thread Cert.AttnOutIdeal.nD Cert.AttnOutIdeal.τ).loc Cert.AttnOutIdeal.main_v3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v3) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v30) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4)
          ∧ r.2.mem ((c.tc : Thread Cert.AttnOutRefIdeal.nD Cert.AttnOutRefIdeal.τ).loc Cert.AttnOutRefIdeal.main_arg5) = m' ((c.tc : Thread Cert.AttnOutRefIdeal.nD Cert.AttnOutRefIdeal.τ).loc Cert.AttnOutRefIdeal.main_arg5))

def preserves_HyIn_HyInIdeal : Prop :=
  True

def algebraic_HyInIdeal_HyInRefIdeal_pre_hyena_in_pre [hHyInIdeal : Cert.HyInIdeal.Facts] [hHyInRefIdeal : Cert.HyInRefIdeal.Facts] [hPre_hyena_in_pre : Cert.Pre_hyena_in_pre.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInRefIdeal.nD Cert.HyInRefIdeal.τ Cert.HyInRefIdeal.sig) → Buf (Elt Ideal) ℓ) (g' : Dev Cert.HyInRefIdeal.nD → PrngReg), Pre_HyInIdeal_hyena_in_pre m →
    (∀ c : Dev Cert.HyInIdeal.nD,
      m' ((c.tc : Thread Cert.HyInRefIdeal.nD Cert.HyInRefIdeal.τ).loc Cert.HyInRefIdeal.main_arg0) = m ((c.tc : Thread Cert.HyInIdeal.nD Cert.HyInIdeal.τ).loc Cert.HyInIdeal.main_arg0)
      ∧ m' ((c.tc : Thread Cert.HyInRefIdeal.nD Cert.HyInRefIdeal.τ).loc Cert.HyInRefIdeal.main_arg1) = m ((c.tc : Thread Cert.HyInIdeal.nD Cert.HyInIdeal.τ).loc Cert.HyInIdeal.main_arg1)
      ∧ m' ((c.tc : Thread Cert.HyInRefIdeal.nD Cert.HyInRefIdeal.τ).loc Cert.HyInRefIdeal.main_arg2) = m ((c.tc : Thread Cert.HyInIdeal.nD Cert.HyInIdeal.τ).loc Cert.HyInIdeal.main_arg2)
      ∧ m' ((c.tc : Thread Cert.HyInRefIdeal.nD Cert.HyInRefIdeal.τ).loc Cert.HyInRefIdeal.main_arg3) = m ((c.tc : Thread Cert.HyInIdeal.nD Cert.HyInIdeal.τ).loc Cert.HyInIdeal.main_arg3)
      ∧ m' ((c.tc : Thread Cert.HyInRefIdeal.nD Cert.HyInRefIdeal.τ).loc Cert.HyInRefIdeal.main_arg4) = m ((c.tc : Thread Cert.HyInIdeal.nD Cert.HyInIdeal.τ).loc Cert.HyInIdeal.main_arg4)
      ∧ m' ((c.tc : Thread Cert.HyInRefIdeal.nD Cert.HyInRefIdeal.τ).loc Cert.HyInRefIdeal.main_arg5) = m ((c.tc : Thread Cert.HyInIdeal.nD Cert.HyInIdeal.τ).loc Cert.HyInIdeal.main_arg5)
      ∧ m' ((c.tc : Thread Cert.HyInRefIdeal.nD Cert.HyInRefIdeal.τ).loc Cert.HyInRefIdeal.main_arg6) = m ((c.tc : Thread Cert.HyInIdeal.nD Cert.HyInIdeal.τ).loc Cert.HyInIdeal.main_arg6)) →
    ∃ (v0 : (c : Dev Cert.HyInIdeal.nD) → Buf (Elt Ideal) ((c.tc : Thread Cert.HyInIdeal.nD Cert.HyInIdeal.τ).loc Cert.HyInIdeal.main_v5_0)) (v1 : (c : Dev Cert.HyInIdeal.nD) → Buf (Elt Ideal) ((c.tc : Thread Cert.HyInIdeal.nD Cert.HyInIdeal.τ).loc Cert.HyInIdeal.main_v5_1)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v5_0) = v0 c
          ∧ r.2.mem ((c.tc : Thread Cert.HyInIdeal.nD Cert.HyInIdeal.τ).loc Cert.HyInIdeal.main_v5_1) = v1 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
          ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
          ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
          ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4)
          ∧ r.2.mem ((c.tc : Thread Cert.HyInIdeal.nD Cert.HyInIdeal.τ).loc Cert.HyInIdeal.main_arg5) = m ((c.tc : Thread Cert.HyInIdeal.nD Cert.HyInIdeal.τ).loc Cert.HyInIdeal.main_arg5)
          ∧ r.2.mem ((c.tc : Thread Cert.HyInIdeal.nD Cert.HyInIdeal.τ).loc Cert.HyInIdeal.main_arg6) = m ((c.tc : Thread Cert.HyInIdeal.nD Cert.HyInIdeal.τ).loc Cert.HyInIdeal.main_arg6))
      ∧ θ_run (Cert.HyInRefIdeal.defs (F := Ideal)) (onTc (τ := Cert.HyInRefIdeal.τ) (Cert.HyInRefIdeal.main (F := Ideal))) ⟨m', fun _ => 0, g'⟩ (fun r => ∀ c : Dev Cert.HyInRefIdeal.nD,
          r.2.mem ((c.tc : Thread Cert.HyInRefIdeal.nD Cert.HyInRefIdeal.τ).loc Cert.HyInRefIdeal.main_v39) = v0 c
          ∧ r.2.mem ((c.tc : Thread Cert.HyInRefIdeal.nD Cert.HyInRefIdeal.τ).loc Cert.HyInRefIdeal.main_v41) = v1 c
          ∧ r.2.mem ((c.tc : Thread Cert.HyInRefIdeal.nD Cert.HyInRefIdeal.τ).loc Cert.HyInRefIdeal.main_arg0) = m' ((c.tc : Thread Cert.HyInRefIdeal.nD Cert.HyInRefIdeal.τ).loc Cert.HyInRefIdeal.main_arg0)
          ∧ r.2.mem ((c.tc : Thread Cert.HyInRefIdeal.nD Cert.HyInRefIdeal.τ).loc Cert.HyInRefIdeal.main_arg1) = m' ((c.tc : Thread Cert.HyInRefIdeal.nD Cert.HyInRefIdeal.τ).loc Cert.HyInRefIdeal.main_arg1)
          ∧ r.2.mem ((c.tc : Thread Cert.HyInRefIdeal.nD Cert.HyInRefIdeal.τ).loc Cert.HyInRefIdeal.main_arg2) = m' ((c.tc : Thread Cert.HyInRefIdeal.nD Cert.HyInRefIdeal.τ).loc Cert.HyInRefIdeal.main_arg2)
          ∧ r.2.mem ((c.tc : Thread Cert.HyInRefIdeal.nD Cert.HyInRefIdeal.τ).loc Cert.HyInRefIdeal.main_arg3) = m' ((c.tc : Thread Cert.HyInRefIdeal.nD Cert.HyInRefIdeal.τ).loc Cert.HyInRefIdeal.main_arg3)
          ∧ r.2.mem ((c.tc : Thread Cert.HyInRefIdeal.nD Cert.HyInRefIdeal.τ).loc Cert.HyInRefIdeal.main_arg4) = m' ((c.tc : Thread Cert.HyInRefIdeal.nD Cert.HyInRefIdeal.τ).loc Cert.HyInRefIdeal.main_arg4)
          ∧ r.2.mem ((c.tc : Thread Cert.HyInRefIdeal.nD Cert.HyInRefIdeal.τ).loc Cert.HyInRefIdeal.main_arg5) = m' ((c.tc : Thread Cert.HyInRefIdeal.nD Cert.HyInRefIdeal.τ).loc Cert.HyInRefIdeal.main_arg5)
          ∧ r.2.mem ((c.tc : Thread Cert.HyInRefIdeal.nD Cert.HyInRefIdeal.τ).loc Cert.HyInRefIdeal.main_arg6) = m' ((c.tc : Thread Cert.HyInRefIdeal.nD Cert.HyInRefIdeal.τ).loc Cert.HyInRefIdeal.main_arg6))

def preserves_Pool_PoolIdeal : Prop :=
  True

def algebraic_PoolIdeal_PoolRefIdeal_pre_pool_pre [hPoolIdeal : Cert.PoolIdeal.Facts] [hPoolRefIdeal : Cert.PoolRefIdeal.Facts] [hPre_pool_pre : Cert.Pre_pool_pre.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_pre m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)) →
    ∃ (v0 : (c : Dev Cert.PoolIdeal.nD) → Buf (Elt Ideal) ((c.tc : Thread Cert.PoolIdeal.nD Cert.PoolIdeal.τ).loc Cert.PoolIdeal.main_v4)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v126) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7))

def preserves_LatentIn_LatentInIdeal : Prop :=
  True

def algebraic_LatentInIdeal_LatentInRefIdeal_pre_latent_in_pre [hLatentInIdeal : Cert.LatentInIdeal.Facts] [hLatentInRefIdeal : Cert.LatentInRefIdeal.Facts] [hPre_latent_in_pre : Cert.Pre_latent_in_pre.Facts] : Prop :=
  ∀ (m : (ℓ : Loc Cert.LatentInIdeal.nD Cert.LatentInIdeal.τ Cert.LatentInIdeal.sig) → Buf (Elt Ideal) ℓ) (g : Dev Cert.LatentInIdeal.nD → PrngReg)
    (m' : (ℓ : Loc Cert.LatentInRefIdeal.nD Cert.LatentInRefIdeal.τ Cert.LatentInRefIdeal.sig) → Buf (Elt Ideal) ℓ) (g' : Dev Cert.LatentInRefIdeal.nD → PrngReg), Pre_LatentInIdeal_latent_in_pre m →
    (∀ c : Dev Cert.LatentInIdeal.nD,
      m' ((c.tc : Thread Cert.LatentInRefIdeal.nD Cert.LatentInRefIdeal.τ).loc Cert.LatentInRefIdeal.main_arg0) = m ((c.tc : Thread Cert.LatentInIdeal.nD Cert.LatentInIdeal.τ).loc Cert.LatentInIdeal.main_arg0)
      ∧ m' ((c.tc : Thread Cert.LatentInRefIdeal.nD Cert.LatentInRefIdeal.τ).loc Cert.LatentInRefIdeal.main_arg1) = m ((c.tc : Thread Cert.LatentInIdeal.nD Cert.LatentInIdeal.τ).loc Cert.LatentInIdeal.main_arg1)
      ∧ m' ((c.tc : Thread Cert.LatentInRefIdeal.nD Cert.LatentInRefIdeal.τ).loc Cert.LatentInRefIdeal.main_arg2) = m ((c.tc : Thread Cert.LatentInIdeal.nD Cert.LatentInIdeal.τ).loc Cert.LatentInIdeal.main_arg2)
      ∧ m' ((c.tc : Thread Cert.LatentInRefIdeal.nD Cert.LatentInRefIdeal.τ).loc Cert.LatentInRefIdeal.main_arg3) = m ((c.tc : Thread Cert.LatentInIdeal.nD Cert.LatentInIdeal.τ).loc Cert.LatentInIdeal.main_arg3)) →
    ∃ (v0 : (c : Dev Cert.LatentInIdeal.nD) → Buf (Elt Ideal) ((c.tc : Thread Cert.LatentInIdeal.nD Cert.LatentInIdeal.τ).loc Cert.LatentInIdeal.main_v15)),
      θ_run (Cert.LatentInIdeal.defs (F := Ideal)) (onTc (τ := Cert.LatentInIdeal.τ) (Cert.LatentInIdeal.main (F := Ideal))) ⟨m, fun _ => 0, g⟩ (fun r => ∀ c : Dev Cert.LatentInIdeal.nD,
          r.2.mem ((c.tc : Thread Cert.LatentInIdeal.nD Cert.LatentInIdeal.τ).loc Cert.LatentInIdeal.main_v15) = v0 c
          ∧ r.2.mem ((c.tc : Thread Cert.LatentInIdeal.nD Cert.LatentInIdeal.τ).loc Cert.LatentInIdeal.main_arg0) = m ((c.tc : Thread Cert.LatentInIdeal.nD Cert.LatentInIdeal.τ).loc Cert.LatentInIdeal.main_arg0)
          ∧ r.2.mem ((c.tc : Thread Cert.LatentInIdeal.nD Cert.LatentInIdeal.τ).loc Cert.LatentInIdeal.main_arg1) = m ((c.tc : Thread Cert.LatentInIdeal.nD Cert.LatentInIdeal.τ).loc Cert.LatentInIdeal.main_arg1)
          ∧ r.2.mem ((c.tc : Thread Cert.LatentInIdeal.nD Cert.LatentInIdeal.τ).loc Cert.LatentInIdeal.main_arg2) = m ((c.tc : Thread Cert.LatentInIdeal.nD Cert.LatentInIdeal.τ).loc Cert.LatentInIdeal.main_arg2)
          ∧ r.2.mem ((c.tc : Thread Cert.LatentInIdeal.nD Cert.LatentInIdeal.τ).loc Cert.LatentInIdeal.main_arg3) = m ((c.tc : Thread Cert.LatentInIdeal.nD Cert.LatentInIdeal.τ).loc Cert.LatentInIdeal.main_arg3))
      ∧ θ_run (Cert.LatentInRefIdeal.defs (F := Ideal)) (onTc (τ := Cert.LatentInRefIdeal.τ) (Cert.LatentInRefIdeal.main (F := Ideal))) ⟨m', fun _ => 0, g'⟩ (fun r => ∀ c : Dev Cert.LatentInRefIdeal.nD,
          r.2.mem ((c.tc : Thread Cert.LatentInRefIdeal.nD Cert.LatentInRefIdeal.τ).loc Cert.LatentInRefIdeal.main_v20) = v0 c
          ∧ r.2.mem ((c.tc : Thread Cert.LatentInRefIdeal.nD Cert.LatentInRefIdeal.τ).loc Cert.LatentInRefIdeal.main_arg0) = m' ((c.tc : Thread Cert.LatentInRefIdeal.nD Cert.LatentInRefIdeal.τ).loc Cert.LatentInRefIdeal.main_arg0)
          ∧ r.2.mem ((c.tc : Thread Cert.LatentInRefIdeal.nD Cert.LatentInRefIdeal.τ).loc Cert.LatentInRefIdeal.main_arg1) = m' ((c.tc : Thread Cert.LatentInRefIdeal.nD Cert.LatentInRefIdeal.τ).loc Cert.LatentInRefIdeal.main_arg1)
          ∧ r.2.mem ((c.tc : Thread Cert.LatentInRefIdeal.nD Cert.LatentInRefIdeal.τ).loc Cert.LatentInRefIdeal.main_arg2) = m' ((c.tc : Thread Cert.LatentInRefIdeal.nD Cert.LatentInRefIdeal.τ).loc Cert.LatentInRefIdeal.main_arg2)
          ∧ r.2.mem ((c.tc : Thread Cert.LatentInRefIdeal.nD Cert.LatentInRefIdeal.τ).loc Cert.LatentInRefIdeal.main_arg3) = m' ((c.tc : Thread Cert.LatentInRefIdeal.nD Cert.LatentInRefIdeal.τ).loc Cert.LatentInRefIdeal.main_arg3))

def preserves_Queries_QueriesIdeal : Prop :=
  True

def algebraic_QueriesIdeal_QueriesRefIdeal_pre_queries_pre [hQueriesIdeal : Cert.QueriesIdeal.Facts] [hQueriesRefIdeal : Cert.QueriesRefIdeal.Facts] [hPre_queries_pre : Cert.Pre_queries_pre.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesRefIdeal.nD Cert.QueriesRefIdeal.τ Cert.QueriesRefIdeal.sig) → Buf (Elt Ideal) ℓ) (g' : Dev Cert.QueriesRefIdeal.nD → PrngReg), Pre_QueriesIdeal_queries_pre m →
    (∀ c : Dev Cert.QueriesIdeal.nD,
      m' ((c.tc : Thread Cert.QueriesRefIdeal.nD Cert.QueriesRefIdeal.τ).loc Cert.QueriesRefIdeal.main_arg0) = m ((c.tc : Thread Cert.QueriesIdeal.nD Cert.QueriesIdeal.τ).loc Cert.QueriesIdeal.main_arg0)
      ∧ m' ((c.tc : Thread Cert.QueriesRefIdeal.nD Cert.QueriesRefIdeal.τ).loc Cert.QueriesRefIdeal.main_arg1) = m ((c.tc : Thread Cert.QueriesIdeal.nD Cert.QueriesIdeal.τ).loc Cert.QueriesIdeal.main_arg1)
      ∧ m' ((c.tc : Thread Cert.QueriesRefIdeal.nD Cert.QueriesRefIdeal.τ).loc Cert.QueriesRefIdeal.main_arg2) = m ((c.tc : Thread Cert.QueriesIdeal.nD Cert.QueriesIdeal.τ).loc Cert.QueriesIdeal.main_arg2)
      ∧ m' ((c.tc : Thread Cert.QueriesRefIdeal.nD Cert.QueriesRefIdeal.τ).loc Cert.QueriesRefIdeal.main_arg3) = m ((c.tc : Thread Cert.QueriesIdeal.nD Cert.QueriesIdeal.τ).loc Cert.QueriesIdeal.main_arg3)) →
    ∃ (v0 : (c : Dev Cert.QueriesIdeal.nD) → Buf (Elt Ideal) ((c.tc : Thread Cert.QueriesIdeal.nD Cert.QueriesIdeal.τ).loc Cert.QueriesIdeal.main_v16)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v16) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
          ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3))
      ∧ θ_run (Cert.QueriesRefIdeal.defs (F := Ideal)) (onTc (τ := Cert.QueriesRefIdeal.τ) (Cert.QueriesRefIdeal.main (F := Ideal))) ⟨m', fun _ => 0, g'⟩ (fun r => ∀ c : Dev Cert.QueriesRefIdeal.nD,
          r.2.mem ((c.tc : Thread Cert.QueriesRefIdeal.nD Cert.QueriesRefIdeal.τ).loc Cert.QueriesRefIdeal.main_v42) = v0 c
          ∧ r.2.mem ((c.tc : Thread Cert.QueriesRefIdeal.nD Cert.QueriesRefIdeal.τ).loc Cert.QueriesRefIdeal.main_arg0) = m' ((c.tc : Thread Cert.QueriesRefIdeal.nD Cert.QueriesRefIdeal.τ).loc Cert.QueriesRefIdeal.main_arg0)
          ∧ r.2.mem ((c.tc : Thread Cert.QueriesRefIdeal.nD Cert.QueriesRefIdeal.τ).loc Cert.QueriesRefIdeal.main_arg1) = m' ((c.tc : Thread Cert.QueriesRefIdeal.nD Cert.QueriesRefIdeal.τ).loc Cert.QueriesRefIdeal.main_arg1)
          ∧ r.2.mem ((c.tc : Thread Cert.QueriesRefIdeal.nD Cert.QueriesRefIdeal.τ).loc Cert.QueriesRefIdeal.main_arg2) = m' ((c.tc : Thread Cert.QueriesRefIdeal.nD Cert.QueriesRefIdeal.τ).loc Cert.QueriesRefIdeal.main_arg2)
          ∧ r.2.mem ((c.tc : Thread Cert.QueriesRefIdeal.nD Cert.QueriesRefIdeal.τ).loc Cert.QueriesRefIdeal.main_arg3) = m' ((c.tc : Thread Cert.QueriesRefIdeal.nD Cert.QueriesRefIdeal.τ).loc Cert.QueriesRefIdeal.main_arg3))

def preserves_KeysValues_KeysValuesIdeal : Prop :=
  True

def algebraic_KeysValuesIdeal_KeysValuesRefIdeal_pre_keys_values_pre [hKeysValuesIdeal : Cert.KeysValuesIdeal.Facts] [hKeysValuesRefIdeal : Cert.KeysValuesRefIdeal.Facts] [hPre_keys_values_pre : Cert.Pre_keys_values_pre.Facts] : Prop :=
  ∀ (m : (ℓ : Loc Cert.KeysValuesIdeal.nD Cert.KeysValuesIdeal.τ Cert.KeysValuesIdeal.sig) → Buf (Elt Ideal) ℓ) (g : Dev Cert.KeysValuesIdeal.nD → PrngReg)
    (m' : (ℓ : Loc Cert.KeysValuesRefIdeal.nD Cert.KeysValuesRefIdeal.τ Cert.KeysValuesRefIdeal.sig) → Buf (Elt Ideal) ℓ) (g' : Dev Cert.KeysValuesRefIdeal.nD → PrngReg), Pre_KeysValuesIdeal_keys_values_pre m →
    (∀ c : Dev Cert.KeysValuesIdeal.nD,
      m' ((c.tc : Thread Cert.KeysValuesRefIdeal.nD Cert.KeysValuesRefIdeal.τ).loc Cert.KeysValuesRefIdeal.main_arg0) = m ((c.tc : Thread Cert.KeysValuesIdeal.nD Cert.KeysValuesIdeal.τ).loc Cert.KeysValuesIdeal.main_arg0)
      ∧ m' ((c.tc : Thread Cert.KeysValuesRefIdeal.nD Cert.KeysValuesRefIdeal.τ).loc Cert.KeysValuesRefIdeal.main_arg1) = m ((c.tc : Thread Cert.KeysValuesIdeal.nD Cert.KeysValuesIdeal.τ).loc Cert.KeysValuesIdeal.main_arg1)
      ∧ m' ((c.tc : Thread Cert.KeysValuesRefIdeal.nD Cert.KeysValuesRefIdeal.τ).loc Cert.KeysValuesRefIdeal.main_arg2) = m ((c.tc : Thread Cert.KeysValuesIdeal.nD Cert.KeysValuesIdeal.τ).loc Cert.KeysValuesIdeal.main_arg2)
      ∧ m' ((c.tc : Thread Cert.KeysValuesRefIdeal.nD Cert.KeysValuesRefIdeal.τ).loc Cert.KeysValuesRefIdeal.main_arg3) = m ((c.tc : Thread Cert.KeysValuesIdeal.nD Cert.KeysValuesIdeal.τ).loc Cert.KeysValuesIdeal.main_arg3)) →
    ∃ (v0 : (c : Dev Cert.KeysValuesIdeal.nD) → Buf (Elt Ideal) ((c.tc : Thread Cert.KeysValuesIdeal.nD Cert.KeysValuesIdeal.τ).loc Cert.KeysValuesIdeal.main_v4_0)) (v1 : (c : Dev Cert.KeysValuesIdeal.nD) → Buf (Elt Ideal) ((c.tc : Thread Cert.KeysValuesIdeal.nD Cert.KeysValuesIdeal.τ).loc Cert.KeysValuesIdeal.main_v4_1)),
      θ_run (Cert.KeysValuesIdeal.defs (F := Ideal)) (onTc (τ := Cert.KeysValuesIdeal.τ) (Cert.KeysValuesIdeal.main (F := Ideal))) ⟨m, fun _ => 0, g⟩ (fun r => ∀ c : Dev Cert.KeysValuesIdeal.nD,
          r.2.mem ((c.tc : Thread Cert.KeysValuesIdeal.nD Cert.KeysValuesIdeal.τ).loc Cert.KeysValuesIdeal.main_v4_0) = v0 c
          ∧ r.2.mem ((c.tc : Thread Cert.KeysValuesIdeal.nD Cert.KeysValuesIdeal.τ).loc Cert.KeysValuesIdeal.main_v4_1) = v1 c
          ∧ r.2.mem ((c.tc : Thread Cert.KeysValuesIdeal.nD Cert.KeysValuesIdeal.τ).loc Cert.KeysValuesIdeal.main_arg0) = m ((c.tc : Thread Cert.KeysValuesIdeal.nD Cert.KeysValuesIdeal.τ).loc Cert.KeysValuesIdeal.main_arg0)
          ∧ r.2.mem ((c.tc : Thread Cert.KeysValuesIdeal.nD Cert.KeysValuesIdeal.τ).loc Cert.KeysValuesIdeal.main_arg1) = m ((c.tc : Thread Cert.KeysValuesIdeal.nD Cert.KeysValuesIdeal.τ).loc Cert.KeysValuesIdeal.main_arg1)
          ∧ r.2.mem ((c.tc : Thread Cert.KeysValuesIdeal.nD Cert.KeysValuesIdeal.τ).loc Cert.KeysValuesIdeal.main_arg2) = m ((c.tc : Thread Cert.KeysValuesIdeal.nD Cert.KeysValuesIdeal.τ).loc Cert.KeysValuesIdeal.main_arg2)
          ∧ r.2.mem ((c.tc : Thread Cert.KeysValuesIdeal.nD Cert.KeysValuesIdeal.τ).loc Cert.KeysValuesIdeal.main_arg3) = m ((c.tc : Thread Cert.KeysValuesIdeal.nD Cert.KeysValuesIdeal.τ).loc Cert.KeysValuesIdeal.main_arg3))
      ∧ θ_run (Cert.KeysValuesRefIdeal.defs (F := Ideal)) (onTc (τ := Cert.KeysValuesRefIdeal.τ) (Cert.KeysValuesRefIdeal.main (F := Ideal))) ⟨m', fun _ => 0, g'⟩ (fun r => ∀ c : Dev Cert.KeysValuesRefIdeal.nD,
          r.2.mem ((c.tc : Thread Cert.KeysValuesRefIdeal.nD Cert.KeysValuesRefIdeal.τ).loc Cert.KeysValuesRefIdeal.main_v48) = v0 c
          ∧ r.2.mem ((c.tc : Thread Cert.KeysValuesRefIdeal.nD Cert.KeysValuesRefIdeal.τ).loc Cert.KeysValuesRefIdeal.main_v49) = v1 c
          ∧ r.2.mem ((c.tc : Thread Cert.KeysValuesRefIdeal.nD Cert.KeysValuesRefIdeal.τ).loc Cert.KeysValuesRefIdeal.main_arg0) = m' ((c.tc : Thread Cert.KeysValuesRefIdeal.nD Cert.KeysValuesRefIdeal.τ).loc Cert.KeysValuesRefIdeal.main_arg0)
          ∧ r.2.mem ((c.tc : Thread Cert.KeysValuesRefIdeal.nD Cert.KeysValuesRefIdeal.τ).loc Cert.KeysValuesRefIdeal.main_arg1) = m' ((c.tc : Thread Cert.KeysValuesRefIdeal.nD Cert.KeysValuesRefIdeal.τ).loc Cert.KeysValuesRefIdeal.main_arg1)
          ∧ r.2.mem ((c.tc : Thread Cert.KeysValuesRefIdeal.nD Cert.KeysValuesRefIdeal.τ).loc Cert.KeysValuesRefIdeal.main_arg2) = m' ((c.tc : Thread Cert.KeysValuesRefIdeal.nD Cert.KeysValuesRefIdeal.τ).loc Cert.KeysValuesRefIdeal.main_arg2)
          ∧ r.2.mem ((c.tc : Thread Cert.KeysValuesRefIdeal.nD Cert.KeysValuesRefIdeal.τ).loc Cert.KeysValuesRefIdeal.main_arg3) = m' ((c.tc : Thread Cert.KeysValuesRefIdeal.nD Cert.KeysValuesRefIdeal.τ).loc Cert.KeysValuesRefIdeal.main_arg3))

def Claim : Prop :=
  ∃ (hAttend : Cert.Attend.Facts) (hAttendIdeal : Cert.AttendIdeal.Facts) (hAttendRefIdeal : Cert.AttendRefIdeal.Facts) (hFfn : Cert.Ffn.Facts) (hFfnIdeal : Cert.FfnIdeal.Facts) (hFfnRefIdeal : Cert.FfnRefIdeal.Facts) (hHyOut : Cert.HyOut.Facts) (hHyOutIdeal : Cert.HyOutIdeal.Facts) (hHyOutRefIdeal : Cert.HyOutRefIdeal.Facts) (hAttnOut : Cert.AttnOut.Facts) (hAttnOutIdeal : Cert.AttnOutIdeal.Facts) (hAttnOutRefIdeal : Cert.AttnOutRefIdeal.Facts) (hHyIn : Cert.HyIn.Facts) (hHyInIdeal : Cert.HyInIdeal.Facts) (hHyInRefIdeal : Cert.HyInRefIdeal.Facts) (hPool : Cert.Pool.Facts) (hPoolIdeal : Cert.PoolIdeal.Facts) (hPoolRefIdeal : Cert.PoolRefIdeal.Facts) (hLatentIn : Cert.LatentIn.Facts) (hLatentInIdeal : Cert.LatentInIdeal.Facts) (hLatentInRefIdeal : Cert.LatentInRefIdeal.Facts) (hQueries : Cert.Queries.Facts) (hQueriesIdeal : Cert.QueriesIdeal.Facts) (hQueriesRefIdeal : Cert.QueriesRefIdeal.Facts) (hKeysValues : Cert.KeysValues.Facts) (hKeysValuesIdeal : Cert.KeysValuesIdeal.Facts) (hKeysValuesRefIdeal : Cert.KeysValuesRefIdeal.Facts) (hPre_attend_pre : Cert.Pre_attend_pre.Facts) (hPre_hyena_in_pre : Cert.Pre_hyena_in_pre.Facts) (hPre_pool_pre : Cert.Pre_pool_pre.Facts) (hPre_latent_in_pre : Cert.Pre_latent_in_pre.Facts) (hPre_queries_pre : Cert.Pre_queries_pre.Facts) (hPre_keys_values_pre : Cert.Pre_keys_values_pre.Facts),
    quiescent_Attend (hAttend := hAttend)
    ∧ quiescent_AttendIdeal (hAttendIdeal := hAttendIdeal)
    ∧ quiescent_AttendIdeal_pre_attend_pre (hAttendIdeal := hAttendIdeal) (hPre_attend_pre := hPre_attend_pre)
    ∧ quiescent_AttendRefIdeal (hAttendRefIdeal := hAttendRefIdeal)
    ∧ quiescent_AttendRefIdeal_pre_attend_pre (hAttendRefIdeal := hAttendRefIdeal) (hPre_attend_pre := hPre_attend_pre)
    ∧ quiescent_Ffn (hFfn := hFfn)
    ∧ quiescent_FfnIdeal (hFfnIdeal := hFfnIdeal)
    ∧ quiescent_FfnRefIdeal (hFfnRefIdeal := hFfnRefIdeal)
    ∧ quiescent_HyOut (hHyOut := hHyOut)
    ∧ quiescent_HyOutIdeal (hHyOutIdeal := hHyOutIdeal)
    ∧ quiescent_HyOutRefIdeal (hHyOutRefIdeal := hHyOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_HyIn (hHyIn := hHyIn)
    ∧ quiescent_HyInIdeal (hHyInIdeal := hHyInIdeal)
    ∧ quiescent_HyInIdeal_pre_hyena_in_pre (hHyInIdeal := hHyInIdeal) (hPre_hyena_in_pre := hPre_hyena_in_pre)
    ∧ quiescent_HyInRefIdeal (hHyInRefIdeal := hHyInRefIdeal)
    ∧ quiescent_HyInRefIdeal_pre_hyena_in_pre (hHyInRefIdeal := hHyInRefIdeal) (hPre_hyena_in_pre := hPre_hyena_in_pre)
    ∧ quiescent_Pool (hPool := hPool)
    ∧ quiescent_PoolIdeal (hPoolIdeal := hPoolIdeal)
    ∧ quiescent_PoolIdeal_pre_pool_pre (hPoolIdeal := hPoolIdeal) (hPre_pool_pre := hPre_pool_pre)
    ∧ quiescent_PoolRefIdeal (hPoolRefIdeal := hPoolRefIdeal)
    ∧ quiescent_PoolRefIdeal_pre_pool_pre (hPoolRefIdeal := hPoolRefIdeal) (hPre_pool_pre := hPre_pool_pre)
    ∧ quiescent_LatentIn (hLatentIn := hLatentIn)
    ∧ quiescent_LatentInIdeal (hLatentInIdeal := hLatentInIdeal)
    ∧ quiescent_LatentInIdeal_pre_latent_in_pre (hLatentInIdeal := hLatentInIdeal) (hPre_latent_in_pre := hPre_latent_in_pre)
    ∧ quiescent_LatentInRefIdeal (hLatentInRefIdeal := hLatentInRefIdeal)
    ∧ quiescent_LatentInRefIdeal_pre_latent_in_pre (hLatentInRefIdeal := hLatentInRefIdeal) (hPre_latent_in_pre := hPre_latent_in_pre)
    ∧ quiescent_Queries (hQueries := hQueries)
    ∧ quiescent_QueriesIdeal (hQueriesIdeal := hQueriesIdeal)
    ∧ quiescent_QueriesIdeal_pre_queries_pre (hQueriesIdeal := hQueriesIdeal) (hPre_queries_pre := hPre_queries_pre)
    ∧ quiescent_QueriesRefIdeal (hQueriesRefIdeal := hQueriesRefIdeal)
    ∧ quiescent_QueriesRefIdeal_pre_queries_pre (hQueriesRefIdeal := hQueriesRefIdeal) (hPre_queries_pre := hPre_queries_pre)
    ∧ quiescent_KeysValues (hKeysValues := hKeysValues)
    ∧ quiescent_KeysValuesIdeal (hKeysValuesIdeal := hKeysValuesIdeal)
    ∧ quiescent_KeysValuesIdeal_pre_keys_values_pre (hKeysValuesIdeal := hKeysValuesIdeal) (hPre_keys_values_pre := hPre_keys_values_pre)
    ∧ quiescent_KeysValuesRefIdeal (hKeysValuesRefIdeal := hKeysValuesRefIdeal)
    ∧ quiescent_KeysValuesRefIdeal_pre_keys_values_pre (hKeysValuesRefIdeal := hKeysValuesRefIdeal) (hPre_keys_values_pre := hPre_keys_values_pre)
    ∧ preserves_Attend_AttendIdeal
    ∧ algebraic_AttendIdeal_AttendRefIdeal_pre_attend_pre (hAttendIdeal := hAttendIdeal) (hAttendRefIdeal := hAttendRefIdeal) (hPre_attend_pre := hPre_attend_pre)
    ∧ preserves_Ffn_FfnIdeal
    ∧ algebraic_FfnIdeal_FfnRefIdeal (hFfnIdeal := hFfnIdeal) (hFfnRefIdeal := hFfnRefIdeal)
    ∧ preserves_HyOut_HyOutIdeal
    ∧ algebraic_HyOutIdeal_HyOutRefIdeal (hHyOutIdeal := hHyOutIdeal) (hHyOutRefIdeal := hHyOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_HyIn_HyInIdeal
    ∧ algebraic_HyInIdeal_HyInRefIdeal_pre_hyena_in_pre (hHyInIdeal := hHyInIdeal) (hHyInRefIdeal := hHyInRefIdeal) (hPre_hyena_in_pre := hPre_hyena_in_pre)
    ∧ preserves_Pool_PoolIdeal
    ∧ algebraic_PoolIdeal_PoolRefIdeal_pre_pool_pre (hPoolIdeal := hPoolIdeal) (hPoolRefIdeal := hPoolRefIdeal) (hPre_pool_pre := hPre_pool_pre)
    ∧ preserves_LatentIn_LatentInIdeal
    ∧ algebraic_LatentInIdeal_LatentInRefIdeal_pre_latent_in_pre (hLatentInIdeal := hLatentInIdeal) (hLatentInRefIdeal := hLatentInRefIdeal) (hPre_latent_in_pre := hPre_latent_in_pre)
    ∧ preserves_Queries_QueriesIdeal
    ∧ algebraic_QueriesIdeal_QueriesRefIdeal_pre_queries_pre (hQueriesIdeal := hQueriesIdeal) (hQueriesRefIdeal := hQueriesRefIdeal) (hPre_queries_pre := hPre_queries_pre)
    ∧ preserves_KeysValues_KeysValuesIdeal
    ∧ algebraic_KeysValuesIdeal_KeysValuesRefIdeal_pre_keys_values_pre (hKeysValuesIdeal := hKeysValuesIdeal) (hKeysValuesRefIdeal := hKeysValuesRefIdeal) (hPre_keys_values_pre := hPre_keys_values_pre)
-- ==== Pre_attend_pre.lean ====
abbrev S2x16x16384x256 : Shape := ⟨4, ![2, 16, 16384, 256]⟩
abbrev S2x16x144x16384 : Shape := ⟨4, ![2, 16, 144, 16384]⟩
abbrev S2x16x256x256 : Shape := ⟨4, ![2, 16, 256, 256]⟩
abbrev S2x16x144x256 : Shape := ⟨4, ![2, 16, 144, 256]⟩
abbrev S_ : Shape := ⟨0, ![]⟩
abbrev S2x16x1x16384 : Shape := ⟨4, ![2, 16, 1, 16384]⟩
abbrev S2x16x16384 : Shape := ⟨3, ![2, 16, 16384]⟩
abbrev S2x16x1x256 : Shape := ⟨4, ![2, 16, 1, 256]⟩
abbrev S2x16x256 : Shape := ⟨3, ![2, 16, 256]⟩

class Facts : Prop where
  bitsLt_bf16_f32 : FTy.bits .bf16 < FTy.bits .f32
  bcast_S_S2x16x16384x256 : S_.BroadcastsInDim S2x16x16384x256 (![] : Fin 0 → Fin S2x16x16384x256.rank)
  reducesTo_S2x16x16384x256_S_d0_1_2_3 : S2x16x16384x256.ReducesTo [0, 1, 2, 3] S_
  h_S_ : 0 < S_.numel
  bcast_S_S2x16x256x256 : S_.BroadcastsInDim S2x16x256x256 (![] : Fin 0 → Fin S2x16x256x256.rank)
  reducesTo_S2x16x256x256_S_d0_1_2_3 : S2x16x256x256.ReducesTo [0, 1, 2, 3] S_
  slices_S2x16x144x16384_S2x16x1x16384_0_0_128_0 : S2x16x144x16384.Slices ![0, 0, 128, 0] S2x16x1x16384
  shapeCasts_S2x16x1x16384_S2x16x16384 : S2x16x1x16384.ShapeCasts S2x16x16384
  bcast_S_S2x16x16384 : S_.BroadcastsInDim S2x16x16384 (![] : Fin 0 → Fin S2x16x16384.rank)
  reducesTo_S2x16x16384_S_d0_1_2 : S2x16x16384.ReducesTo [0, 1, 2] S_
  slices_S2x16x144x256_S2x16x1x256_0_0_128_0 : S2x16x144x256.Slices ![0, 0, 128, 0] S2x16x1x256
  shapeCasts_S2x16x1x256_S2x16x256 : S2x16x1x256.ShapeCasts S2x16x256
  bcast_S_S2x16x256 : S_.BroadcastsInDim S2x16x256 (![] : Fin 0 → Fin S2x16x256.rank)
  reducesTo_S2x16x256_S_d0_1_2 : S2x16x256.ReducesTo [0, 1, 2] S_

variable [Facts]

def fn_part1 {F : FTy → Type} [FloatOps F] (main_arg4 : FVec F S2x16x144x256 .bf16) (main_v16 : IVec S_ 1) (main_v17 : FVec F S2x16x1x16384 .bf16) : IVec S_ 1 :=
  let main_v18 : FVec F S2x16x16384 .bf16 := shapeCast S2x16x16384 main_v17 shapeCasts_S2x16x1x16384_S2x16x16384
  let main_cst_4 : FVec F S_ .bf16 := constant S_ .bf16 0x3F80#16
  let main_v19 : FVec F S2x16x16384 .bf16 := broadcastInDim S2x16x16384 ![] bcast_S_S2x16x16384 main_cst_4
  let main_v20 : IVec S2x16x16384 1 := cmpf .oeq main_v18 main_v19
  let main_c_5 : IVec S_ 1 := constantI S_ 1 1#1
  let main_v21 : IVec S_ 1 := (fun x v => Host.reduce IntOp.andi x v reducesTo_S2x16x16384_S_d0_1_2 h_S_) main_v20 main_c_5
  let main_v22 : IVec S_ 1 := andi main_v16 main_v21
  let main_v23 : FVec F S2x16x1x256 .bf16 := (extractStridedSlice S2x16x1x256 ![0, 0, 128, 0] · slices_S2x16x144x256_S2x16x1x256_0_0_128_0) main_arg4
  let main_v24 : FVec F S2x16x256 .bf16 := shapeCast S2x16x256 main_v23 shapeCasts_S2x16x1x256_S2x16x256
  let main_cst_6 : FVec F S_ .bf16 := constant S_ .bf16 0x3F80#16
  let main_v25 : FVec F S2x16x256 .bf16 := broadcastInDim S2x16x256 ![] bcast_S_S2x16x256 main_cst_6
  let main_v26 : IVec S2x16x256 1 := cmpf .oeq main_v24 main_v25
  let main_c_7 : IVec S_ 1 := constantI S_ 1 1#1
  let main_v27 : IVec S_ 1 := (fun x v => Host.reduce IntOp.andi x v reducesTo_S2x16x256_S_d0_1_2 h_S_) main_v26 main_c_7
  let main_v28 : IVec S_ 1 := andi main_v22 main_v27
  main_v28

def fn {F : FTy → Type} [FloatOps F] (main_arg0 : FVec F S2x16x16384x256 .bf16) (main_arg1 : FVec F S2x16x16384x256 .bf16) (main_arg2 : FVec F S2x16x144x16384 .bf16) (main_arg3 : FVec F S2x16x256x256 .bf16) (main_arg4 : FVec F S2x16x144x256 .bf16) : IVec S_ 1 :=
  let main_v0 : FVec F S2x16x16384x256 .f32 := (extf .f32 · bitsLt_bf16_f32) main_arg0
  let main_v1 : FVec F S2x16x16384x256 .f32 := (extf .f32 · bitsLt_bf16_f32) main_arg1
  let main_v2 : FVec F S2x16x256x256 .f32 := (extf .f32 · bitsLt_bf16_f32) main_arg3
  let main_v3 : FVec F S2x16x16384x256 .f32 := Host.absf main_v0
  let main_cst : FVec F S_ .f32 := constant S_ .f32 0x7F800000#32
  let main_v4 : FVec F S2x16x16384x256 .f32 := broadcastInDim S2x16x16384x256 ![] bcast_S_S2x16x16384x256 main_cst
  let main_v5 : IVec S2x16x16384x256 1 := cmpf .olt main_v3 main_v4
  let main_c : IVec S_ 1 := constantI S_ 1 1#1
  let main_v6 : IVec S_ 1 := (fun x v => Host.reduce IntOp.andi x v reducesTo_S2x16x16384x256_S_d0_1_2_3 h_S_) main_v5 main_c
  let main_v7 : FVec F S2x16x16384x256 .f32 := Host.absf main_v1
  let main_cst_0 : FVec F S_ .f32 := constant S_ .f32 0x7F800000#32
  let main_v8 : FVec F S2x16x16384x256 .f32 := broadcastInDim S2x16x16384x256 ![] bcast_S_S2x16x16384x256 main_cst_0
  let main_v9 : IVec S2x16x16384x256 1 := cmpf .olt main_v7 main_v8
  let main_c_1 : IVec S_ 1 := constantI S_ 1 1#1
  let main_v10 : IVec S_ 1 := (fun x v => Host.reduce IntOp.andi x v reducesTo_S2x16x16384x256_S_d0_1_2_3 h_S_) main_v9 main_c_1
  let main_v11 : IVec S_ 1 := andi main_v6 main_v10
  let main_v12 : FVec F S2x16x256x256 .f32 := Host.absf main_v2
  let main_cst_2 : FVec F S_ .f32 := constant S_ .f32 0x7F800000#32
  let main_v13 : FVec F S2x16x256x256 .f32 := broadcastInDim S2x16x256x256 ![] bcast_S_S2x16x256x256 main_cst_2
  let main_v14 : IVec S2x16x256x256 1 := cmpf .olt main_v12 main_v13
  let main_c_3 : IVec S_ 1 := constantI S_ 1 1#1
  let main_v15 : IVec S_ 1 := (fun x v => Host.reduce IntOp.andi x v reducesTo_S2x16x256x256_S_d0_1_2_3 h_S_) main_v14 main_c_3
  let main_v16 : IVec S_ 1 := andi main_v11 main_v15
  let main_v17 : FVec F S2x16x1x16384 .bf16 := (extractStridedSlice S2x16x1x16384 ![0, 0, 128, 0] · slices_S2x16x144x16384_S2x16x1x16384_0_0_128_0) main_arg2
  fn_part1 (F := F) main_arg4 main_v16 main_v17
-- ==== Pre_hyena_in_pre.lean ====
abbrev S2x16384x2048 : Shape := ⟨3, ![2, 16384, 2048]⟩
abbrev S2x1x2048 : Shape := ⟨3, ![2, 1, 2048]⟩
abbrev S2x2048x6144 : Shape := ⟨3, ![2, 2048, 6144]⟩
abbrev S6144 : Shape := ⟨1, ![6144]⟩
abbrev S3x6144 : Shape := ⟨2, ![3, 6144]⟩
abbrev S_ : Shape := ⟨0, ![]⟩

class Facts : Prop where
  bcast_S_S6144 : S_.BroadcastsInDim S6144 (![] : Fin 0 → Fin S6144.rank)
  reducesTo_S6144_S_d0 : S6144.ReducesTo [0] S_
  h_S_ : 0 < S_.numel
  bcast_S_S3x6144 : S_.BroadcastsInDim S3x6144 (![] : Fin 0 → Fin S3x6144.rank)
  reducesTo_S3x6144_S_d0_1 : S3x6144.ReducesTo [0, 1] S_

variable [Facts]

def fn {F : FTy → Type} [FloatOps F] (main_arg0 : FVec F S2x16384x2048 .f32) (main_arg1 : FVec F S2x1x2048 .f32) (main_arg2 : FVec F S2x1x2048 .f32) (main_arg3 : FVec F S2x2048x6144 .f32) (main_arg4 : FVec F S6144 .f32) (main_arg5 : FVec F S3x6144 .f32) (main_arg6 : FVec F S6144 .f32) : IVec S_ 1 :=
  let main_v0 : FVec F S6144 .f32 := Host.absf main_arg4
  let main_cst : FVec F S_ .f32 := constant S_ .f32 0x7F800000#32
  let main_v1 : FVec F S6144 .f32 := broadcastInDim S6144 ![] bcast_S_S6144 main_cst
  let main_v2 : IVec S6144 1 := cmpf .olt main_v0 main_v1
  let main_c : IVec S_ 1 := constantI S_ 1 1#1
  let main_v3 : IVec S_ 1 := (fun x v => Host.reduce IntOp.andi x v reducesTo_S6144_S_d0 h_S_) main_v2 main_c
  let main_v4 : FVec F S3x6144 .f32 := Host.absf main_arg5
  let main_cst_0 : FVec F S_ .f32 := constant S_ .f32 0x7F800000#32
  let main_v5 : FVec F S3x6144 .f32 := broadcastInDim S3x6144 ![] bcast_S_S3x6144 main_cst_0
  let main_v6 : IVec S3x6144 1 := cmpf .olt main_v4 main_v5
  let main_c_1 : IVec S_ 1 := constantI S_ 1 1#1
  let main_v7 : IVec S_ 1 := (fun x v => Host.reduce IntOp.andi x v reducesTo_S3x6144_S_d0_1 h_S_) main_v6 main_c_1
  let main_v8 : IVec S_ 1 := andi main_v3 main_v7
  main_v8
-- ==== Pre_keys_values_pre.lean ====
abbrev S2x16384x1152 : Shape := ⟨3, ![2, 16384, 1152]⟩
abbrev S512 : Shape := ⟨1, ![512]⟩
abbrev S512x4096 : Shape := ⟨2, ![512, 4096]⟩
abbrev S16384x128 : Shape := ⟨2, ![16384, 128]⟩
abbrev S2x16384x64 : Shape := ⟨3, ![2, 16384, 64]⟩
abbrev S2x16384x2x2x16 : Shape := ⟨5, ![2, 16384, 2, 2, 16]⟩
abbrev S2x16384x2x1x16 : Shape := ⟨5, ![2, 16384, 2, 1, 16]⟩
abbrev S2x16384x2x16 : Shape := ⟨4, ![2, 16384, 2, 16]⟩
abbrev S_ : Shape := ⟨0, ![]⟩

class Facts : Prop where
  bitsLt_bf16_f32 : FTy.bits .bf16 < FTy.bits .f32
  slices_S2x16384x1152_S2x16384x64_0_0_1088 : S2x16384x1152.Slices ![0, 0, 1088] S2x16384x64
  slices_S2x16384x1152_S2x16384x64_0_0_1024 : S2x16384x1152.Slices ![0, 0, 1024] S2x16384x64
  shapeCasts_S2x16384x64_S2x16384x2x2x16 : S2x16384x64.ShapeCasts S2x16384x2x2x16
  slices_S2x16384x2x2x16_S2x16384x2x1x16_0_0_0_1_0 : S2x16384x2x2x16.Slices ![0, 0, 0, 1, 0] S2x16384x2x1x16
  shapeCasts_S2x16384x2x1x16_S2x16384x2x16 : S2x16384x2x1x16.ShapeCasts S2x16384x2x16
  slices_S2x16384x2x2x16_S2x16384x2x1x16_0_0_0_0_0 : S2x16384x2x2x16.Slices ![0, 0, 0, 0, 0] S2x16384x2x1x16
  bcast_S2x16384x2x16_S2x16384x2x1x16_0_1_2_4 : S2x16384x2x16.BroadcastsInDim S2x16384x2x1x16 (![0, 1, 2, 4] : Fin 4 → Fin S2x16384x2x1x16.rank)
  concatenates_S2x16384x2x1x16_S2x16384x2x1x16_S2x16384x2x2x16_d3 : Shape.Concatenates [S2x16384x2x1x16, S2x16384x2x1x16] S2x16384x2x2x16 3
  shapeCasts_S2x16384x2x2x16_S2x16384x64 : S2x16384x2x2x16.ShapeCasts S2x16384x64
  reducesTo_S2x16384x64_S_d0_1_2 : S2x16384x64.ReducesTo [0, 1, 2] S_
  h_S_ : 0 < S_.numel

variable [Facts]

def fn {F : FTy → Type} [FloatOps F] (main_arg0 : FVec F S2x16384x1152 .bf16) (main_arg1 : FVec F S512 .f32) (main_arg2 : FVec F S512x4096 .f32) (main_arg3 : FVec F S16384x128 .f32) : IVec S_ 1 :=
  let main_v0 : FVec F S2x16384x1152 .f32 := (extf .f32 · bitsLt_bf16_f32) main_arg0
  let main_v1 : FVec F S2x16384x64 .f32 := (extractStridedSlice S2x16384x64 ![0, 0, 1088] · slices_S2x16384x1152_S2x16384x64_0_0_1088) main_v0
  let main_v2 : FVec F S2x16384x64 .f32 := (extractStridedSlice S2x16384x64 ![0, 0, 1024] · slices_S2x16384x1152_S2x16384x64_0_0_1024) main_v0
  let main_v3 : FVec F S2x16384x2x2x16 .f32 := shapeCast S2x16384x2x2x16 main_v2 shapeCasts_S2x16384x64_S2x16384x2x2x16
  let main_v4 : FVec F S2x16384x2x1x16 .f32 := (extractStridedSlice S2x16384x2x1x16 ![0, 0, 0, 1, 0] · slices_S2x16384x2x2x16_S2x16384x2x1x16_0_0_0_1_0) main_v3
  let main_v5 : FVec F S2x16384x2x16 .f32 := shapeCast S2x16384x2x16 main_v4 shapeCasts_S2x16384x2x1x16_S2x16384x2x16
  let main_v6 : FVec F S2x16384x2x16 .f32 := Host.negf main_v5
  let main_v7 : FVec F S2x16384x2x1x16 .f32 := (extractStridedSlice S2x16384x2x1x16 ![0, 0, 0, 0, 0] · slices_S2x16384x2x2x16_S2x16384x2x1x16_0_0_0_0_0) main_v3
  let main_v8 : FVec F S2x16384x2x16 .f32 := shapeCast S2x16384x2x16 main_v7 shapeCasts_S2x16384x2x1x16_S2x16384x2x16
  let main_v9 : FVec F S2x16384x2x1x16 .f32 := broadcastInDim S2x16384x2x1x16 ![0, 1, 2, 4] bcast_S2x16384x2x16_S2x16384x2x1x16_0_1_2_4 main_v6
  let main_v10 : FVec F S2x16384x2x1x16 .f32 := broadcastInDim S2x16384x2x1x16 ![0, 1, 2, 4] bcast_S2x16384x2x16_S2x16384x2x1x16_0_1_2_4 main_v8
  let main_v11 : FVec F S2x16384x2x2x16 .f32 := (fun a b => concatenate S2x16384x2x2x16 3 [⟨S2x16384x2x1x16, a⟩, ⟨S2x16384x2x1x16, b⟩] concatenates_S2x16384x2x1x16_S2x16384x2x1x16_S2x16384x2x2x16_d3) main_v9 main_v10
  let main_v12 : FVec F S2x16384x64 .f32 := shapeCast S2x16384x64 main_v11 shapeCasts_S2x16384x2x2x16_S2x16384x64
  let main_v13 : IVec S2x16384x64 1 := cmpf .oeq main_v1 main_v12
  let main_c : IVec S_ 1 := constantI S_ 1 1#1
  let main_v14 : IVec S_ 1 := (fun x v => Host.reduce IntOp.andi x v reducesTo_S2x16384x64_S_d0_1_2 h_S_) main_v13 main_c
  main_v14
-- ==== Pre_latent_in_pre.lean ====
abbrev S2x16384x2048 : Shape := ⟨3, ![2, 16384, 2048]⟩
abbrev S2x1x2048 : Shape := ⟨3, ![2, 1, 2048]⟩
abbrev S2048x1088 : Shape := ⟨2, ![2048, 1088]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel
  bcast_S_S2x1x2048 : S_.BroadcastsInDim S2x1x2048 (![] : Fin 0 → Fin S2x1x2048.rank)
  reducesTo_S2x1x2048_S_d0_1_2 : S2x1x2048.ReducesTo [0, 1, 2] S_
  bcast_S_S2048x1088 : S_.BroadcastsInDim S2048x1088 (![] : Fin 0 → Fin S2048x1088.rank)
  reducesTo_S2048x1088_S_d0_1 : S2048x1088.ReducesTo [0, 1] S_

variable [Facts]

def fn_part1 {F : FTy → Type} [FloatOps F] (main_v13 : IVec S_ 1) (main_v16 : IVec S2048x1088 1) : IVec S_ 1 :=
  let main_c_5 : IVec S_ 1 := constantI S_ 1 1#1
  let main_v17 : IVec S_ 1 := (fun x v => Host.reduce IntOp.andi x v reducesTo_S2048x1088_S_d0_1 h_S_) main_v16 main_c_5
  let main_v18 : IVec S_ 1 := andi main_v13 main_v17
  main_v18

def fn {F : FTy → Type} [FloatOps F] (main_arg0 : FVec F S2x16384x2048 .f32) (main_arg1 : FVec F S2x1x2048 .f32) (main_arg2 : FVec F S2x1x2048 .f32) (main_arg3 : FVec F S2048x1088 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  let main_v4 : FVec F S2x1x2048 .f32 := Host.absf main_arg1
  let main_cst_0 : FVec F S_ .f32 := constant S_ .f32 0x7F800000#32
  let main_v5 : FVec F S2x1x2048 .f32 := broadcastInDim S2x1x2048 ![] bcast_S_S2x1x2048 main_cst_0
  let main_v6 : IVec S2x1x2048 1 := cmpf .olt main_v4 main_v5
  let main_c_1 : IVec S_ 1 := constantI S_ 1 1#1
  let main_v7 : IVec S_ 1 := (fun x v => Host.reduce IntOp.andi x v reducesTo_S2x1x2048_S_d0_1_2 h_S_) main_v6 main_c_1
  let main_v8 : IVec S_ 1 := andi main_v3 main_v7
  let main_v9 : FVec F S2x1x2048 .f32 := Host.absf main_arg2
  let main_cst_2 : FVec F S_ .f32 := constant S_ .f32 0x7F800000#32
  let main_v10 : FVec F S2x1x2048 .f32 := broadcastInDim S2x1x2048 ![] bcast_S_S2x1x2048 main_cst_2
  let main_v11 : IVec S2x1x2048 1 := cmpf .olt main_v9 main_v10
  let main_c_3 : IVec S_ 1 := constantI S_ 1 1#1
  let main_v12 : IVec S_ 1 := (fun x v => Host.reduce IntOp.andi x v reducesTo_S2x1x2048_S_d0_1_2 h_S_) main_v11 main_c_3
  let main_v13 : IVec S_ 1 := andi main_v8 main_v12
  let main_v14 : FVec F S2048x1088 .f32 := Host.absf main_arg3
  let main_cst_4 : FVec F S_ .f32 := constant S_ .f32 0x7F800000#32
  let main_v15 : FVec F S2048x1088 .f32 := broadcastInDim S2048x1088 ![] bcast_S_S2048x1088 main_cst_4
  let main_v16 : IVec S2048x1088 1 := cmpf .olt main_v14 main_v15
  fn_part1 (F := F) main_v13 main_v16
-- ==== Pre_pool_pre.lean ====
abbrev S2x16384x2048 : Shape := ⟨3, ![2, 16384, 2048]⟩
abbrev S2x1x2048 : Shape := ⟨3, ![2, 1, 2048]⟩
abbrev S4x512x512 : Shape := ⟨3, ![4, 512, 512]⟩
abbrev S2048 : Shape := ⟨1, ![2048]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel
  bcast_S_S2x1x2048 : S_.BroadcastsInDim S2x1x2048 (![] : Fin 0 → Fin S2x1x2048.rank)
  reducesTo_S2x1x2048_S_d0_1_2 : S2x1x2048.ReducesTo [0, 1, 2] S_

variable [Facts]

def fn {F : FTy → Type} [FloatOps F] (main_arg0 : FVec F S2x16384x2048 .f32) (main_arg1 : FVec F S2x1x2048 .f32) (main_arg2 : FVec F S2x1x2048 .f32) (main_arg3 : FVec F S2x1x2048 .f32) (main_arg4 : FVec F S4x512x512 .f32) (main_arg5 : FVec F S2048 .f32) (main_arg6 : FVec F S2048 .f32) (main_arg7 : FVec F S2048 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  let main_v4 : FVec F S2x1x2048 .f32 := Host.absf main_arg1
  let main_cst_0 : FVec F S_ .f32 := constant S_ .f32 0x7F800000#32
  let main_v5 : FVec F S2x1x2048 .f32 := broadcastInDim S2x1x2048 ![] bcast_S_S2x1x2048 main_cst_0
  let main_v6 : IVec S2x1x2048 1 := cmpf .olt main_v4 main_v5
  let main_c_1 : IVec S_ 1 := constantI S_ 1 1#1
  let main_v7 : IVec S_ 1 := (fun x v => Host.reduce IntOp.andi x v reducesTo_S2x1x2048_S_d0_1_2 h_S_) main_v6 main_c_1
  let main_v8 : IVec S_ 1 := andi main_v3 main_v7
  let main_v9 : FVec F S2x1x2048 .f32 := Host.absf main_arg2
  let main_cst_2 : FVec F S_ .f32 := constant S_ .f32 0x7F800000#32
  let main_v10 : FVec F S2x1x2048 .f32 := broadcastInDim S2x1x2048 ![] bcast_S_S2x1x2048 main_cst_2
  let main_v11 : IVec S2x1x2048 1 := cmpf .olt main_v9 main_v10
  let main_c_3 : IVec S_ 1 := constantI S_ 1 1#1
  let main_v12 : IVec S_ 1 := (fun x v => Host.reduce IntOp.andi x v reducesTo_S2x1x2048_S_d0_1_2 h_S_) main_v11 main_c_3
  let main_v13 : IVec S_ 1 := andi main_v8 main_v12
  main_v13
-- ==== Pre_queries_pre.lean ====
abbrev S2x16384x1152 : Shape := ⟨3, ![2, 16384, 1152]⟩
abbrev S512 : Shape := ⟨1, ![512]⟩
abbrev S512x3072 : Shape := ⟨2, ![512, 3072]⟩
abbrev S16384x128 : Shape := ⟨2, ![16384, 128]⟩
abbrev S_ : Shape := ⟨0, ![]⟩

class Facts : Prop where
  bitsLt_bf16_f32 : FTy.bits .bf16 < FTy.bits .f32
  bcast_S_S2x16384x1152 : S_.BroadcastsInDim S2x16384x1152 (![] : Fin 0 → Fin S2x16384x1152.rank)
  reducesTo_S2x16384x1152_S_d0_1_2 : S2x16384x1152.ReducesTo [0, 1, 2] S_
  h_S_ : 0 < S_.numel
  bcast_S_S512 : S_.BroadcastsInDim S512 (![] : Fin 0 → Fin S512.rank)
  reducesTo_S512_S_d0 : S512.ReducesTo [0] S_
  bcast_S_S512x3072 : S_.BroadcastsInDim S512x3072 (![] : Fin 0 → Fin S512x3072.rank)
  reducesTo_S512x3072_S_d0_1 : S512x3072.ReducesTo [0, 1] S_

variable [Facts]

def fn {F : FTy → Type} [FloatOps F] (main_arg0 : FVec F S2x16384x1152 .bf16) (main_arg1 : FVec F S512 .f32) (main_arg2 : FVec F S512x3072 .f32) (main_arg3 : FVec F S16384x128 .f32) : IVec S_ 1 :=
  let main_v0 : FVec F S2x16384x1152 .f32 := (extf .f32 · bitsLt_bf16_f32) main_arg0
  let main_v1 : FVec F S2x16384x1152 .f32 := Host.absf main_v0
  let main_cst : FVec F S_ .f32 := constant S_ .f32 0x7F800000#32
  let main_v2 : FVec F S2x16384x1152 .f32 := broadcastInDim S2x16384x1152 ![] bcast_S_S2x16384x1152 main_cst
  let main_v3 : IVec S2x16384x1152 1 := cmpf .olt main_v1 main_v2
  let main_c : IVec S_ 1 := constantI S_ 1 1#1
  let main_v4 : IVec S_ 1 := (fun x v => Host.reduce IntOp.andi x v reducesTo_S2x16384x1152_S_d0_1_2 h_S_) main_v3 main_c
  let main_v5 : FVec F S512 .f32 := Host.absf main_arg1
  let main_cst_0 : FVec F S_ .f32 := constant S_ .f32 0x7F800000#32
  let main_v6 : FVec F S512 .f32 := broadcastInDim S512 ![] bcast_S_S512 main_cst_0
  let main_v7 : IVec S512 1 := cmpf .olt main_v5 main_v6
  let main_c_1 : IVec S_ 1 := constantI S_ 1 1#1
  let main_v8 : IVec S_ 1 := (fun x v => Host.reduce IntOp.andi x v reducesTo_S512_S_d0 h_S_) main_v7 main_c_1
  let main_v9 : IVec S_ 1 := andi main_v4 main_v8
  let main_v10 : FVec F S512x3072 .f32 := Host.absf main_arg2
  let main_cst_2 : FVec F S_ .f32 := constant S_ .f32 0x7F800000#32
  let main_v11 : FVec F S512x3072 .f32 := broadcastInDim S512x3072 ![] bcast_S_S512x3072 main_cst_2
  let main_v12 : IVec S512x3072 1 := cmpf .olt main_v10 main_v11
  let main_c_3 : IVec S_ 1 := constantI S_ 1 1#1
  let main_v13 : IVec S_ 1 := (fun x v => Host.reduce IntOp.andi x v reducesTo_S512x3072_S_d0_1 h_S_) main_v12 main_c_3
  let main_v14 : IVec S_ 1 := andi main_v9 main_v13
  main_v14
-- ==== Attend.lean ====
abbrev S2x16x16384x256 : Shape := ⟨4, ![2, 16, 16384, 256]⟩
abbrev S2x16x144x16384 : Shape := ⟨4, ![2, 16, 144, 16384]⟩
abbrev S2x16x256x256 : Shape := ⟨4, ![2, 16, 256, 256]⟩
abbrev S2x16x144x256 : Shape := ⟨4, ![2, 16, 144, 256]⟩
abbrev S2x16384x2048 : Shape := ⟨3, ![2, 16384, 2048]⟩
abbrev S1x1x4096x256 : Shape := ⟨4, ![1, 1, 4096, 256]⟩
abbrev S1x1x144x4096 : Shape := ⟨4, ![1, 1, 144, 4096]⟩
abbrev S1x1x256x256 : Shape := ⟨4, ![1, 1, 256, 256]⟩
abbrev S1x1x144x256 : Shape := ⟨4, ![1, 1, 144, 256]⟩
abbrev S1x4096x128 : Shape := ⟨3, ![1, 4096, 128]⟩
abbrev S8x256x512 : Shape := ⟨3, ![8, 256, 512]⟩
abbrev S2x4096x512 : Shape := ⟨3, ![2, 4096, 512]⟩
abbrev S2x1x512 : Shape := ⟨3, ![2, 1, 512]⟩
abbrev S8x1x512 : Shape := ⟨3, ![8, 1, 512]⟩
abbrev S8x144x512 : Shape := ⟨3, ![8, 144, 512]⟩
abbrev S1x1x512x256 : Shape := ⟨4, ![1, 1, 512, 256]⟩
abbrev S512x256 : Shape := ⟨2, ![512, 256]⟩
abbrev S256x512 : Shape := ⟨2, ![256, 512]⟩
abbrev S1x256x512 : Shape := ⟨3, ![1, 256, 512]⟩
abbrev S4096x256 : Shape := ⟨2, ![4096, 256]⟩
abbrev S144x4096 : Shape := ⟨2, ![144, 4096]⟩
abbrev S4096x512 : Shape := ⟨2, ![4096, 512]⟩
abbrev S1x4096x512 : Shape := ⟨3, ![1, 4096, 512]⟩
abbrev S512 : Shape := ⟨1, ![512]⟩
abbrev S1x512 : Shape := ⟨2, ![1, 512]⟩
abbrev S1x1x512 : Shape := ⟨3, ![1, 1, 512]⟩
abbrev S1x144x512 : Shape := ⟨3, ![1, 144, 512]⟩
abbrev S144x512 : Shape := ⟨2, ![144, 512]⟩
abbrev S256x256 : Shape := ⟨2, ![256, 256]⟩
abbrev S144x256 : Shape := ⟨2, ![144, 256]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 6
  | .vmem => 19
  | .smem => 0
  | _ => 0

abbrev bufTy : (tb : Table) → Fin (tcTables nBuf tb) → BufTy
  | .hbm, ⟨0, _⟩ => ⟨S2x16x16384x256, .bf16⟩
  | .hbm, ⟨1, _⟩ => ⟨S2x16x16384x256, .bf16⟩
  | .hbm, ⟨2, _⟩ => ⟨S2x16x144x16384, .bf16⟩
  | .hbm, ⟨3, _⟩ => ⟨S2x16x256x256, .bf16⟩
  | .hbm, ⟨4, _⟩ => ⟨S2x16x144x256, .bf16⟩
  | .hbm, ⟨5, _⟩ => ⟨S2x16384x2048, .bf16⟩
  | .local _ .vmem, ⟨0, _⟩ => ⟨S1x1x4096x256, .bf16⟩
  | .local _ .vmem, ⟨1, _⟩ => ⟨S1x1x4096x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x144x4096, .bf16⟩
  | .local _ .vmem, ⟨5, _⟩ => ⟨S1x1x144x4096, .bf16⟩
  | .local _ .vmem, ⟨6, _⟩ => ⟨S1x1x256x256, .bf16⟩
  | .local _ .vmem, ⟨7, _⟩ => ⟨S1x1x256x256, .bf16⟩
  | .local _ .vmem, ⟨8, _⟩ => ⟨S1x1x144x256, .bf16⟩
  | .local _ .vmem, ⟨9, _⟩ => ⟨S1x1x144x256, .bf16⟩
  | .local _ .vmem, ⟨10, _⟩ => ⟨S1x4096x128, .bf16⟩
  | .local _ .vmem, ⟨11, _⟩ => ⟨S1x4096x128, .bf16⟩
  | .local _ .vmem, ⟨12, _⟩ => ⟨S8x256x512, .bf16⟩
  | .local _ .vmem, ⟨13, _⟩ => ⟨S2x4096x512, .f32⟩
  | .local _ .vmem, ⟨14, _⟩ => ⟨S2x4096x512, .bf16⟩
  | .local _ .vmem, ⟨15, _⟩ => ⟨S2x1x512, .f32⟩
  | .local _ .vmem, ⟨16, _⟩ => ⟨S8x1x512, .f32⟩
  | .local _ .vmem, ⟨17, _⟩ => ⟨S8x1x512, .f32⟩
  | .local _ .vmem, ⟨18, _⟩ => ⟨S8x144x512, .f32⟩
  | _, _ => ⟨S2x16x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![2, 16, 4, 5], ![false, false, false, false]⟩

def k0_cond3 (i : grid0.Coords) : BitVec 1 :=
  let arg3 : BitVec 32 := BitVec.ofNat 32 (i 3).val
  let c4_i32_2 : BitVec 32 := 4#32
  let v6 : BitVec 1 := Scalar.cmpi .eq arg3 c4_i32_2
  let v7 : BitVec 32 := Scalar.extui v6
  let c0_i32_3 : BitVec 32 := 0#32
  let v8 : BitVec 1 := Scalar.cmpi .ne v7 c0_i32_3
  v8

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.minsi arg3 c3_i32
  let c0_i32 : BitVec 32 := 0#32
  let c0_i32_0 : BitVec 32 := 0#32
  ![arg0.toNat, arg1.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.minsi arg3 c3_i32
  let c0_i32 : BitVec 32 := 0#32
  let c0_i32_0 : BitVec 32 := 0#32
  ![arg0.toNat, arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x144x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== AttendRefIdeal.lean ====
abbrev S2x16x16384x256 : Shape := ⟨4, ![2, 16, 16384, 256]⟩
abbrev S2x16x144x16384 : Shape := ⟨4, ![2, 16, 144, 16384]⟩
abbrev S2x16x256x256 : Shape := ⟨4, ![2, 16, 256, 256]⟩
abbrev S2x16x144x256 : Shape := ⟨4, ![2, 16, 144, 256]⟩
abbrev S2x16x16640x256 : Shape := ⟨4, ![2, 16, 16640, 256]⟩
abbrev S2x16x16384x16640 : Shape := ⟨4, ![2, 16, 16384, 16640]⟩
abbrev S2x16x128x16384 : Shape := ⟨4, ![2, 16, 128, 16384]⟩
abbrev S2x16x128x256 : Shape := ⟨4, ![2, 16, 128, 256]⟩
abbrev S2x16x128x16640 : Shape := ⟨4, ![2, 16, 128, 16640]⟩
abbrev S_ : Shape := ⟨0, ![]⟩
abbrev S2x16x16384 : Shape := ⟨3, ![2, 16, 16384]⟩
abbrev S2x16x16384x1 : Shape := ⟨4, ![2, 16, 16384, 1]⟩
abbrev S2x16384x16x128 : Shape := ⟨4, ![2, 16384, 16, 128]⟩
abbrev S2x16384x2048 : Shape := ⟨3, ![2, 16384, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2x16x16384x256, .bf16⟩
  | .hbm, ⟨1, _⟩ => ⟨S2x16x16384x256, .bf16⟩
  | .hbm, ⟨2, _⟩ => ⟨S2x16x144x16384, .bf16⟩
  | .hbm, ⟨3, _⟩ => ⟨S2x16x256x256, .bf16⟩
  | .hbm, ⟨4, _⟩ => ⟨S2x16x144x256, .bf16⟩
  | .hbm, ⟨5, _⟩ => ⟨S2x16x16384x256, .f32⟩
  | .hbm, ⟨6, _⟩ => ⟨S2x16x16640x256, .bf16⟩
  | .hbm, ⟨7, _⟩ => ⟨S2x16x16640x256, .f32⟩
  | .hbm, ⟨8, _⟩ => ⟨S2x16x16384x16640, .f32⟩
  | .hbm, ⟨9, _⟩ => ⟨S2x16x128x16384, .bf16⟩
  | .hbm, ⟨10, _⟩ => ⟨S2x16x128x256, .bf16⟩
  | .hbm, ⟨11, _⟩ => ⟨S2x16x128x16640, .bf16⟩
  | .hbm, ⟨12, _⟩ => ⟨S2x16x128x16640, .f32⟩
  | .hbm, ⟨13, _⟩ => ⟨S_, .f32⟩
  | .hbm, ⟨14, _⟩ => ⟨S_, .f32⟩
  | .hbm, ⟨15, _⟩ => ⟨S2x16x16384x16640, .f32⟩
  | .hbm, ⟨16, _⟩ => ⟨S2x16x16384x16640, .f32⟩
  | .hbm, ⟨17, _⟩ => ⟨S_, .f32⟩
  | .hbm, ⟨18, _⟩ => ⟨S2x16x16384, .f32⟩
  | .hbm, ⟨19, _⟩ => ⟨S_, .f32⟩
  | .hbm, ⟨20, _⟩ => ⟨S2x16x16384, .f32⟩
  | .hbm, ⟨21, _⟩ => ⟨S2x16x16384, .f32⟩
  | .hbm, ⟨22, _⟩ => ⟨S2x16x16384x1, .f32⟩
  | .hbm, ⟨23, _⟩ => ⟨S2x16x16384x16640, .f32⟩
  | .hbm, ⟨24, _⟩ => ⟨S2x16x16384x16640, .f32⟩
  | .hbm, ⟨25, _⟩ => ⟨S2x16x16384x16640, .f32⟩
  | .hbm, ⟨26, _⟩ => ⟨S_, .f32⟩
  | .hbm, ⟨27, _⟩ => ⟨S2x16x16384, .f32⟩
  | .hbm, ⟨28, _⟩ => ⟨S2x16x16384x1, .f32⟩
  | .hbm, ⟨29, _⟩ => ⟨S2x16x16384x16640, .f32⟩
  | .hbm, ⟨30, _⟩ => ⟨S2x16x16384x16640, .f32⟩
  | .hbm, ⟨31, _⟩ => ⟨S2x16x128x16384, .f32⟩
  | .hbm, ⟨32, _⟩ => ⟨S2x16384x16x128, .f32⟩
  | .hbm, ⟨33, _⟩ => ⟨S2x16384x2048, .f32⟩
  | .hbm, ⟨34, _⟩ => ⟨S2x16384x2048, .bf16⟩
  | _, _ => ⟨S2x16x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Ffn.lean ====
abbrev S2x16384x2048 : Shape := ⟨3, ![2, 16384, 2048]⟩
abbrev S2x1x2048 : Shape := ⟨3, ![2, 1, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048 : Shape := ⟨2, ![1, 2048]⟩
abbrev S1x512x2048 : Shape := ⟨3, ![1, 512, 2048]⟩
abbrev S1x1x2048 : Shape := ⟨3, ![1, 1, 2048]⟩
abbrev S1x2048x512 : Shape := ⟨3, ![1, 2048, 512]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S4x2048x5632, .f32⟩
  | .hbm, ⟨5, _⟩ => ⟨S4x2048x5632, .f32⟩
  | .hbm, ⟨6, _⟩ => ⟨S4x5632x2048, .f32⟩
  | .hbm, ⟨7, _⟩ => ⟨S2048, .f32⟩
  | .hbm, ⟨8, _⟩ => ⟨S2048, .f32⟩
  | .hbm, ⟨9, _⟩ => ⟨S4x2048x5632, .bf16⟩
  | .hbm, ⟨10, _⟩ => ⟨S4x2048x5632, .bf16⟩
  | .hbm, ⟨11, _⟩ => ⟨S4x5632x2048, .bf16⟩
  | .hbm, ⟨12, _⟩ => ⟨S1x2048, .f32⟩
  | .hbm, ⟨13, _⟩ => ⟨S1x2048, .f32⟩
  | .hbm, ⟨14, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x512x2048, .bf16⟩
  | .local _ .vmem, ⟨13, _⟩ => ⟨S1x512x2048, .bf16⟩
  | .local _ .vmem, ⟨14, _⟩ => ⟨S1x2048, .f32⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | .local _ .vmem, ⟨18, _⟩ => ⟨S512x2048, .bf16⟩
  | .local _ .vmem, ⟨19, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 32, 11], ![false, false, false]⟩

def k0_cond2 (i : grid0.Coords) : BitVec 1 :=
  let arg2 : BitVec 32 := BitVec.ofNat 32 (i 2).val
  let c10_i32 : BitVec 32 := 10#32
  let v28 : BitVec 1 := Scalar.cmpi .eq arg2 c10_i32
  let v29 : BitVec 32 := Scalar.extui v28
  let c0_i32_20 : BitVec 32 := 0#32
  let v30 : BitVec 1 := Scalar.cmpi .ne v29 c0_i32_20
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== FfnRefIdeal.lean ====
abbrev S2x16384x2048 : Shape := ⟨3, ![2, 16384, 2048]⟩
abbrev S2x1x2048 : Shape := ⟨3, ![2, 1, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S_ : Shape := ⟨0, ![]⟩
abbrev S2x16384x5632 : Shape := ⟨3, ![2, 16384, 5632]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S4x2048x5632, .f32⟩
  | .hbm, ⟨5, _⟩ => ⟨S4x2048x5632, .f32⟩
  | .hbm, ⟨6, _⟩ => ⟨S4x5632x2048, .f32⟩
  | .hbm, ⟨7, _⟩ => ⟨S2048, .f32⟩
  | .hbm, ⟨8, _⟩ => ⟨S2048, .f32⟩
  | .hbm, ⟨9, _⟩ => ⟨S1x2048x5632, .f32⟩
  | .hbm, ⟨10, _⟩ => ⟨S2048x5632, .f32⟩
  | .hbm, ⟨11, _⟩ => ⟨S1x2048x5632, .f32⟩
  | .hbm, ⟨12, _⟩ => ⟨S2048x5632, .f32⟩
  | .hbm, ⟨13, _⟩ => ⟨S1x5632x2048, .f32⟩
  | .hbm, ⟨14, _⟩ => ⟨S5632x2048, .f32⟩
  | .hbm, ⟨15, _⟩ => ⟨S_, .f32⟩
  | .hbm, ⟨16, _⟩ => ⟨S2x1x2048, .f32⟩
  | .hbm, ⟨17, _⟩ => ⟨S2x1x2048, .f32⟩
  | .hbm, ⟨18, _⟩ => ⟨S2x16384x2048, .f32⟩
  | .hbm, ⟨19, _⟩ => ⟨S2x16384x2048, .f32⟩
  | .hbm, ⟨20, _⟩ => ⟨S2x16384x2048, .f32⟩
  | .hbm, ⟨21, _⟩ => ⟨S2x16384x2048, .f32⟩
  | .hbm, ⟨22, _⟩ => ⟨S2x16384x5632, .f32⟩
  | .hbm, ⟨23, _⟩ => ⟨S2x16384x5632, .f32⟩
  | .hbm, ⟨24, _⟩ => ⟨S2x16384x5632, .f32⟩
  | .hbm, ⟨25, _⟩ => ⟨S_, .f32⟩
  | .hbm, ⟨26, _⟩ => ⟨S2x16384x5632, .f32⟩
  | .hbm, ⟨27, _⟩ => ⟨S2x16384x5632, .f32⟩
  | .hbm, ⟨28, _⟩ => ⟨S_, .f32⟩
  | .hbm, ⟨29, _⟩ => ⟨S2x16384x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S2x16384x5632, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S_, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S2x16384x2048, .f32⟩
  | .hbm, ⟨48, _⟩ => ⟨S2x16384x2048, .f32⟩
  | .hbm, ⟨49, _⟩ => ⟨S2x16384x2048, .f32⟩
  | .hbm, ⟨50, _⟩ => ⟨S_, .f32⟩
  | .hbm, ⟨51, _⟩ => ⟨S2x16384, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x2048, .f32⟩
  | .hbm, ⟨57, _⟩ => ⟨S2x16384x2048, .f32⟩
  | .hbm, ⟨58, _⟩ => ⟨S_, .f32⟩
  | .hbm, ⟨59, _⟩ => ⟨S2x16384x1, .f32⟩
  | .hbm, ⟨60, _⟩ => ⟨S2x16384x1, .f32⟩
  | .hbm, ⟨61, _⟩ => ⟨S2x16384x1, .f32⟩
  | .hbm, ⟨62, _⟩ => ⟨S2x16384x2048, .f32⟩
  | .hbm, ⟨63, _⟩ => ⟨S2x16384x2048, .f32⟩
  | .hbm, ⟨64, _⟩ => ⟨S1x1x2048, .f32⟩
  | .hbm, ⟨65, _⟩ => ⟨S2x16384x2048, .f32⟩
  | .hbm, ⟨66, _⟩ => ⟨S2x16384x2048, .f32⟩
  | .hbm, ⟨67, _⟩ => ⟨S1x1x2048, .f32⟩
  | .hbm, ⟨68, _⟩ => ⟨S2x16384x2048, .f32⟩
  | .hbm, ⟨69, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== HyOut.lean ====
abbrev S2x16384x2048 : Shape := ⟨3, ![2, 16384, 2048]⟩
abbrev S2048 : Shape := ⟨1, ![2048]⟩
abbrev S2x2048x2048 : Shape := ⟨3, ![2, 2048, 2048]⟩
abbrev S2x1x2048 : Shape := ⟨3, ![2, 1, 2048]⟩
abbrev S1x2048 : Shape := ⟨2, ![1, 2048]⟩
abbrev S1x512x2048 : Shape := ⟨3, ![1, 512, 2048]⟩
abbrev S1x2048x2048 : Shape := ⟨3, ![1, 2048, 2048]⟩
abbrev S1x1x2048 : Shape := ⟨3, ![1, 1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .bf16⟩
  | .hbm, ⟨2, _⟩ => ⟨S2x16384x2048, .bf16⟩
  | .hbm, ⟨3, _⟩ => ⟨S2048, .f32⟩
  | .hbm, ⟨4, _⟩ => ⟨S2x2048x2048, .f32⟩
  | .hbm, ⟨5, _⟩ => ⟨S2048, .f32⟩
  | .hbm, ⟨6, _⟩ => ⟨S2x16384x2048, .f32⟩
  | .hbm, ⟨7, _⟩ => ⟨S2x1x2048, .f32⟩
  | .hbm, ⟨8, _⟩ => ⟨S2048, .f32⟩
  | .hbm, ⟨9, _⟩ => ⟨S2048, .f32⟩
  | .hbm, ⟨10, _⟩ => ⟨S2x2048x2048, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S2x16384x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048, .f32⟩
  | .local _ .vmem, ⟨7, _⟩ => ⟨S1x2048x2048, .bf16⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S1x2048, .f32⟩
  | .local _ .vmem, ⟨15, _⟩ => ⟨S1x512x2048, .f32⟩
  | .local _ .vmem, ⟨16, _⟩ => ⟨S1x512x2048, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== HyOutRefIdeal.lean ====
abbrev S2x16384x2048 : Shape := ⟨3, ![2, 16384, 2048]⟩
abbrev S2048 : Shape := ⟨1, ![2048]⟩
abbrev S2x2048x2048 : Shape := ⟨3, ![2, 2048, 2048]⟩
abbrev S2x1x2048 : Shape := ⟨3, ![2, 1, 2048]⟩
abbrev S1x1x2048 : Shape := ⟨3, ![1, 1, 2048]⟩
abbrev S1x2048x2048 : Shape := ⟨3, ![1, 2048, 2048]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩

abbrev nBuf : Space → Nat
  | .hbm => 59
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .bf16⟩
  | .hbm, ⟨2, _⟩ => ⟨S2x16384x2048, .bf16⟩
  | .hbm, ⟨3, _⟩ => ⟨S2048, .f32⟩
  | .hbm, ⟨4, _⟩ => ⟨S2x2048x2048, .f32⟩
  | .hbm, ⟨5, _⟩ => ⟨S2048, .f32⟩
  | .hbm, ⟨6, _⟩ => ⟨S2x16384x2048, .f32⟩
  | .hbm, ⟨7, _⟩ => ⟨S2x1x2048, .f32⟩
  | .hbm, ⟨8, _⟩ => ⟨S2048, .f32⟩
  | .hbm, ⟨9, _⟩ => ⟨S2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S1x1x2048, .f32⟩
  | .hbm, ⟨14, _⟩ => ⟨S2x16384x2048, .f32⟩
  | .hbm, ⟨15, _⟩ => ⟨S2x16384x2048, .f32⟩
  | .hbm, ⟨16, _⟩ => ⟨S2x16384x2048, .f32⟩
  | .hbm, ⟨17, _⟩ => ⟨S2x16384x2048, .f32⟩
  | .hbm, ⟨18, _⟩ => ⟨S1x2048x2048, .f32⟩
  | .hbm, ⟨19, _⟩ => ⟨S2048x2048, .f32⟩
  | .hbm, ⟨20, _⟩ => ⟨S2x16384x2048, .f32⟩
  | .hbm, ⟨21, _⟩ => ⟨S1x1x2048, .f32⟩
  | .hbm, ⟨22, _⟩ => ⟨S2x16384x2048, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S_, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S_, .f32⟩
  | .hbm, ⟨31, _⟩ => ⟨S2x16384, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S_, .f32⟩
  | .hbm, ⟨40, _⟩ => ⟨S2x16384, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x2048, .f32⟩
  | .hbm, ⟨46, _⟩ => ⟨S2x16384x2048, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x2048, .f32⟩
  | .hbm, ⟨52, _⟩ => ⟨S2x16384x2048, .f32⟩
  | .hbm, ⟨53, _⟩ => ⟨S1x1x2048, .f32⟩
  | .hbm, ⟨54, _⟩ => ⟨S2x16384x2048, .f32⟩
  | .hbm, ⟨55, _⟩ => ⟨S2x16384x2048, .f32⟩
  | .hbm, ⟨56, _⟩ => ⟨S1x1x2048, .f32⟩
  | .hbm, ⟨57, _⟩ => ⟨S2x16384x2048, .f32⟩
  | .hbm, ⟨58, _⟩ => ⟨S2x16384x2048, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== AttnOut.lean ====
abbrev S2x16384x2048 : Shape := ⟨3, ![2, 16384, 2048]⟩
abbrev S2048x2048 : Shape := ⟨2, ![2048, 2048]⟩
abbrev S2x1x2048 : Shape := ⟨3, ![2, 1, 2048]⟩
abbrev S2048 : Shape := ⟨1, ![2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S2x16384x2048, .f32⟩
  | .hbm, ⟨3, _⟩ => ⟨S2x1x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S2x16384x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnOutRefIdeal.lean ====
abbrev S2x16384x2048 : Shape := ⟨3, ![2, 16384, 2048]⟩
abbrev S2048x2048 : Shape := ⟨2, ![2048, 2048]⟩
abbrev S2x1x2048 : Shape := ⟨3, ![2, 1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S2x16384x2048, .f32⟩
  | .hbm, ⟨3, _⟩ => ⟨S2x1x2048, .f32⟩
  | .hbm, ⟨4, _⟩ => ⟨S2048, .f32⟩
  | .hbm, ⟨5, _⟩ => ⟨S2048, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S_, .f32⟩
  | .hbm, ⟨11, _⟩ => ⟨S2x16384x2048, .f32⟩
  | .hbm, ⟨12, _⟩ => ⟨S2x16384x2048, .f32⟩
  | .hbm, ⟨13, _⟩ => ⟨S2x16384x2048, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S2x16384x2048, .f32⟩
  | .hbm, ⟨23, _⟩ => ⟨S_, .f32⟩
  | .hbm, ⟨24, _⟩ => ⟨S2x16384, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S2x16384x2048, .f32⟩
  | .hbm, ⟨30, _⟩ => ⟨S2x16384x2048, .f32⟩
  | .hbm, ⟨31, _⟩ => ⟨S_, .f32⟩
  | .hbm, ⟨32, _⟩ => ⟨S2x16384x1, .f32⟩
  | .hbm, ⟨33, _⟩ => ⟨S2x16384x1, .f32⟩
  | .hbm, ⟨34, _⟩ => ⟨S2x16384x1, .f32⟩
  | .hbm, ⟨35, _⟩ => ⟨S2x16384x2048, .f32⟩
  | .hbm, ⟨36, _⟩ => ⟨S2x16384x2048, .f32⟩
  | .hbm, ⟨37, _⟩ => ⟨S1x1x2048, .f32⟩
  | .hbm, ⟨38, _⟩ => ⟨S2x16384x2048, .f32⟩
  | .hbm, ⟨39, _⟩ => ⟨S2x16384x2048, .f32⟩
  | .hbm, ⟨40, _⟩ => ⟨S1x1x2048, .f32⟩
  | .hbm, ⟨41, _⟩ => ⟨S2x16384x2048, .f32⟩
  | .hbm, ⟨42, _⟩ => ⟨S2x16384x2048, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== HyIn.lean ====
abbrev S2x16384x2048 : Shape := ⟨3, ![2, 16384, 2048]⟩
abbrev S2x1x2048 : Shape := ⟨3, ![2, 1, 2048]⟩
abbrev S2x2048x6144 : Shape := ⟨3, ![2, 2048, 6144]⟩
abbrev S6144 : Shape := ⟨1, ![6144]⟩
abbrev S3x6144 : Shape := ⟨2, ![3, 6144]⟩
abbrev S3x3x2048 : Shape := ⟨3, ![3, 3, 2048]⟩
abbrev S3x1x2048 : Shape := ⟨3, ![3, 1, 2048]⟩
abbrev S1x512x2048 : Shape := ⟨3, ![1, 512, 2048]⟩
abbrev S1x8x2048 : Shape := ⟨3, ![1, 8, 2048]⟩
abbrev S1x1x2048 : Shape := ⟨3, ![1, 1, 2048]⟩
abbrev S1x2048x512 : Shape := ⟨3, ![1, 2048, 512]⟩
abbrev S3x1x512 : Shape := ⟨3, ![3, 1, 512]⟩
abbrev S3x3x512 : Shape := ⟨3, ![3, 3, 512]⟩
abbrev S1x512x512 : Shape := ⟨3, ![1, 512, 512]⟩
abbrev S528x2048 : Shape := ⟨2, ![528, 2048]⟩
abbrev S1x2048 : Shape := ⟨2, ![1, 2048]⟩
abbrev S8x2048 : Shape := ⟨2, ![8, 2048]⟩
abbrev S512x2048 : Shape := ⟨2, ![512, 2048]⟩
abbrev S2048x512 : Shape := ⟨2, ![2048, 512]⟩
abbrev S528x512 : Shape := ⟨2, ![528, 512]⟩
abbrev S1x1x512 : Shape := ⟨3, ![1, 1, 512]⟩
abbrev S1x512 : Shape := ⟨2, ![1, 512]⟩
abbrev S1x3x512 : Shape := ⟨3, ![1, 3, 512]⟩
abbrev S3x512 : Shape := ⟨2, ![3, 512]⟩
abbrev S8x512 : Shape := ⟨2, ![8, 512]⟩
abbrev S512x512 : Shape := ⟨2, ![512, 512]⟩

abbrev nBuf : Space → Nat
  | .hbm => 14
  | .vmem => 27
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2x2048x6144, .f32⟩
  | .hbm, ⟨4, _⟩ => ⟨S6144, .f32⟩
  | .hbm, ⟨5, _⟩ => ⟨S3x6144, .f32⟩
  | .hbm, ⟨6, _⟩ => ⟨S6144, .f32⟩
  | .hbm, ⟨7, _⟩ => ⟨S2x2048x6144, .bf16⟩
  | .hbm, ⟨8, _⟩ => ⟨S3x3x2048, .f32⟩
  | .hbm, ⟨9, _⟩ => ⟨S3x3x2048, .f32⟩
  | .hbm, ⟨10, _⟩ => ⟨S3x1x2048, .f32⟩
  | .hbm, ⟨11, _⟩ => ⟨S3x1x2048, .f32⟩
  | .hbm, ⟨12, _⟩ => ⟨S2x16384x2048, .bf16⟩
  | .hbm, ⟨13, _⟩ => ⟨S2x16384x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S3x1x512, .f32⟩
  | .local _ .vmem, ⟨17, _⟩ => ⟨S3x1x512, .f32⟩
  | .local _ .vmem, ⟨18, _⟩ => ⟨S3x3x512, .f32⟩
  | .local _ .vmem, ⟨19, _⟩ => ⟨S3x3x512, .f32⟩
  | .local _ .vmem, ⟨20, _⟩ => ⟨S3x1x512, .f32⟩
  | .local _ .vmem, ⟨21, _⟩ => ⟨S3x1x512, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S528x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 32, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  let c0_i32_1 : BitVec 32 := 0#32
  ![c1_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S3x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S3x3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S3x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== HyInRefIdeal.lean ====
abbrev S2x16384x2048 : Shape := ⟨3, ![2, 16384, 2048]⟩
abbrev S2x1x2048 : Shape := ⟨3, ![2, 1, 2048]⟩
abbrev S2x2048x6144 : Shape := ⟨3, ![2, 2048, 6144]⟩
abbrev S6144 : Shape := ⟨1, ![6144]⟩
abbrev S3x6144 : Shape := ⟨2, ![3, 6144]⟩
abbrev S_ : Shape := ⟨0, ![]⟩
abbrev S1x2048x6144 : Shape := ⟨3, ![1, 2048, 6144]⟩
abbrev S2048x6144 : Shape := ⟨2, ![2048, 6144]⟩
abbrev S2x16384x6144 : Shape := ⟨3, ![2, 16384, 6144]⟩
abbrev S1x1x6144 : Shape := ⟨3, ![1, 1, 6144]⟩
abbrev S2x16386x6144 : Shape := ⟨3, ![2, 16386, 6144]⟩
abbrev S1x6144 : Shape := ⟨2, ![1, 6144]⟩

abbrev nBuf : Space → Nat
  | .hbm => 52
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2x2048x6144, .f32⟩
  | .hbm, ⟨4, _⟩ => ⟨S6144, .f32⟩
  | .hbm, ⟨5, _⟩ => ⟨S3x6144, .f32⟩
  | .hbm, ⟨6, _⟩ => ⟨S6144, .f32⟩
  | .hbm, ⟨7, _⟩ => ⟨S_, .f32⟩
  | .hbm, ⟨8, _⟩ => ⟨S2x1x2048, .f32⟩
  | .hbm, ⟨9, _⟩ => ⟨S2x1x2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S2x16384x2048, .f32⟩
  | .hbm, ⟨14, _⟩ => ⟨S1x2048x6144, .f32⟩
  | .hbm, ⟨15, _⟩ => ⟨S2048x6144, .f32⟩
  | .hbm, ⟨16, _⟩ => ⟨S2x16384x6144, .f32⟩
  | .hbm, ⟨17, _⟩ => ⟨S1x1x6144, .f32⟩
  | .hbm, ⟨18, _⟩ => ⟨S2x16384x6144, .f32⟩
  | .hbm, ⟨19, _⟩ => ⟨S2x16384x6144, .f32⟩
  | .hbm, ⟨20, _⟩ => ⟨S_, .i32⟩
  | .hbm, ⟨21, _⟩ => ⟨S_, .f32⟩
  | .hbm, ⟨22, _⟩ => ⟨S2x16386x6144, .f32⟩
  | .hbm, ⟨23, _⟩ => ⟨S2x16384x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S2x16384x6144, .f32⟩
  | .hbm, ⟨28, _⟩ => ⟨S2x16384x6144, .f32⟩
  | .hbm, ⟨29, _⟩ => ⟨S2x16384x6144, .f32⟩
  | .hbm, ⟨30, _⟩ => ⟨S1x6144, .f32⟩
  | .hbm, ⟨31, _⟩ => ⟨S6144, .f32⟩
  | .hbm, ⟨32, _⟩ => ⟨S1x1x6144, .f32⟩
  | .hbm, ⟨33, _⟩ => ⟨S2x16384x6144, .f32⟩
  | .hbm, ⟨34, _⟩ => ⟨S2x16384x6144, .f32⟩
  | .hbm, ⟨35, _⟩ => ⟨S2x16384x6144, .f32⟩
  | .hbm, ⟨36, _⟩ => ⟨S2x16384x6144, .f32⟩
  | .hbm, ⟨37, _⟩ => ⟨S1x6144, .f32⟩
  | .hbm, ⟨38, _⟩ => ⟨S6144, .f32⟩
  | .hbm, ⟨39, _⟩ => ⟨S1x1x6144, .f32⟩
  | .hbm, ⟨40, _⟩ => ⟨S2x16384x6144, .f32⟩
  | .hbm, ⟨41, _⟩ => ⟨S2x16384x6144, .f32⟩
  | .hbm, ⟨42, _⟩ => ⟨S2x16384x6144, .f32⟩
  | .hbm, ⟨43, _⟩ => ⟨S1x1x6144, .f32⟩
  | .hbm, ⟨44, _⟩ => ⟨S2x16384x6144, .f32⟩
  | .hbm, ⟨45, _⟩ => ⟨S2x16384x6144, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S2x16384x2048, .bf16⟩
  | .hbm, ⟨50, _⟩ => ⟨S2x16384x2048, .f32⟩
  | .hbm, ⟨51, _⟩ => ⟨S2x16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Pool.lean ====
abbrev S2x16384x2048 : Shape := ⟨3, ![2, 16384, 2048]⟩
abbrev S2x1x2048 : Shape := ⟨3, ![2, 1, 2048]⟩
abbrev S4x512x512 : Shape := ⟨3, ![4, 512, 512]⟩
abbrev S2048 : Shape := ⟨1, ![2048]⟩
abbrev S1x2048 : Shape := ⟨2, ![1, 2048]⟩
abbrev S1x512x2048 : Shape := ⟨3, ![1, 512, 2048]⟩
abbrev S1x8x2048 : Shape := ⟨3, ![1, 8, 2048]⟩
abbrev S1x1x2048 : Shape := ⟨3, ![1, 1, 2048]⟩
abbrev S512x2048 : Shape := ⟨2, ![512, 2048]⟩
abbrev S8x2048 : Shape := ⟨2, ![8, 2048]⟩
abbrev S528x2048 : Shape := ⟨2, ![528, 2048]⟩
abbrev S512x1 : Shape := ⟨2, ![512, 1]⟩
abbrev S528x512 : Shape := ⟨2, ![528, 512]⟩
abbrev S512x512 : Shape := ⟨2, ![512, 512]⟩
abbrev S1x512x512 : Shape := ⟨3, ![1, 512, 512]⟩
abbrev S512 : Shape := ⟨1, ![512]⟩

abbrev nBuf : Space → Nat
  | .hbm => 13
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S4x512x512, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S4x512x512, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S4x512x512, .bf16⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PoolRefIdeal.lean ====
abbrev S2x16384x2048 : Shape := ⟨3, ![2, 16384, 2048]⟩
abbrev S2x1x2048 : Shape := ⟨3, ![2, 1, 2048]⟩
abbrev S4x512x512 : Shape := ⟨3, ![4, 512, 512]⟩
abbrev S2048 : Shape := ⟨1, ![2048]⟩
abbrev S_ : Shape := ⟨0, ![]⟩
abbrev S2x16384x4x512 : Shape := ⟨4, ![2, 16384, 4, 512]⟩
abbrev S2x1x4x512 : Shape := ⟨4, ![2, 1, 4, 512]⟩
abbrev S2x16385x4x512 : Shape := ⟨4, ![2, 16385, 4, 512]⟩
abbrev S16384 : Shape := ⟨1, ![16384]⟩
abbrev S2x16385x1x512 : Shape := ⟨4, ![2, 16385, 1, 512]⟩
abbrev S2x16385x512 : Shape := ⟨3, ![2, 16385, 512]⟩
abbrev S16384x1 : Shape := ⟨2, ![16384, 1]⟩
abbrev S1 : Shape := ⟨1, ![1]⟩
abbrev S1x1 : Shape := ⟨2, ![1, 1]⟩
abbrev S2x16384x512 : Shape := ⟨3, ![2, 16384, 512]⟩
abbrev S1x16384x1 : Shape := ⟨3, ![1, 16384, 1]⟩
abbrev S2x16384x1x512 : Shape := ⟨4, ![2, 16384, 1, 512]⟩
abbrev S4x512x2x16384 : Shape := ⟨4, ![4, 512, 2, 16384]⟩
abbrev S1x1x2048 : Shape := ⟨3, ![1, 1, 2048]⟩
abbrev S2x16384 : Shape := ⟨2, ![2, 16384]⟩
abbrev S2x16384x1 : Shape := ⟨3, ![2, 16384, 1]⟩

abbrev nBuf : Space → Nat
  | .hbm => 385
  | .vmem => 0
  | .smem => 0
  | _ => 0

abbrev hbmTy0_0 (i : Nat) : BufTy := match i % 128 with
  | 0 => ⟨S2x16384x2048, .f32⟩
  | 1 => ⟨S2x1x2048, .f32⟩
  | 2 => ⟨S2x1x2048, .f32⟩
  | 3 => ⟨S2x1x2048, .f32⟩
  | 4 => ⟨S4x512x512, .f32⟩
  | 5 => ⟨S2048, .f32⟩
  | 6 => ⟨S2048, .f32⟩
  | 7 => ⟨S2048, .f32⟩
  | 8 => ⟨S_, .f32⟩
  | 9 => ⟨S2x1x2048, .f32⟩
  | 10 => ⟨S2x1x2048, .f32⟩
  | 11 => ⟨S2x16384x2048, .f32⟩
  | 12 => ⟨S2x16384x2048, .f32⟩
  | 13 => ⟨S2x16384x2048, .f32⟩
  | 14 => ⟨S2x16384x2048, .f32⟩
  | 15 => ⟨S2x16384x4x512, .f32⟩
  | 16 => ⟨S_, .f32⟩
  | 17 => ⟨S2x1x4x512, .f32⟩
  | 18 => ⟨S_, .f32⟩
  | 19 => ⟨S_, .f32⟩
  | 20 => ⟨S2x16384x4x512, .f32⟩
  | 21 => ⟨S2x16385x4x512, .f32⟩
  | 22 => ⟨S16384, .i32⟩
  | 23 => ⟨S_, .i32⟩
  | 24 => ⟨S16384, .i32⟩
  | 25 => ⟨S16384, .i32⟩
  | 26 => ⟨S_, .i32⟩
  | 27 => ⟨S_, .i32⟩
  | 28 => ⟨S_, .i32⟩
  | 29 => ⟨S16384, .i32⟩
  | 30 => ⟨S16384, .i32⟩
  | 31 => ⟨S_, .i32⟩
  | 32 => ⟨S16384, .i32⟩
  | 33 => ⟨S16384, .i32⟩
  | 34 => ⟨S_, .i32⟩
  | 35 => ⟨S16384, .i32⟩
  | 36 => ⟨S16384, .i32⟩
  | 37 => ⟨S_, .i32⟩
  | 38 => ⟨S_, .i32⟩
  | 39 => ⟨S_, .i32⟩
  | 40 => ⟨S16384, .i32⟩
  | 41 => ⟨S16384, .i32⟩
  | 42 => ⟨S_, .i32⟩
  | 43 => ⟨S16384, .i32⟩
  | 44 => ⟨S16384, .i32⟩
  | 45 => ⟨S2x16385x1x512, .f32⟩
  | 46 => ⟨S2x16385x512, .f32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S2x16384x512, .f32⟩
  | 66 => ⟨S2x16384x512, .i1⟩
  | 67 => ⟨S_, .f32⟩
  | 68 => ⟨S2x16384x512, .f32⟩
  | 69 => ⟨S2x16384x512, .f32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S1, .i32⟩
  | 79 => ⟨S_, .i32⟩
  | 80 => ⟨S16384x1, .i32⟩
  | 81 => ⟨S16384x1, .i1⟩
  | 82 => ⟨S1x1, .i32⟩
  | 83 => ⟨S16384x1, .i32⟩
  | 84 => ⟨S16384x1, .i1⟩
  | 85 => ⟨S16384x1, .i1⟩
  | 86 => ⟨S_, .i1⟩
  | 87 => ⟨S16384, .i1⟩
  | 88 => ⟨S2x16384x512, .f32⟩
  | 89 => ⟨S2x16384x512, .i1⟩
  | 90 => ⟨S_, .f32⟩
  | 91 => ⟨S2x16384x512, .f32⟩
  | 92 => ⟨S2x16384x512, .f32⟩
  | 93 => ⟨S2x16384x512, .f32⟩
  | 94 => ⟨S16384, .i32⟩
  | 95 => ⟨S16384, .f32⟩
  | 96 => ⟨S1x16384x1, .f32⟩
  | 97 => ⟨S2x16384x512, .f32⟩
  | 98 => ⟨S2x16384x512, .f32⟩
  | 99 => ⟨S2x16384x1x512, .f32⟩
  | 100 => ⟨S2x16384x512, .f32⟩
  | 101 => ⟨S2x16384x512, .f32⟩
  | 102 => ⟨S_, .i32⟩
  | 103 => ⟨S16384, .i32⟩
  | 104 => ⟨S16384, .i32⟩
  | 105 => ⟨S_, .i32⟩
  | 106 => ⟨S_, .i32⟩
  | 107 => ⟨S_, .i32⟩
  | 108 => ⟨S16384, .i32⟩
  | 109 => ⟨S16384, .i32⟩
  | 110 => ⟨S_, .i32⟩
  | 111 => ⟨S16384, .i32⟩
  | 112 => ⟨S16384, .i32⟩
  | 113 => ⟨S_, .i32⟩
  | 114 => ⟨S16384, .i32⟩
  | 115 => ⟨S16384, .i32⟩
  | 116 => ⟨S_, .i32⟩
  | 117 => ⟨S_, .i32⟩
  | 118 => ⟨S_, .i32⟩
  | 119 => ⟨S16384, .i32⟩
  | 120 => ⟨S16384, .i32⟩
  | 121 => ⟨S_, .i32⟩
  | 122 => ⟨S16384, .i32⟩
  | 123 => ⟨S16384, .i32⟩
  | 124 => ⟨S2x16385x1x512, .f32⟩
  | 125 => ⟨S2x16385x512, .f32⟩
  | 126 => ⟨S_, .i32⟩
  | 127 => ⟨S16384, .i32⟩
  | _ => ⟨S2x16384x2048, .f32⟩

abbrev hbmTy0_1 (i : Nat) : BufTy := match i % 128 with
  | 0 => ⟨S16384, .i1⟩
  | 1 => ⟨S_, .i32⟩
  | 2 => ⟨S16384, .i32⟩
  | 3 => ⟨S16384, .i32⟩
  | 4 => ⟨S16384, .i32⟩
  | 5 => ⟨S16384x1, .i32⟩
  | 6 => ⟨S1, .i32⟩
  | 7 => ⟨S_, .i32⟩
  | 8 => ⟨S16384x1, .i32⟩
  | 9 => ⟨S16384x1, .i1⟩
  | 10 => ⟨S1x1, .i32⟩
  | 11 => ⟨S16384x1, .i32⟩
  | 12 => ⟨S16384x1, .i1⟩
  | 13 => ⟨S16384x1, .i1⟩
  | 14 => ⟨S_, .i1⟩
  | 15 => ⟨S16384, .i1⟩
  | 16 => ⟨S2x16384x512, .f32⟩
  | 17 => ⟨S2x16384x512, .i1⟩
  | 18 => ⟨S_, .f32⟩
  | 19 => ⟨S2x16384x512, .f32⟩
  | 20 => ⟨S2x16384x512, .f32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S1, .i32⟩
  | 30 => ⟨S_, .i32⟩
  | 31 => ⟨S16384x1, .i32⟩
  | 32 => ⟨S16384x1, .i1⟩
  | 33 => ⟨S1x1, .i32⟩
  | 34 => ⟨S16384x1, .i32⟩
  | 35 => ⟨S16384x1, .i1⟩
  | 36 => ⟨S16384x1, .i1⟩
  | 37 => ⟨S_, .i1⟩
  | 38 => ⟨S16384, .i1⟩
  | 39 => ⟨S2x16384x512, .f32⟩
  | 40 => ⟨S2x16384x512, .i1⟩
  | 41 => ⟨S_, .f32⟩
  | 42 => ⟨S2x16384x512, .f32⟩
  | 43 => ⟨S2x16384x512, .f32⟩
  | 44 => ⟨S2x16384x512, .f32⟩
  | 45 => ⟨S16384, .i32⟩
  | 46 => ⟨S16384, .f32⟩
  | 47 => ⟨S1x16384x1, .f32⟩
  | 48 => ⟨S2x16384x512, .f32⟩
  | 49 => ⟨S2x16384x512, .f32⟩
  | 50 => ⟨S2x16384x1x512, .f32⟩
  | 51 => ⟨S2x16384x512, .f32⟩
  | 52 => ⟨S2x16384x512, .f32⟩
  | 53 => ⟨S_, .i32⟩
  | 54 => ⟨S16384, .i32⟩
  | 55 => ⟨S16384, .i32⟩
  | 56 => ⟨S_, .i32⟩
  | 57 => ⟨S_, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S_, .i32⟩
  | 65 => ⟨S16384, .i32⟩
  | 66 => ⟨S16384, .i32⟩
  | 67 => ⟨S_, .i32⟩
  | 68 => ⟨S_, .i32⟩
  | 69 => ⟨S_, .i32⟩
  | 70 => ⟨S16384, .i32⟩
  | 71 => ⟨S16384, .i32⟩
  | 72 => ⟨S_, .i32⟩
  | 73 => ⟨S16384, .i32⟩
  | 74 => ⟨S16384, .i32⟩
  | 75 => ⟨S2x16385x1x512, .f32⟩
  | 76 => ⟨S2x16385x512, .f32⟩
  | 77 => ⟨S_, .i32⟩
  | 78 => ⟨S16384, .i32⟩
  | 79 => ⟨S16384, .i1⟩
  | 80 => ⟨S_, .i32⟩
  | 81 => ⟨S16384, .i32⟩
  | 82 => ⟨S16384, .i32⟩
  | 83 => ⟨S16384, .i32⟩
  | 84 => ⟨S16384x1, .i32⟩
  | 85 => ⟨S1, .i32⟩
  | 86 => ⟨S_, .i32⟩
  | 87 => ⟨S16384x1, .i32⟩
  | 88 => ⟨S16384x1, .i1⟩
  | 89 => ⟨S1x1, .i32⟩
  | 90 => ⟨S16384x1, .i32⟩
  | 91 => ⟨S16384x1, .i1⟩
  | 92 => ⟨S16384x1, .i1⟩
  | 93 => ⟨S_, .i1⟩
  | 94 => ⟨S16384, .i1⟩
  | 95 => ⟨S2x16384x512, .f32⟩
  | 96 => ⟨S2x16384x512, .i1⟩
  | 97 => ⟨S_, .f32⟩
  | 98 => ⟨S2x16384x512, .f32⟩
  | 99 => ⟨S2x16384x512, .f32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S1, .i32⟩
  | 109 => ⟨S_, .i32⟩
  | 110 => ⟨S16384x1, .i32⟩
  | 111 => ⟨S16384x1, .i1⟩
  | 112 => ⟨S1x1, .i32⟩
  | 113 => ⟨S16384x1, .i32⟩
  | 114 => ⟨S16384x1, .i1⟩
  | 115 => ⟨S16384x1, .i1⟩
  | 116 => ⟨S_, .i1⟩
  | 117 => ⟨S16384, .i1⟩
  | 118 => ⟨S2x16384x512, .f32⟩
  | 119 => ⟨S2x16384x512, .i1⟩
  | 120 => ⟨S_, .f32⟩
  | 121 => ⟨S2x16384x512, .f32⟩
  | 122 => ⟨S2x16384x512, .f32⟩
  | 123 => ⟨S2x16384x512, .f32⟩
  | 124 => ⟨S16384, .i32⟩
  | 125 => ⟨S16384, .f32⟩
  | 126 => ⟨S1x16384x1, .f32⟩
  | 127 => ⟨S2x16384x512, .f32⟩
  | _ => ⟨S2x16384x2048, .f32⟩

abbrev hbmTy0_2 (i : Nat) : BufTy := match i % 128 with
  | 0 => ⟨S2x16384x512, .f32⟩
  | 1 => ⟨S2x16384x1x512, .f32⟩
  | 2 => ⟨S2x16384x512, .f32⟩
  | 3 => ⟨S2x16384x512, .f32⟩
  | 4 => ⟨S_, .i32⟩
  | 5 => ⟨S16384, .i32⟩
  | 6 => ⟨S16384, .i32⟩
  | 7 => ⟨S_, .i32⟩
  | 8 => ⟨S_, .i32⟩
  | 9 => ⟨S_, .i32⟩
  | 10 => ⟨S16384, .i32⟩
  | 11 => ⟨S16384, .i32⟩
  | 12 => ⟨S_, .i32⟩
  | 13 => ⟨S16384, .i32⟩
  | 14 => ⟨S16384, .i32⟩
  | 15 => ⟨S_, .i32⟩
  | 16 => ⟨S16384, .i32⟩
  | 17 => ⟨S16384, .i32⟩
  | 18 => ⟨S_, .i32⟩
  | 19 => ⟨S_, .i32⟩
  | 20 => ⟨S_, .i32⟩
  | 21 => ⟨S16384, .i32⟩
  | 22 => ⟨S16384, .i32⟩
  | 23 => ⟨S_, .i32⟩
  | 24 => ⟨S16384, .i32⟩
  | 25 => ⟨S16384, .i32⟩
  | 26 => ⟨S2x16385x1x512, .f32⟩
  | 27 => ⟨S2x16385x512, .f32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S1, .i32⟩
  | 37 => ⟨S_, .i32⟩
  | 38 => ⟨S16384x1, .i32⟩
  | 39 => ⟨S16384x1, .i1⟩
  | 40 => ⟨S1x1, .i32⟩
  | 41 => ⟨S16384x1, .i32⟩
  | 42 => ⟨S16384x1, .i1⟩
  | 43 => ⟨S16384x1, .i1⟩
  | 44 => ⟨S_, .i1⟩
  | 45 => ⟨S16384, .i1⟩
  | 46 => ⟨S2x16384x512, .f32⟩
  | 47 => ⟨S2x16384x512, .i1⟩
  | 48 => ⟨S_, .f32⟩
  | 49 => ⟨S2x16384x512, .f32⟩
  | 50 => ⟨S2x16384x512, .f32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S16384x1, .i32⟩
  | 59 => ⟨S1, .i32⟩
  | 60 => ⟨S_, .i32⟩
  | 61 => ⟨S16384x1, .i32⟩
  | 62 => ⟨S16384x1, .i1⟩
  | 63 => ⟨S1x1, .i32⟩
  | 64 => ⟨S16384x1, .i32⟩
  | 65 => ⟨S16384x1, .i1⟩
  | 66 => ⟨S16384x1, .i1⟩
  | 67 => ⟨S_, .i1⟩
  | 68 => ⟨S16384, .i1⟩
  | 69 => ⟨S2x16384x512, .f32⟩
  | 70 => ⟨S2x16384x512, .i1⟩
  | 71 => ⟨S_, .f32⟩
  | 72 => ⟨S2x16384x512, .f32⟩
  | 73 => ⟨S2x16384x512, .f32⟩
  | 74 => ⟨S2x16384x512, .f32⟩
  | 75 => ⟨S16384, .i32⟩
  | 76 => ⟨S16384, .f32⟩
  | 77 => ⟨S1x16384x1, .f32⟩
  | 78 => ⟨S2x16384x512, .f32⟩
  | 79 => ⟨S2x16384x512, .f32⟩
  | 80 => ⟨S2x16384x1x512, .f32⟩
  | 81 => ⟨S2x16384x512, .f32⟩
  | 82 => ⟨S2x16384x512, .f32⟩
  | 83 => ⟨S2x16384x1x512, .f32⟩
  | 84 => ⟨S2x16384x1x512, .f32⟩
  | 85 => ⟨S2x16384x1x512, .f32⟩
  | 86 => ⟨S2x16384x1x512, .f32⟩
  | 87 => ⟨S2x16384x4x512, .f32⟩
  | 88 => ⟨S4x512x2x16384, .f32⟩
  | 89 => ⟨S2x16384x4x512, .f32⟩
  | 90 => ⟨S2x16384x2048, .f32⟩
  | 91 => ⟨S1x1x2048, .f32⟩
  | 92 => ⟨S2x16384x2048, .f32⟩
  | 93 => ⟨S2x16384x2048, .f32⟩
  | 94 => ⟨S2x16384x2048, .f32⟩
  | 95 => ⟨S2x16384x2048, .f32⟩
  | 96 => ⟨S_, .f32⟩
  | 97 => ⟨S2x16384x2048, .f32⟩
  | 98 => ⟨S2x16384x2048, .f32⟩
  | 99 => ⟨S2x16384x2048, .f32⟩
  | 100 => ⟨S_, .f32⟩
  | 101 => ⟨S2x16384, .f32⟩
  | 102 => ⟨S2x16384x1, .f32⟩
  | 103 => ⟨S_, .f32⟩
  | 104 => ⟨S2x16384x1, .f32⟩
  | 105 => ⟨S2x16384x1, .f32⟩
  | 106 => ⟨S2x16384x2048, .f32⟩
  | 107 => ⟨S2x16384x2048, .f32⟩
  | 108 => ⟨S2x16384x2048, .f32⟩
  | 109 => ⟨S_, .f32⟩
  | 110 => ⟨S2x16384, .f32⟩
  | 111 => ⟨S2x16384x1, .f32⟩
  | 112 => ⟨S_, .f32⟩
  | 113 => ⟨S2x16384x1, .f32⟩
  | 114 => ⟨S2x16384x1, .f32⟩
  | 115 => ⟨S2x16384x2048, .f32⟩
  | 116 => ⟨S2x16384x2048, .f32⟩
  | 117 => ⟨S_, .f32⟩
  | 118 => ⟨S2x16384x1, .f32⟩
  | 119 => ⟨S2x16384x1, .f32⟩
  | 120 => ⟨S2x16384x1, .f32⟩
  | 121 => ⟨S2x16384x2048, .f32⟩
  | 122 => ⟨S2x16384x2048, .f32⟩
  | 123 => ⟨S1x1x2048, .f32⟩
  | 124 => ⟨S2x16384x2048, .f32⟩
  | 125 => ⟨S2x16384x2048, .f32⟩
  | 126 => ⟨S1x1x2048, .f32⟩
  | 127 => ⟨S2x16384x2048, .f32⟩
  | _ => ⟨S2x16384x2048, .f32⟩

abbrev hbmTy0_3 (i : Nat) : BufTy := match i % 128 with
  | 0 => ⟨S2x16384x2048, .f32⟩
  | _ => ⟨S2x16384x2048, .f32⟩

abbrev hbmTy (i : Nat) : BufTy := match i / 128 with
  | 0 => hbmTy0_0 i
  | 1 => hbmTy0_1 i
  | 2 => hbmTy0_2 i
  | 3 => hbmTy0_3 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_call0_call0_cst : Ref sig .tc := ⟨.hbm, 18, rfl⟩
abbrev main_call0_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_c_5 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_call3_cst : Ref sig .tc := ⟨.hbm, 67, rfl⟩
abbrev main_call3_v15 : Ref sig .tc := ⟨.hbm, 68, rfl⟩
abbrev main_v19 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_c_1 : Ref sig .tc := ⟨.hbm, 78, rfl⟩
abbrev main_call4_c_2 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_3 : Ref sig .tc := ⟨.hbm, 86, rfl⟩
abbrev main_call4_v12 : Ref sig .tc := ⟨.hbm, 87, rfl⟩
abbrev main_call4_v13 : Ref sig .tc := ⟨.hbm, 88, rfl⟩
abbrev main_call4_v14 : Ref sig .tc := ⟨.hbm, 89, rfl⟩
abbrev main_call4_cst : Ref sig .tc := ⟨.hbm, 90, rfl⟩
abbrev main_call4_v15 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_c_6 : Ref sig .tc := ⟨.hbm, 102, rfl⟩
abbrev main_v30 : Ref sig .tc := ⟨.hbm, 103, rfl⟩
abbrev main_v31 : Ref sig .tc := ⟨.hbm, 104, rfl⟩
abbrev main_c_7 : Ref sig .tc := ⟨.hbm, 105, rfl⟩
abbrev main_c_8 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_v32 : Ref sig .tc := ⟨.hbm, 112, rfl⟩
abbrev main_c_9 : Ref sig .tc := ⟨.hbm, 113, rfl⟩
abbrev main_v33 : Ref sig .tc := ⟨.hbm, 114, rfl⟩
abbrev main_v34 : Ref sig .tc := ⟨.hbm, 115, rfl⟩
abbrev main_c_10 : Ref sig .tc := ⟨.hbm, 116, rfl⟩
abbrev main_c_11 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v35 : Ref sig .tc := ⟨.hbm, 123, rfl⟩
abbrev main_v36 : Ref sig .tc := ⟨.hbm, 124, rfl⟩
abbrev main_v37 : Ref sig .tc := ⟨.hbm, 125, rfl⟩
abbrev main_call7_c : Ref sig .tc := ⟨.hbm, 126, rfl⟩
abbrev main_call7_v0 : Ref sig .tc := ⟨.hbm, 127, rfl⟩
abbrev main_call7_v1 : Ref sig .tc := ⟨.hbm, 128, rfl⟩
abbrev main_call7_c_0 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_call7_v5 : Ref sig .tc := ⟨.hbm, 133, rfl⟩
abbrev main_call7_c_1 : Ref sig .tc := ⟨.hbm, 134, rfl⟩
abbrev main_call7_c_2 : Ref sig .tc := ⟨.hbm, 135, rfl⟩
abbrev main_call7_v6 : Ref sig .tc := ⟨.hbm, 136, rfl⟩
abbrev main_call7_v7 : Ref sig .tc := ⟨.hbm, 137, rfl⟩
abbrev main_call7_v8 : Ref sig .tc := ⟨.hbm, 138, rfl⟩
abbrev main_call7_v9 : Ref sig .tc := ⟨.hbm, 139, rfl⟩
abbrev main_call7_v10 : Ref sig .tc := ⟨.hbm, 140, rfl⟩
abbrev main_call7_v11 : Ref sig .tc := ⟨.hbm, 141, rfl⟩
abbrev main_call7_c_3 : Ref sig .tc := ⟨.hbm, 142, rfl⟩
abbrev main_call7_v12 : Ref sig .tc := ⟨.hbm, 143, rfl⟩
abbrev main_call7_v13 : Ref sig .tc := ⟨.hbm, 144, rfl⟩
abbrev main_call7_v14 : Ref sig .tc := ⟨.hbm, 145, rfl⟩
abbrev main_call7_cst : Ref sig .tc := ⟨.hbm, 146, rfl⟩
abbrev main_call7_v15 : Ref sig .tc := ⟨.hbm, 147, rfl⟩
abbrev main_v38 : Ref sig .tc := ⟨.hbm, 148, rfl⟩
abbrev main_call8_c : Ref sig .tc := ⟨.hbm, 149, rfl⟩
abbrev main_call8_v0 : Ref sig .tc := ⟨.hbm, 150, rfl⟩
abbrev main_call8_v1 : Ref sig .tc := ⟨.hbm, 151, rfl⟩
abbrev main_call8_c_0 : Ref sig .tc := ⟨.hbm, 152, rfl⟩
abbrev main_call8_v2 : Ref sig .tc := ⟨.hbm, 153, rfl⟩
abbrev main_call8_v3 : Ref sig .tc := ⟨.hbm, 154, rfl⟩
abbrev main_call8_v4 : Ref sig .tc := ⟨.hbm, 155, rfl⟩
abbrev main_call8_v5 : Ref sig .tc := ⟨.hbm, 156, rfl⟩
abbrev main_call8_c_1 : Ref sig .tc := ⟨.hbm, 157, rfl⟩
abbrev main_call8_c_2 : Ref sig .tc := ⟨.hbm, 158, rfl⟩
abbrev main_call8_v6 : Ref sig .tc := ⟨.hbm, 159, rfl⟩
abbrev main_call8_v7 : Ref sig .tc := ⟨.hbm, 160, rfl⟩
abbrev main_call8_v8 : Ref sig .tc := ⟨.hbm, 161, rfl⟩
abbrev main_call8_v9 : Ref sig .tc := ⟨.hbm, 162, rfl⟩
abbrev main_call8_v10 : Ref sig .tc := ⟨.hbm, 163, rfl⟩
abbrev main_call8_v11 : Ref sig .tc := ⟨.hbm, 164, rfl⟩
abbrev main_call8_c_3 : Ref sig .tc := ⟨.hbm, 165, rfl⟩
abbrev main_call8_v12 : Ref sig .tc := ⟨.hbm, 166, rfl⟩
abbrev main_call8_v13 : Ref sig .tc := ⟨.hbm, 167, rfl⟩
abbrev main_call8_v14 : Ref sig .tc := ⟨.hbm, 168, rfl⟩
abbrev main_call8_cst : Ref sig .tc := ⟨.hbm, 169, rfl⟩
abbrev main_call8_v15 : Ref sig .tc := ⟨.hbm, 170, rfl⟩
abbrev main_v39 : Ref sig .tc := ⟨.hbm, 171, rfl⟩
abbrev main_v40 : Ref sig .tc := ⟨.hbm, 172, rfl⟩
abbrev main_v41 : Ref sig .tc := ⟨.hbm, 173, rfl⟩
abbrev main_v42 : Ref sig .tc := ⟨.hbm, 174, rfl⟩
abbrev main_v43 : Ref sig .tc := ⟨.hbm, 175, rfl⟩
abbrev main_v44 : Ref sig .tc := ⟨.hbm, 176, rfl⟩
abbrev main_v45 : Ref sig .tc := ⟨.hbm, 177, rfl⟩
abbrev main_v46 : Ref sig .tc := ⟨.hbm, 178, rfl⟩
abbrev main_v47 : Ref sig .tc := ⟨.hbm, 179, rfl⟩
abbrev main_v48 : Ref sig .tc := ⟨.hbm, 180, rfl⟩
abbrev main_c_12 : Ref sig .tc := ⟨.hbm, 181, rfl⟩
abbrev main_v49 : Ref sig .tc := ⟨.hbm, 182, rfl⟩
abbrev main_v50 : Ref sig .tc := ⟨.hbm, 183, rfl⟩
abbrev main_c_13 : Ref sig .tc := ⟨.hbm, 184, rfl⟩
abbrev main_c_14 : Ref sig .tc := ⟨.hbm, 185, rfl⟩
abbrev main_call9_v0 : Ref sig .tc := ⟨.hbm, 186, rfl⟩
abbrev main_call9_v1 : Ref sig .tc := ⟨.hbm, 187, rfl⟩
abbrev main_call9_v2 : Ref sig .tc := ⟨.hbm, 188, rfl⟩
abbrev main_call9_v3 : Ref sig .tc := ⟨.hbm, 189, rfl⟩
abbrev main_call9_v4 : Ref sig .tc := ⟨.hbm, 190, rfl⟩
abbrev main_v51 : Ref sig .tc := ⟨.hbm, 191, rfl⟩
abbrev main_c_15 : Ref sig .tc := ⟨.hbm, 192, rfl⟩
abbrev main_v52 : Ref sig .tc := ⟨.hbm, 193, rfl⟩
abbrev main_v53 : Ref sig .tc := ⟨.hbm, 194, rfl⟩
abbrev main_c_16 : Ref sig .tc := ⟨.hbm, 195, rfl⟩
abbrev main_c_17 : Ref sig .tc := ⟨.hbm, 196, rfl⟩
abbrev main_call10_v0 : Ref sig .tc := ⟨.hbm, 197, rfl⟩
abbrev main_call10_v1 : Ref sig .tc := ⟨.hbm, 198, rfl⟩
abbrev main_call10_v2 : Ref sig .tc := ⟨.hbm, 199, rfl⟩
abbrev main_call10_v3 : Ref sig .tc := ⟨.hbm, 200, rfl⟩
abbrev main_call10_v4 : Ref sig .tc := ⟨.hbm, 201, rfl⟩
abbrev main_v54 : Ref sig .tc := ⟨.hbm, 202, rfl⟩
abbrev main_v55 : Ref sig .tc := ⟨.hbm, 203, rfl⟩
abbrev main_v56 : Ref sig .tc := ⟨.hbm, 204, rfl⟩
abbrev main_call11_c : Ref sig .tc := ⟨.hbm, 205, rfl⟩
abbrev main_call11_v0 : Ref sig .tc := ⟨.hbm, 206, rfl⟩
abbrev main_call11_v1 : Ref sig .tc := ⟨.hbm, 207, rfl⟩
abbrev main_call11_c_0 : Ref sig .tc := ⟨.hbm, 208, rfl⟩
abbrev main_call11_v2 : Ref sig .tc := ⟨.hbm, 209, rfl⟩
abbrev main_call11_v3 : Ref sig .tc := ⟨.hbm, 210, rfl⟩
abbrev main_call11_v4 : Ref sig .tc := ⟨.hbm, 211, rfl⟩
abbrev main_call11_v5 : Ref sig .tc := ⟨.hbm, 212, rfl⟩
abbrev main_call11_c_1 : Ref sig .tc := ⟨.hbm, 213, rfl⟩
abbrev main_call11_c_2 : Ref sig .tc := ⟨.hbm, 214, rfl⟩
abbrev main_call11_v6 : Ref sig .tc := ⟨.hbm, 215, rfl⟩
abbrev main_call11_v7 : Ref sig .tc := ⟨.hbm, 216, rfl⟩
abbrev main_call11_v8 : Ref sig .tc := ⟨.hbm, 217, rfl⟩
abbrev main_call11_v9 : Ref sig .tc := ⟨.hbm, 218, rfl⟩
abbrev main_call11_v10 : Ref sig .tc := ⟨.hbm, 219, rfl⟩
abbrev main_call11_v11 : Ref sig .tc := ⟨.hbm, 220, rfl⟩
abbrev main_call11_c_3 : Ref sig .tc := ⟨.hbm, 221, rfl⟩
abbrev main_call11_v12 : Ref sig .tc := ⟨.hbm, 222, rfl⟩
abbrev main_call11_v13 : Ref sig .tc := ⟨.hbm, 223, rfl⟩
abbrev main_call11_v14 : Ref sig .tc := ⟨.hbm, 224, rfl⟩
abbrev main_call11_cst : Ref sig .tc := ⟨.hbm, 225, rfl⟩
abbrev main_call11_v15 : Ref sig .tc := ⟨.hbm, 226, rfl⟩
abbrev main_v57 : Ref sig .tc := ⟨.hbm, 227, rfl⟩
abbrev main_call12_c : Ref sig .tc := ⟨.hbm, 228, rfl⟩
abbrev main_call12_v0 : Ref sig .tc := ⟨.hbm, 229, rfl⟩
abbrev main_call12_v1 : Ref sig .tc := ⟨.hbm, 230, rfl⟩
abbrev main_call12_c_0 : Ref sig .tc := ⟨.hbm, 231, rfl⟩
abbrev main_call12_v2 : Ref sig .tc := ⟨.hbm, 232, rfl⟩
abbrev main_call12_v3 : Ref sig .tc := ⟨.hbm, 233, rfl⟩
abbrev main_call12_v4 : Ref sig .tc := ⟨.hbm, 234, rfl⟩
abbrev main_call12_v5 : Ref sig .tc := ⟨.hbm, 235, rfl⟩
abbrev main_call12_c_1 : Ref sig .tc := ⟨.hbm, 236, rfl⟩
abbrev main_call12_c_2 : Ref sig .tc := ⟨.hbm, 237, rfl⟩
abbrev main_call12_v6 : Ref sig .tc := ⟨.hbm, 238, rfl⟩
abbrev main_call12_v7 : Ref sig .tc := ⟨.hbm, 239, rfl⟩
abbrev main_call12_v8 : Ref sig .tc := ⟨.hbm, 240, rfl⟩
abbrev main_call12_v9 : Ref sig .tc := ⟨.hbm, 241, rfl⟩
abbrev main_call12_v10 : Ref sig .tc := ⟨.hbm, 242, rfl⟩
abbrev main_call12_v11 : Ref sig .tc := ⟨.hbm, 243, rfl⟩
abbrev main_call12_c_3 : Ref sig .tc := ⟨.hbm, 244, rfl⟩
abbrev main_call12_v12 : Ref sig .tc := ⟨.hbm, 245, rfl⟩
abbrev main_call12_v13 : Ref sig .tc := ⟨.hbm, 246, rfl⟩
abbrev main_call12_v14 : Ref sig .tc := ⟨.hbm, 247, rfl⟩
abbrev main_call12_cst : Ref sig .tc := ⟨.hbm, 248, rfl⟩
abbrev main_call12_v15 : Ref sig .tc := ⟨.hbm, 249, rfl⟩
abbrev main_v58 : Ref sig .tc := ⟨.hbm, 250, rfl⟩
abbrev main_v59 : Ref sig .tc := ⟨.hbm, 251, rfl⟩
abbrev main_v60 : Ref sig .tc := ⟨.hbm, 252, rfl⟩
abbrev main_v61 : Ref sig .tc := ⟨.hbm, 253, rfl⟩
abbrev main_v62 : Ref sig .tc := ⟨.hbm, 254, rfl⟩
abbrev main_v63 : Ref sig .tc := ⟨.hbm, 255, rfl⟩
abbrev main_v64 : Ref sig .tc := ⟨.hbm, 256, rfl⟩
abbrev main_v65 : Ref sig .tc := ⟨.hbm, 257, rfl⟩
abbrev main_v66 : Ref sig .tc := ⟨.hbm, 258, rfl⟩
abbrev main_v67 : Ref sig .tc := ⟨.hbm, 259, rfl⟩
abbrev main_c_18 : Ref sig .tc := ⟨.hbm, 260, rfl⟩
abbrev main_v68 : Ref sig .tc := ⟨.hbm, 261, rfl⟩
abbrev main_v69 : Ref sig .tc := ⟨.hbm, 262, rfl⟩
abbrev main_c_19 : Ref sig .tc := ⟨.hbm, 263, rfl⟩
abbrev main_c_20 : Ref sig .tc := ⟨.hbm, 264, rfl⟩
abbrev main_call13_v0 : Ref sig .tc := ⟨.hbm, 265, rfl⟩
abbrev main_call13_v1 : Ref sig .tc := ⟨.hbm, 266, rfl⟩
abbrev main_call13_v2 : Ref sig .tc := ⟨.hbm, 267, rfl⟩
abbrev main_call13_v3 : Ref sig .tc := ⟨.hbm, 268, rfl⟩
abbrev main_call13_v4 : Ref sig .tc := ⟨.hbm, 269, rfl⟩
abbrev main_v70 : Ref sig .tc := ⟨.hbm, 270, rfl⟩
abbrev main_c_21 : Ref sig .tc := ⟨.hbm, 271, rfl⟩
abbrev main_v71 : Ref sig .tc := ⟨.hbm, 272, rfl⟩
abbrev main_v72 : Ref sig .tc := ⟨.hbm, 273, rfl⟩
abbrev main_c_22 : Ref sig .tc := ⟨.hbm, 274, rfl⟩
abbrev main_c_23 : Ref sig .tc := ⟨.hbm, 275, rfl⟩
abbrev main_call14_v0 : Ref sig .tc := ⟨.hbm, 276, rfl⟩
abbrev main_call14_v1 : Ref sig .tc := ⟨.hbm, 277, rfl⟩
abbrev main_call14_v2 : Ref sig .tc := ⟨.hbm, 278, rfl⟩
abbrev main_call14_v3 : Ref sig .tc := ⟨.hbm, 279, rfl⟩
abbrev main_call14_v4 : Ref sig .tc := ⟨.hbm, 280, rfl⟩
abbrev main_v73 : Ref sig .tc := ⟨.hbm, 281, rfl⟩
abbrev main_v74 : Ref sig .tc := ⟨.hbm, 282, rfl⟩
abbrev main_v75 : Ref sig .tc := ⟨.hbm, 283, rfl⟩
abbrev main_call15_c : Ref sig .tc := ⟨.hbm, 284, rfl⟩
abbrev main_call15_v0 : Ref sig .tc := ⟨.hbm, 285, rfl⟩
abbrev main_call15_v1 : Ref sig .tc := ⟨.hbm, 286, rfl⟩
abbrev main_call15_c_0 : Ref sig .tc := ⟨.hbm, 287, rfl⟩
abbrev main_call15_v2 : Ref sig .tc := ⟨.hbm, 288, rfl⟩
abbrev main_call15_v3 : Ref sig .tc := ⟨.hbm, 289, rfl⟩
abbrev main_call15_v4 : Ref sig .tc := ⟨.hbm, 290, rfl⟩
abbrev main_call15_v5 : Ref sig .tc := ⟨.hbm, 291, rfl⟩
abbrev main_call15_c_1 : Ref sig .tc := ⟨.hbm, 292, rfl⟩
abbrev main_call15_c_2 : Ref sig .tc := ⟨.hbm, 293, rfl⟩
abbrev main_call15_v6 : Ref sig .tc := ⟨.hbm, 294, rfl⟩
abbrev main_call15_v7 : Ref sig .tc := ⟨.hbm, 295, rfl⟩
abbrev main_call15_v8 : Ref sig .tc := ⟨.hbm, 296, rfl⟩
abbrev main_call15_v9 : Ref sig .tc := ⟨.hbm, 297, rfl⟩
abbrev main_call15_v10 : Ref sig .tc := ⟨.hbm, 298, rfl⟩
abbrev main_call15_v11 : Ref sig .tc := ⟨.hbm, 299, rfl⟩
abbrev main_call15_c_3 : Ref sig .tc := ⟨.hbm, 300, rfl⟩
abbrev main_call15_v12 : Ref sig .tc := ⟨.hbm, 301, rfl⟩
abbrev main_call15_v13 : Ref sig .tc := ⟨.hbm, 302, rfl⟩
abbrev main_call15_v14 : Ref sig .tc := ⟨.hbm, 303, rfl⟩
abbrev main_call15_cst : Ref sig .tc := ⟨.hbm, 304, rfl⟩
abbrev main_call15_v15 : Ref sig .tc := ⟨.hbm, 305, rfl⟩
abbrev main_v76 : Ref sig .tc := ⟨.hbm, 306, rfl⟩
abbrev main_call16_c : Ref sig .tc := ⟨.hbm, 307, rfl⟩
abbrev main_call16_v0 : Ref sig .tc := ⟨.hbm, 308, rfl⟩
abbrev main_call16_v1 : Ref sig .tc := ⟨.hbm, 309, rfl⟩
abbrev main_call16_c_0 : Ref sig .tc := ⟨.hbm, 310, rfl⟩
abbrev main_call16_v2 : Ref sig .tc := ⟨.hbm, 311, rfl⟩
abbrev main_call16_v3 : Ref sig .tc := ⟨.hbm, 312, rfl⟩
abbrev main_call16_v4 : Ref sig .tc := ⟨.hbm, 313, rfl⟩
abbrev main_call16_v5 : Ref sig .tc := ⟨.hbm, 314, rfl⟩
abbrev main_call16_c_1 : Ref sig .tc := ⟨.hbm, 315, rfl⟩
abbrev main_call16_c_2 : Ref sig .tc := ⟨.hbm, 316, rfl⟩
abbrev main_call16_v6 : Ref sig .tc := ⟨.hbm, 317, rfl⟩
abbrev main_call16_v7 : Ref sig .tc := ⟨.hbm, 318, rfl⟩
abbrev main_call16_v8 : Ref sig .tc := ⟨.hbm, 319, rfl⟩
abbrev main_call16_v9 : Ref sig .tc := ⟨.hbm, 320, rfl⟩
abbrev main_call16_v10 : Ref sig .tc := ⟨.hbm, 321, rfl⟩
abbrev main_call16_v11 : Ref sig .tc := ⟨.hbm, 322, rfl⟩
abbrev main_call16_c_3 : Ref sig .tc := ⟨.hbm, 323, rfl⟩
abbrev main_call16_v12 : Ref sig .tc := ⟨.hbm, 324, rfl⟩
abbrev main_call16_v13 : Ref sig .tc := ⟨.hbm, 325, rfl⟩
abbrev main_call16_v14 : Ref sig .tc := ⟨.hbm, 326, rfl⟩
abbrev main_call16_cst : Ref sig .tc := ⟨.hbm, 327, rfl⟩
abbrev main_call16_v15 : Ref sig .tc := ⟨.hbm, 328, rfl⟩
abbrev main_v77 : Ref sig .tc := ⟨.hbm, 329, rfl⟩
abbrev main_v78 : Ref sig .tc := ⟨.hbm, 330, rfl⟩
abbrev main_v79 : Ref sig .tc := ⟨.hbm, 331, rfl⟩
abbrev main_v80 : Ref sig .tc := ⟨.hbm, 332, rfl⟩
abbrev main_v81 : Ref sig .tc := ⟨.hbm, 333, rfl⟩
abbrev main_v82 : Ref sig .tc := ⟨.hbm, 334, rfl⟩
abbrev main_v83 : Ref sig .tc := ⟨.hbm, 335, rfl⟩
abbrev main_v84 : Ref sig .tc := ⟨.hbm, 336, rfl⟩
abbrev main_v85 : Ref sig .tc := ⟨.hbm, 337, rfl⟩
abbrev main_v86 : Ref sig .tc := ⟨.hbm, 338, rfl⟩
abbrev main_v87 : Ref sig .tc := ⟨.hbm, 339, rfl⟩
abbrev main_v88 : Ref sig .tc := ⟨.hbm, 340, rfl⟩
abbrev main_v89 : Ref sig .tc := ⟨.hbm, 341, rfl⟩
abbrev main_v90 : Ref sig .tc := ⟨.hbm, 342, rfl⟩
abbrev main_v91 : Ref sig .tc := ⟨.hbm, 343, rfl⟩
abbrev main_v92 : Ref sig .tc := ⟨.hbm, 344, rfl⟩
abbrev main_v93 : Ref sig .tc := ⟨.hbm, 345, rfl⟩
abbrev main_v94 : Ref sig .tc := ⟨.hbm, 346, rfl⟩
abbrev main_v95 : Ref sig .tc := ⟨.hbm, 347, rfl⟩
abbrev main_v96 : Ref sig .tc := ⟨.hbm, 348, rfl⟩
abbrev main_v97 : Ref sig .tc := ⟨.hbm, 349, rfl⟩
abbrev main_v98 : Ref sig .tc := ⟨.hbm, 350, rfl⟩
abbrev main_v99 : Ref sig .tc := ⟨.hbm, 351, rfl⟩
abbrev main_cst_24 : Ref sig .tc := ⟨.hbm, 352, rfl⟩
abbrev main_v100 : Ref sig .tc := ⟨.hbm, 353, rfl⟩
abbrev main_v101 : Ref sig .tc := ⟨.hbm, 354, rfl⟩
abbrev main_v102 : Ref sig .tc := ⟨.hbm, 355, rfl⟩
abbrev main_cst_25 : Ref sig .tc := ⟨.hbm, 356, rfl⟩
abbrev main_v103 : Ref sig .tc := ⟨.hbm, 357, rfl⟩
abbrev main_v104 : Ref sig .tc := ⟨.hbm, 358, rfl⟩
abbrev main_cst_26 : Ref sig .tc := ⟨.hbm, 359, rfl⟩
abbrev main_v105 : Ref sig .tc := ⟨.hbm, 360, rfl⟩
abbrev main_v106 : Ref sig .tc := ⟨.hbm, 361, rfl⟩
abbrev main_v107 : Ref sig .tc := ⟨.hbm, 362, rfl⟩
abbrev main_v108 : Ref sig .tc := ⟨.hbm, 363, rfl⟩
abbrev main_v109 : Ref sig .tc := ⟨.hbm, 364, rfl⟩
abbrev main_cst_27 : Ref sig .tc := ⟨.hbm, 365, rfl⟩
abbrev main_v110 : Ref sig .tc := ⟨.hbm, 366, rfl⟩
abbrev main_v111 : Ref sig .tc := ⟨.hbm, 367, rfl⟩
abbrev main_cst_28 : Ref sig .tc := ⟨.hbm, 368, rfl⟩
abbrev main_v112 : Ref sig .tc := ⟨.hbm, 369, rfl⟩
abbrev main_v113 : Ref sig .tc := ⟨.hbm, 370, rfl⟩
abbrev main_v114 : Ref sig .tc := ⟨.hbm, 371, rfl⟩
abbrev main_v115 : Ref sig .tc := ⟨.hbm, 372, rfl⟩
abbrev main_cst_29 : Ref sig .tc := ⟨.hbm, 373, rfl⟩
abbrev main_v116 : Ref sig .tc := ⟨.hbm, 374, rfl⟩
abbrev main_v117 : Ref sig .tc := ⟨.hbm, 375, rfl⟩
abbrev main_v118 : Ref sig .tc := ⟨.hbm, 376, rfl⟩
abbrev main_v119 : Ref sig .tc := ⟨.hbm, 377, rfl⟩
abbrev main_v120 : Ref sig .tc := ⟨.hbm, 378, rfl⟩
abbrev main_v121 : Ref sig .tc := ⟨.hbm, 379, rfl⟩
abbrev main_v122 : Ref sig .tc := ⟨.hbm, 380, rfl⟩
abbrev main_v123 : Ref sig .tc := ⟨.hbm, 381, rfl⟩
abbrev main_v124 : Ref sig .tc := ⟨.hbm, 382, rfl⟩
abbrev main_v125 : Ref sig .tc := ⟨.hbm, 383, rfl⟩
abbrev main_v126 : Ref sig .tc := ⟨.hbm, 384, rfl⟩

abbrev nD : Nat := 1
abbrev τ : Topo := Topo.v7x

variable {F : FTy → Type} [FloatOps F]
-- ==== LatentIn.lean ====
abbrev S2x16384x2048 : Shape := ⟨3, ![2, 16384, 2048]⟩
abbrev S2x1x2048 : Shape := ⟨3, ![2, 1, 2048]⟩
abbrev S2048x1088 : Shape := ⟨2, ![2048, 1088]⟩
abbrev S2048x64 : Shape := ⟨2, ![2048, 64]⟩
abbrev S2048x2x2x16 : Shape := ⟨4, ![2048, 2, 2, 16]⟩
abbrev S2048x2x1x16 : Shape := ⟨4, ![2048, 2, 1, 16]⟩
abbrev S2048x2x16 : Shape := ⟨3, ![2048, 2, 16]⟩
abbrev S2048x1152 : Shape := ⟨2, ![2048, 1152]⟩
abbrev S_ : Shape := ⟨0, ![]⟩
abbrev S1152 : Shape := ⟨1, ![1152]⟩
abbrev S1x1152 : Shape := ⟨2, ![1, 1152]⟩
abbrev S1x2x16384x1152 : Shape := ⟨4, ![1, 2, 16384, 1152]⟩
abbrev S1x512x2048 : Shape := ⟨3, ![1, 512, 2048]⟩
abbrev S1x1x2048 : Shape := ⟨3, ![1, 1, 2048]⟩
abbrev S1x1x512x1152 : Shape := ⟨4, ![1, 1, 512, 1152]⟩
abbrev S512x2048 : Shape := ⟨2, ![512, 2048]⟩
abbrev S1x2048 : Shape := ⟨2, ![1, 2048]⟩
abbrev S512x1152 : Shape := ⟨2, ![512, 1152]⟩

abbrev nBuf : Space → Nat
  | .hbm => 21
  | .vmem => 11
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048x1088, .f32⟩
  | .hbm, ⟨4, _⟩ => ⟨S2048x64, .f32⟩
  | .hbm, ⟨5, _⟩ => ⟨S2048x2x2x16, .f32⟩
  | .hbm, ⟨6, _⟩ => ⟨S2048x2x1x16, .f32⟩
  | .hbm, ⟨7, _⟩ => ⟨S2048x2x16, .f32⟩
  | .hbm, ⟨8, _⟩ => ⟨S2048x2x16, .f32⟩
  | .hbm, ⟨9, _⟩ => ⟨S2048x2x1x16, .f32⟩
  | .hbm, ⟨10, _⟩ => ⟨S2048x2x16, .f32⟩
  | .hbm, ⟨11, _⟩ => ⟨S2048x2x1x16, .f32⟩
  | .hbm, ⟨12, _⟩ => ⟨S2048x2x1x16, .f32⟩
  | .hbm, ⟨13, _⟩ => ⟨S2048x2x2x16, .f32⟩
  | .hbm, ⟨14, _⟩ => ⟨S2048x64, .f32⟩
  | .hbm, ⟨15, _⟩ => ⟨S2048x1152, .f32⟩
  | .hbm, ⟨16, _⟩ => ⟨S_, .f32⟩
  | .hbm, ⟨17, _⟩ => ⟨S1152, .f32⟩
  | .hbm, ⟨18, _⟩ => ⟨S2048x1152, .bf16⟩
  | .hbm, ⟨19, _⟩ => ⟨S1x1152, .f32⟩
  | .hbm, ⟨20, _⟩ => ⟨S1x2x16384x1152, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1152, .bf16⟩
  | .local _ .vmem, ⟨7, _⟩ => ⟨S1x1152, .f32⟩
  | .local _ .vmem, ⟨8, _⟩ => ⟨S1x1x512x1152, .bf16⟩
  | .local _ .vmem, ⟨9, _⟩ => ⟨S1x1x512x1152, .bf16⟩
  | .local _ .vmem, ⟨10, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, arg1.toNat, v26.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S2048x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 1 → Memref sig .tc .vmem S1x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x1x512x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== LatentInRefIdeal.lean ====
abbrev S2x16384x2048 : Shape := ⟨3, ![2, 16384, 2048]⟩
abbrev S2x1x2048 : Shape := ⟨3, ![2, 1, 2048]⟩
abbrev S2048x1088 : Shape := ⟨2, ![2048, 1088]⟩
abbrev S_ : Shape := ⟨0, ![]⟩
abbrev S2x16384x1088 : Shape := ⟨3, ![2, 16384, 1088]⟩
abbrev S2x16384x64 : Shape := ⟨3, ![2, 16384, 64]⟩
abbrev S2x16384x2x2x16 : Shape := ⟨5, ![2, 16384, 2, 2, 16]⟩
abbrev S2x16384x2x1x16 : Shape := ⟨5, ![2, 16384, 2, 1, 16]⟩
abbrev S2x16384x2x16 : Shape := ⟨4, ![2, 16384, 2, 16]⟩
abbrev S2x16384x1152 : Shape := ⟨3, ![2, 16384, 1152]⟩
abbrev S1x2x16384x1152 : Shape := ⟨4, ![1, 2, 16384, 1152]⟩

abbrev nBuf : Space → Nat
  | .hbm => 26
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048x1088, .f32⟩
  | .hbm, ⟨4, _⟩ => ⟨S_, .f32⟩
  | .hbm, ⟨5, _⟩ => ⟨S2x1x2048, .f32⟩
  | .hbm, ⟨6, _⟩ => ⟨S2x1x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S2x16384x1088, .f32⟩
  | .hbm, ⟨12, _⟩ => ⟨S2x16384x64, .f32⟩
  | .hbm, ⟨13, _⟩ => ⟨S2x16384x2x2x16, .f32⟩
  | .hbm, ⟨14, _⟩ => ⟨S2x16384x2x1x16, .f32⟩
  | .hbm, ⟨15, _⟩ => ⟨S2x16384x2x16, .f32⟩
  | .hbm, ⟨16, _⟩ => ⟨S2x16384x2x16, .f32⟩
  | .hbm, ⟨17, _⟩ => ⟨S2x16384x2x1x16, .f32⟩
  | .hbm, ⟨18, _⟩ => ⟨S2x16384x2x16, .f32⟩
  | .hbm, ⟨19, _⟩ => ⟨S2x16384x2x1x16, .f32⟩
  | .hbm, ⟨20, _⟩ => ⟨S2x16384x2x1x16, .f32⟩
  | .hbm, ⟨21, _⟩ => ⟨S2x16384x2x2x16, .f32⟩
  | .hbm, ⟨22, _⟩ => ⟨S2x16384x64, .f32⟩
  | .hbm, ⟨23, _⟩ => ⟨S2x16384x1152, .f32⟩
  | .hbm, ⟨24, _⟩ => ⟨S1x2x16384x1152, .f32⟩
  | .hbm, ⟨25, _⟩ => ⟨S1x2x16384x1152, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Queries.lean ====
abbrev S2x16384x1152 : Shape := ⟨3, ![2, 16384, 1152]⟩
abbrev S512 : Shape := ⟨1, ![512]⟩
abbrev S512x3072 : Shape := ⟨2, ![512, 3072]⟩
abbrev S16384x128 : Shape := ⟨2, ![16384, 128]⟩
abbrev S512x16x192 : Shape := ⟨3, ![512, 16, 192]⟩
abbrev S512x16x64 : Shape := ⟨3, ![512, 16, 64]⟩
abbrev S512x16x2x2x16 : Shape := ⟨5, ![512, 16, 2, 2, 16]⟩
abbrev S512x16x2x1x16 : Shape := ⟨5, ![512, 16, 2, 1, 16]⟩
abbrev S512x16x2x16 : Shape := ⟨4, ![512, 16, 2, 16]⟩
abbrev S512x16x256 : Shape := ⟨3, ![512, 16, 256]⟩
abbrev S16x512x256 : Shape := ⟨3, ![16, 512, 256]⟩
abbrev S1x512 : Shape := ⟨2, ![1, 512]⟩
abbrev S2x16x16384x256 : Shape := ⟨4, ![2, 16, 16384, 256]⟩
abbrev S1x512x512 : Shape := ⟨3, ![1, 512, 512]⟩
abbrev S512x128 : Shape := ⟨2, ![512, 128]⟩
abbrev S1x16x512x256 : Shape := ⟨4, ![1, 16, 512, 256]⟩
abbrev S512x512 : Shape := ⟨2, ![512, 512]⟩
abbrev S512x1 : Shape := ⟨2, ![512, 1]⟩
abbrev S1x512x256 : Shape := ⟨3, ![1, 512, 256]⟩
abbrev S512x256 : Shape := ⟨2, ![512, 256]⟩
abbrev S1x1x512x256 : Shape := ⟨4, ![1, 1, 512, 256]⟩

abbrev nBuf : Space → Nat
  | .hbm => 21
  | .vmem => 8
  | .smem => 0
  | _ => 0

abbrev bufTy : (tb : Table) → Fin (tcTables nBuf tb) → BufTy
  | .hbm, ⟨0, _⟩ => ⟨S2x16384x1152, .bf16⟩
  | .hbm, ⟨1, _⟩ => ⟨S512, .f32⟩
  | .hbm, ⟨2, _⟩ => ⟨S512x3072, .f32⟩
  | .hbm, ⟨3, _⟩ => ⟨S16384x128, .f32⟩
  | .hbm, ⟨4, _⟩ => ⟨S512x16x192, .f32⟩
  | .hbm, ⟨5, _⟩ => ⟨S512x16x64, .f32⟩
  | .hbm, ⟨6, _⟩ => ⟨S512x16x2x2x16, .f32⟩
  | .hbm, ⟨7, _⟩ => ⟨S512x16x2x1x16, .f32⟩
  | .hbm, ⟨8, _⟩ => ⟨S512x16x2x16, .f32⟩
  | .hbm, ⟨9, _⟩ => ⟨S512x16x2x16, .f32⟩
  | .hbm, ⟨10, _⟩ => ⟨S512x16x2x1x16, .f32⟩
  | .hbm, ⟨11, _⟩ => ⟨S512x16x2x16, .f32⟩
  | .hbm, ⟨12, _⟩ => ⟨S512x16x2x1x16, .f32⟩
  | .hbm, ⟨13, _⟩ => ⟨S512x16x2x1x16, .f32⟩
  | .hbm, ⟨14, _⟩ => ⟨S512x16x2x2x16, .f32⟩
  | .hbm, ⟨15, _⟩ => ⟨S512x16x64, .f32⟩
  | .hbm, ⟨16, _⟩ => ⟨S512x16x256, .f32⟩
  | .hbm, ⟨17, _⟩ => ⟨S16x512x256, .f32⟩
  | .hbm, ⟨18, _⟩ => ⟨S16x512x256, .bf16⟩
  | .hbm, ⟨19, _⟩ => ⟨S1x512, .f32⟩
  | .hbm, ⟨20, _⟩ => ⟨S2x16x16384x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x512, .f32⟩
  | .local _ .vmem, ⟨3, _⟩ => ⟨S16x512x256, .bf16⟩
  | .local _ .vmem, ⟨4, _⟩ => ⟨S512x128, .f32⟩
  | .local _ .vmem, ⟨5, _⟩ => ⟨S512x128, .f32⟩
  | .local _ .vmem, ⟨6, _⟩ => ⟨S1x16x512x256, .bf16⟩
  | .local _ .vmem, ⟨7, _⟩ => ⟨S1x16x512x256, .bf16⟩
  | _, _ => ⟨S2x16384x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c16_i32 : BitVec 32 := 16#32
  let v19 : BitVec 32 := Scalar.addi c0_i32 c16_i32
  let c1_i32 : BitVec 32 := 1#32
  ⟨c0_i32, v19, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v20 : Index := Scalar.indexCast arg7
  let c0_9 : Index := 0#32
  let c0_10 : Index := 0#32
  ![v20.toNat, 0, 0]
def k0_off2 (k0_t1 : Fin k0_t1_loop.trips) : Fin 4 → Nat :=
  let c0_13 : Index := 0#32
  let c0_i32 : BitVec 32 := 0#32
  let c1_i32 : BitVec 32 := 1#32
  let arg7 : BitVec 32 := Scf.iv c0_i32 c1_i32 k0_t1
  let v33 : Index := Scalar.indexCast arg7
  let c0_14 : Index := 0#32
  let c0_15 : Index := 0#32
  ![0, v33.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x16x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueriesRefIdeal.lean ====
abbrev S2x16384x1152 : Shape := ⟨3, ![2, 16384, 1152]⟩
abbrev S512 : Shape := ⟨1, ![512]⟩
abbrev S512x3072 : Shape := ⟨2, ![512, 3072]⟩
abbrev S16384x128 : Shape := ⟨2, ![16384, 128]⟩
abbrev S16384x64 : Shape := ⟨2, ![16384, 64]⟩
abbrev S2x16384x512 : Shape := ⟨3, ![2, 16384, 512]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S2x16384x3072 : Shape := ⟨3, ![2, 16384, 3072]⟩
abbrev S2x16384x16x192 : Shape := ⟨4, ![2, 16384, 16, 192]⟩
abbrev S2x16384x16x128 : Shape := ⟨4, ![2, 16384, 16, 128]⟩
abbrev S2x16384x16x64 : Shape := ⟨4, ![2, 16384, 16, 64]⟩
abbrev S1x16384x1x64 : Shape := ⟨4, ![1, 16384, 1, 64]⟩
abbrev S2x16384x16x2x2x16 : Shape := ⟨6, ![2, 16384, 16, 2, 2, 16]⟩
abbrev S2x16384x16x2x1x16 : Shape := ⟨6, ![2, 16384, 16, 2, 1, 16]⟩
abbrev S2x16384x16x2x16 : Shape := ⟨5, ![2, 16384, 16, 2, 16]⟩
abbrev S2x16384x16x256 : Shape := ⟨4, ![2, 16384, 16, 256]⟩
abbrev S2x16x16384x256 : Shape := ⟨4, ![2, 16, 16384, 256]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x1152, .bf16⟩
  | .hbm, ⟨1, _⟩ => ⟨S512, .f32⟩
  | .hbm, ⟨2, _⟩ => ⟨S512x3072, .f32⟩
  | .hbm, ⟨3, _⟩ => ⟨S16384x128, .f32⟩
  | .hbm, ⟨4, _⟩ => ⟨S16384x64, .f32⟩
  | .hbm, ⟨5, _⟩ => ⟨S16384x64, .f32⟩
  | .hbm, ⟨6, _⟩ => ⟨S2x16384x512, .bf16⟩
  | .hbm, ⟨7, _⟩ => ⟨S2x16384x512, .f32⟩
  | .hbm, ⟨8, _⟩ => ⟨S2x16384x512, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x512, .f32⟩
  | .hbm, ⟨20, _⟩ => ⟨S2x16384x512, .f32⟩
  | .hbm, ⟨21, _⟩ => ⟨S1x1x512, .f32⟩
  | .hbm, ⟨22, _⟩ => ⟨S2x16384x512, .f32⟩
  | .hbm, ⟨23, _⟩ => ⟨S2x16384x512, .f32⟩
  | .hbm, ⟨24, _⟩ => ⟨S2x16384x3072, .f32⟩
  | .hbm, ⟨25, _⟩ => ⟨S2x16384x16x192, .f32⟩
  | .hbm, ⟨26, _⟩ => ⟨S2x16384x16x128, .f32⟩
  | .hbm, ⟨27, _⟩ => ⟨S2x16384x16x64, .f32⟩
  | .hbm, ⟨28, _⟩ => ⟨S1x16384x1x64, .f32⟩
  | .hbm, ⟨29, _⟩ => ⟨S1x16384x1x64, .f32⟩
  | .hbm, ⟨30, _⟩ => ⟨S2x16384x16x64, .f32⟩
  | .hbm, ⟨31, _⟩ => ⟨S2x16384x16x64, .f32⟩
  | .hbm, ⟨32, _⟩ => ⟨S2x16384x16x2x2x16, .f32⟩
  | .hbm, ⟨33, _⟩ => ⟨S2x16384x16x2x1x16, .f32⟩
  | .hbm, ⟨34, _⟩ => ⟨S2x16384x16x2x16, .f32⟩
  | .hbm, ⟨35, _⟩ => ⟨S2x16384x16x2x16, .f32⟩
  | .hbm, ⟨36, _⟩ => ⟨S2x16384x16x2x1x16, .f32⟩
  | .hbm, ⟨37, _⟩ => ⟨S2x16384x16x2x16, .f32⟩
  | .hbm, ⟨38, _⟩ => ⟨S2x16384x16x2x1x16, .f32⟩
  | .hbm, ⟨39, _⟩ => ⟨S2x16384x16x2x1x16, .f32⟩
  | .hbm, ⟨40, _⟩ => ⟨S2x16384x16x2x2x16, .f32⟩
  | .hbm, ⟨41, _⟩ => ⟨S2x16384x16x64, .f32⟩
  | .hbm, ⟨42, _⟩ => ⟨S2x16384x16x64, .f32⟩
  | .hbm, ⟨43, _⟩ => ⟨S2x16384x16x64, .f32⟩
  | .hbm, ⟨44, _⟩ => ⟨S2x16384x16x64, .f32⟩
  | .hbm, ⟨45, _⟩ => ⟨S2x16384x16x256, .f32⟩
  | .hbm, ⟨46, _⟩ => ⟨S2x16x16384x256, .f32⟩
  | .hbm, ⟨47, _⟩ => ⟨S_, .f32⟩
  | .hbm, ⟨48, _⟩ => ⟨S2x16x16384x256, .f32⟩
  | .hbm, ⟨49, _⟩ => ⟨S2x16x16384x256, .f32⟩
  | .hbm, ⟨50, _⟩ => ⟨S2x16x16384x256, .bf16⟩
  | _, _ => ⟨S2x16384x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== KeysValues.lean ====
abbrev S2x16384x1152 : Shape := ⟨3, ![2, 16384, 1152]⟩
abbrev S512 : Shape := ⟨1, ![512]⟩
abbrev S512x4096 : Shape := ⟨2, ![512, 4096]⟩
abbrev S16384x128 : Shape := ⟨2, ![16384, 128]⟩
abbrev S512x16x256 : Shape := ⟨3, ![512, 16, 256]⟩
abbrev S16x512x256 : Shape := ⟨3, ![16, 512, 256]⟩
abbrev S1x512 : Shape := ⟨2, ![1, 512]⟩
abbrev S2x16x16384x256 : Shape := ⟨4, ![2, 16, 16384, 256]⟩
abbrev S2x16x144x16384 : Shape := ⟨4, ![2, 16, 144, 16384]⟩
abbrev S1x512x512 : Shape := ⟨3, ![1, 512, 512]⟩
abbrev S1x512x128 : Shape := ⟨3, ![1, 512, 128]⟩
abbrev S512x128 : Shape := ⟨2, ![512, 128]⟩
abbrev S1x16x512x256 : Shape := ⟨4, ![1, 16, 512, 256]⟩
abbrev S1x16x144x512 : Shape := ⟨4, ![1, 16, 144, 512]⟩
abbrev S512x512 : Shape := ⟨2, ![512, 512]⟩
abbrev S512x1 : Shape := ⟨2, ![512, 1]⟩
abbrev S16x512 : Shape := ⟨2, ![16, 512]⟩
abbrev S1x512x256 : Shape := ⟨3, ![1, 512, 256]⟩
abbrev S512x256 : Shape := ⟨2, ![512, 256]⟩
abbrev S1x1x512x256 : Shape := ⟨4, ![1, 1, 512, 256]⟩
abbrev S128x512 : Shape := ⟨2, ![128, 512]⟩
abbrev S144x512 : Shape := ⟨2, ![144, 512]⟩
abbrev S1x1x144x512 : Shape := ⟨4, ![1, 1, 144, 512]⟩

abbrev nBuf : Space → Nat
  | .hbm => 10
  | .vmem => 12
  | .smem => 0
  | _ => 0

abbrev bufTy : (tb : Table) → Fin (tcTables nBuf tb) → BufTy
  | .hbm, ⟨0, _⟩ => ⟨S2x16384x1152, .bf16⟩
  | .hbm, ⟨1, _⟩ => ⟨S512, .f32⟩
  | .hbm, ⟨2, _⟩ => ⟨S512x4096, .f32⟩
  | .hbm, ⟨3, _⟩ => ⟨S16384x128, .f32⟩
  | .hbm, ⟨4, _⟩ => ⟨S512x16x256, .f32⟩
  | .hbm, ⟨5, _⟩ => ⟨S16x512x256, .f32⟩
  | .hbm, ⟨6, _⟩ => ⟨S16x512x256, .bf16⟩
  | .hbm, ⟨7, _⟩ => ⟨S1x512, .f32⟩
  | .hbm, ⟨8, _⟩ => ⟨S2x16x16384x256, .bf16⟩
  | .hbm, ⟨9, _⟩ => ⟨S2x16x144x16384, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x128, .bf16⟩
  | .local _ .vmem, ⟨3, _⟩ => ⟨S1x512x128, .bf16⟩
  | .local _ .vmem, ⟨4, _⟩ => ⟨S1x512, .f32⟩
  | .local _ .vmem, ⟨5, _⟩ => ⟨S16x512x256, .bf16⟩
  | .local _ .vmem, ⟨6, _⟩ => ⟨S512x128, .f32⟩
  | .local _ .vmem, ⟨7, _⟩ => ⟨S512x128, .f32⟩
  | .local _ .vmem, ⟨8, _⟩ => ⟨S1x16x512x256, .bf16⟩
  | .local _ .vmem, ⟨9, _⟩ => ⟨S1x16x512x256, .bf16⟩
  | .local _ .vmem, ⟨10, _⟩ => ⟨S1x16x144x512, .bf16⟩
  | .local _ .vmem, ⟨11, _⟩ => ⟨S1x16x144x512, .bf16⟩
  | _, _ => ⟨S2x16384x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c16_i32 : BitVec 32 := 16#32
  let v32 : BitVec 32 := Scalar.addi c0_i32 c16_i32
  let c1_i32 : BitVec 32 := 1#32
  ⟨c0_i32, v32, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v33 : Index := Scalar.indexCast arg9
  let c0_15 : Index := 0#32
  let c0_16 : Index := 0#32
  ![v33.toNat, 0, 0]
def k0_off2 (k0_t1 : Fin k0_t1_loop.trips) : Fin 4 → Nat :=
  let c0_18 : Index := 0#32
  let c0_i32 : BitVec 32 := 0#32
  let c1_i32 : BitVec 32 := 1#32
  let arg9 : BitVec 32 := Scf.iv c0_i32 c1_i32 k0_t1
  let v40 : Index := Scalar.indexCast arg9
  let c0_19 : Index := 0#32
  let c0_20 : Index := 0#32
  ![0, v40.toNat, 0, 0]
def k0_off3 (k0_t1 : Fin k0_t1_loop.trips) : Fin 4 → Nat :=
  let c0_21 : Index := 0#32
  let c0_i32 : BitVec 32 := 0#32
  let c1_i32 : BitVec 32 := 1#32
  let arg9 : BitVec 32 := Scf.iv c0_i32 c1_i32 k0_t1
  let v48 : Index := Scalar.indexCast arg9
  let c0_22 : Index := 0#32
  let c0_23 : Index := 0#32
  ![0, v48.toNat, 0, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x144x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KeysValuesRefIdeal.lean ====
abbrev S2x16384x1152 : Shape := ⟨3, ![2, 16384, 1152]⟩
abbrev S512 : Shape := ⟨1, ![512]⟩
abbrev S512x4096 : Shape := ⟨2, ![512, 4096]⟩
abbrev S16384x128 : Shape := ⟨2, ![16384, 128]⟩
abbrev S16384x64 : Shape := ⟨2, ![16384, 64]⟩
abbrev S2x16384x512 : Shape := ⟨3, ![2, 16384, 512]⟩
abbrev S2x16384x64 : Shape := ⟨3, ![2, 16384, 64]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S2x16384x4096 : Shape := ⟨3, ![2, 16384, 4096]⟩
abbrev S2x16384x16x256 : Shape := ⟨4, ![2, 16384, 16, 256]⟩
abbrev S2x16384x16x128 : Shape := ⟨4, ![2, 16384, 16, 128]⟩
abbrev S1x16384x64 : Shape := ⟨3, ![1, 16384, 64]⟩
abbrev S2x16384x2x2x16 : Shape := ⟨5, ![2, 16384, 2, 2, 16]⟩
abbrev S2x16384x2x1x16 : Shape := ⟨5, ![2, 16384, 2, 1, 16]⟩
abbrev S2x16384x2x16 : Shape := ⟨4, ![2, 16384, 2, 16]⟩
abbrev S2x16384x1x64 : Shape := ⟨4, ![2, 16384, 1, 64]⟩
abbrev S2x16384x16x64 : Shape := ⟨4, ![2, 16384, 16, 64]⟩
abbrev S2x16x16384x256 : Shape := ⟨4, ![2, 16, 16384, 256]⟩
abbrev S2x16x128x16384 : Shape := ⟨4, ![2, 16, 128, 16384]⟩
abbrev S2x16x16x16384 : Shape := ⟨4, ![2, 16, 16, 16384]⟩
abbrev S2x16x144x16384 : Shape := ⟨4, ![2, 16, 144, 16384]⟩

abbrev nBuf : Space → Nat
  | .hbm => 59
  | .vmem => 0
  | .smem => 0
  | _ => 0

abbrev bufTy : (tb : Table) → Fin (tcTables nBuf tb) → BufTy
  | .hbm, ⟨0, _⟩ => ⟨S2x16384x1152, .bf16⟩
  | .hbm, ⟨1, _⟩ => ⟨S512, .f32⟩
  | .hbm, ⟨2, _⟩ => ⟨S512x4096, .f32⟩
  | .hbm, ⟨3, _⟩ => ⟨S16384x128, .f32⟩
  | .hbm, ⟨4, _⟩ => ⟨S16384x64, .f32⟩
  | .hbm, ⟨5, _⟩ => ⟨S16384x64, .f32⟩
  | .hbm, ⟨6, _⟩ => ⟨S2x16384x512, .bf16⟩
  | .hbm, ⟨7, _⟩ => ⟨S2x16384x512, .f32⟩
  | .hbm, ⟨8, _⟩ => ⟨S2x16384x64, .bf16⟩
  | .hbm, ⟨9, _⟩ => ⟨S2x16384x64, .f32⟩
  | .hbm, ⟨10, _⟩ => ⟨S2x16384x512, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x512, .f32⟩
  | .hbm, ⟨22, _⟩ => ⟨S2x16384x512, .f32⟩
  | .hbm, ⟨23, _⟩ => ⟨S1x1x512, .f32⟩
  | .hbm, ⟨24, _⟩ => ⟨S2x16384x512, .f32⟩
  | .hbm, ⟨25, _⟩ => ⟨S2x16384x512, .f32⟩
  | .hbm, ⟨26, _⟩ => ⟨S2x16384x4096, .f32⟩
  | .hbm, ⟨27, _⟩ => ⟨S2x16384x16x256, .f32⟩
  | .hbm, ⟨28, _⟩ => ⟨S2x16384x16x128, .f32⟩
  | .hbm, ⟨29, _⟩ => ⟨S2x16384x16x128, .f32⟩
  | .hbm, ⟨30, _⟩ => ⟨S1x16384x64, .f32⟩
  | .hbm, ⟨31, _⟩ => ⟨S1x16384x64, .f32⟩
  | .hbm, ⟨32, _⟩ => ⟨S2x16384x64, .f32⟩
  | .hbm, ⟨33, _⟩ => ⟨S2x16384x64, .f32⟩
  | .hbm, ⟨34, _⟩ => ⟨S2x16384x2x2x16, .f32⟩
  | .hbm, ⟨35, _⟩ => ⟨S2x16384x2x1x16, .f32⟩
  | .hbm, ⟨36, _⟩ => ⟨S2x16384x2x16, .f32⟩
  | .hbm, ⟨37, _⟩ => ⟨S2x16384x2x16, .f32⟩
  | .hbm, ⟨38, _⟩ => ⟨S2x16384x2x1x16, .f32⟩
  | .hbm, ⟨39, _⟩ => ⟨S2x16384x2x16, .f32⟩
  | .hbm, ⟨40, _⟩ => ⟨S2x16384x2x1x16, .f32⟩
  | .hbm, ⟨41, _⟩ => ⟨S2x16384x2x1x16, .f32⟩
  | .hbm, ⟨42, _⟩ => ⟨S2x16384x2x2x16, .f32⟩
  | .hbm, ⟨43, _⟩ => ⟨S2x16384x64, .f32⟩
  | .hbm, ⟨44, _⟩ => ⟨S2x16384x64, .f32⟩
  | .hbm, ⟨45, _⟩ => ⟨S2x16384x64, .f32⟩
  | .hbm, ⟨46, _⟩ => ⟨S2x16384x64, .f32⟩
  | .hbm, ⟨47, _⟩ => ⟨S2x16384x1x64, .f32⟩
  | .hbm, ⟨48, _⟩ => ⟨S2x16384x16x64, .f32⟩
  | .hbm, ⟨49, _⟩ => ⟨S_, .f32⟩
  | .hbm, ⟨50, _⟩ => ⟨S2x16384x16x64, .f32⟩
  | .hbm, ⟨51, _⟩ => ⟨S2x16384x16x256, .f32⟩
  | .hbm, ⟨52, _⟩ => ⟨S2x16x16384x256, .f32⟩
  | .hbm, ⟨53, _⟩ => ⟨S2x16x128x16384, .f32⟩
  | .hbm, ⟨54, _⟩ => ⟨S_, .f32⟩
  | .hbm, ⟨55, _⟩ => ⟨S2x16x16x16384, .f32⟩
  | .hbm, ⟨56, _⟩ => ⟨S2x16x144x16384, .f32⟩
  | .hbm, ⟨57, _⟩ => ⟨S2x16x16384x256, .bf16⟩
  | .hbm, ⟨58, _⟩ => ⟨S2x16x144x16384, .bf16⟩
  | _, _ => ⟨S2x16384x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Proof.Att.Tiles.lean ====
module
public import proofs.«01_k».proof.Proof.Gen.AttendIdeal.Value
public import Idealize.ShloMosaic.Lib.Pipeline.ValueKit
public import Idealize.ShloMosaic.Lib.Pipeline.ReadBack
/-! Reading back pieces of a scratch array stored one leading slab at a time. -/
@[expose] public section
set_option maxRecDepth 16384
noncomputable section
namespace Cert.AttendIdeal.Att
open Idealize.ShloMosaic Idealize.ShloMosaic.TcCoe Idealize.SL Idealize.SL.Sem

section
variable {Val : EltTy → Type} [∀ e, Nonempty (Val e)] {sig : RefSig} {κ : Kind} {sp : Space} {e : EltTy} {A B C : ℕ}

/-- A slab read back past a newer store of another slab. -/
theorem slab_skip (v : View sig κ sp (⟨3, ![A, B, C]⟩ : Shape) e) (n n' b c : ℕ)
    (h : ∀ a, (![n, 0, 0] : Fin 3 → ℕ) a + (![1, b, c] : Fin 3 → ℕ) a ≤ (![A, B, C] : Fin 3 → ℕ) a)
    (h' : ∀ a, (![n', 0, 0] : Fin 3 → ℕ) a + (![1, b, c] : Fin 3 → ℕ) a ≤ (![A, B, C] : Fin 3 → ℕ) a)
    (w : (Rect.unit (s := ⟨3, ![A, B, C]⟩) ![n, 0, 0] ![1, b, c] h).shape.Idx → Val e) (L : List (View.Piece Val (⟨3, ![A, B, C]⟩ : Shape) e))
    (hn : n ≠ n') :
    v.readCov ((⟨Rect.unit (s := ⟨3, ![A, B, C]⟩) ![n, 0, 0] ![1, b, c] h, w⟩ : View.Piece Val _ e) :: L) (Rect.unit (s := ⟨3, ![A, B, C]⟩) ![n', 0, 0] ![1, b, c] h').toLoadRect
      = v.readCov L (Rect.unit (s := ⟨3, ![A, B, C]⟩) ![n', 0, 0] ![1, b, c] h').toLoadRect := by
  rw [View.readCov_eq_canon', View.readCov_eq_canon']
  funext j
  refine View.canon_cons_of_not_mem _ _ fun hm => ?_
  have h1 := (Rect.mem_set_unit (inb := h).mp hm) 0
  have h2 : ((Rect.unit (s := ⟨3, ![A, B, C]⟩) ![n', 0, 0] ![1, b, c] h').toLoadRect.idx j 0 : ℕ) = n' := by
    have : ((Rect.unit (s := ⟨3, ![A, B, C]⟩) ![n', 0, 0] ![1, b, c] h').toLoadRect.idx j 0 : ℕ) = n' + 1 * (j 0 : ℕ) := rfl
    have hj : (j 0 : ℕ) < 1 := (j 0).isLt
    omega
  rw [h2] at h1
  have h3 : n ≤ n' ∧ n' < n + 1 := h1
  omega

/-- A slab read back from a store of the whole array. -/
theorem slab_whole (v : View sig κ sp (⟨3, ![A, B, C]⟩ : Shape) e) (n b c : ℕ)
    (h0 : ∀ a, (![0, 0, 0] : Fin 3 → ℕ) a + (![A, B, C] : Fin 3 → ℕ) a ≤ (![A, B, C] : Fin 3 → ℕ) a)
    (h' : ∀ a, (![n, 0, 0] : Fin 3 → ℕ) a + (![1, b, c] : Fin 3 → ℕ) a ≤ (![A, B, C] : Fin 3 → ℕ) a)
    (w : (⟨3, ![A, B, C]⟩ : Shape).Idx → Val e) :
    v.readCov [(⟨Rect.unit (s := ⟨3, ![A, B, C]⟩) ![0, 0, 0] ![A, B, C] h0, w⟩ : View.Piece Val _ e)] (Rect.unit (s := ⟨3, ![A, B, C]⟩) ![n, 0, 0] ![1, b, c] h').toLoadRect
      = View.ld w (Rect.unit (s := ⟨3, ![A, B, C]⟩) ![n, 0, 0] ![1, b, c] h') := by
  rw [View.readCov_eq_canon_ld _ _ _ (fun y => ⟨_, List.mem_cons_self, by
    rw [Rect.mem_set_unit]; intro a; exact ⟨by fin_cases a <;> exact Nat.zero_le _, by have := (y a).isLt; fin_cases a <;> simpa using this⟩⟩)]
  congr 1
  exact View.canon_cons_unit_lit (S := ⟨3, ![A, B, C]⟩) h0 w [] (by intro a; fin_cases a <;> rfl)

/-- A slab of the array at an index. -/
theorem slab_ld (X : (⟨3, ![A, B, C]⟩ : Shape).Idx → Val e) (n : ℕ) (hn : n < A)
    (h : ∀ a, (![n, 0, 0] : Fin 3 → ℕ) a + (![1, B, C] : Fin 3 → ℕ) a ≤ (![A, B, C] : Fin 3 → ℕ) a) (b : Fin B) (l : Fin C) :
    View.ld X (Rect.unit (s := ⟨3, ![A, B, C]⟩) ![n, 0, 0] ![1, B, C] h) (ix3 0 b l) = X (ix3 ⟨n, hn⟩ b l) := by
  show X _ = X _
  congr 1
  funext a
  apply Fin.ext
  fin_cases a
  · show n + 1 * 0 = n; omega
  · show 0 + 1 * (b : ℕ) = b; omega
  · show 0 + 1 * (l : ℕ) = l; omega

/-- Slabs stored one after the other, read at an index: the value is known slab by slab. -/
theorem slab_cons (n : ℕ) (hn : n < A)
    (h : ∀ a, (![n, 0, 0] : Fin 3 → ℕ) a + (![1, B, C] : Fin 3 → ℕ) a ≤ (![A, B, C] : Fin 3 → ℕ) a)
    (w : (Rect.unit (s := ⟨3, ![A, B, C]⟩) ![n, 0, 0] ![1, B, C] h).shape.Idx → Val e) (L : List (View.Piece Val (⟨3, ![A, B, C]⟩ : Shape) e))
    (i : Fin A) (b : Fin B) (l : Fin C) (G : Val e)
    (hw : (⟨n, hn⟩ : Fin A) = i → w (ix3 0 b l) = G) (hL : (i : ℕ) ≠ n → View.canon L (ix3 i b l) = G) :
    View.canon ((⟨Rect.unit (s := ⟨3, ![A, B, C]⟩) ![n, 0, 0] ![1, B, C] h, w⟩ : View.Piece Val _ e) :: L) (ix3 i b l) = G := by
  by_cases hi : (i : ℕ) = n
  · have he : (ix3 i b l : (⟨3, ![A, B, C]⟩ : Shape).Idx) = (Rect.unit (s := ⟨3, ![A, B, C]⟩) ![n, 0, 0] ![1, B, C] h).emb (ix3 0 b l) := by
      funext a
      apply Fin.ext
      fin_cases a
      · show (i : ℕ) = n + 1 * 0; omega
      · show (b : ℕ) = 0 + 1 * (b : ℕ); omega
      · show (l : ℕ) = 0 + 1 * (l : ℕ); omega
    rw [he, View.canon_cons_emb]
    exact hw (Fin.ext hi.symm)
  · rw [View.canon_cons_of_not_mem _ _ fun hm => ?_]
    · exact hL hi
    · have h1 : n ≤ (i : ℕ) ∧ (i : ℕ) < n + 1 := (Rect.mem_set_unit (inb := h).mp hm) 0
      omega

/-- Rows of a leading-unit block stored one range after the other. -/
theorem rows_cons (r0 w : ℕ) (h : ∀ a, (![0, r0, 0] : Fin 3 → ℕ) a + (![1, w, C] : Fin 3 → ℕ) a ≤ (![1, B, C] : Fin 3 → ℕ) a)
    (v : (Rect.unit (s := ⟨3, ![1, B, C]⟩) ![0, r0, 0] ![1, w, C] h).shape.Idx → Val e) (L : List (View.Piece Val (⟨3, ![1, B, C]⟩ : Shape) e))
    (b : Fin B) (l : Fin C) (G : Val e)
    (hv : ∀ x : Fin w, (b : ℕ) = r0 + x → v (ix3 0 x l) = G) (hL : ¬ (r0 ≤ (b : ℕ) ∧ (b : ℕ) < r0 + w) → View.canon L (ix3 0 b l) = G) :
    View.canon ((⟨Rect.unit (s := ⟨3, ![1, B, C]⟩) ![0, r0, 0] ![1, w, C] h, v⟩ : View.Piece Val _ e) :: L) (ix3 0 b l) = G := by
  by_cases hi : r0 ≤ (b : ℕ) ∧ (b : ℕ) < r0 + w
  · have he : (ix3 0 b l : (⟨3, ![1, B, C]⟩ : Shape).Idx) = (Rect.unit (s := ⟨3, ![1, B, C]⟩) ![0, r0, 0] ![1, w, C] h).emb (ix3 0 (⟨b - r0, by omega⟩ : Fin w) l) := by
      funext a
      apply Fin.ext
      fin_cases a
      · show 0 = 0 + 1 * 0; omega
      · show (b : ℕ) = r0 + 1 * ((b : ℕ) - r0); omega
      · show (l : ℕ) = 0 + 1 * (l : ℕ); omega
    rw [he, View.canon_cons_emb]
    exact hv _ (by show (b : ℕ) = r0 + ((b : ℕ) - r0); omega)
  · rw [View.canon_cons_of_not_mem _ _ fun hm => ?_]
    · exact hL hi
    · exact hi ((Rect.mem_set_unit (inb := h).mp hm) 1)
end
end Cert.AttendIdeal.Att
-- ==== Proof.Att.Norm.lean ====
module
public import proofs.«01_k».proof.Proof.Att.Tiles
/-! The chunks of one grid point differ only in their numbers: every chunk's terms are named after those of the first ones. -/
@[expose] public section
set_option maxRecDepth 16384
noncomputable section
namespace Cert.AttendIdeal.Att
open Idealize.ShloMosaic Idealize.ShloMosaic.TcCoe Idealize.SL Idealize.SL.Sem
open Cert.AttendIdeal Cert.AttendIdeal.Gen

theorem p6 (a : Vec Ideal S1x1x512x256 .bf16) : k0_pay6 (F := Ideal) a = k0_pay5 a := rfl
theorem p7 (a : Vec Ideal S1x1x512x256 .bf16) : k0_pay7 (F := Ideal) a = k0_pay5 a := rfl
theorem p8 (a : Vec Ideal S1x1x512x256 .bf16) : k0_pay8 (F := Ideal) a = k0_pay5 a := rfl
theorem p9 (a : Vec Ideal S1x1x512x256 .bf16) : k0_pay9 (F := Ideal) a = k0_pay5 a := rfl
theorem p10 (a : Vec Ideal S1x1x512x256 .bf16) : k0_pay10 (F := Ideal) a = k0_pay5 a := rfl
theorem p11 (a : Vec Ideal S1x1x512x256 .bf16) : k0_pay11 (F := Ideal) a = k0_pay5 a := rfl
theorem p12 (a : Vec Ideal S1x1x512x256 .bf16) : k0_pay12 (F := Ideal) a = k0_pay5 a := rfl
theorem p19 (a : Vec Ideal S1x1x4096x256 .bf16) (b : Vec Ideal S1x256x512 .bf16) : k0_pay19 (F := Ideal) a b = k0_pay16 a b := rfl
theorem p20 (a : Vec Ideal S1x1x4096x256 .bf16) (b : Vec Ideal S1x256x512 .bf16) : k0_pay20 (F := Ideal) a b = k0_pay17 a b := rfl
theorem p21 (a : Vec Ideal S1x1x4096x256 .bf16) (b : Vec Ideal S1x256x512 .bf16) : k0_pay21 (F := Ideal) a b = k0_pay18 a b := rfl
theorem p31 (a : Vec Ideal S1x1x512 .f32) : k0_pay31 (F := Ideal) a = k0_pay22 a := rfl
theorem p32 (a : Vec Ideal S1x1x512 .f32) (b : Vec Ideal S1x1x512 .f32) : k0_pay32 (F := Ideal) a b = k0_pay23 a b := rfl
theorem p33 (a : Vec Ideal S1x1x512 .f32) (b : Vec Ideal S1x1x512 .f32) : k0_pay33 (F := Ideal) a b = k0_pay24 a b := rfl
theorem p34 (a : Vec Ideal S1x1x512 .f32) (b : Vec Ideal S1x1x512 .f32) (c : Vec Ideal S1x4096x512 .f32) : k0_pay34 (F := Ideal) a b c = k0_pay25 a b c := rfl
theorem p35 (a : Vec Ideal S1x1x512 .f32) (b : Vec Ideal S1x1x512 .f32) : k0_pay35 (F := Ideal) a b = k0_pay26 a b := rfl
theorem p36 (a : Vec Ideal S1x1x512 .f32) : k0_pay36 (F := Ideal) a = k0_pay22 a := rfl
theorem p39 (a : Vec Ideal S4096x256 .bf16) (b : Vec Ideal S1x256x512 .bf16) : k0_pay39 (F := Ideal) a b = k0_pay27 a b := rfl
theorem p40 (a : Vec Ideal S4096x256 .bf16) (b : Vec Ideal S1x256x512 .bf16) : k0_pay40 (F := Ideal) a b = k0_pay28 a b := rfl
theorem p42 (a : Vec Ideal S1x1x512 .f32) : k0_pay42 (F := Ideal) a = k0_pay22 a := rfl
theorem p43 (a : Vec Ideal S1x1x512 .f32) (b : Vec Ideal S1x1x512 .f32) : k0_pay43 (F := Ideal) a b = k0_pay23 a b := rfl
theorem p44 (a : Vec Ideal S1x1x512 .f32) (b : Vec Ideal S1x1x512 .f32) : k0_pay44 (F := Ideal) a b = k0_pay24 a b := rfl
theorem p46 (a : Vec Ideal S1x512 .f32) : k0_pay46 (F := Ideal) a = k0_pay30 a := rfl
theorem p48 (a : Vec Ideal S4096x256 .bf16) (b : Vec Ideal S1x256x512 .bf16) : k0_pay48 (F := Ideal) a b = k0_pay27 a b := rfl
theorem p51 (a : Vec Ideal S1x1x512 .f32) : k0_pay51 (F := Ideal) a = k0_pay22 a := rfl
theorem p52 (a : Vec Ideal S1x1x512 .f32) (b : Vec Ideal S1x1x512 .f32) : k0_pay52 (F := Ideal) a b = k0_pay23 a b := rfl
theorem p53 (a : Vec Ideal S1x1x512 .f32) (b : Vec Ideal S1x1x512 .f32) : k0_pay53 (F := Ideal) a b = k0_pay24 a b := rfl
theorem p54 (a : Vec Ideal S1x1x512 .f32) (b : Vec Ideal S1x1x512 .f32) (c : Vec Ideal S1x4096x512 .f32) : k0_pay54 (F := Ideal) a b c = k0_pay25 a b c := rfl
theorem p55 (a : Vec Ideal S1x1x512 .f32) (b : Vec Ideal S1x1x512 .f32) : k0_pay55 (F := Ideal) a b = k0_pay26 a b := rfl
theorem p56 (a : Vec Ideal S144x4096 .bf16) (b : Vec Ideal S1x1x512 .f32) (c : Vec Ideal S1x144x512 .f32) (d : Vec Ideal S1x4096x512 .bf16) : k0_pay56 (F := Ideal) a b c d = k0_pay47 a b c d := rfl
theorem p57 (a : Vec Ideal S4096x256 .bf16) (b : Vec Ideal S1x256x512 .bf16) : k0_pay57 (F := Ideal) a b = k0_pay27 a b := rfl
theorem p58 (a : Vec Ideal S4096x256 .bf16) (b : Vec Ideal S1x256x512 .bf16) : k0_pay58 (F := Ideal) a b = k0_pay28 a b := rfl
theorem p59 (a : Vec Ideal S4096x256 .bf16) (b : Vec Ideal S1x256x512 .bf16) : k0_pay59 (F := Ideal) a b = k0_pay41 a b := rfl
theorem p60 (a : Vec Ideal S1x1x512 .f32) : k0_pay60 (F := Ideal) a = k0_pay22 a := rfl
theorem p61 (a : Vec Ideal S1x1x512 .f32) (b : Vec Ideal S1x1x512 .f32) : k0_pay61 (F := Ideal) a b = k0_pay23 a b := rfl
theorem p63 (a : Vec Ideal S1x512 .f32) (b : Vec Ideal S1x4096x512 .f32) : k0_pay63 (F := Ideal) a b = k0_pay45 a b := rfl
theorem p64 (a : Vec Ideal S1x512 .f32) : k0_pay64 (F := Ideal) a = k0_pay30 a := rfl
theorem p65 (a : Vec Ideal S144x4096 .bf16) (b : Vec Ideal S1x1x512 .f32) (c : Vec Ideal S1x144x512 .f32) (d : Vec Ideal S1x4096x512 .bf16) : k0_pay65 (F := Ideal) a b c d = k0_pay47 a b c d := rfl
theorem p66 (a : Vec Ideal S4096x256 .bf16) (b : Vec Ideal S1x256x512 .bf16) : k0_pay66 (F := Ideal) a b = k0_pay27 a b := rfl
theorem p67 (a : Vec Ideal S4096x256 .bf16) (b : Vec Ideal S1x256x512 .bf16) : k0_pay67 (F := Ideal) a b = k0_pay28 a b := rfl
theorem p68 (a : Vec Ideal S4096x256 .bf16) (b : Vec Ideal S1x256x512 .bf16) : k0_pay68 (F := Ideal) a b = k0_pay41 a b := rfl
theorem p69 (a : Vec Ideal S1x1x512 .f32) : k0_pay69 (F := Ideal) a = k0_pay22 a := rfl
theorem p70 (a : Vec Ideal S1x1x512 .f32) (b : Vec Ideal S1x1x512 .f32) : k0_pay70 (F := Ideal) a b = k0_pay23 a b := rfl
theorem p71 (a : Vec Ideal S1x1x512 .f32) (b : Vec Ideal S1x1x512 .f32) : k0_pay71 (F := Ideal) a b = k0_pay24 a b := rfl
theorem p72 (a : Vec Ideal S1x1x512 .f32) (b : Vec Ideal S1x1x512 .f32) (c : Vec Ideal S1x4096x512 .f32) : k0_pay72 (F := Ideal) a b c = k0_pay25 a b c := rfl
theorem p73 (a : Vec Ideal S1x512 .f32) : k0_pay73 (F := Ideal) a = k0_pay30 a := rfl
theorem p74 (a : Vec Ideal S144x4096 .bf16) (b : Vec Ideal S1x1x512 .f32) (c : Vec Ideal S1x144x512 .f32) (d : Vec Ideal S1x4096x512 .bf16) : k0_pay74 (F := Ideal) a b c d = k0_pay47 a b c d := rfl
theorem p75 (a : Vec Ideal S4096x256 .bf16) (b : Vec Ideal S1x256x512 .bf16) : k0_pay75 (F := Ideal) a b = k0_pay27 a b := rfl
theorem p76 (a : Vec Ideal S4096x256 .bf16) (b : Vec Ideal S1x256x512 .bf16) : k0_pay76 (F := Ideal) a b = k0_pay28 a b := rfl
theorem p77 (a : Vec Ideal S4096x256 .bf16) (b : Vec Ideal S1x256x512 .bf16) : k0_pay77 (F := Ideal) a b = k0_pay41 a b := rfl
theorem p78 (a : Vec Ideal S1x1x512 .f32) : k0_pay78 (F := Ideal) a = k0_pay22 a := rfl
theorem p79 (a : Vec Ideal S1x1x512 .f32) (b : Vec Ideal S1x1x512 .f32) : k0_pay79 (F := Ideal) a b = k0_pay23 a b := rfl
theorem p80 (a : Vec Ideal S1x1x512 .f32) (b : Vec Ideal S1x1x512 .f32) : k0_pay80 (F := Ideal) a b = k0_pay24 a b := rfl
theorem p81 (a : Vec Ideal S1x1x512 .f32) (b : Vec Ideal S1x1x512 .f32) (c : Vec Ideal S1x4096x512 .f32) : k0_pay81 (F := Ideal) a b c = k0_pay25 a b c := rfl
theorem p82 (a : Vec Ideal S1x1x512 .f32) (b : Vec Ideal S1x1x512 .f32) : k0_pay82 (F := Ideal) a b = k0_pay26 a b := rfl
theorem p85 (a : Vec Ideal S1x1x512 .f32) : k0_pay85 (F := Ideal) a = k0_pay22 a := rfl
theorem p86 (a : Vec Ideal S1x1x512 .f32) (b : Vec Ideal S1x1x512 .f32) : k0_pay86 (F := Ideal) a b = k0_pay23 a b := rfl
theorem p87 (a : Vec Ideal S1x1x512 .f32) (b : Vec Ideal S1x1x512 .f32) : k0_pay87 (F := Ideal) a b = k0_pay24 a b := rfl
theorem p88 (a : Vec Ideal S1x1x512 .f32) (b : Vec Ideal S1x1x512 .f32) (c : Vec Ideal S1x4096x512 .f32) : k0_pay88 (F := Ideal) a b c = k0_pay25 a b c := rfl
theorem p89 (a : Vec Ideal S1x1x512 .f32) (b : Vec Ideal S1x1x512 .f32) : k0_pay89 (F := Ideal) a b = k0_pay26 a b := rfl
theorem p90 (a : Vec Ideal S1x1x512 .f32) : k0_pay90 (F := Ideal) a = k0_pay22 a := rfl
theorem p91 (a : Vec Ideal S1x144x512 .f32) : k0_pay91 (F := Ideal) a = k0_pay37 a := rfl
theorem p97 (a : Vec Ideal S1x1x256x256 .bf16) (b : Vec Ideal S1x256x512 .bf16) : k0_pay97 (F := Ideal) a b = k0_pay94 a b := rfl
theorem p98 (a : Vec Ideal S1x1x256x256 .bf16) (b : Vec Ideal S1x256x512 .bf16) : k0_pay98 (F := Ideal) a b = k0_pay95 a b := rfl
theorem p99 (a : Vec Ideal S1x1x256x256 .bf16) (b : Vec Ideal S1x256x512 .bf16) : k0_pay99 (F := Ideal) a b = k0_pay96 a b := rfl
theorem p100 (a : Vec Ideal S1x1x512 .f32) : k0_pay100 (F := Ideal) a = k0_pay22 a := rfl
theorem p101 (a : Vec Ideal S1x1x512 .f32) (b : Vec Ideal S1x1x512 .f32) : k0_pay101 (F := Ideal) a b = k0_pay23 a b := rfl
theorem p102 (a : Vec Ideal S1x1x512 .f32) (b : Vec Ideal S1x1x512 .f32) : k0_pay102 (F := Ideal) a b = k0_pay24 a b := rfl
theorem p104 (a : Vec Ideal S1x1x512 .f32) (b : Vec Ideal S1x1x512 .f32) : k0_pay104 (F := Ideal) a b = k0_pay26 a b := rfl
theorem p108 (a : Vec Ideal S1x512 .f32) : k0_pay108 (F := Ideal) a = k0_pay30 a := rfl
theorem p109 (a : Vec Ideal S1x1x512 .f32) : k0_pay109 (F := Ideal) a = k0_pay22 a := rfl
theorem p110 (a : Vec Ideal S1x1x512 .f32) (b : Vec Ideal S1x1x512 .f32) : k0_pay110 (F := Ideal) a b = k0_pay23 a b := rfl
theorem p111 (a : Vec Ideal S1x1x512 .f32) (b : Vec Ideal S1x1x512 .f32) : k0_pay111 (F := Ideal) a b = k0_pay24 a b := rfl
theorem p112 (a : Vec Ideal S1x1x512 .f32) (b : Vec Ideal S1x1x512 .f32) (c : Vec Ideal S1x256x512 .f32) : k0_pay112 (F := Ideal) a b c = k0_pay103 a b c := rfl
theorem p113 (a : Vec Ideal S1x1x512 .f32) (b : Vec Ideal S1x1x512 .f32) : k0_pay113 (F := Ideal) a b = k0_pay26 a b := rfl
theorem p114 (a : Vec Ideal S1x1x512 .f32) : k0_pay114 (F := Ideal) a = k0_pay22 a := rfl
theorem p115 (a : Vec Ideal S1x144x512 .f32) : k0_pay115 (F := Ideal) a = k0_pay37 a := rfl
theorem p117 (a : Vec Ideal S256x256 .bf16) (b : Vec Ideal S1x256x512 .bf16) : k0_pay117 (F := Ideal) a b = k0_pay105 a b := rfl
theorem p118 (a : Vec Ideal S256x256 .bf16) (b : Vec Ideal S1x256x512 .bf16) : k0_pay118 (F := Ideal) a b = k0_pay106 a b := rfl
theorem p120 (a : Vec Ideal S1x1x512 .f32) : k0_pay120 (F := Ideal) a = k0_pay22 a := rfl
theorem p121 (a : Vec Ideal S1x1x512 .f32) (b : Vec Ideal S1x1x512 .f32) : k0_pay121 (F := Ideal) a b = k0_pay23 a b := rfl
theorem p122 (a : Vec Ideal S1x1x512 .f32) (b : Vec Ideal S1x1x512 .f32) : k0_pay122 (F := Ideal) a b = k0_pay24 a b := rfl
theorem p124 (a : Vec Ideal S1x512 .f32) : k0_pay124 (F := Ideal) a = k0_pay30 a := rfl
theorem p126 (a : Vec Ideal S256x256 .bf16) (b : Vec Ideal S1x256x512 .bf16) : k0_pay126 (F := Ideal) a b = k0_pay105 a b := rfl
theorem p129 (a : Vec Ideal S1x1x512 .f32) : k0_pay129 (F := Ideal) a = k0_pay22 a := rfl
theorem p130 (a : Vec Ideal S1x1x512 .f32) (b : Vec Ideal S1x1x512 .f32) : k0_pay130 (F := Ideal) a b = k0_pay23 a b := rfl
theorem p131 (a : Vec Ideal S1x1x512 .f32) (b : Vec Ideal S1x1x512 .f32) : k0_pay131 (F := Ideal) a b = k0_pay24 a b := rfl
theorem p132 (a : Vec Ideal S1x1x512 .f32) (b : Vec Ideal S1x1x512 .f32) (c : Vec Ideal S1x256x512 .f32) : k0_pay132 (F := Ideal) a b c = k0_pay103 a b c := rfl
theorem p133 (a : Vec Ideal S1x1x512 .f32) (b : Vec Ideal S1x1x512 .f32) : k0_pay133 (F := Ideal) a b = k0_pay26 a b := rfl
theorem p134 (a : Vec Ideal S144x256 .bf16) (b : Vec Ideal S1x1x512 .f32) (c : Vec Ideal S1x144x512 .f32) (d : Vec Ideal S1x256x512 .bf16) : k0_pay134 (F := Ideal) a b c d = k0_pay125 a b c d := rfl
theorem p135 (a : Vec Ideal S256x256 .bf16) (b : Vec Ideal S1x256x512 .bf16) : k0_pay135 (F := Ideal) a b = k0_pay105 a b := rfl
theorem p136 (a : Vec Ideal S256x256 .bf16) (b : Vec Ideal S1x256x512 .bf16) : k0_pay136 (F := Ideal) a b = k0_pay106 a b := rfl
theorem p137 (a : Vec Ideal S256x256 .bf16) (b : Vec Ideal S1x256x512 .bf16) : k0_pay137 (F := Ideal) a b = k0_pay119 a b := rfl
theorem p138 (a : Vec Ideal S1x1x512 .f32) : k0_pay138 (F := Ideal) a = k0_pay22 a := rfl
theorem p139 (a : Vec Ideal S1x1x512 .f32) (b : Vec Ideal S1x1x512 .f32) : k0_pay139 (F := Ideal) a b = k0_pay23 a b := rfl
theorem p140 (a : Vec Ideal S1x512 .f32) (b : Vec Ideal S1x512 .f32) : k0_pay140 (F := Ideal) a b = k0_pay62 a b := rfl
theorem p141 (a : Vec Ideal S1x512 .f32) (b : Vec Ideal S1x256x512 .f32) : k0_pay141 (F := Ideal) a b = k0_pay123 a b := rfl
theorem p142 (a : Vec Ideal S1x512 .f32) : k0_pay142 (F := Ideal) a = k0_pay30 a := rfl
theorem p143 (a : Vec Ideal S144x256 .bf16) (b : Vec Ideal S1x1x512 .f32) (c : Vec Ideal S1x144x512 .f32) (d : Vec Ideal S1x256x512 .bf16) : k0_pay143 (F := Ideal) a b c d = k0_pay125 a b c d := rfl
theorem p144 (a : Vec Ideal S256x256 .bf16) (b : Vec Ideal S1x256x512 .bf16) : k0_pay144 (F := Ideal) a b = k0_pay105 a b := rfl
theorem p145 (a : Vec Ideal S256x256 .bf16) (b : Vec Ideal S1x256x512 .bf16) : k0_pay145 (F := Ideal) a b = k0_pay106 a b := rfl
theorem p146 (a : Vec Ideal S256x256 .bf16) (b : Vec Ideal S1x256x512 .bf16) : k0_pay146 (F := Ideal) a b = k0_pay119 a b := rfl
theorem p147 (a : Vec Ideal S1x1x512 .f32) : k0_pay147 (F := Ideal) a = k0_pay22 a := rfl
theorem p148 (a : Vec Ideal S1x1x512 .f32) (b : Vec Ideal S1x1x512 .f32) : k0_pay148 (F := Ideal) a b = k0_pay23 a b := rfl
theorem p149 (a : Vec Ideal S1x1x512 .f32) (b : Vec Ideal S1x1x512 .f32) : k0_pay149 (F := Ideal) a b = k0_pay24 a b := rfl
theorem p150 (a : Vec Ideal S1x1x512 .f32) (b : Vec Ideal S1x1x512 .f32) (c : Vec Ideal S1x256x512 .f32) : k0_pay150 (F := Ideal) a b c = k0_pay103 a b c := rfl
theorem p151 (a : Vec Ideal S1x512 .f32) : k0_pay151 (F := Ideal) a = k0_pay30 a := rfl
theorem p152 (a : Vec Ideal S144x256 .bf16) (b : Vec Ideal S1x1x512 .f32) (c : Vec Ideal S1x144x512 .f32) (d : Vec Ideal S1x256x512 .bf16) : k0_pay152 (F := Ideal) a b c d = k0_pay125 a b c d := rfl
theorem p153 (a : Vec Ideal S256x256 .bf16) (b : Vec Ideal S1x256x512 .bf16) : k0_pay153 (F := Ideal) a b = k0_pay105 a b := rfl
theorem p154 (a : Vec Ideal S256x256 .bf16) (b : Vec Ideal S1x256x512 .bf16) : k0_pay154 (F := Ideal) a b = k0_pay106 a b := rfl
theorem p155 (a : Vec Ideal S256x256 .bf16) (b : Vec Ideal S1x256x512 .bf16) : k0_pay155 (F := Ideal) a b = k0_pay119 a b := rfl
theorem p156 (a : Vec Ideal S1x1x512 .f32) : k0_pay156 (F := Ideal) a = k0_pay22 a := rfl
theorem p157 (a : Vec Ideal S1x1x512 .f32) (b : Vec Ideal S1x1x512 .f32) : k0_pay157 (F := Ideal) a b = k0_pay23 a b := rfl
theorem p158 (a : Vec Ideal S1x1x512 .f32) (b : Vec Ideal S1x1x512 .f32) : k0_pay158 (F := Ideal) a b = k0_pay24 a b := rfl
theorem p159 (a : Vec Ideal S1x1x512 .f32) (b : Vec Ideal S1x1x512 .f32) (c : Vec Ideal S1x256x512 .f32) : k0_pay159 (F := Ideal) a b c = k0_pay103 a b c := rfl
theorem p160 (a : Vec Ideal S1x1x512 .f32) (b : Vec Ideal S1x1x512 .f32) : k0_pay160 (F := Ideal) a b = k0_pay26 a b := rfl
theorem p162 (a : Vec Ideal S144x512 .f32) : k0_pay162 (F := Ideal) a = k0_pay84 a := rfl
theorem p163 (a : Vec Ideal S1x1x512 .f32) : k0_pay163 (F := Ideal) a = k0_pay22 a := rfl
theorem p164 (a : Vec Ideal S1x1x512 .f32) (b : Vec Ideal S1x1x512 .f32) : k0_pay164 (F := Ideal) a b = k0_pay23 a b := rfl
theorem p165 (a : Vec Ideal S1x1x512 .f32) (b : Vec Ideal S1x1x512 .f32) : k0_pay165 (F := Ideal) a b = k0_pay24 a b := rfl
theorem p166 (a : Vec Ideal S1x1x512 .f32) (b : Vec Ideal S1x1x512 .f32) (c : Vec Ideal S1x256x512 .f32) : k0_pay166 (F := Ideal) a b c = k0_pay103 a b c := rfl
theorem p167 (a : Vec Ideal S1x1x512 .f32) (b : Vec Ideal S1x1x512 .f32) : k0_pay167 (F := Ideal) a b = k0_pay26 a b := rfl
theorem p168 (a : Vec Ideal S1x1x512 .f32) : k0_pay168 (F := Ideal) a = k0_pay22 a := rfl
theorem p169 (a : Vec Ideal S1x144x512 .f32) : k0_pay169 (F := Ideal) a = k0_pay37 a := rfl
theorem p170 (a : Vec Ideal S144x256 .bf16) (b : Vec Ideal S1x512 .f32) (c : Vec Ideal S144x512 .f32) (d : Vec Ideal S1x256x512 .bf16) : k0_pay170 (F := Ideal) a b c d = k0_pay116 a b c d := rfl
theorem p171 (a : Vec Ideal S144x256 .bf16) (b : Vec Ideal S1x1x512 .f32) (c : Vec Ideal S1x144x512 .f32) (d : Vec Ideal S1x256x512 .bf16) : k0_pay171 (F := Ideal) a b c d = k0_pay125 a b c d := rfl
theorem p175 (a : Vec Ideal S1x144x512 .f32) : k0_pay175 (F := Ideal) a = k0_pay174 a := rfl
theorem p176 (a : Vec Ideal S1x144x512 .f32) : k0_pay176 (F := Ideal) a = k0_pay174 a := rfl
theorem p177 (a : Vec Ideal S1x144x512 .f32) : k0_pay177 (F := Ideal) a = k0_pay174 a := rfl
theorem p178 (a : Vec Ideal S1x144x512 .f32) : k0_pay178 (F := Ideal) a = k0_pay174 a := rfl
theorem p179 (a : Vec Ideal S1x144x512 .f32) : k0_pay179 (F := Ideal) a = k0_pay174 a := rfl
theorem p2 (a : Vec Ideal S144x4096 .bf16) (b : Vec Ideal S1x512 .f32) (c : Vec Ideal S144x512 .f32) (d : Vec Ideal S1x4096x512 .bf16) : k0_pay2 (F := Ideal) a b c d = k0_pay38 a b c d := rfl
theorem p3 (a : Vec Ideal S144x4096 .bf16) (b : Vec Ideal S1x1x512 .f32) (c : Vec Ideal S1x144x512 .f32) (d : Vec Ideal S1x4096x512 .bf16) : k0_pay3 (F := Ideal) a b c d = k0_pay47 a b c d := rfl

theorem c16 (a : Vec Ideal S1x1x4096x256 .bf16) (b : Vec Ideal S1x256x512 .bf16) : k0_pay16 (F := Ideal) a b = k0_pay27 (k0_pay14 a) b := rfl
theorem c17 (a : Vec Ideal S1x1x4096x256 .bf16) (b : Vec Ideal S1x256x512 .bf16) : k0_pay17 (F := Ideal) a b = k0_pay28 (k0_pay14 a) b := rfl
theorem c18 (a : Vec Ideal S1x1x4096x256 .bf16) (b : Vec Ideal S1x256x512 .bf16) : k0_pay18 (F := Ideal) a b = k0_pay41 (k0_pay14 a) b := rfl
theorem c30a (a b : Vec Ideal S1x1x512 .f32) : k0_pay30 (F := Ideal) (k0_pay23 a b) = k0_pay26 a b := rfl
theorem c30b (k : Vec Ideal S4096x256 .bf16) (q : Vec Ideal S1x256x512 .bf16) : k0_pay30 (F := Ideal) (k0_pay29 k q) = k0_pay41 k q := rfl
theorem c50 (k : Vec Ideal S4096x256 .bf16) (q : Vec Ideal S1x256x512 .bf16) : k0_pay50 (F := Ideal) (k0_pay27 k q) = k0_pay41 k q := rfl
theorem c49 (k : Vec Ideal S4096x256 .bf16) (q : Vec Ideal S1x256x512 .bf16) : k0_pay49 (F := Ideal) (k0_pay27 k q) = k0_pay28 k q := rfl
theorem c62 (a b : Vec Ideal S1x1x512 .f32) : k0_pay62 (F := Ideal) (k0_pay22 a) (k0_pay23 a b) = k0_pay24 a b := rfl
theorem c45 (a b : Vec Ideal S1x1x512 .f32) (c : Vec Ideal S1x4096x512 .f32) : k0_pay45 (F := Ideal) (k0_pay23 a b) c = k0_pay25 a b c := rfl
theorem c38 (v : Vec Ideal S144x4096 .bf16) (a : Vec Ideal S1x1x512 .f32) (c : Vec Ideal S1x144x512 .f32) (p : Vec Ideal S1x4096x512 .bf16) :
    k0_pay38 (F := Ideal) v (k0_pay22 a) (k0_pay37 c) p = k0_pay47 v a c p := rfl
theorem c84 (v : Vec Ideal S144x4096 .bf16) (a : Vec Ideal S1x1x512 .f32) (c : Vec Ideal S1x144x512 .f32) (p : Vec Ideal S1x4096x512 .bf16) :
    k0_pay84 (F := Ideal) (k0_pay83 v a c p) = k0_pay47 v a c p := rfl
theorem c94 (a : Vec Ideal S1x1x256x256 .bf16) (b : Vec Ideal S1x256x512 .bf16) : k0_pay94 (F := Ideal) a b = k0_pay105 (k0_pay92 a) b := rfl
theorem c95 (a : Vec Ideal S1x1x256x256 .bf16) (b : Vec Ideal S1x256x512 .bf16) : k0_pay95 (F := Ideal) a b = k0_pay106 (k0_pay92 a) b := rfl
theorem c96 (a : Vec Ideal S1x1x256x256 .bf16) (b : Vec Ideal S1x256x512 .bf16) : k0_pay96 (F := Ideal) a b = k0_pay119 (k0_pay92 a) b := rfl
theorem c107 (k : Vec Ideal S256x256 .bf16) (q : Vec Ideal S1x256x512 .bf16) : k0_pay30 (F := Ideal) (k0_pay107 k q) = k0_pay119 k q := rfl
theorem c128 (k : Vec Ideal S256x256 .bf16) (q : Vec Ideal S1x256x512 .bf16) : k0_pay128 (F := Ideal) (k0_pay105 k q) = k0_pay119 k q := rfl
theorem c127 (k : Vec Ideal S256x256 .bf16) (q : Vec Ideal S1x256x512 .bf16) : k0_pay127 (F := Ideal) (k0_pay105 k q) = k0_pay106 k q := rfl
theorem c123 (a b : Vec Ideal S1x1x512 .f32) (c : Vec Ideal S1x256x512 .f32) : k0_pay123 (F := Ideal) (k0_pay23 a b) c = k0_pay103 a b c := rfl
theorem c116 (v : Vec Ideal S144x256 .bf16) (a : Vec Ideal S1x1x512 .f32) (c : Vec Ideal S1x144x512 .f32) (p : Vec Ideal S1x256x512 .bf16) :
    k0_pay116 (F := Ideal) v (k0_pay22 a) (k0_pay37 c) p = k0_pay125 v a c p := rfl
theorem c161 (v : Vec Ideal S144x256 .bf16) (a : Vec Ideal S1x1x512 .f32) (c : Vec Ideal S1x144x512 .f32) (p : Vec Ideal S1x256x512 .bf16) :
    k0_pay84 (F := Ideal) (k0_pay161 v a c p) = k0_pay125 v a c p := rfl
theorem c173 (a : Vec Ideal S1x144x512 .f32) : k0_pay173 (F := Ideal) (k0_pay172 a) = k0_pay174 a := rfl
theorem c4 (a : Vec Ideal S1x144x512 .f32) : k0_pay4 (F := Ideal) (k0_pay180 a) = k0_pay174 a := rfl

end Cert.AttendIdeal.Att
-- ==== Proof.Att.Point.lean ====
module
public import proofs.«01_k».proof.Proof.Att.Norm
public import Idealize.ShloMosaic.PureOps.Ideal.Laws
/-! What the terms of one chunk are at an index. -/
@[expose] public section
set_option maxRecDepth 16384
noncomputable section
namespace Cert.AttendIdeal.Att
open Idealize.ShloMosaic Idealize.ShloMosaic.TcCoe Idealize.SL Idealize.SL.Sem
open Cert.AttendIdeal Cert.AttendIdeal.Gen

theorem sc_at (kb : Vec Ideal S1x1x4096x256 .bf16) (q : Vec Ideal S1x256x512 .bf16) (k : Fin 4096) (l : Fin 512) :
    k0_pay28 (F := Ideal) (k0_pay14 kb) q (ix3 0 k l) = ∑ d : Fin 256, kb (ix4 0 0 k d) * q (ix3 0 d l) := by
  pointwise [k0_pay28, k0_pay27, k0_pay14]

theorem m_at (a b : Vec Ideal S1x1x512 .f32) (l : Fin 512) :
    k0_pay26 (F := Ideal) a b (ix3 0 0 l) = max (a (ix3 0 0 l)) (b (ix3 0 0 l)) := by
  pointwise [k0_pay26, k0_pay23, k0_pay22]

theorem al_at (a b : Vec Ideal S1x1x512 .f32) (l : Fin 512) :
    k0_pay24 (F := Ideal) a b (ix3 0 0 l) = Ideal.exp2 (a (ix3 0 0 l) - max (a (ix3 0 0 l)) (b (ix3 0 0 l))) := by
  pointwise [k0_pay24, k0_pay23, k0_pay22]
  rfl

theorem p_at (a b : Vec Ideal S1x1x512 .f32) (s : Vec Ideal S1x4096x512 .f32) (k : Fin 4096) (l : Fin 512) :
    k0_pay25 (F := Ideal) a b s (ix3 0 k l) = Ideal.exp2 (s (ix3 0 k l) - max (a (ix3 0 0 l)) (b (ix3 0 0 l))) := by
  pointwise [k0_pay25, k0_pay23, k0_pay22]
  rfl

theorem acc_at (v : Vec Ideal S1x1x144x4096 .bf16) (al : Vec Ideal S1x1x512 .f32) (acc : Vec Ideal S1x144x512 .f32) (p : Vec Ideal S1x4096x512 .bf16)
    (d : Fin 144) (l : Fin 512) :
    k0_pay47 (F := Ideal) (k0_pay15 v) al acc p (ix3 0 d l)
      = al (ix3 0 0 l) * acc (ix3 0 d l) + ∑ k : Fin 4096, v (ix4 0 0 d k) * p (ix3 0 k l) := by
  pointwise [k0_pay47, k0_pay15]

theorem out_at (a : Vec Ideal S1x144x512 .f32) (l : Fin 512) (d : Fin 128) :
    k0_pay174 (F := Ideal) a (ix3 0 l d) = Ideal.div (a (ix3 0 ⟨d, by omega⟩ l)) (a (ix3 0 128 l)) := by
  pointwise [k0_pay174]

theorem qt_at (a : Vec Ideal S1x1x512x256 .bf16) (d : Fin 256) (l : Fin 512) :
    k0_pay5 (F := Ideal) a (ix3 0 d l) = a (ix4 0 0 l d) := by
  pointwise [k0_pay5]

theorem ofBits_bot : Ideal.ofBits FTy.f32 0xFF800000#32 = ⊥ := by
  simp [Ideal.ofBits, Ideal.ieee]

theorem fill0_at (i : S8x144x512.Idx) : k0_pay1 (F := Ideal) i = 0 := by
  pointwise [k0_pay1]

theorem fillm_at (i : S8x1x512.Idx) : k0_pay13 (F := Ideal) i = ⊥ := by
  pointwise [k0_pay13]
  exact ofBits_bot

theorem sc39_at (kb : Vec Ideal S1x1x4096x256 .bf16) (q : Vec Ideal S1x256x512 .bf16) (i : S4096x512.Idx) :
    k0_pay39 (F := Ideal) (k0_pay14 kb) q i = ∑ d : Fin 256, kb (ix4 0 0 (i 0) d) * q (ix3 0 d (i 1)) := by
  pointwise [k0_pay39, k0_pay14]

theorem mx_at (kb : Vec Ideal S1x1x4096x256 .bf16) (q : Vec Ideal S1x256x512 .bf16) (l : Fin 512) :
    k0_pay41 (F := Ideal) (k0_pay14 kb) q (ix3 0 0 l) = Finset.univ.sup fun k : Fin 4096 => ∑ d : Fin 256, kb (ix4 0 0 k d) * q (ix3 0 d l) := by
  have h : ∀ l : Fin 512, k0_pay41 (F := Ideal) (k0_pay14 kb) q (ix3 0 0 l) =
      multiReduction .maximumf [0] S512 (k0_pay39 (k0_pay14 kb) q) 0xFF800000#32 reduces_S4096x512_S512 (.inl rfl) rfl (ix1 l) := by
    intro l
    pointwise [k0_pay41]
  refine (h l).trans ((Ideal.multiReduction_maximumf_single (a := (0 : Fin S4096x512.rank)) _ _ _ _ _ _).trans ?_)
  rw [show (FloatOps.ofBits FTy.f32 0xFF800000#32 : Ideal FTy.f32) = ⊥ from ofBits_bot]
  refine Finset.sup_congr rfl fun k _ => ?_
  have e0 : (Shape.Reduces.lift reduces_S4096x512_S512 (ix1 l) k : S4096x512.Idx) 0 = k := rfl
  have e1 : (Shape.Reduces.lift reduces_S4096x512_S512 (ix1 l) k : S4096x512.Idx) 1 = l := rfl
  refine (sc39_at kb q _).trans ?_
  rw [e0, e1]

theorem scc_at (kb : Vec Ideal S1x1x256x256 .bf16) (q : Vec Ideal S1x256x512 .bf16) (k : Fin 256) (l : Fin 512) :
    k0_pay106 (F := Ideal) (k0_pay92 kb) q (ix3 0 k l) = ∑ d : Fin 256, kb (ix4 0 0 k d) * q (ix3 0 d l) := by
  pointwise [k0_pay106, k0_pay105, k0_pay92]

theorem pc_at (a b : Vec Ideal S1x1x512 .f32) (s : Vec Ideal S1x256x512 .f32) (k : Fin 256) (l : Fin 512) :
    k0_pay103 (F := Ideal) a b s (ix3 0 k l) = Ideal.exp2 (s (ix3 0 k l) - max (a (ix3 0 0 l)) (b (ix3 0 0 l))) := by
  pointwise [k0_pay103, k0_pay101, k0_pay100]
  rfl

theorem accc_at (v : Vec Ideal S1x1x144x256 .bf16) (al : Vec Ideal S1x1x512 .f32) (acc : Vec Ideal S1x144x512 .f32) (p : Vec Ideal S1x256x512 .bf16)
    (d : Fin 144) (l : Fin 512) :
    k0_pay125 (F := Ideal) (k0_pay93 v) al acc p (ix3 0 d l)
      = al (ix3 0 0 l) * acc (ix3 0 d l) + ∑ k : Fin 256, v (ix4 0 0 d k) * p (ix3 0 k l) := by
  pointwise [k0_pay125, k0_pay93]

theorem sc117_at (kb : Vec Ideal S1x1x256x256 .bf16) (q : Vec Ideal S1x256x512 .bf16) (i : S256x512.Idx) :
    k0_pay117 (F := Ideal) (k0_pay92 kb) q i = ∑ d : Fin 256, kb (ix4 0 0 (i 0) d) * q (ix3 0 d (i 1)) := by
  pointwise [k0_pay117, k0_pay92]

theorem mxc_at (kb : Vec Ideal S1x1x256x256 .bf16) (q : Vec Ideal S1x256x512 .bf16) (l : Fin 512) :
    k0_pay119 (F := Ideal) (k0_pay92 kb) q (ix3 0 0 l) = Finset.univ.sup fun k : Fin 256 => ∑ d : Fin 256, kb (ix4 0 0 k d) * q (ix3 0 d l) := by
  have h : ∀ l : Fin 512, k0_pay119 (F := Ideal) (k0_pay92 kb) q (ix3 0 0 l) =
      multiReduction .maximumf [0] S512 (k0_pay117 (k0_pay92 kb) q) 0xFF800000#32 reduces_S256x512_S512 (.inl rfl) rfl (ix1 l) := by
    intro l
    pointwise [k0_pay119]
  refine (h l).trans ((Ideal.multiReduction_maximumf_single (a := (0 : Fin S256x512.rank)) _ _ _ _ _ _).trans ?_)
  rw [show (FloatOps.ofBits FTy.f32 0xFF800000#32 : Ideal FTy.f32) = ⊥ from ofBits_bot]
  refine Finset.sup_congr rfl fun k _ => ?_
  have e0 : (Shape.Reduces.lift reduces_S256x512_S512 (ix1 l) k : S256x512.Idx) 0 = k := rfl
  have e1 : (Shape.Reduces.lift reduces_S256x512_S512 (ix1 l) k : S256x512.Idx) 1 = l := rfl
  refine (sc117_at kb q _).trans ?_
  rw [e0, e1]

end Cert.AttendIdeal.Att
-- ==== Proof.Att.Case.lean ====
module
public import proofs.«01_k».proof.Proof.Att.Point
/-! What one grid point leaves in the arrays it carries to the next, and in its block of the result. -/
@[expose] public section
set_option maxRecDepth 16384
noncomputable section
namespace Cert.AttendIdeal.Att
open Idealize.ShloMosaic Idealize.ShloMosaic.TcCoe Idealize.SL Idealize.SL.Sem
open Cert.AttendIdeal Cert.AttendIdeal.Gen

variable (m : (ℓ : Loc nD τ sig) → Buf (Elt Ideal) ℓ)

/-- The queries, the running maximum and the accumulator after point `t`. -/
abbrev Q (c : Dev nD) (n : ℕ) (h : n < cfg0.N) : Vec Ideal S8x256x512 .bf16 := (outsAt0 m c n h).2.1
abbrev M (c : Dev nD) (n : ℕ) (h : n < cfg0.N) : Vec Ideal S8x1x512 .f32 := (outsAt0 m c n h).2.2.1
abbrev A (c : Dev nD) (n : ℕ) (h : n < cfg0.N) : Vec Ideal S8x144x512 .f32 := (outsAt0 m c n h).2.2.2

/-- A score of a block of keys against a column of queries. -/
def score {K : ℕ} (kb : (⟨4, ![1, 1, K, 256]⟩ : Shape).Idx → EReal) (q : Fin 256 → EReal) (k : Fin K) : EReal :=
  ∑ d : Fin 256, kb (ix4 0 0 k d) * q d

/-- The running maximum after a block. -/
def mNext {K : ℕ} (kb : (⟨4, ![1, 1, K, 256]⟩ : Shape).Idx → EReal) (q : Fin 256 → EReal) (mx : EReal) : EReal :=
  max mx (Finset.univ.sup (score kb q))

/-- The accumulator after a block. -/
def aNext {K : ℕ} (kb : (⟨4, ![1, 1, K, 256]⟩ : Shape).Idx → EReal) (vb : (⟨4, ![1, 1, 144, K]⟩ : Shape).Idx → EReal) (q : Fin 256 → EReal)
    (mx ac : EReal) (d : Fin 144) : EReal :=
  Ideal.exp2 (mx - mNext kb q mx) * ac + ∑ k : Fin K, vb (ix4 0 0 d k) * Ideal.exp2 (score kb q k - mNext kb q mx)

theorem m_of (kb : Vec Ideal S1x1x4096x256 .bf16) (mo : Vec Ideal S1x1x512 .f32) (qc : Vec Ideal S1x256x512 .bf16) (l : Fin 512)
    (q : Fin 256 → EReal) (mx : EReal) (hq : ∀ d, qc (ix3 0 d l) = q d) (hm : mo (ix3 0 0 l) = mx) :
    k0_pay26 (F := Ideal) mo (k0_pay41 (k0_pay14 kb) qc) (ix3 0 0 l) = mNext (K := 4096) kb q mx := by
  rw [m_at, mx_at, hm]; simp only [hq]; rfl

theorem a_of (kb : Vec Ideal S1x1x4096x256 .bf16) (vb : Vec Ideal S1x1x144x4096 .bf16) (mo : Vec Ideal S1x1x512 .f32) (qc : Vec Ideal S1x256x512 .bf16)
    (ao : Vec Ideal S1x144x512 .f32) (d : Fin 144) (l : Fin 512)
    (q : Fin 256 → EReal) (mx ac : EReal) (hq : ∀ d, qc (ix3 0 d l) = q d) (hm : mo (ix3 0 0 l) = mx) (ha : ao (ix3 0 d l) = ac) :
    k0_pay47 (F := Ideal) (k0_pay15 vb) (k0_pay24 mo (k0_pay41 (k0_pay14 kb) qc)) ao
      (k0_pay25 mo (k0_pay41 (k0_pay14 kb) qc) (k0_pay28 (k0_pay14 kb) qc)) (ix3 0 d l) = aNext (K := 4096) kb vb q mx ac d := by
  rw [acc_at, al_at, mx_at, hm, ha]; simp only [p_at, sc_at, mx_at, hq, hm]; rfl

theorem ac_of (kb : Vec Ideal S1x1x256x256 .bf16) (vb : Vec Ideal S1x1x144x256 .bf16) (mo : Vec Ideal S1x1x512 .f32) (qc : Vec Ideal S1x256x512 .bf16)
    (ao : Vec Ideal S1x144x512 .f32) (d : Fin 144) (l : Fin 512)
    (q : Fin 256 → EReal) (mx ac : EReal) (hq : ∀ d, qc (ix3 0 d l) = q d) (hm : mo (ix3 0 0 l) = mx) (ha : ao (ix3 0 d l) = ac) :
    k0_pay125 (F := Ideal) (k0_pay93 vb) (k0_pay24 mo (k0_pay119 (k0_pay92 kb) qc)) ao
      (k0_pay103 mo (k0_pay119 (k0_pay92 kb) qc) (k0_pay106 (k0_pay92 kb) qc)) (ix3 0 d l) = aNext (K := 256) kb vb q mx ac d := by
  rw [accc_at, al_at, mxc_at, hm, ha]; simp only [pc_at, scc_at, mxc_at, hq, hm]; rfl

theorem o_of (kb : Vec Ideal S1x1x256x256 .bf16) (vb : Vec Ideal S1x1x144x256 .bf16) (mo : Vec Ideal S1x1x512 .f32) (qc : Vec Ideal S1x256x512 .bf16)
    (ao : Vec Ideal S1x144x512 .f32) (d : Fin 128) (l : Fin 512)
    (q : Fin 256 → EReal) (mx : EReal) (ac : Fin 144 → EReal) (hq : ∀ d, qc (ix3 0 d l) = q d) (hm : mo (ix3 0 0 l) = mx) (ha : ∀ d, ao (ix3 0 d l) = ac d) :
    k0_pay174 (F := Ideal) (k0_pay125 (k0_pay93 vb) (k0_pay24 mo (k0_pay119 (k0_pay92 kb) qc)) ao
      (k0_pay103 mo (k0_pay119 (k0_pay92 kb) qc) (k0_pay106 (k0_pay92 kb) qc))) (ix3 0 l d)
      = Ideal.div (aNext (K := 256) kb vb q mx (ac ⟨d, by omega⟩) ⟨d, by omega⟩) (aNext (K := 256) kb vb q mx (ac 128) 128) := by
  rw [out_at, ac_of kb vb mo qc ao _ l q mx _ hq hm (ha _), ac_of kb vb mo qc ao _ l q mx _ hq hm (ha _)]

theorem q_ld (X : Vec Ideal S1x1x4096x256 .bf16) (r0 : ℕ) (h) (d : Fin 256) (l : Fin 512) (hr : r0 + l < 4096) :
    k0_pay5 (F := Ideal) (View.ld X (Rect.unit (s := S1x1x4096x256) ![0, 0, r0, 0] ![1, 1, 512, 256] h)) (ix3 0 d l) = X (ix4 0 0 ⟨r0 + l, hr⟩ d) := by
  rw [qt_at]
  show X _ = X _
  congr 1
  funext a
  apply Fin.ext
  fin_cases a
  · rfl
  · rfl
  · show r0 + 1 * (l : ℕ) = r0 + l; omega
  · show 0 + 1 * (d : ℕ) = d; omega

theorem cov8 (n : Fin 8) (h0 : (n : ℕ) ≠ 0) (h1 : (n : ℕ) ≠ 1) (h2 : (n : ℕ) ≠ 2) (h3 : (n : ℕ) ≠ 3) (h4 : (n : ℕ) ≠ 4) (h5 : (n : ℕ) ≠ 5) (h6 : (n : ℕ) ≠ 6) (h7 : (n : ℕ) ≠ 7) : False := by
  omega

theorem qA (c : Dev nD) (t : Fin cfg0.N) (h0 : t.val % 5 = 0) (h1 : t.val % 5 ≤ 3) (h2 : ¬t.val % 5 = 4) (n : Fin 8) (d : Fin 256) (l : Fin 512) :
    Q m c t.val t.isLt (ix3 n d l) = (show Vec Ideal S1x1x4096x256 .bf16 from iblk m c 0 t) (ix4 0 0 ⟨512 * n + l, by omega⟩ d) := by
  unfold Q
  rw [outsAt0_A m c t h0 h1 h2]
  frame_out

  simp only [p6, p7, p8, p9, p10, p11, p12, p19, p20, p21, p31, p32, p33, p34, p35, p36, p39, p40, p42, p43, p44, p46, p48, p51, p52, p53, p54, p55, p56, p57, p58, p59, p60, p61, p63, p64, p65, p66, p67, p68, p69, p70, p71, p72, p73, p74, p75, p76, p77, p78, p79, p80, p81, p82, p85, p86, p87, p88, p89, p90, p91, p97, p98, p99, p100, p101, p102, p104, p108, p109, p110, p111, p112, p113, p114, p115, p117, p118, p120, p121, p122, p124, p126, p129, p130, p131, p132, p133, p134, p135, p136, p137, p138, p139, p140, p141, p142, p143, p144, p145, p146, p147, p148, p149, p150, p151, p152, p153, p154, p155, p156, p157, p158, p159, p160, p162, p163, p164, p165, p166, p167, p168, p169, p170, p171, p175, p176, p177, p178, p179, p2, p3, c16, c17, c18, c30a, c30b, c50, c49, c62, c45, c38, c84, c94, c95, c96, c107, c128, c127, c123, c116, c161, c173, c4]
  refine slab_cons 7 (by decide) _ _ _ n _ l _ (fun e => ?_) fun h7' => ?_
  · subst e; exact q_ld _ 3584 _ d l (by have := l.isLt; omega)
  refine slab_cons 6 (by decide) _ _ _ n _ l _ (fun e => ?_) fun h6' => ?_
  · subst e; exact q_ld _ 3072 _ d l (by have := l.isLt; omega)
  refine slab_cons 5 (by decide) _ _ _ n _ l _ (fun e => ?_) fun h5' => ?_
  · subst e; exact q_ld _ 2560 _ d l (by have := l.isLt; omega)
  refine slab_cons 4 (by decide) _ _ _ n _ l _ (fun e => ?_) fun h4' => ?_
  · subst e; exact q_ld _ 2048 _ d l (by have := l.isLt; omega)
  refine slab_cons 3 (by decide) _ _ _ n _ l _ (fun e => ?_) fun h3' => ?_
  · subst e; exact q_ld _ 1536 _ d l (by have := l.isLt; omega)
  refine slab_cons 2 (by decide) _ _ _ n _ l _ (fun e => ?_) fun h2' => ?_
  · subst e; exact q_ld _ 1024 _ d l (by have := l.isLt; omega)
  refine slab_cons 1 (by decide) _ _ _ n _ l _ (fun e => ?_) fun h1' => ?_
  · subst e; exact q_ld _ 512 _ d l (by have := l.isLt; omega)
  refine slab_cons 0 (by decide) _ _ _ n _ l _ (fun e => ?_) fun h0' => ?_
  · subst e; exact q_ld _ 0 _ d l (by have := l.isLt; omega)
  exact (cov8 n ‹_› ‹_› ‹_› ‹_› ‹_› ‹_› ‹_› ‹_›).elim

theorem mA (c : Dev nD) (t : Fin cfg0.N) (h0 : t.val % 5 = 0) (h1 : t.val % 5 ≤ 3) (h2 : ¬t.val % 5 = 4) (n : Fin 8) (l : Fin 512) :
    M m c t.val t.isLt (ix3 n 0 l) = mNext (K := 4096) (iblk m c 1 t) (fun d => (show Vec Ideal S1x1x4096x256 .bf16 from iblk m c 0 t) (ix4 0 0 ⟨512 * n + l, by omega⟩ d)) ⊥ := by
  unfold M
  rw [outsAt0_A m c t h0 h1 h2]
  frame_out
  simp (disch := decide) only [View.readCov_cons_toLoadRect, slab_skip, slab_whole, read_unread_whole]
  simp only [p6, p7, p8, p9, p10, p11, p12, p19, p20, p21, p31, p32, p33, p34, p35, p36, p39, p40, p42, p43, p44, p46, p48, p51, p52, p53, p54, p55, p56, p57, p58, p59, p60, p61, p63, p64, p65, p66, p67, p68, p69, p70, p71, p72, p73, p74, p75, p76, p77, p78, p79, p80, p81, p82, p85, p86, p87, p88, p89, p90, p91, p97, p98, p99, p100, p101, p102, p104, p108, p109, p110, p111, p112, p113, p114, p115, p117, p118, p120, p121, p122, p124, p126, p129, p130, p131, p132, p133, p134, p135, p136, p137, p138, p139, p140, p141, p142, p143, p144, p145, p146, p147, p148, p149, p150, p151, p152, p153, p154, p155, p156, p157, p158, p159, p160, p162, p163, p164, p165, p166, p167, p168, p169, p170, p171, p175, p176, p177, p178, p179, p2, p3, c16, c17, c18, c30a, c30b, c50, c49, c62, c45, c38, c84, c94, c95, c96, c107, c128, c127, c123, c116, c161, c173, c4]
  refine slab_cons 7 (by decide) _ _ _ n _ l _ (fun e => ?_) fun h7' => ?_
  · subst e; exact m_of _ _ _ l _ _ (fun d => q_ld _ 3584 _ d l (by have := l.isLt; omega)) (by rw [slab_ld _ 7 (by decide), fillm_at])
  refine slab_cons 6 (by decide) _ _ _ n _ l _ (fun e => ?_) fun h6' => ?_
  · subst e; exact m_of _ _ _ l _ _ (fun d => q_ld _ 3072 _ d l (by have := l.isLt; omega)) (by rw [slab_ld _ 6 (by decide), fillm_at])
  refine slab_cons 5 (by decide) _ _ _ n _ l _ (fun e => ?_) fun h5' => ?_
  · subst e; exact m_of _ _ _ l _ _ (fun d => q_ld _ 2560 _ d l (by have := l.isLt; omega)) (by rw [slab_ld _ 5 (by decide), fillm_at])
  refine slab_cons 4 (by decide) _ _ _ n _ l _ (fun e => ?_) fun h4' => ?_
  · subst e; exact m_of _ _ _ l _ _ (fun d => q_ld _ 2048 _ d l (by have := l.isLt; omega)) (by rw [slab_ld _ 4 (by decide), fillm_at])
  refine slab_cons 3 (by decide) _ _ _ n _ l _ (fun e => ?_) fun h3' => ?_
  · subst e; exact m_of _ _ _ l _ _ (fun d => q_ld _ 1536 _ d l (by have := l.isLt; omega)) (by rw [slab_ld _ 3 (by decide), fillm_at])
  refine slab_cons 2 (by decide) _ _ _ n _ l _ (fun e => ?_) fun h2' => ?_
  · subst e; exact m_of _ _ _ l _ _ (fun d => q_ld _ 1024 _ d l (by have := l.isLt; omega)) (by rw [slab_ld _ 2 (by decide), fillm_at])
  refine slab_cons 1 (by decide) _ _ _ n _ l _ (fun e => ?_) fun h1' => ?_
  · subst e; exact m_of _ _ _ l _ _ (fun d => q_ld _ 512 _ d l (by have := l.isLt; omega)) (by rw [slab_ld _ 1 (by decide), fillm_at])
  refine slab_cons 0 (by decide) _ _ _ n _ l _ (fun e => ?_) fun h0' => ?_
  · subst e; exact m_of _ _ _ l _ _ (fun d => q_ld _ 0 _ d l (by have := l.isLt; omega)) (by rw [slab_ld _ 0 (by decide), fillm_at])
  exact (cov8 n ‹_› ‹_› ‹_› ‹_› ‹_› ‹_› ‹_› ‹_›).elim

theorem aA (c : Dev nD) (t : Fin cfg0.N) (h0 : t.val % 5 = 0) (h1 : t.val % 5 ≤ 3) (h2 : ¬t.val % 5 = 4) (n : Fin 8) (d : Fin 144) (l : Fin 512) :
    A m c t.val t.isLt (ix3 n d l) = aNext (K := 4096) (iblk m c 1 t) (iblk m c 2 t) (fun d => (show Vec Ideal S1x1x4096x256 .bf16 from iblk m c 0 t) (ix4 0 0 ⟨512 * n + l, by omega⟩ d)) ⊥ 0 d := by
  unfold A
  rw [outsAt0_A m c t h0 h1 h2]
  frame_out
  simp (disch := decide) only [View.readCov_cons_toLoadRect, slab_skip, slab_whole, read_unread_whole]
  simp only [p6, p7, p8, p9, p10, p11, p12, p19, p20, p21, p31, p32, p33, p34, p35, p36, p39, p40, p42, p43, p44, p46, p48, p51, p52, p53, p54, p55, p56, p57, p58, p59, p60, p61, p63, p64, p65, p66, p67, p68, p69, p70, p71, p72, p73, p74, p75, p76, p77, p78, p79, p80, p81, p82, p85, p86, p87, p88, p89, p90, p91, p97, p98, p99, p100, p101, p102, p104, p108, p109, p110, p111, p112, p113, p114, p115, p117, p118, p120, p121, p122, p124, p126, p129, p130, p131, p132, p133, p134, p135, p136, p137, p138, p139, p140, p141, p142, p143, p144, p145, p146, p147, p148, p149, p150, p151, p152, p153, p154, p155, p156, p157, p158, p159, p160, p162, p163, p164, p165, p166, p167, p168, p169, p170, p171, p175, p176, p177, p178, p179, p2, p3, c16, c17, c18, c30a, c30b, c50, c49, c62, c45, c38, c84, c94, c95, c96, c107, c128, c127, c123, c116, c161, c173, c4]
  refine slab_cons 7 (by decide) _ _ _ n _ l _ (fun e => ?_) fun h7' => ?_
  · subst e; exact a_of _ _ _ _ _ d l _ _ _ (fun d => q_ld _ 3584 _ d l (by have := l.isLt; omega)) (by rw [slab_ld _ 7 (by decide), fillm_at]) (by rw [slab_ld _ 7 (by decide), fill0_at])
  refine slab_cons 6 (by decide) _ _ _ n _ l _ (fun e => ?_) fun h6' => ?_
  · subst e; exact a_of _ _ _ _ _ d l _ _ _ (fun d => q_ld _ 3072 _ d l (by have := l.isLt; omega)) (by rw [slab_ld _ 6 (by decide), fillm_at]) (by rw [slab_ld _ 6 (by decide), fill0_at])
  refine slab_cons 5 (by decide) _ _ _ n _ l _ (fun e => ?_) fun h5' => ?_
  · subst e; exact a_of _ _ _ _ _ d l _ _ _ (fun d => q_ld _ 2560 _ d l (by have := l.isLt; omega)) (by rw [slab_ld _ 5 (by decide), fillm_at]) (by rw [slab_ld _ 5 (by decide), fill0_at])
  refine slab_cons 4 (by decide) _ _ _ n _ l _ (fun e => ?_) fun h4' => ?_
  · subst e; exact a_of _ _ _ _ _ d l _ _ _ (fun d => q_ld _ 2048 _ d l (by have := l.isLt; omega)) (by rw [slab_ld _ 4 (by decide), fillm_at]) (by rw [slab_ld _ 4 (by decide), fill0_at])
  refine slab_cons 3 (by decide) _ _ _ n _ l _ (fun e => ?_) fun h3' => ?_
  · subst e; exact a_of _ _ _ _ _ d l _ _ _ (fun d => q_ld _ 1536 _ d l (by have := l.isLt; omega)) (by rw [slab_ld _ 3 (by decide), fillm_at]) (by rw [slab_ld _ 3 (by decide), fill0_at])
  refine slab_cons 2 (by decide) _ _ _ n _ l _ (fun e => ?_) fun h2' => ?_
  · subst e; exact a_of _ _ _ _ _ d l _ _ _ (fun d => q_ld _ 1024 _ d l (by have := l.isLt; omega)) (by rw [slab_ld _ 2 (by decide), fillm_at]) (by rw [slab_ld _ 2 (by decide), fill0_at])
  refine slab_cons 1 (by decide) _ _ _ n _ l _ (fun e => ?_) fun h1' => ?_
  · subst e; exact a_of _ _ _ _ _ d l _ _ _ (fun d => q_ld _ 512 _ d l (by have := l.isLt; omega)) (by rw [slab_ld _ 1 (by decide), fillm_at]) (by rw [slab_ld _ 1 (by decide), fill0_at])
  refine slab_cons 0 (by decide) _ _ _ n _ l _ (fun e => ?_) fun h0' => ?_
  · subst e; exact a_of _ _ _ _ _ d l _ _ _ (fun d => q_ld _ 0 _ d l (by have := l.isLt; omega)) (by rw [slab_ld _ 0 (by decide), fillm_at]) (by rw [slab_ld _ 0 (by decide), fill0_at])
  exact (cov8 n ‹_› ‹_› ‹_› ‹_› ‹_› ‹_› ‹_› ‹_›).elim

theorem qB (c : Dev nD) (t : Fin cfg0.N) (h0 : ¬t.val % 5 = 0) (h1 : t.val % 5 ≤ 3) (h2 : ¬t.val % 5 = 4) :
    Q m c t.val t.isLt = (outsAt0 m c (t.val - 1) (lt_of_le_of_lt (Nat.sub_le _ _) t.isLt)).2.1 := by
  unfold Q
  rw [outsAt0_B m c t h0 h1 h2]
  simp only [sout0_B_0]

theorem mB (c : Dev nD) (t : Fin cfg0.N) (h0 : ¬t.val % 5 = 0) (h1 : t.val % 5 ≤ 3) (h2 : ¬t.val % 5 = 4) (n : Fin 8) (l : Fin 512) :
    M m c t.val t.isLt (ix3 n 0 l) = mNext (K := 4096) (iblk m c 1 t) (fun d => (outsAt0 m c (t.val - 1) (lt_of_le_of_lt (Nat.sub_le _ _) t.isLt)).2.1 (ix3 n d l)) ((outsAt0 m c (t.val - 1) (lt_of_le_of_lt (Nat.sub_le _ _) t.isLt)).2.2.1 (ix3 n 0 l)) := by
  unfold M
  rw [outsAt0_B m c t h0 h1 h2]
  frame_out
  simp (disch := decide) only [View.readCov_cons_toLoadRect, slab_skip, slab_whole, read_unread_whole]
  simp only [p6, p7, p8, p9, p10, p11, p12, p19, p20, p21, p31, p32, p33, p34, p35, p36, p39, p40, p42, p43, p44, p46, p48, p51, p52, p53, p54, p55, p56, p57, p58, p59, p60, p61, p63, p64, p65, p66, p67, p68, p69, p70, p71, p72, p73, p74, p75, p76, p77, p78, p79, p80, p81, p82, p85, p86, p87, p88, p89, p90, p91, p97, p98, p99, p100, p101, p102, p104, p108, p109, p110, p111, p112, p113, p114, p115, p117, p118, p120, p121, p122, p124, p126, p129, p130, p131, p132, p133, p134, p135, p136, p137, p138, p139, p140, p141, p142, p143, p144, p145, p146, p147, p148, p149, p150, p151, p152, p153, p154, p155, p156, p157, p158, p159, p160, p162, p163, p164, p165, p166, p167, p168, p169, p170, p171, p175, p176, p177, p178, p179, p2, p3, c16, c17, c18, c30a, c30b, c50, c49, c62, c45, c38, c84, c94, c95, c96, c107, c128, c127, c123, c116, c161, c173, c4]
  refine slab_cons 7 (by decide) _ _ _ n _ l _ (fun e => ?_) fun h7' => ?_
  · subst e; exact m_of _ _ _ l _ _ (fun d => slab_ld _ 7 (by decide) _ d l) (slab_ld _ 7 (by decide) _ 0 l)
  refine slab_cons 6 (by decide) _ _ _ n _ l _ (fun e => ?_) fun h6' => ?_
  · subst e; exact m_of _ _ _ l _ _ (fun d => slab_ld _ 6 (by decide) _ d l) (slab_ld _ 6 (by decide) _ 0 l)
  refine slab_cons 5 (by decide) _ _ _ n _ l _ (fun e => ?_) fun h5' => ?_
  · subst e; exact m_of _ _ _ l _ _ (fun d => slab_ld _ 5 (by decide) _ d l) (slab_ld _ 5 (by decide) _ 0 l)
  refine slab_cons 4 (by decide) _ _ _ n _ l _ (fun e => ?_) fun h4' => ?_
  · subst e; exact m_of _ _ _ l _ _ (fun d => slab_ld _ 4 (by decide) _ d l) (slab_ld _ 4 (by decide) _ 0 l)
  refine slab_cons 3 (by decide) _ _ _ n _ l _ (fun e => ?_) fun h3' => ?_
  · subst e; exact m_of _ _ _ l _ _ (fun d => slab_ld _ 3 (by decide) _ d l) (slab_ld _ 3 (by decide) _ 0 l)
  refine slab_cons 2 (by decide) _ _ _ n _ l _ (fun e => ?_) fun h2' => ?_
  · subst e; exact m_of _ _ _ l _ _ (fun d => slab_ld _ 2 (by decide) _ d l) (slab_ld _ 2 (by decide) _ 0 l)
  refine slab_cons 1 (by decide) _ _ _ n _ l _ (fun e => ?_) fun h1' => ?_
  · subst e; exact m_of _ _ _ l _ _ (fun d => slab_ld _ 1 (by decide) _ d l) (slab_ld _ 1 (by decide) _ 0 l)
  refine slab_cons 0 (by decide) _ _ _ n _ l _ (fun e => ?_) fun h0' => ?_
  · subst e; exact m_of _ _ _ l _ _ (fun d => slab_ld _ 0 (by decide) _ d l) (slab_ld _ 0 (by decide) _ 0 l)
  exact (cov8 n ‹_› ‹_› ‹_› ‹_› ‹_› ‹_› ‹_› ‹_›).elim

theorem aB (c : Dev nD) (t : Fin cfg0.N) (h0 : ¬t.val % 5 = 0) (h1 : t.val % 5 ≤ 3) (h2 : ¬t.val % 5 = 4) (n : Fin 8) (d : Fin 144) (l : Fin 512) :
    A m c t.val t.isLt (ix3 n d l) = aNext (K := 4096) (iblk m c 1 t) (iblk m c 2 t) (fun d => (outsAt0 m c (t.val - 1) (lt_of_le_of_lt (Nat.sub_le _ _) t.isLt)).2.1 (ix3 n d l)) ((outsAt0 m c (t.val - 1) (lt_of_le_of_lt (Nat.sub_le _ _) t.isLt)).2.2.1 (ix3 n 0 l)) ((outsAt0 m c (t.val - 1) (lt_of_le_of_lt (Nat.sub_le _ _) t.isLt)).2.2.2 (ix3 n d l)) d := by
  unfold A
  rw [outsAt0_B m c t h0 h1 h2]
  frame_out
  simp (disch := decide) only [View.readCov_cons_toLoadRect, slab_skip, slab_whole, read_unread_whole]
  simp only [p6, p7, p8, p9, p10, p11, p12, p19, p20, p21, p31, p32, p33, p34, p35, p36, p39, p40, p42, p43, p44, p46, p48, p51, p52, p53, p54, p55, p56, p57, p58, p59, p60, p61, p63, p64, p65, p66, p67, p68, p69, p70, p71, p72, p73, p74, p75, p76, p77, p78, p79, p80, p81, p82, p85, p86, p87, p88, p89, p90, p91, p97, p98, p99, p100, p101, p102, p104, p108, p109, p110, p111, p112, p113, p114, p115, p117, p118, p120, p121, p122, p124, p126, p129, p130, p131, p132, p133, p134, p135, p136, p137, p138, p139, p140, p141, p142, p143, p144, p145, p146, p147, p148, p149, p150, p151, p152, p153, p154, p155, p156, p157, p158, p159, p160, p162, p163, p164, p165, p166, p167, p168, p169, p170, p171, p175, p176, p177, p178, p179, p2, p3, c16, c17, c18, c30a, c30b, c50, c49, c62, c45, c38, c84, c94, c95, c96, c107, c128, c127, c123, c116, c161, c173, c4]
  refine slab_cons 7 (by decide) _ _ _ n _ l _ (fun e => ?_) fun h7' => ?_
  · subst e; exact a_of _ _ _ _ _ d l _ _ _ (fun d => slab_ld _ 7 (by decide) _ d l) (slab_ld _ 7 (by decide) _ 0 l) (slab_ld _ 7 (by decide) _ d l)
  refine slab_cons 6 (by decide) _ _ _ n _ l _ (fun e => ?_) fun h6' => ?_
  · subst e; exact a_of _ _ _ _ _ d l _ _ _ (fun d => slab_ld _ 6 (by decide) _ d l) (slab_ld _ 6 (by decide) _ 0 l) (slab_ld _ 6 (by decide) _ d l)
  refine slab_cons 5 (by decide) _ _ _ n _ l _ (fun e => ?_) fun h5' => ?_
  · subst e; exact a_of _ _ _ _ _ d l _ _ _ (fun d => slab_ld _ 5 (by decide) _ d l) (slab_ld _ 5 (by decide) _ 0 l) (slab_ld _ 5 (by decide) _ d l)
  refine slab_cons 4 (by decide) _ _ _ n _ l _ (fun e => ?_) fun h4' => ?_
  · subst e; exact a_of _ _ _ _ _ d l _ _ _ (fun d => slab_ld _ 4 (by decide) _ d l) (slab_ld _ 4 (by decide) _ 0 l) (slab_ld _ 4 (by decide) _ d l)
  refine slab_cons 3 (by decide) _ _ _ n _ l _ (fun e => ?_) fun h3' => ?_
  · subst e; exact a_of _ _ _ _ _ d l _ _ _ (fun d => slab_ld _ 3 (by decide) _ d l) (slab_ld _ 3 (by decide) _ 0 l) (slab_ld _ 3 (by decide) _ d l)
  refine slab_cons 2 (by decide) _ _ _ n _ l _ (fun e => ?_) fun h2' => ?_
  · subst e; exact a_of _ _ _ _ _ d l _ _ _ (fun d => slab_ld _ 2 (by decide) _ d l) (slab_ld _ 2 (by decide) _ 0 l) (slab_ld _ 2 (by decide) _ d l)
  refine slab_cons 1 (by decide) _ _ _ n _ l _ (fun e => ?_) fun h1' => ?_
  · subst e; exact a_of _ _ _ _ _ d l _ _ _ (fun d => slab_ld _ 1 (by decide) _ d l) (slab_ld _ 1 (by decide) _ 0 l) (slab_ld _ 1 (by decide) _ d l)
  refine slab_cons 0 (by decide) _ _ _ n _ l _ (fun e => ?_) fun h0' => ?_
  · subst e; exact a_of _ _ _ _ _ d l _ _ _ (fun d => slab_ld _ 0 (by decide) _ d l) (slab_ld _ 0 (by decide) _ 0 l) (slab_ld _ 0 (by decide) _ d l)
  exact (cov8 n ‹_› ‹_› ‹_› ‹_› ‹_› ‹_› ‹_› ‹_›).elim

theorem oC (c : Dev nD) (t : Fin cfg0.N) (h0 : ¬t.val % 5 = 0) (h1 : ¬t.val % 5 ≤ 3) (h2 : t.val % 5 = 4) (n : Fin 8) (l : Fin 512) (d : Fin 128) (r : Fin 4096) (hr : (r : ℕ) = 512 * n + l) :
    (outsAt0 m c t.val t.isLt).1 (ix3 0 r d) = Ideal.div
      (aNext (K := 256) (iblk m c 3 t) (iblk m c 4 t) (fun d => (outsAt0 m c (t.val - 1) (lt_of_le_of_lt (Nat.sub_le _ _) t.isLt)).2.1 (ix3 n d l)) ((outsAt0 m c (t.val - 1) (lt_of_le_of_lt (Nat.sub_le _ _) t.isLt)).2.2.1 (ix3 n 0 l)) ((outsAt0 m c (t.val - 1) (lt_of_le_of_lt (Nat.sub_le _ _) t.isLt)).2.2.2 (ix3 n ⟨d, by omega⟩ l)) ⟨d, by omega⟩)
      (aNext (K := 256) (iblk m c 3 t) (iblk m c 4 t) (fun d => (outsAt0 m c (t.val - 1) (lt_of_le_of_lt (Nat.sub_le _ _) t.isLt)).2.1 (ix3 n d l)) ((outsAt0 m c (t.val - 1) (lt_of_le_of_lt (Nat.sub_le _ _) t.isLt)).2.2.1 (ix3 n 0 l)) ((outsAt0 m c (t.val - 1) (lt_of_le_of_lt (Nat.sub_le _ _) t.isLt)).2.2.2 (ix3 n 128 l)) 128) := by
  rw [outsAt0_C m c t h0 h1 h2]
  frame_out
  simp (disch := decide) only [View.readCov_cons_toLoadRect, slab_skip, slab_whole, read_unread_whole]
  simp only [p6, p7, p8, p9, p10, p11, p12, p19, p20, p21, p31, p32, p33, p34, p35, p36, p39, p40, p42, p43, p44, p46, p48, p51, p52, p53, p54, p55, p56, p57, p58, p59, p60, p61, p63, p64, p65, p66, p67, p68, p69, p70, p71, p72, p73, p74, p75, p76, p77, p78, p79, p80, p81, p82, p85, p86, p87, p88, p89, p90, p91, p97, p98, p99, p100, p101, p102, p104, p108, p109, p110, p111, p112, p113, p114, p115, p117, p118, p120, p121, p122, p124, p126, p129, p130, p131, p132, p133, p134, p135, p136, p137, p138, p139, p140, p141, p142, p143, p144, p145, p146, p147, p148, p149, p150, p151, p152, p153, p154, p155, p156, p157, p158, p159, p160, p162, p163, p164, p165, p166, p167, p168, p169, p170, p171, p175, p176, p177, p178, p179, p2, p3, c16, c17, c18, c30a, c30b, c50, c49, c62, c45, c38, c84, c94, c95, c96, c107, c128, c127, c123, c116, c161, c173, c4]
  refine rows_cons 3584 512 _ _ _ r d _ (fun x e => ?_) fun h7' => ?_
  · obtain rfl : n = 7 := by apply Fin.ext; show (n : ℕ) = 7; omega
    obtain rfl : l = x := by apply Fin.ext; have : ((7 : Fin 8) : ℕ) = 7 := rfl; omega
    exact o_of _ _ _ _ _ d l _ _ (fun d => (outsAt0 m c (t.val - 1) (lt_of_le_of_lt (Nat.sub_le _ _) t.isLt)).2.2.2 (ix3 7 d l)) (fun d => slab_ld _ 7 (by decide) _ d l) (slab_ld _ 7 (by decide) _ 0 l) (fun d => slab_ld _ 7 (by decide) _ d l)
  refine rows_cons 3072 512 _ _ _ r d _ (fun x e => ?_) fun h6' => ?_
  · obtain rfl : n = 6 := by apply Fin.ext; show (n : ℕ) = 6; omega
    obtain rfl : l = x := by apply Fin.ext; have : ((6 : Fin 8) : ℕ) = 6 := rfl; omega
    exact o_of _ _ _ _ _ d l _ _ (fun d => (outsAt0 m c (t.val - 1) (lt_of_le_of_lt (Nat.sub_le _ _) t.isLt)).2.2.2 (ix3 6 d l)) (fun d => slab_ld _ 6 (by decide) _ d l) (slab_ld _ 6 (by decide) _ 0 l) (fun d => slab_ld _ 6 (by decide) _ d l)
  refine rows_cons 2560 512 _ _ _ r d _ (fun x e => ?_) fun h5' => ?_
  · obtain rfl : n = 5 := by apply Fin.ext; show (n : ℕ) = 5; omega
    obtain rfl : l = x := by apply Fin.ext; have : ((5 : Fin 8) : ℕ) = 5 := rfl; omega
    exact o_of _ _ _ _ _ d l _ _ (fun d => (outsAt0 m c (t.val - 1) (lt_of_le_of_lt (Nat.sub_le _ _) t.isLt)).2.2.2 (ix3 5 d l)) (fun d => slab_ld _ 5 (by decide) _ d l) (slab_ld _ 5 (by decide) _ 0 l) (fun d => slab_ld _ 5 (by decide) _ d l)
  refine rows_cons 2048 512 _ _ _ r d _ (fun x e => ?_) fun h4' => ?_
  · obtain rfl : n = 4 := by apply Fin.ext; show (n : ℕ) = 4; omega
    obtain rfl : l = x := by apply Fin.ext; have : ((4 : Fin 8) : ℕ) = 4 := rfl; omega
    exact o_of _ _ _ _ _ d l _ _ (fun d => (outsAt0 m c (t.val - 1) (lt_of_le_of_lt (Nat.sub_le _ _) t.isLt)).2.2.2 (ix3 4 d l)) (fun d => slab_ld _ 4 (by decide) _ d l) (slab_ld _ 4 (by decide) _ 0 l) (fun d => slab_ld _ 4 (by decide) _ d l)
  refine rows_cons 1536 512 _ _ _ r d _ (fun x e => ?_) fun h3' => ?_
  · obtain rfl : n = 3 := by apply Fin.ext; show (n : ℕ) = 3; omega
    obtain rfl : l = x := by apply Fin.ext; have : ((3 : Fin 8) : ℕ) = 3 := rfl; omega
    exact o_of _ _ _ _ _ d l _ _ (fun d => (outsAt0 m c (t.val - 1) (lt_of_le_of_lt (Nat.sub_le _ _) t.isLt)).2.2.2 (ix3 3 d l)) (fun d => slab_ld _ 3 (by decide) _ d l) (slab_ld _ 3 (by decide) _ 0 l) (fun d => slab_ld _ 3 (by decide) _ d l)
  refine rows_cons 1024 512 _ _ _ r d _ (fun x e => ?_) fun h2' => ?_
  · obtain rfl : n = 2 := by apply Fin.ext; show (n : ℕ) = 2; omega
    obtain rfl : l = x := by apply Fin.ext; have : ((2 : Fin 8) : ℕ) = 2 := rfl; omega
    exact o_of _ _ _ _ _ d l _ _ (fun d => (outsAt0 m c (t.val - 1) (lt_of_le_of_lt (Nat.sub_le _ _) t.isLt)).2.2.2 (ix3 2 d l)) (fun d => slab_ld _ 2 (by decide) _ d l) (slab_ld _ 2 (by decide) _ 0 l) (fun d => slab_ld _ 2 (by decide) _ d l)
  refine rows_cons 512 512 _ _ _ r d _ (fun x e => ?_) fun h1' => ?_
  · obtain rfl : n = 1 := by apply Fin.ext; show (n : ℕ) = 1; omega
    obtain rfl : l = x := by apply Fin.ext; have : ((1 : Fin 8) : ℕ) = 1 := rfl; omega
    exact o_of _ _ _ _ _ d l _ _ (fun d => (outsAt0 m c (t.val - 1) (lt_of_le_of_lt (Nat.sub_le _ _) t.isLt)).2.2.2 (ix3 1 d l)) (fun d => slab_ld _ 1 (by decide) _ d l) (slab_ld _ 1 (by decide) _ 0 l) (fun d => slab_ld _ 1 (by decide) _ d l)
  refine rows_cons 0 512 _ _ _ r d _ (fun x e => ?_) fun h0' => ?_
  · obtain rfl : n = 0 := by apply Fin.ext; show (n : ℕ) = 0; omega
    obtain rfl : l = x := by apply Fin.ext; have : ((0 : Fin 8) : ℕ) = 0 := rfl; omega
    exact o_of _ _ _ _ _ d l _ _ (fun d => (outsAt0 m c (t.val - 1) (lt_of_le_of_lt (Nat.sub_le _ _) t.isLt)).2.2.2 (ix3 0 d l)) (fun d => slab_ld _ 0 (by decide) _ d l) (slab_ld _ 0 (by decide) _ 0 l) (fun d => slab_ld _ 0 (by decide) _ d l)
  exfalso; have := r.isLt; omega

end Cert.AttendIdeal.Att
-- ==== Proof.Att.Online.lean ====
module
public import Idealize.ShloMosaic.PureOps.Ideal.Laws
/-! A softmax taken block by block on the extended reals: the running maximum, the weighted sum, and its quotient. -/
@[expose] public section
noncomputable section
namespace Online
open Idealize.ShloMosaic

/-- The largest of the first `L` scores. -/
def mx (s : ℕ → EReal) (L : ℕ) : EReal := (Finset.range L).sup s
/-- The weighted sum of the first `L` values. -/
def ac (s v : ℕ → EReal) (L : ℕ) : EReal := ∑ k ∈ Finset.range L, Ideal.exp2 (s k - mx s L) * v k

theorem mul_sum' {ι : Type} (S : Finset ι) (c : EReal) (h0 : 0 ≤ c) (ht : c ≠ ⊤) (f : ι → EReal) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 ht, ih]

theorem mx_zero (s : ℕ → EReal) : mx s 0 = ⊥ := by simp [mx]
theorem ac_zero (s v : ℕ → EReal) : ac s v 0 = 0 := by simp [ac]

theorem mx_real (s : ℕ → EReal) (L : ℕ) (hL : 0 < L) (hs : ∀ k < L, ∃ r : ℝ, s k = r) : ∃ r : ℝ, mx s L = r := by
  obtain ⟨i, hi, e⟩ := Finset.exists_mem_eq_sup (Finset.range L) ⟨0, Finset.mem_range.2 hL⟩ s
  obtain ⟨r, hr⟩ := hs i (Finset.mem_range.1 hi)
  exact ⟨r, e.trans hr⟩

theorem sup_fin (s : ℕ → EReal) (w : ℕ) : (Finset.univ.sup fun k : Fin w => s k) = (Finset.range w).sup s := by
  apply le_antisymm
  · exact Finset.sup_le fun k _ => Finset.le_sup (f := s) (Finset.mem_range.2 k.2)
  · exact Finset.sup_le fun k hk => Finset.le_sup (f := fun k : Fin w => s k) (Finset.mem_univ (⟨k, Finset.mem_range.1 hk⟩ : Fin w))

theorem mx_step (s : ℕ → EReal) (L w : ℕ) : max (mx s L) (Finset.univ.sup fun k : Fin w => s (L + k)) = mx s (L + w) := by
  rw [sup_fin (fun k => s (L + k)) w]
  apply le_antisymm
  · refine max_le ?_ ?_
    · exact Finset.sup_mono (Finset.range_mono (Nat.le_add_right L w))
    · exact Finset.sup_le fun k hk => Finset.le_sup (f := s) (Finset.mem_range.2 (by have := Finset.mem_range.1 hk; omega))
  · refine Finset.sup_le fun k hk => ?_
    have hk' := Finset.mem_range.1 hk
    by_cases h : k < L
    · exact (Finset.le_sup (f := s) (Finset.mem_range.2 h)).trans (le_max_left _ _)
    · refine le_trans ?_ (le_max_right _ _)
      have := Finset.le_sup (f := fun k => s (L + k)) (Finset.mem_range.2 (show k - L < w by omega))
      rwa [show L + (k - L) = k by omega] at this

theorem exp2_mul (a b c : ℝ) : Ideal.exp2 ((a : EReal) - c) * Ideal.exp2 ((b : EReal) - a) = Ideal.exp2 ((b : EReal) - c) := by
  rw [← EReal.coe_sub, ← EReal.coe_sub, ← EReal.coe_sub, Ideal.exp2_coe, Ideal.exp2_coe, Ideal.exp2_coe, ← EReal.coe_mul]
  congr 1
  show (2 : ℝ) ^ (a - c) * (2 : ℝ) ^ (b - a) = (2 : ℝ) ^ (b - c)
  rw [← Real.rpow_add (by norm_num)]
  congr 1; ring

theorem exp2_nonneg (a b : ℝ) : 0 ≤ Ideal.exp2 ((a : EReal) - b) := by
  rw [← EReal.coe_sub, Ideal.exp2_coe]
  exact EReal.coe_nonneg.2 (Real.rpow_nonneg (by norm_num) _)

theorem exp2_ne_top (a b : ℝ) : Ideal.exp2 ((a : EReal) - b) ≠ ⊤ := by
  rw [← EReal.coe_sub, Ideal.exp2_coe]
  exact EReal.coe_ne_top _

theorem ac_step (s v : ℕ → EReal) (L w : ℕ) (hw : 0 < w) (hs : ∀ k < L + w, ∃ r : ℝ, s k = r) :
    Ideal.exp2 (mx s L - mx s (L + w)) * ac s v L + ∑ k : Fin w, v (L + k) * Ideal.exp2 (s (L + k) - mx s (L + w)) = ac s v (L + w) := by
  have e2 : (∑ k : Fin w, v (L + k) * Ideal.exp2 (s (L + k) - mx s (L + w)))
      = ∑ k ∈ Finset.range w, Ideal.exp2 (s (L + k) - mx s (L + w)) * v (L + k) := by
    rw [Finset.sum_range]; exact Finset.sum_congr rfl fun k _ => mul_comm _ _
  have e1 : Ideal.exp2 (mx s L - mx s (L + w)) * ac s v L = ∑ k ∈ Finset.range L, Ideal.exp2 (s k - mx s (L + w)) * v k := by
    by_cases hL : L = 0
    · subst hL; simp [ac]
    · obtain ⟨a, ha⟩ := mx_real s L (by omega) fun k hk => hs k (by omega)
      obtain ⟨b, hb⟩ := mx_real s (L + w) (by omega) hs
      rw [ac, ha, hb, mul_sum' _ _ (exp2_nonneg a b) (exp2_ne_top a b)]
      refine Finset.sum_congr rfl fun k hk => ?_
      obtain ⟨r, hr⟩ := hs k (by have := Finset.mem_range.1 hk; omega)
      rw [← mul_assoc, hr, exp2_mul]
  rw [e1, e2, ac, Finset.sum_range_add]

theorem coe_sum' {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The weights alone sum to a positive number. -/
theorem ac_one (s v : ℕ → EReal) (L : ℕ) (hL : 0 < L) (hs : ∀ k < L, ∃ r : ℝ, s k = r) (hv : ∀ k < L, v k = 1) :
    ∃ l : ℝ, 0 < l ∧ ac s v L = l ∧ (∑ k ∈ Finset.range L, Ideal.exp2 (s k - mx s L)) = l := by
  obtain ⟨b, hb⟩ := mx_real s L hL hs
  choose! r hr using hs
  have e : (∑ k ∈ Finset.range L, Ideal.exp2 (s k - mx s L)) = ((∑ k ∈ Finset.range L, (2 : ℝ) ^ (r k - b) : ℝ) : EReal) := by
    rw [coe_sum']
    refine Finset.sum_congr rfl fun k hk => ?_
    rw [hr k (Finset.mem_range.1 hk), hb, ← EReal.coe_sub, Ideal.exp2_coe]; rfl
  refine ⟨_, ?_, ?_, e⟩
  · exact Finset.sum_pos (fun k _ => Real.rpow_pos_of_pos (by norm_num) _) ⟨0, Finset.mem_range.2 hL⟩
  · rw [← e, ac]
    refine Finset.sum_congr rfl fun k hk => ?_
    rw [hv k (Finset.mem_range.1 hk), mul_one]

theorem div_coe' (x : EReal) (l : ℝ) (hl : 0 < l) : Ideal.div x l = x * ((l⁻¹ : ℝ) : EReal) := by
  have h : (l : EReal) ≠ 0 := by exact_mod_cast hl.ne'
  rw [Ideal.div, if_neg h, EReal.coe_inv]

/-- The weights as the plain softmax has them, in base `e`. -/
theorem exp_eq (a b : ℝ) : Ideal.exp ((a : EReal) * Ideal.log 2 - (b : EReal) * Ideal.log 2) = Ideal.exp2 ((a : EReal) - b) := by
  have e : Ideal.log 2 = ((Real.log 2 : ℝ) : EReal) := by
    have : (2 : EReal) = ((2 : ℝ) : EReal) := rfl
    rw [this, Ideal.log_coe, if_neg (by norm_num)]
  rw [e, ← EReal.coe_mul, ← EReal.coe_mul, ← EReal.coe_sub, ← EReal.coe_sub, Ideal.exp_coe, Ideal.exp2_coe]
  congr 1
  show _ = (2 : ℝ) ^ (a - b)
  rw [Real.rpow_def_of_pos (by norm_num)]
  congr 1; ring

theorem mx_mul (s : ℕ → EReal) (L : ℕ) (hL : 0 < L) (hs : ∀ k < L, ∃ r : ℝ, s k = r) :
    (Finset.univ.sup fun k : Fin L => s k * Ideal.log 2) = mx s L * Ideal.log 2 := by
  have e : Ideal.log 2 = ((Real.log 2 : ℝ) : EReal) := by
    have : (2 : EReal) = ((2 : ℝ) : EReal) := rfl
    rw [this, Ideal.log_coe, if_neg (by norm_num)]
  have h0 : (0 : EReal) ≤ Ideal.log 2 := by rw [e]; exact EReal.coe_nonneg.2 (Real.log_nonneg (by norm_num))
  rw [sup_fin (fun k => s k * Ideal.log 2) L]
  obtain ⟨i, hi, ei⟩ := Finset.exists_mem_eq_sup (Finset.range L) ⟨0, Finset.mem_range.2 hL⟩ s
  apply le_antisymm
  · exact Finset.sup_le fun k hk => mul_le_mul_of_nonneg_right (Finset.le_sup (f := s) hk) h0
  · rw [mx, ei]; exact Finset.le_sup (f := fun k => s k * Ideal.log 2) hi

/-- The plain softmax's weighted sum is the quotient of the two accumulators. -/
theorem softmax_eq (s v o : ℕ → EReal) (L : ℕ) (hL : 0 < L) (hs : ∀ k < L, ∃ r : ℝ, s k = r) (ho : ∀ k < L, o k = 1) :
    (∑ k : Fin L, v k * Ideal.div (Ideal.exp (s k * Ideal.log 2 - (Finset.univ.sup fun k : Fin L => s k * Ideal.log 2)))
        (∑ k : Fin L, Ideal.exp (s k * Ideal.log 2 - (Finset.univ.sup fun k : Fin L => s k * Ideal.log 2))))
      = Ideal.div (ac s v L) (ac s o L) := by
  obtain ⟨l, hl, e1, e2⟩ := ac_one s o L hL hs ho
  rw [mx_mul s L hL hs]
  obtain ⟨b, hb⟩ := mx_real s L hL hs
  have ex : ∀ k : Fin L, Ideal.exp (s k * Ideal.log 2 - mx s L * Ideal.log 2) = Ideal.exp2 (s k - mx s L) := fun k => by
    obtain ⟨r, hr⟩ := hs k k.2
    rw [hr, hb, exp_eq]
  simp only [ex]
  rw [← Finset.sum_range (fun k => Ideal.exp2 (s k - mx s L)), e2, e1, div_coe' _ l hl, ac, mul_comm,
    mul_sum' _ _ (EReal.coe_nonneg.2 (inv_nonneg.2 hl.le)) (EReal.coe_ne_top _), Finset.sum_range]
  refine Finset.sum_congr rfl fun k _ => ?_
  rw [div_coe' _ l hl, mul_comm (v k), mul_comm _ ((l⁻¹ : ℝ) : EReal), mul_assoc]

end Online
-- ==== Proof.Att.Fold.lean ====
module
public import proofs.«01_k».proof.Proof.Att.Case
public import proofs.«01_k».proof.Proof.Att.Online
/-! The scores and values behind a row of the result, and what the carried arrays hold after each block of keys. -/
@[expose] public section
set_option maxRecDepth 16384
noncomputable section
namespace Cert.AttendIdeal.Att
open Idealize.ShloMosaic Idealize.ShloMosaic.TcCoe Idealize.SL Idealize.SL.Sem
open Cert.AttendIdeal Cert.AttendIdeal.Gen

variable (m : (ℓ : Loc nD τ sig) → Buf (Elt Ideal) ℓ)

/-- The arguments: queries, keys, transposed values, and the context's keys and values. -/
abbrev a0 (c : Dev nD) : Vec Ideal S2x16x16384x256 .bf16 := m ((c : Thread nD τ).loc main_arg0)
abbrev a1 (c : Dev nD) : Vec Ideal S2x16x16384x256 .bf16 := m ((c : Thread nD τ).loc main_arg1)
abbrev a2 (c : Dev nD) : Vec Ideal S2x16x144x16384 .bf16 := m ((c : Thread nD τ).loc main_arg2)
abbrev a3 (c : Dev nD) : Vec Ideal S2x16x256x256 .bf16 := m ((c : Thread nD τ).loc main_arg3)
abbrev a4 (c : Dev nD) : Vec Ideal S2x16x144x256 .bf16 := m ((c : Thread nD τ).loc main_arg4)

/-- The score of key `k` — the sequence's keys, then the context's — for a row of queries. -/
def sc (c : Dev nD) (b : Fin 2) (h : Fin 16) (r : Fin 16384) (k : ℕ) : EReal :=
  if hk : k < 16384 then ∑ d : Fin 256, a1 m c (ix4 b h ⟨k, hk⟩ d) * a0 m c (ix4 b h r d)
  else if hk : k - 16384 < 256 then ∑ d : Fin 256, a3 m c (ix4 b h ⟨k - 16384, hk⟩ d) * a0 m c (ix4 b h r d)
  else 0

/-- Row `d` of the transposed values at key `k`. -/
def vl (c : Dev nD) (b : Fin 2) (h : Fin 16) (d : Fin 144) (k : ℕ) : EReal :=
  if hk : k < 16384 then a2 m c (ix4 b h d ⟨k, hk⟩)
  else if hk : k - 16384 < 256 then a4 m c (ix4 b h d ⟨k - 16384, hk⟩)
  else 0

theorem idx : ∀ t : Fin cfg0.N, win0_0.index t = ![t.val / 320, t.val / 20 % 16, t.val / 5 % 4, 0]
    ∧ win0_1.index t = ![t.val / 320, t.val / 20 % 16, min (t.val % 5) 3, 0]
    ∧ win0_2.index t = ![t.val / 320, t.val / 20 % 16, 0, min (t.val % 5) 3]
    ∧ win0_3.index t = ![t.val / 320, t.val / 20 % 16, 0, 0]
    ∧ win0_4.index t = ![t.val / 320, t.val / 20 % 16, 0, 0]
    ∧ win0_5.index t = ![t.val / 320, t.val / 5 % 4, t.val / 20 % 16] :=
  (by decide +kernel : ∀ t : Fin grid0.N, _)

theorem blk0 (c : Dev nD) (t : Fin cfg0.N) (x : Fin 4096) (d : Fin 256) (b : Fin 2) (h : Fin 16) (r : Fin 16384)
    (hb : (b : ℕ) = t.val / 320) (hh : (h : ℕ) = t.val / 20 % 16) (hr : (r : ℕ) = t.val / 5 % 4 * 4096 + x) :
    (show Vec Ideal S1x1x4096x256 .bf16 from iblk m c 0 t) (ix4 0 0 x d) = a0 m c (ix4 b h r d) := by
  blk_point [iblk, V, idx t, hb, hh, hr]

theorem blk1 (c : Dev nD) (t : Fin cfg0.N) (ht : t.val % 5 ≤ 3) (x : Fin 4096) (d : Fin 256) (b : Fin 2) (h : Fin 16) (r : Fin 16384)
    (hb : (b : ℕ) = t.val / 320) (hh : (h : ℕ) = t.val / 20 % 16) (hr : (r : ℕ) = t.val % 5 * 4096 + x) :
    (show Vec Ideal S1x1x4096x256 .bf16 from iblk m c 1 t) (ix4 0 0 x d) = a1 m c (ix4 b h r d) := by
  blk_point [iblk, V, idx t, hb, hh, hr]

theorem blk2 (c : Dev nD) (t : Fin cfg0.N) (ht : t.val % 5 ≤ 3) (x : Fin 4096) (d : Fin 144) (b : Fin 2) (h : Fin 16) (r : Fin 16384)
    (hb : (b : ℕ) = t.val / 320) (hh : (h : ℕ) = t.val / 20 % 16) (hr : (r : ℕ) = t.val % 5 * 4096 + x) :
    (show Vec Ideal S1x1x144x4096 .bf16 from iblk m c 2 t) (ix4 0 0 d x) = a2 m c (ix4 b h d r) := by
  blk_point [iblk, V, idx t, hb, hh, hr]

theorem blk3 (c : Dev nD) (t : Fin cfg0.N) (x : Fin 256) (d : Fin 256) (b : Fin 2) (h : Fin 16)
    (hb : (b : ℕ) = t.val / 320) (hh : (h : ℕ) = t.val / 20 % 16) :
    (show Vec Ideal S1x1x256x256 .bf16 from iblk m c 3 t) (ix4 0 0 x d) = a3 m c (ix4 b h x d) := by
  blk_point [iblk, V, idx t, hb, hh]

theorem blk4 (c : Dev nD) (t : Fin cfg0.N) (x : Fin 256) (d : Fin 144) (b : Fin 2) (h : Fin 16)
    (hb : (b : ℕ) = t.val / 320) (hh : (h : ℕ) = t.val / 20 % 16) :
    (show Vec Ideal S1x1x144x256 .bf16 from iblk m c 4 t) (ix4 0 0 d x) = a4 m c (ix4 b h d x) := by
  blk_point [iblk, V, idx t, hb, hh]

/-- One block's step, on scores and values counted from `L`. -/
theorem next_of {K : ℕ} (kb : (⟨4, ![1, 1, K, 256]⟩ : Shape).Idx → EReal) (vb : (⟨4, ![1, 1, 144, K]⟩ : Shape).Idx → EReal) (q : Fin 256 → EReal)
    (d : Fin 144) (s v : ℕ → EReal) (L : ℕ) (hK : 0 < K) (hsc : ∀ k : Fin K, score kb q k = s (L + k)) (hv : ∀ k : Fin K, vb (ix4 0 0 d k) = v (L + k))
    (hs : ∀ k < L + K, ∃ r : ℝ, s k = r) (mo ao : EReal) (hm : mo = Online.mx s L) (ha : ao = Online.ac s v L) :
    mNext kb q mo = Online.mx s (L + K) ∧ aNext kb vb q mo ao d = Online.ac s v (L + K) := by
  have e : mNext kb q mo = Online.mx s (L + K) := by
    rw [← Online.mx_step, hm, mNext]
    congr 2; exact funext hsc
  refine ⟨e, ?_⟩
  rw [aNext, e, hm, ha, ← Online.ac_step s v L K hK hs]
  congr 1
  exact Finset.sum_congr rfl fun k _ => by rw [hv, hsc]

/-- Every score is a real number. -/
def Fin' (c : Dev nD) : Prop := ∀ (b : Fin 2) (h : Fin 16) (r : Fin 16384) (k : ℕ), k < 16640 → ∃ x : ℝ, sc m c b h r k = x

theorem score1 (c : Dev nD) (t : Fin cfg0.N) (ht : t.val % 5 ≤ 3) (b : Fin 2) (h : Fin 16) (r : Fin 16384)
    (hb : (b : ℕ) = t.val / 320) (hh : (h : ℕ) = t.val / 20 % 16) (q : Fin 256 → EReal) (hq : ∀ d, q d = a0 m c (ix4 b h r d)) (k : Fin 4096) :
    score (K := 4096) (iblk m c 1 t) q k = sc m c b h r (4096 * (t.val % 5) + k) := by
  have hk : 4096 * (t.val % 5) + (k : ℕ) < 16384 := by have := k.isLt; omega
  rw [score, sc, dif_pos hk]
  refine Finset.sum_congr rfl fun d _ => ?_
  rw [hq]
  exact congrArg (· * _) (blk1 m c t ht k d b h ⟨_, hk⟩ hb hh (by show 4096 * (t.val % 5) + (k : ℕ) = _; omega))

theorem vals1 (c : Dev nD) (t : Fin cfg0.N) (ht : t.val % 5 ≤ 3) (b : Fin 2) (h : Fin 16) (d : Fin 144)
    (hb : (b : ℕ) = t.val / 320) (hh : (h : ℕ) = t.val / 20 % 16) (k : Fin 4096) :
    (show Vec Ideal S1x1x144x4096 .bf16 from iblk m c 2 t) (ix4 0 0 d k) = vl m c b h d (4096 * (t.val % 5) + k) := by
  have hk : 4096 * (t.val % 5) + (k : ℕ) < 16384 := by have := k.isLt; omega
  rw [vl, dif_pos hk]
  exact blk2 m c t ht k d b h ⟨_, hk⟩ hb hh (by show 4096 * (t.val % 5) + (k : ℕ) = _; omega)

theorem score3 (c : Dev nD) (t : Fin cfg0.N) (b : Fin 2) (h : Fin 16) (r : Fin 16384)
    (hb : (b : ℕ) = t.val / 320) (hh : (h : ℕ) = t.val / 20 % 16) (q : Fin 256 → EReal) (hq : ∀ d, q d = a0 m c (ix4 b h r d)) (k : Fin 256) :
    score (K := 256) (iblk m c 3 t) q k = sc m c b h r (16384 + k) := by
  have hk : ¬ 16384 + (k : ℕ) < 16384 := by omega
  have hk' : 16384 + (k : ℕ) - 16384 < 256 := by have := k.isLt; omega
  rw [score, sc, dif_neg hk, dif_pos hk']
  refine Finset.sum_congr rfl fun d _ => ?_
  rw [hq]
  rw [show (⟨16384 + (k : ℕ) - 16384, hk'⟩ : Fin 256) = k from Fin.ext (Nat.add_sub_cancel_left _ _)]
  exact congrArg (· * _) (blk3 m c t k d b h hb hh)

theorem vals3 (c : Dev nD) (t : Fin cfg0.N) (b : Fin 2) (h : Fin 16) (d : Fin 144)
    (hb : (b : ℕ) = t.val / 320) (hh : (h : ℕ) = t.val / 20 % 16) (k : Fin 256) :
    (show Vec Ideal S1x1x144x256 .bf16 from iblk m c 4 t) (ix4 0 0 d k) = vl m c b h d (16384 + k) := by
  have hk : ¬ 16384 + (k : ℕ) < 16384 := by omega
  have hk' : 16384 + (k : ℕ) - 16384 < 256 := by have := k.isLt; omega
  rw [vl, dif_neg hk, dif_pos hk']
  rw [show (⟨16384 + (k : ℕ) - 16384, hk'⟩ : Fin 256) = k from Fin.ext (Nat.add_sub_cancel_left _ _)]
  exact blk4 m c t k d b h hb hh

/-- After block `j` of a run of five points, the carried arrays hold the queries, the running maximum and the weighted sums over the keys so far. -/
theorem inv (c : Dev nD) (hF : Fin' m c) (u : ℕ) (hu : u < 128) (b : Fin 2) (h : Fin 16) (hb : (b : ℕ) = u / 64) (hh : (h : ℕ) = u / 4 % 16)
    (n : Fin 8) (l : Fin 512) (r : Fin 16384) (hr : (r : ℕ) = u % 4 * 4096 + (512 * n + l)) :
    ∀ (j : ℕ) (hj : j ≤ 3) (t : Fin cfg0.N), t.val = 5 * u + j →
      (∀ d, Q m c t.val t.isLt (ix3 n d l) = a0 m c (ix4 b h r d))
      ∧ M m c t.val t.isLt (ix3 n 0 l) = Online.mx (sc m c b h r) (4096 * (j + 1))
      ∧ ∀ d, A m c t.val t.isLt (ix3 n d l) = Online.ac (sc m c b h r) (vl m c b h d) (4096 * (j + 1)) := by
  intro j
  induction j with
  | zero =>
    intro hj t ht
    have hN : cfg0.N = 640 := N_0
    have h0 : t.val % 5 = 0 := by omega
    have h1 : t.val % 5 ≤ 3 := by omega
    have h2 : ¬t.val % 5 = 4 := by omega
    have hb' : (b : ℕ) = t.val / 320 := by omega
    have hh' : (h : ℕ) = t.val / 20 % 16 := by omega
    have hq : ∀ d, (show Vec Ideal S1x1x4096x256 .bf16 from iblk m c 0 t) (ix4 0 0 ⟨512 * n + l, by omega⟩ d) = a0 m c (ix4 b h r d) := fun d =>
      blk0 m c t _ d b h r hb' hh' (by show (r : ℕ) = t.val / 5 % 4 * 4096 + (512 * n + l); omega)
    have key : ∀ d, _ := fun d => next_of (K := 4096) (iblk m c 1 t) (iblk m c 2 t) _ d (sc m c b h r) (vl m c b h d) (4096 * (t.val % 5)) (by decide)
      (fun k => score1 m c t h1 b h r hb' hh' _ hq k) (fun k => vals1 m c t h1 b h d hb' hh' k) (fun k hk => hF b h r k (by omega)) ⊥ 0
      (by rw [h0]; exact (Online.mx_zero _).symm) (by rw [h0]; exact (Online.ac_zero _ _).symm)
    have eL : 4096 * (t.val % 5) + 4096 = 4096 * (0 + 1) := by omega
    refine ⟨fun d => (qA m c t h0 h1 h2 n d l).trans (hq d), (mA m c t h0 h1 h2 n l).trans ?_, fun d => (aA m c t h0 h1 h2 n d l).trans ?_⟩
    · rw [← eL]; exact (key 0).1
    · rw [← eL]; exact (key d).2
  | succ j ih =>
    intro hj t ht
    have hN : cfg0.N = 640 := N_0
    have h0 : ¬t.val % 5 = 0 := by omega
    have h1 : t.val % 5 ≤ 3 := by omega
    have h2 : ¬t.val % 5 = 4 := by omega
    have hb' : (b : ℕ) = t.val / 320 := by omega
    have hh' : (h : ℕ) = t.val / 20 % 16 := by omega
    obtain ⟨iq, im, ia⟩ := ih (by omega) ⟨t.val - 1, lt_of_le_of_lt (Nat.sub_le _ _) t.isLt⟩ (by show t.val - 1 = _; omega)
    have eL' : 4096 * (j + 1) = 4096 * (t.val % 5) := by omega
    have eL : 4096 * (t.val % 5) + 4096 = 4096 * (j + 1 + 1) := by omega
    rw [eL'] at im ia
    have key : ∀ d, _ := fun d => next_of (K := 4096) (iblk m c 1 t) (iblk m c 2 t) _ d (sc m c b h r) (vl m c b h d) (4096 * (t.val % 5)) (by decide)
      (fun k => score1 m c t h1 b h r hb' hh' _ iq k) (fun k => vals1 m c t h1 b h d hb' hh' k) (fun k hk => hF b h r k (by omega)) _ _ im (ia d)
    refine ⟨fun d => (congrFun (qB m c t h0 h1 h2) _).trans (iq d), (mB m c t h0 h1 h2 n l).trans ?_, fun d => (aB m c t h0 h1 h2 n d l).trans ?_⟩
    · rw [← eL]; exact (key 0).1
    · rw [← eL]; exact (key d).2

/-- The result's row at head `h`, column `d`: the quotient of the weighted sum by the weights' sum. -/
theorem out_last (c : Dev nD) (hF : Fin' m c) (t : Fin cfg0.N) (ht : t.val % 5 = 4) (b : Fin 2) (h : Fin 16) (hb : (b : ℕ) = t.val / 320) (hh : (h : ℕ) = t.val / 20 % 16)
    (x : Fin 4096) (d : Fin 128) (r : Fin 16384) (hr : (r : ℕ) = t.val / 5 % 4 * 4096 + x) :
    (outsAt0 m c t.val t.isLt).1 (ix3 0 x d)
      = Ideal.div (Online.ac (sc m c b h r) (vl m c b h ⟨d, by omega⟩) 16640) (Online.ac (sc m c b h r) (vl m c b h 128) 16640) := by
  have hN : cfg0.N = 640 := N_0
  have h0 : ¬t.val % 5 = 0 := by omega
  have h1 : ¬t.val % 5 ≤ 3 := by omega
  have hx := x.isLt
  have htl := t.isLt
  have hx' : (x : ℕ) = 512 * (x / 512 : ℕ) + (x % 512 : ℕ) := by omega
  rw [oC m c t h0 h1 ht ⟨x / 512, by omega⟩ ⟨x % 512, by omega⟩ d x hx']
  obtain ⟨iq, im, ia⟩ := inv m c hF (t.val / 5) (by omega) b h (by omega) (by omega) ⟨x / 512, by omega⟩ ⟨x % 512, by omega⟩ r (by show (r : ℕ) = t.val / 5 % 4 * 4096 + (512 * (x / 512 : ℕ) + (x % 512 : ℕ)); omega)
    3 le_rfl ⟨t.val - 1, lt_of_le_of_lt (Nat.sub_le _ _) t.isLt⟩ (by show t.val - 1 = _; omega)
  have key : ∀ d, _ := fun d => next_of (K := 256) (iblk m c 3 t) (iblk m c 4 t) _ d (sc m c b h r) (vl m c b h d) 16384 (by decide)
      (fun k => score3 m c t b h r hb hh _ iq k) (fun k => vals3 m c t b h d hb hh k) (fun k hk => hF b h r k hk) _ _ im (ia d)
  exact congrArg₂ Ideal.div (key ⟨d, by omega⟩).2 (key 128).2

/-- The result's array, index by index. -/
def G (c : Dev nD) : Vec Ideal S2x16384x2048 .bf16 := fun y =>
  Ideal.div (Online.ac (sc m c (y 0) ⟨(y 2).val / 128, by have : (y 2).val < 2048 := (y 2).isLt; omega⟩ (y 1)) (vl m c (y 0) ⟨(y 2).val / 128, by have : (y 2).val < 2048 := (y 2).isLt; omega⟩ ⟨(y 2).val % 128, by omega⟩) 16640)
    (Online.ac (sc m c (y 0) ⟨(y 2).val / 128, by have : (y 2).val < 2048 := (y 2).isLt; omega⟩ (y 1)) (vl m c (y 0) ⟨(y 2).val / 128, by have : (y 2).val < 2048 := (y 2).isLt; omega⟩ 128) 16640)

end Cert.AttendIdeal.Att
-- ==== Proof.Att.Pre.lean ====
module
public import proofs.«01_k».proof.Proof.Gen.Pre_attend_pre
public import proofs.«01_k».proof.Proof.Att.Fold
/-! What the precondition says, element by element. -/
@[expose] public section
set_option maxRecDepth 16384
noncomputable section
namespace Cert.Pre_attend_pre.Att
open Idealize.ShloMosaic Cert.Pre_attend_pre Cert.Pre_attend_pre.Gen

theorem andi_one : ∀ a b : BitVec 1, IntOp.andi a b = 1#1 ↔ a = 1#1 ∧ b = 1#1 := by decide

theorem foldl_one {ι : Type} (x : ι → BitVec 1) (l : List ι) : ∀ a : BitVec 1, l.foldl (fun r i => IntOp.andi r (x i)) a = 1#1 → a = 1#1 ∧ ∀ i ∈ l, x i = 1#1 := by
  induction l with
  | nil => intro a h; exact ⟨h, fun i hi => absurd hi (List.not_mem_nil)⟩
  | cons b l ih =>
    intro a h
    obtain ⟨h1, h2⟩ := ih _ h
    obtain ⟨h3, h4⟩ := (andi_one _ _).1 h1
    refine ⟨h3, fun i hi => ?_⟩
    rcases List.mem_cons.1 hi with rfl | hi
    · exact h4
    · exact h2 i hi

theorem all_of {s : Shape} {axes : List (Fin s.rank)} (x : s.Idx → BitVec 1) (v : S_.Idx → BitVec 1) (h : s.ReducesTo axes S_) (hu : 0 < S_.numel) (j : S_.Idx)
    (hr : Host.reduce IntOp.andi x v h hu j = 1#1) (i : s.Idx) : x i = 1#1 := by
  rw [Host.reduce_eq_foldl] at hr
  refine (foldl_one x _ _ hr).2 i (List.mem_filter.2 ⟨List.mem_map.2 ⟨s.rowMajor i, List.mem_finRange _, s.rowMajor.symm_apply_apply i⟩, ?_⟩)
  exact decide_eq_true (funext fun a => a.elim0)

theorem cmp_one {p : Prop} [Decidable p] (h : BitVec.ofBool (decide p) = 1#1) : p := by
  by_contra hp
  rw [decide_eq_false hp] at h
  exact absurd h (by decide)

theorem lt_top (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have h' : max x (-x) < ⊤ := cmp_one h
  induction x with
  | bot => exact absurd h' (by simp)
  | top => exact absurd h' (by simp)
  | coe r => exact ⟨r, rfl⟩

theorem eq_one (x : EReal) (h : Ideal.cmp .oeq x (Ideal.ofBits .bf16 0x3F80#16) = 1#1) : x = 1 := by
  have ho : Ideal.ofBits .bf16 0x3F80#16 = 1 := by
    simp [Ideal.ofBits, Ideal.ieee]
    rw [← EReal.coe_mul]
    norm_num
  rw [ho] at h
  exact cmp_one h

theorem fn_one (A0 A1 : FVec Ideal S2x16x16384x256 .bf16) (A2 : FVec Ideal S2x16x144x16384 .bf16) (A3 : FVec Ideal S2x16x256x256 .bf16) (A4 : FVec Ideal S2x16x144x256 .bf16)
    (j : S_.Idx) (h : fn A0 A1 A2 A3 A4 j = 1#1) :
    (∀ i, ∃ r : ℝ, A0 i = (r : EReal)) ∧ (∀ i, ∃ r : ℝ, A1 i = (r : EReal)) ∧ (∀ i, ∃ r : ℝ, A3 i = (r : EReal))
      ∧ (∀ b h k, A2 (ix4 b h 128 k) = (1 : EReal)) ∧ (∀ b h k, A4 (ix4 b h 128 k) = (1 : EReal)) := by
  obtain ⟨h, h5⟩ := (andi_one _ _).1 h
  obtain ⟨h, h4⟩ := (andi_one _ _).1 h
  obtain ⟨h, h3⟩ := (andi_one _ _).1 h
  obtain ⟨h1, h2⟩ := (andi_one _ _).1 h
  refine ⟨fun i => lt_top _ (all_of _ _ _ _ j h1 i), fun i => lt_top _ (all_of _ _ _ _ j h2 i), fun i => lt_top _ (all_of _ _ _ _ j h3 i), fun b h k => ?_, fun b h k => ?_⟩
  · have := eq_one _ (all_of _ _ _ _ j h4 (ix3 b h k))
    rw [← this]
    pointwise
  · have := eq_one _ (all_of _ _ _ _ j h5 (ix3 b h k))
    rw [← this]
    pointwise

end Cert.Pre_attend_pre.Att
-- ==== Proof.Att.Final.lean ====
module
public import proofs.«01_k».proof.Proof.Att.Fold
/-! The result's array after the run. -/
@[expose] public section
set_option maxRecDepth 16384
noncomputable section
namespace Cert.AttendIdeal.Att
open Idealize.ShloMosaic Idealize.ShloMosaic.TcCoe Idealize.SL Idealize.SL.Sem
open Cert.AttendIdeal Cert.AttendIdeal.Gen

open Idealize.ShloMosaic.Pipeline (Dat)

theorem final (m : (ℓ : Loc nD τ sig) → Buf (Elt Ideal) ℓ) (c : Dev nD) (hF : Fin' m c) : (dats m 0 c).arrAt 5 cfg0.N = G m c :=
  (dats m 0 c).arrAt_eq_of_covers 5 _ (by decide +kernel) fun t hf y => by
    have h4 : t.val % 5 = 4 := (flush0_5 t).1 hf
    have hN : cfg0.N = 640 := N_0
    have htl : t.val < 640 := lt_of_lt_of_eq t.isLt hN
    blk_simp
    rw [after0_5]
    obtain ⟨y0, x, d, rfl⟩ : ∃ (y0 : Fin 1) (x : Fin 4096) (d : Fin 128), y = ix3 y0 x d := ⟨y 0, y 1, y 2, by funext a; fin_cases a <;> rfl⟩
    obtain rfl : y0 = 0 := Subsingleton.elim _ _
    have hx := x.isLt
    have hd := d.isLt
    have e : (win0_5.blk t).view.emb (ix3 0 x d) = (ix3 (⟨t.val / 320, by omega⟩ : Fin 2) (⟨t.val / 5 % 4 * 4096 + x, by omega⟩ : Fin 16384) (⟨t.val / 20 % 16 * 128 + d, by omega⟩ : Fin 2048) : S2x16384x2048.Idx) := by
      blk_ext [idx t]
    refine (out_last m c hF t h4 ⟨t.val / 320, by omega⟩ ⟨t.val / 20 % 16, by omega⟩ rfl rfl x d ⟨t.val / 5 % 4 * 4096 + x, by omega⟩ rfl).trans ?_
    refine Eq.trans ?_ (congrArg (G m c) e).symm
    have e1 : (t.val / 20 % 16 * 128 + d.val) / 128 = t.val / 20 % 16 := by omega
    have e2 : (t.val / 20 % 16 * 128 + d.val) % 128 = d.val := by omega
    have f1 : (⟨(t.val / 20 % 16 * 128 + d.val) / 128, by omega⟩ : Fin 16) = ⟨t.val / 20 % 16, by omega⟩ := Fin.ext e1
    have f2 : (⟨(t.val / 20 % 16 * 128 + d.val) % 128, by omega⟩ : Fin 144) = ⟨d, by omega⟩ := Fin.ext e2
    show _ = Ideal.div (Online.ac (sc m c _ ⟨(t.val / 20 % 16 * 128 + d.val) / 128, _⟩ _) (vl m c _ ⟨(t.val / 20 % 16 * 128 + d.val) / 128, _⟩ ⟨(t.val / 20 % 16 * 128 + d.val) % 128, _⟩) 16640)
      (Online.ac (sc m c _ ⟨(t.val / 20 % 16 * 128 + d.val) / 128, _⟩ _) (vl m c _ ⟨(t.val / 20 % 16 * 128 + d.val) / 128, _⟩ 128) 16640)
    rw [f1, f2]
    rfl

end Cert.AttendIdeal.Att
-- ==== Proof.Att.Ref.lean ====
module
public import proofs.«01_k».proof.Proof.Gen.AttendRefIdeal.Run
public import proofs.«01_k».proof.Proof.Att.Online
public import Idealize.ShloMosaic.Lib.Pipeline.ValueKit
/-! The plain attention read at an index. -/
@[expose] public section
set_option maxRecDepth 16384
noncomputable section
namespace Cert.AttendRefIdeal.Att
open Idealize.ShloMosaic Idealize.ShloMosaic.TcCoe Idealize.SL Idealize.SL.Sem
open Cert.AttendRefIdeal Cert.AttendRefIdeal.Gen

/-- The scores, in base two's logarithm. -/
abbrev S (A0 A1 : Vec Ideal S2x16x16384x256 .bf16) (A3 : Vec Ideal S2x16x256x256 .bf16) : Vec Ideal S2x16x16384x16640 .f32 :=
  mulf (F := Ideal) (φ := .f32) (Host.dotGeneral dot_S2x16x16384x256_S2x16x16640x256_S2x16x16384x16640_3_3_2_2_01_01 none (extf .f32 A0 bitsLt_bf16_f32) (extf .f32 (concatenate S2x16x16640x256 2 [⟨S2x16x16384x256, A1⟩, ⟨S2x16x256x256, A3⟩] concatenates_S2x16x16384x256_S2x16x256x256_S2x16x16640x256_d2) bitsLt_bf16_f32)) (broadcastInDim S2x16x16384x16640 ![] bcast_S_S2x16x16384x16640 (Host.log (constant (F := Ideal) S_ .f32 0x40000000#32)))

/-- The weights before they are divided by their sum. -/
abbrev E (X : Vec Ideal S2x16x16384x16640 .f32) : Vec Ideal S2x16x16384x16640 .f32 :=
  Host.exp (F := Ideal) (φ := .f32) (subf X (broadcastInDim S2x16x16384x16640 ![0, 1, 2, 3] bcast_S2x16x16384x1_S2x16x16384x16640_0_1_2_3 (broadcastInDim S2x16x16384x1 ![0, 1, 2] bcast_S2x16x16384_S2x16x16384x1_0_1_2 (maximumf (broadcastInDim S2x16x16384 ![] bcast_S_S2x16x16384 (constant S_ .f32 0xFF800000#32)) (Host.reduce FloatOps.maximumf X (constant S_ .f32 0xFF800000#32) reducesTo_S2x16x16384x16640_S2x16x16384_d3 h_S_)))))

theorem two_bits : Ideal.ofBits .f32 0x40000000#32 = 2 := by
  simp [Ideal.ofBits, Ideal.ieee]
  rw [← EReal.coe_mul]
  norm_num
  rfl

theorem S_at (A0 A1 : Vec Ideal S2x16x16384x256 .bf16) (A3 : Vec Ideal S2x16x256x256 .bf16) (b : Fin 2) (h : Fin 16) (r : Fin 16384) (k : Fin 16640) :
    S A0 A1 A3 (ix4 b h r k) = (if hk : (k : ℕ) < 16384 then ∑ d : Fin 256, A1 (ix4 b h ⟨k, hk⟩ d) * A0 (ix4 b h r d)
      else ∑ d : Fin 256, A3 (ix4 b h ⟨k - 16384, by omega⟩ d) * A0 (ix4 b h r d)) * Ideal.log 2 := by
  rw [← two_bits]
  pointwise [S]
  refine congrArg (· * _) ?_
  split <;> exact Finset.sum_congr rfl fun d _ => mul_comm _ _

theorem ninf : Ideal.ofBits .f32 0xFF800000#32 = ⊥ := by simp [Ideal.ofBits, Ideal.ieee]

theorem max_at (X : Vec Ideal S2x16x16384x16640 .f32) (b : Fin 2) (h : Fin 16) (r : Fin 16384) :
    Host.reduce (α := EReal) max X (fun _ => ⊥) reducesTo_S2x16x16384x16640_S2x16x16384_d3 h_S_ (ix3 b h r) = Finset.univ.sup fun k : Fin 16640 => X (ix4 b h r k) := by
  rw [Host.reduce_eq_fold_single (s := S2x16x16384x16640) (a := (3 : Fin 4)) max X (fun _ => ⊥) reducesTo_S2x16x16384x16640_S2x16x16384_d3 (by decide) h_S_ (ix3 b h r)]
  show Finset.univ.sup _ = _
  refine congrArg (Finset.univ.sup) (funext fun k => ?_)
  show X _ = X _
  congr 1
  funext a
  fin_cases a <;> rfl

theorem bc_at (X : Vec Ideal S2x16x16384x16640 .f32) (Y : Vec Ideal S2x16x16384 .f32) (b : Fin 2) (h : Fin 16) (r : Fin 16384) (k : Fin 16640) :
    Host.exp (F := Ideal) (φ := .f32) (subf X (broadcastInDim S2x16x16384x16640 ![0, 1, 2, 3] bcast_S2x16x16384x1_S2x16x16384x16640_0_1_2_3 (broadcastInDim S2x16x16384x1 ![0, 1, 2] bcast_S2x16x16384_S2x16x16384x1_0_1_2 (maximumf (broadcastInDim S2x16x16384 ![] bcast_S_S2x16x16384 (constant S_ .f32 0xFF800000#32)) Y)))) (ix4 b h r k)
      = Ideal.exp (X (ix4 b h r k) - max (Ideal.ofBits .f32 0xFF800000#32) (Y (ix3 b h r))) := by
  pointwise

theorem E_at (X : Vec Ideal S2x16x16384x16640 .f32) (b : Fin 2) (h : Fin 16) (r : Fin 16384) (k : Fin 16640) :
    E X (ix4 b h r k) = Ideal.exp (X (ix4 b h r k) - Finset.univ.sup fun k : Fin 16640 => X (ix4 b h r k)) := by
  rw [← max_at]
  refine (bc_at X _ b h r k).trans ?_
  have e : (constant (F := Ideal) S_ .f32 0xFF800000#32) = fun _ => (⊥ : EReal) := funext fun _ => ninf
  rw [ninf, max_bot_left]
  refine congrArg (fun z => Ideal.exp (X (ix4 b h r k) - z)) ?_
  rw [e]
  rfl

theorem O_at (A2 : Vec Ideal S2x16x144x16384 .bf16) (A4 : Vec Ideal S2x16x144x256 .bf16) (X : Vec Ideal S2x16x16384x16640 .f32) (b : Fin 2) (h : Fin 16) (r : Fin 16384) (d : Fin 128) (y : Fin 2048) (hy : (y : ℕ) = h * 128 + d) :
    truncf (F := Ideal) .bf16 (shapeCast S2x16384x2048 (transpose S2x16384x16x128 [0, 3, 1, 2] (Host.dotGeneral dot_S2x16x128x16640_S2x16x16384x16640_S2x16x128x16384_3_3_2_2_01_01 none (extf .f32 (concatenate S2x16x128x16640 3 [⟨S2x16x128x16384, (extractStridedSlice S2x16x128x16384 ![0, 0, 0, 0] A2 slices_S2x16x144x16384_S2x16x128x16384_0_0_0_0)⟩, ⟨S2x16x128x256, (extractStridedSlice S2x16x128x256 ![0, 0, 0, 0] A4 slices_S2x16x144x256_S2x16x128x256_0_0_0_0)⟩] concatenates_S2x16x128x16384_S2x16x128x256_S2x16x128x16640_d3) bitsLt_bf16_f32) (Host.divf (φ := .f32) X (broadcastInDim S2x16x16384x16640 ![0, 1, 2, 3] bcast_S2x16x16384x1_S2x16x16384x16640_0_1_2_3 (broadcastInDim S2x16x16384x1 ![0, 1, 2] bcast_S2x16x16384_S2x16x16384x1_0_1_2 (Host.reduceAdd X (constant S_ .f32 0x00000000#32) reducesTo_S2x16x16384x16640_S2x16x16384_d3 h_S_))))) transposes_S2x16x128x16384_S2x16384x16x128_0_3_1_2) shapeCasts_S2x16384x16x128_S2x16384x2048) bitsLt_bf16_f32 (ix3 b r y)
    = ∑ k : Fin 16640, (if hk : (k : ℕ) < 16384 then A2 (ix4 b h ⟨d, by omega⟩ ⟨k, hk⟩)
      else A4 (ix4 b h ⟨d, by omega⟩ ⟨k - 16384, by omega⟩)) * Ideal.div (X (ix4 b h r k)) (∑ k : Fin 16640, X (ix4 b h r k)) := by
  have hd := d.isLt
  have e1 : (⟨(h.val * 128 + d.val) / 128, by omega⟩ : Fin 16) = h := Fin.ext (by show (h.val * 128 + d.val) / 128 = h.val; omega)
  have e2 : (h.val * 128 + d.val) % 128 = d.val := by omega
  pointwise [hy]
  simp only [e1, e2]

end Cert.AttendRefIdeal.Att
-- ==== Proof.Att.Equal.lean ====
module
public import proofs.«01_k».proof.Proof.Att.Pre
public import proofs.«01_k».proof.Proof.Att.Final
public import proofs.«01_k».proof.Proof.Att.Ref
/-! The two programs' results are one array. -/
@[expose] public section
set_option maxRecDepth 16384
noncomputable section
namespace Cert.AttendIdeal.Att
open Idealize.ShloMosaic Idealize.ShloMosaic.TcCoe Idealize.SL Idealize.SL.Sem
open Cert.AttendIdeal Cert.AttendIdeal.Gen

theorem dot_real {n : ℕ} (f g : Fin n → EReal) (hf : ∀ i, ∃ r : ℝ, f i = r) (hg : ∀ i, ∃ r : ℝ, g i = r) : ∃ r : ℝ, ∑ i, f i * g i = r := by
  choose a ha using hf
  choose b hb using hg
  refine ⟨∑ i, a i * b i, ?_⟩
  rw [Online.coe_sum']
  exact Finset.sum_congr rfl fun i _ => by rw [ha, hb, EReal.coe_mul]

variable (m : (ℓ : Loc nD τ sig) → Buf (Elt Ideal) ℓ)

theorem fin_of (c : Dev nD) (j) (h : Cert.Pre_attend_pre.fn (F := Ideal) (a0 m c) (a1 m c) (a2 m c) (a3 m c) (a4 m c) j = 1#1) : Fin' m c := by
  obtain ⟨h0, h1, h3, -, -⟩ := Cert.Pre_attend_pre.Att.fn_one _ _ _ _ _ j h
  intro b hd r k hk
  rw [sc]
  split
  · exact dot_real _ _ (fun d => h1 _) (fun d => h0 _)
  · split
    · exact dot_real _ _ (fun d => h3 _) (fun d => h0 _)
    · exact ⟨0, rfl⟩

theorem one_of (c : Dev nD) (j) (h : Cert.Pre_attend_pre.fn (F := Ideal) (a0 m c) (a1 m c) (a2 m c) (a3 m c) (a4 m c) j = 1#1)
    (b : Fin 2) (hd : Fin 16) (k : ℕ) (hk : k < 16640) : vl m c b hd 128 k = 1 := by
  obtain ⟨-, -, -, h2, h4⟩ := Cert.Pre_attend_pre.Att.fn_one _ _ _ _ _ j h
  rw [vl]
  split
  · exact h2 _ _ _
  · split
    · exact h4 _ _ _
    · omega

/-- The reference's term at every index. -/
theorem ref_eq (c : Dev nD) (j) (h : Cert.Pre_attend_pre.fn (F := Ideal) (a0 m c) (a1 m c) (a2 m c) (a3 m c) (a4 m c) j = 1#1)
    (O : Vec Ideal S2x16384x2048 .bf16)
    (hO : ∀ (b : Fin 2) (hd : Fin 16) (r : Fin 16384) (d : Fin 128) (y : Fin 2048), (y : ℕ) = hd * 128 + d →
      O (ix3 b r y) = ∑ k : Fin 16640, (if hk : (k : ℕ) < 16384 then a2 m c (ix4 b hd ⟨d, by omega⟩ ⟨k, hk⟩) else a4 m c (ix4 b hd ⟨d, by omega⟩ ⟨k - 16384, by omega⟩))
        * Ideal.div (Cert.AttendRefIdeal.Att.E (Cert.AttendRefIdeal.Att.S (a0 m c) (a1 m c) (a3 m c)) (ix4 b hd r k))
          (∑ k : Fin 16640, Cert.AttendRefIdeal.Att.E (Cert.AttendRefIdeal.Att.S (a0 m c) (a1 m c) (a3 m c)) (ix4 b hd r k))) :
    O = G m c := by
  funext y
  obtain ⟨b, r, y, rfl⟩ : ∃ (b : Fin 2) (r : Fin 16384) (z : Fin 2048), y = ix3 b r z := ⟨y 0, y 1, y 2, by funext a; fin_cases a <;> rfl⟩
  have hy := y.isLt
  rw [hO b ⟨y / 128, by omega⟩ r ⟨y % 128, by omega⟩ y (by show (y : ℕ) = y / 128 * 128 + y % 128; omega)]
  have hS : ∀ k : Fin 16640, Cert.AttendRefIdeal.Att.S (a0 m c) (a1 m c) (a3 m c) (ix4 b ⟨y / 128, by omega⟩ r k) = sc m c b ⟨y / 128, by omega⟩ r k * Ideal.log 2 := fun k => by
    rw [Cert.AttendRefIdeal.Att.S_at, sc]
    refine congrArg (· * _) ?_
    have hk := k.isLt
    by_cases h1 : (k : ℕ) < 16384
    · rw [dif_pos h1, dif_pos h1]
    · rw [dif_neg h1, dif_neg h1, dif_pos (by omega)]
  have hV : ∀ k : Fin 16640, (if hk : (k : ℕ) < 16384 then a2 m c (ix4 b ⟨y / 128, by omega⟩ ⟨y % 128, by omega⟩ ⟨k, hk⟩) else a4 m c (ix4 b ⟨y / 128, by omega⟩ ⟨y % 128, by omega⟩ ⟨k - 16384, by omega⟩))
      = vl m c b ⟨y / 128, by omega⟩ ⟨y % 128, by omega⟩ k := fun k => by
    rw [vl]
    have hk := k.isLt
    by_cases h1 : (k : ℕ) < 16384
    · rw [dif_pos h1, dif_pos h1]
    · rw [dif_neg h1, dif_neg h1, dif_pos (by omega)]
  simp only [Cert.AttendRefIdeal.Att.E_at, hS]
  simp only [hV]
  have key := Online.softmax_eq (sc m c b ⟨y / 128, by omega⟩ r) (vl m c b ⟨y / 128, by omega⟩ ⟨y % 128, by omega⟩) (vl m c b ⟨y / 128, by omega⟩ 128) 16640 (by norm_num)
    (fun k hk => fin_of m c j h _ _ _ _ hk) (fun k hk => one_of m c j h _ _ _ hk)
  exact key

end Cert.AttendIdeal.Att
-- ==== Proof.Lay.Norm.lean ====
module
public import Idealize.ShloMosaic.Lib.Pipeline.ValueKit
/-! The layer's norm and gate on one row, and the three literals both programs hold. -/
@[expose] public section
noncomputable section
namespace Lay
open Idealize.ShloMosaic

/-- The residual scale, the norm's epsilon, and the row's length, as both programs print them. -/
abbrev al : EReal := Ideal.ofBits .f32 0x3FD744FD#32
abbrev ep : EReal := Ideal.ofBits .f32 0x358637BD#32
abbrev nd : EReal := Ideal.ofBits .f32 0x45000000#32

/-- The norm of a row, with its gain and offset, at one entry. -/
def ln {n : ℕ} (x : Fin n → EReal) (g b : EReal) (j : Fin n) : EReal :=
  (x j - Ideal.div (∑ k, x k) nd) * Ideal.rsqrt (Ideal.div (∑ k, (x k - Ideal.div (∑ k, x k) nd) * (x k - Ideal.div (∑ k, x k) nd)) nd + ep) * g + b

/-- The gated unit's activation from its two products. -/
def act (x y : EReal) : EReal := x * Ideal.div 1 (1 + Ideal.exp (-x)) * y

theorem zero_bits : Ideal.ofBits .f32 0x00000000#32 = 0 := by simp [Ideal.ofBits, Ideal.ieee]

end Lay
-- ==== Proof.Kvs.Slab.lean ====
module
public import Idealize.ShloMosaic.Lib.Pipeline.ValueKit
public import Idealize.ShloMosaic.Lib.Pipeline.ReadBack
public import proofs.«01_k».proof.Proof.Lay.Norm
/-! Heads stored one after the other in a block, read at an index; and the norm of a row of latents. -/
@[expose] public section
set_option maxRecDepth 16384
noncomputable section
namespace Lay
open Idealize.ShloMosaic Idealize.SL.Sem

section
variable {Val : EltTy → Type} [∀ e, Nonempty (Val e)] {e : EltTy} {A B C : ℕ}

/-- Heads stored one after the other, read at an index: the value is known head by head. -/
theorem head_cons (n : ℕ) (off : Fin 4 → ℕ) (ho : off = ![0, n, 0, 0])
    (h : ∀ a, off a + (![1, 1, B, C] : Fin 4 → ℕ) a ≤ (![1, A, B, C] : Fin 4 → ℕ) a)
    (w : (Rect.unit (s := ⟨4, ![1, A, B, C]⟩) off ![1, 1, B, C] h).shape.Idx → Val e) (L : List (View.Piece Val (⟨4, ![1, A, B, C]⟩ : Shape) e))
    (i : Fin A) (b : Fin B) (l : Fin C) (G : Val e)
    (hw : (i : ℕ) = n → w (ix4 0 0 b l) = G) (hL : (i : ℕ) ≠ n → View.canon L (ix4 0 i b l) = G) :
    View.canon ((⟨Rect.unit (s := ⟨4, ![1, A, B, C]⟩) off ![1, 1, B, C] h, w⟩ : View.Piece Val _ e) :: L) (ix4 0 i b l) = G := by
  subst ho
  by_cases hi : (i : ℕ) = n
  · have he : (ix4 0 i b l : (⟨4, ![1, A, B, C]⟩ : Shape).Idx) = (Rect.unit (s := ⟨4, ![1, A, B, C]⟩) ![0, n, 0, 0] ![1, 1, B, C] h).emb (ix4 0 0 b l) := by
      funext a
      apply Fin.ext
      fin_cases a
      · show 0 = 0 + 1 * 0; omega
      · show (i : ℕ) = n + 1 * 0; omega
      · show (b : ℕ) = 0 + 1 * (b : ℕ); omega
      · show (l : ℕ) = 0 + 1 * (l : ℕ); omega
    rw [he, View.canon_cons_emb]
    exact hw hi
  · rw [View.canon_cons_of_not_mem _ _ fun hm => ?_]
    · exact hL hi
    · have h1 : n ≤ (i : ℕ) ∧ (i : ℕ) < n + 1 := (Rect.mem_set_unit (inb := h).mp hm) 1
      omega

/-- One head's weight, read off the array of them. -/
theorem head_ld (X : (⟨3, ![A, B, C]⟩ : Shape).Idx → Val e) (n : ℕ) (off : Fin 3 → ℕ) (ho : off = ![n, 0, 0]) (hn : n < A)
    (h : ∀ a, off a + (![1, B, C] : Fin 3 → ℕ) a ≤ (![A, B, C] : Fin 3 → ℕ) a) (b : Fin B) (l : Fin C) :
    View.ld X (Rect.unit (s := ⟨3, ![A, B, C]⟩) off ![1, B, C] h) (ix3 0 b l) = X (ix3 ⟨n, hn⟩ b l) := by
  subst ho
  show X _ = X _
  congr 1
  funext a
  apply Fin.ext
  fin_cases a
  · show n + 1 * 0 = n; omega
  · show 0 + 1 * (b : ℕ) = b; omega
  · show 0 + 1 * (l : ℕ) = l; omega
end

/-- The norm's row length, as both programs print it. -/
abbrev nr : EReal := Ideal.ofBits .f32 0x44000000#32

/-- The norm of a row of latents by its mean square, with its gain, at one entry. -/
def rms {n : ℕ} (x : Fin n → EReal) (g : EReal) (j : Fin n) : EReal :=
  x j * Ideal.rsqrt (Ideal.div (∑ k, x k * x k) nr + ep) * g

end Lay
-- ==== Proof.Qry.Loop.lean ====
module
public import proofs.«01_k».proof.Proof.Gen.QueriesIdeal.Value
public import proofs.«01_k».proof.Proof.Kvs.Slab
/-! What the loop over the heads leaves in the block of queries, head by head. -/
@[expose] public section
set_option maxRecDepth 16384
noncomputable section
namespace Cert.QueriesIdeal.Qry
open Idealize.ShloMosaic Idealize.ShloMosaic.TcCoe Idealize.SL Idealize.SL.Sem
open Cert.QueriesIdeal Cert.QueriesIdeal.Gen

section
variable (𝒱 : Variants) (c : Dev nD) (bd : Option 𝒱.V) (i : grid0.Coords) (arg2 : Memref sig .tc .vmem S1x512x512 .bf16) (harg2 : arg2.IsWhole) (arg3 : Memref sig .tc .vmem S1x512 .f32) (harg3 : arg3.IsWhole) (arg4 : Memref sig .tc .vmem S16x512x256 .bf16) (harg4 : arg4.IsWhole) (arg5 : Memref sig .tc .vmem S512x128 .f32) (harg5 : arg5.IsWhole) (arg6 : Memref sig .tc .vmem S1x16x512x256 .bf16) (harg6 : arg6.IsWhole) (v0 : Vec Ideal S1x512x512 .bf16) (v3 : Vec Ideal S1x512 .f32) (v18 : Vec Ideal S512x128 .f32) (w : Vec Ideal S16x512x256 .bf16)

/-- One head's weight. -/
abbrev hw (k : Fin k0_t1_loop.trips) : Vec Ideal S1x512x256 .bf16 := View.ld w (Rect.unit (s := S16x512x256) (k0_off1 k) S1x512x256.size (k0_off1_inb k))

theorem trip1 (k : Fin k0_t1_loop.trips) :
    tripL_k0_t1 (F := Ideal) 𝒱 c bd i arg2 harg2 arg3 harg3 arg4 harg4 arg5 harg5 arg6 harg6 v0 v3 v18 (harg4.unread w) k
      = [⟨Rect.unit (s := S1x16x512x256) (k0_off2 k) S1x1x512x256.size (k0_off2_inb k), k0_pay1 (F := Ideal) v0 v3 v18 (hw w k)⟩] := by
  unfold tripL_k0_t1
  unfold trip_k0_t1
  dsimp only
  frame_out
  try rfl

theorem loop1 (h : Fin k0_t1_loop.trips) (g : Fin 16) (hg : g.val = h.val) (x : Fin 512) (l : Fin 256) : ∀ n ≤ k0_t1_loop.trips, h.val < n →
    View.canon (pb_k0_t1 (F := Ideal) 𝒱 c bd i arg2 harg2 arg3 harg3 arg4 harg4 arg5 harg5 arg6 harg6 v0 v3 v18 (harg4.unread w) n) (ix4 0 g x l)
      = k0_pay1 (F := Ideal) v0 v3 v18 (hw w h) (ix4 0 0 x l) := by
  intro n
  induction n with
  | zero => intro _ h0; exact absurd h0 (Nat.not_lt_zero _)
  | succ n ih =>
    intro hn hh
    refine (congrFun (congrArg View.canon ((pb_k0_t1_succ (F := Ideal) 𝒱 c bd i arg2 harg2 arg3 harg3 arg4 harg4 arg5 harg5 arg6 harg6 v0 v3 v18 (harg4.unread w) ⟨n, hn⟩).trans
      (congrArg (fun z => z ++ _) (trip1 𝒱 c bd i arg2 harg2 arg3 harg3 arg4 harg4 arg5 harg5 arg6 harg6 v0 v3 v18 w ⟨n, hn⟩)))) _).trans ?_
    refine Lay.head_cons n _ (k0_off2_eq ⟨n, hn⟩) _ _ _ _ _ _ _ (fun hi => ?_) fun hi => ih (by omega) ?_
    · obtain rfl : h = ⟨n, hn⟩ := Fin.ext (hg.symm.trans hi)
      rfl
    · omega
end

variable (m : (ℓ : Loc nD τ sig) → Buf (Elt Ideal) ℓ)

theorem out1 (c : Dev nD) (t : Fin cfg0.N) (h : Fin 16) (x : Fin 512) (l : Fin 256) :
    outsAt0 m c t (ix4 0 h x l) = k0_pay1 (F := Ideal) (X0_0 m c t) (iblk m c 1 t) (iblk m c 3 t) (hw (iblk m c 2 t) ⟨h.val, h.isLt⟩) (ix4 0 0 x l) := by
  unfold outsAt0 out0_A_4
  frame_out
  exact loop1 _ _ _ _ _ _ _ _ _ _ _ _ _ _ _ _ _ _ ⟨h.val, h.isLt⟩ h rfl x l k0_t1_loop.trips le_rfl h.isLt

end Cert.QueriesIdeal.Qry
-- ==== Proof.Qry.Point.lean ====
module
public import proofs.«01_k».proof.Proof.Qry.Loop
/-! One entry of the queries, and the blocks it is computed from. -/
@[expose] public section
set_option maxRecDepth 16384
noncomputable section
namespace Cert.QueriesIdeal.Qry
open Idealize.ShloMosaic Idealize.ShloMosaic.TcCoe Idealize.SL Idealize.SL.Sem
open Cert.QueriesIdeal Cert.QueriesIdeal.Gen

/-- The queries' scale, as both programs print it. -/
abbrev sc : EReal := Ideal.ofBits .f32 0x3DD53B95#32

/-- One entry of a head's product. -/
def pd (v0 : Vec Ideal S1x512x512 .bf16) (v3 : Vec Ideal S1x512 .f32) (w : Vec Ideal S1x512x256 .bf16) (x : Fin 512) (l : Fin 256) : EReal :=
  ∑ k : Fin 512, Lay.rms (fun k => v0 (ix3 0 x k)) (v3 (ix2 0 k)) k * w (ix3 0 k l)

theorem pay1_at (v0 : Vec Ideal S1x512x512 .bf16) (v3 : Vec Ideal S1x512 .f32) (v18 : Vec Ideal S512x128 .f32) (w : Vec Ideal S1x512x256 .bf16) (x : Fin 512) (l : Fin 256) :
    k0_pay1 (F := Ideal) v0 v3 v18 w (ix4 0 0 x l) = (if h : l.val < 128 then pd v0 v3 w x l
      else pd v0 v3 w x l * v18 (ix2 x ⟨l - 128, by omega⟩)
        + pd v0 v3 w x ⟨128 + (l - 128 + 128 - 64) % 128, by omega⟩ * v18 (ix2 x ⟨(l - 128 + 128 - 64) % 128, by omega⟩)) * sc := by
  have hl := l.isLt
  pointwise [k0_pay1]
  by_cases h1 : l.val < 128
  · rw [dif_pos h1, dif_pos h1]
    rfl
  · rw [dif_neg h1, dif_neg h1]
    have e : l = ⟨128 + (l.val - 128), by omega⟩ := Fin.ext (by show l.val = 128 + (l.val - 128); omega)
    refine congrArg (· * sc) (congrArg (· + _) (congrArg (· * _) ?_))
    refine Eq.trans ?_ (congrArg (pd v0 v3 w x) e).symm
    rfl

/-- The column of a head's weight that a column of the widened weight repeats. -/
def src (q : Fin 256) : Fin 192 :=
  ⟨if q.val < 192 then q.val else if (q.val - 192) / 16 % 2 = 0 then q.val - 48 else q.val - 80, by
    have := q.isLt
    split
    · omega
    · split <;> omega⟩

/-- Which columns repeat theirs with the sign changed. -/
abbrev Flip (q : Fin 256) : Prop := 192 ≤ q.val ∧ (q.val - 192) / 16 % 2 = 0

/-- Every head's last columns as two pairs of halves. -/
abbrev X1 (A : Vec Ideal S512x3072 .f32) : Vec Ideal S512x16x2x2x16 .f32 :=
  shapeCast _ (extractStridedSlice S512x16x64 ![0, 0, 128] (shapeCast S512x16x192 A shapeCasts_S512x3072_S512x16x192) slices_S512x16x192_S512x16x64_0_0_128) shapeCasts_S512x16x64_S512x16x2x2x16

theorem X1_at (A : Vec Ideal S512x3072 .f32) (k : Fin 512) (h : Fin 16) (i j : Fin 2) (s : Fin 16) :
    X1 A (ix5 k h i j s) = A (ix2 k ⟨h * 192 + (128 + (i * 32 + j * 16 + s)), by omega⟩) := by
  pointwise [X1]

/-- The halves of each pair exchanged, the first with its sign changed. -/
abbrev X2 (X : Vec Ideal S512x16x2x2x16 .f32) : Vec Ideal S512x16x2x2x16 .f32 :=
  concatenate S512x16x2x2x16 3 [⟨S512x16x2x1x16, broadcastInDim S512x16x2x1x16 ![0, 1, 2, 4] bcast_S512x16x2x16_S512x16x2x1x16_0_1_2_4 (Host.negf (F := Ideal) (φ := .f32) (shapeCast S512x16x2x16 (extractStridedSlice S512x16x2x1x16 ![0, 0, 0, 1, 0] X slices_S512x16x2x2x16_S512x16x2x1x16_0_0_0_1_0) shapeCasts_S512x16x2x1x16_S512x16x2x16))⟩,
    ⟨S512x16x2x1x16, broadcastInDim S512x16x2x1x16 ![0, 1, 2, 4] bcast_S512x16x2x16_S512x16x2x1x16_0_1_2_4 (shapeCast S512x16x2x16 (extractStridedSlice S512x16x2x1x16 ![0, 0, 0, 0, 0] X slices_S512x16x2x2x16_S512x16x2x1x16_0_0_0_0_0) shapeCasts_S512x16x2x1x16_S512x16x2x16)⟩] concatenates_S512x16x2x1x16_S512x16x2x1x16_S512x16x2x2x16_d3

theorem X2_at (X : Vec Ideal S512x16x2x2x16 .f32) (k : Fin 512) (h : Fin 16) (i j : Fin 2) (s : Fin 16) :
    X2 X (ix5 k h i j s) = if j.val = 0 then -X (ix5 k h i 1 s) else X (ix5 k h i 0 s) := by
  pointwise [X2]
  by_cases h : j.val = 0
  · rw [dif_pos (by omega), if_pos h]
  · rw [dif_neg (by omega), if_neg h]

/-- The widened weight, head by head. -/
abbrev W (A : Vec Ideal S512x3072 .f32) (X : Vec Ideal S512x16x2x2x16 .f32) : Vec Ideal S16x512x256 .bf16 :=
  truncf (F := Ideal) (φ := .f32) .bf16 (transpose S16x512x256 [1, 0, 2] (concatenate S512x16x256 2 [⟨S512x16x192, shapeCast S512x16x192 A shapeCasts_S512x3072_S512x16x192⟩, ⟨S512x16x64, shapeCast S512x16x64 X shapeCasts_S512x16x2x2x16_S512x16x64⟩] concatenates_S512x16x192_S512x16x64_S512x16x256_d2) transposes_S512x16x256_S16x512x256_1_0_2) bitsLt_bf16_f32

theorem W_at' (A : Vec Ideal S512x3072 .f32) (X : Vec Ideal S512x16x2x2x16 .f32) (k : Fin 512) (h : Fin 16) (q : Fin 256) :
    W A X (ix3 h k q) = if g : q.val < 192 then A (ix2 k ⟨h * 192 + q, by omega⟩) else X (ix5 k h ⟨(q - 192) / 32, by omega⟩ ⟨(q - 192) / 16 % 2, by omega⟩ ⟨(q - 192) % 16, by omega⟩) := by
  pointwise [W]

theorem W_at (A : Vec Ideal S512x3072 .f32) (k : Fin 512) (h : Fin 16) (q : Fin 256) :
    W A (X2 (X1 A)) (ix3 h k q) = if Flip q then -A (ix2 k ⟨h * 192 + src q, by omega⟩) else A (ix2 k ⟨h * 192 + src q, by omega⟩) := by
  have hq := q.isLt
  have hh := h.isLt
  have E : ∀ (p p' : Fin 3072), p.val = p'.val → A (ix2 k p) = A (ix2 k p') := fun p p' h => by rw [Fin.ext h]
  refine (W_at' A (X2 (X1 A)) k h q).trans ?_
  by_cases h0 : q.val < 192
  · rw [dif_pos h0, if_neg (by omega)]
    exact E _ _ (by show h.val * 192 + q.val = h.val * 192 + (if q.val < 192 then _ else _); rw [if_pos h0])
  · rw [dif_neg h0, X2_at]
    by_cases h2 : (q.val - 192) / 16 % 2 = 0
    · rw [if_pos h2, if_pos ⟨by omega, h2⟩, X1_at]
      refine congrArg (- ·) (E _ _ ?_)
      show h.val * 192 + (128 + ((q.val - 192) / 32 * 32 + 1 * 16 + (q.val - 192) % 16)) = h.val * 192 + (if q.val < 192 then _ else if _ then _ else _)
      rw [if_neg h0, if_pos h2]
      omega
    · rw [if_neg h2, if_neg (fun h' => h2 h'.2), X1_at]
      refine E _ _ ?_
      show h.val * 192 + (128 + ((q.val - 192) / 32 * 32 + 0 * 16 + (q.val - 192) % 16)) = h.val * 192 + (if q.val < 192 then _ else if _ then _ else _)
      rw [if_neg h0, if_neg h2]
      omega

variable (m : (ℓ : Loc nD τ sig) → Buf (Elt Ideal) ℓ)

abbrev a0 (c : Dev nD) : Vec Ideal S2x16384x1152 .bf16 := m ((c : Thread nD τ).loc main_arg0)
abbrev a1 (c : Dev nD) : Vec Ideal S512 .f32 := m ((c : Thread nD τ).loc main_arg1)
abbrev a2 (c : Dev nD) : Vec Ideal S512x3072 .f32 := m ((c : Thread nD τ).loc main_arg2)
abbrev a3 (c : Dev nD) : Vec Ideal S16384x128 .f32 := m ((c : Thread nD τ).loc main_arg3)

theorem idx : ∀ t : Fin cfg0.N, win0_0.index t = ![t.val / 32, t.val % 32, 0] ∧ win0_1.index t = ![0, 0] ∧ win0_2.index t = ![0, 0, 0] ∧ win0_3.index t = ![t.val % 32, 0] ∧ win0_4.index t = ![t.val / 32, 0, t.val % 32, 0] :=
  (by decide +kernel : ∀ t : Fin grid0.N, _)

theorem blk0 (c : Dev nD) (t : Fin cfg0.N) (b : Fin 2) (hb : (b : ℕ) = t.val / 32) (x : Fin 512) (r : Fin 16384) (hr : (r : ℕ) = t.val % 32 * 512 + x) (k : Fin 512) :
    (X0_0 m c t : Vec Ideal S1x512x512 .bf16) (ix3 0 x k) = a0 m c (ix3 b r ⟨k, by omega⟩) := by
  unfold X0_0 Pipeline.Window.fill
  rw [dif_pos (moved0_0 t _)]
  blk_point [iblk, V, idx t, hb, hr]
theorem blk1 (c : Dev nD) (t : Fin cfg0.N) (k : Fin 512) :
    (iblk m c 1 t : Vec Ideal S1x512 .f32) (ix2 0 k) = a1 m c (ix1 k) := by blk_point [iblk, V, idx t]
theorem blk3 (c : Dev nD) (t : Fin cfg0.N) (x : Fin 512) (r : Fin 16384) (hr : (r : ℕ) = t.val % 32 * 512 + x) (k : Fin 128) :
    (iblk m c 3 t : Vec Ideal S512x128 .f32) (ix2 x k) = a3 m c (ix2 r k) := by blk_point [iblk, V, idx t, hr]

theorem Vw (c : Dev nD) : V m c main_v14 = W (a2 m c) (X2 (X1 (a2 m c))) := by
  show StableHlo.after hostOps0 (fun b => m (c, b)) main_v14 = _
  after_results <;> rfl

theorem blk2 (c : Dev nD) (t : Fin cfg0.N) (h : Fin 16) (k : Fin 512) (q : Fin 256) :
    (iblk m c 2 t : Vec Ideal S16x512x256 .bf16) (ix3 h k q) = W (a2 m c) (X2 (X1 (a2 m c))) (ix3 h k q) := by
  rw [← Vw m c]
  show (V m c main_v14 : Vec Ideal S16x512x256 .bf16) ((win0_2.blk t).view.emb (ix3 h k q)) = _
  refine congrArg (V m c main_v14 : Vec Ideal S16x512x256 .bf16) ?_
  blk_ext [idx t]

end Cert.QueriesIdeal.Qry
-- ==== Proof.Qry.Out.lean ====
module
public import proofs.«01_k».proof.Proof.Qry.Point
/-! The queries the kernel leaves. -/
@[expose] public section
set_option maxRecDepth 16384
noncomputable section
namespace Cert.QueriesIdeal.Qry
open Idealize.ShloMosaic Idealize.ShloMosaic.TcCoe Idealize.SL Idealize.SL.Sem
open Cert.QueriesIdeal Cert.QueriesIdeal.Gen

variable (m : (ℓ : Loc nD τ sig) → Buf (Elt Ideal) ℓ)

/-- One entry of a head's product with the widened weight. -/
def Mq (c : Dev nD) (b : Fin 2) (h : Fin 16) (r : Fin 16384) (q : Fin 256) : EReal :=
  ∑ k : Fin 512, Lay.rms (fun k : Fin 512 => a0 m c (ix3 b r ⟨k, by omega⟩)) (a1 m c (ix1 k)) k
    * (if Flip q then -a2 m c (ix2 k ⟨h * 192 + src q, by omega⟩) else a2 m c (ix2 k ⟨h * 192 + src q, by omega⟩))

/-- One query's entry. -/
def G0 (c : Dev nD) (b : Fin 2) (h : Fin 16) (r : Fin 16384) (l : Fin 256) : EReal :=
  (if h1 : l.val < 128 then Mq m c b h r l
    else Mq m c b h r l * a3 m c (ix2 r ⟨l - 128, by omega⟩)
      + Mq m c b h r ⟨128 + (l - 128 + 128 - 64) % 128, by omega⟩ * a3 m c (ix2 r ⟨(l - 128 + 128 - 64) % 128, by omega⟩)) * sc

/-- The queries. -/
def G (c : Dev nD) : Vec Ideal S2x16x16384x256 .bf16 := fun i => G0 m c (i 0) (i 1) (i 2) (i 3)

theorem pd_blk (c : Dev nD) (t : Fin cfg0.N) (b : Fin 2) (r : Fin 16384) (x : Fin 512) (hb : (b : ℕ) = t.val / 32) (hr : (r : ℕ) = t.val % 32 * 512 + x) (h : Fin 16) (l : Fin 256) :
    pd (X0_0 m c t) (iblk m c 1 t) (hw (iblk m c 2 t) ⟨h.val, h.isLt⟩) x l = Mq m c b h r l := by
  unfold pd Mq
  refine Finset.sum_congr rfl fun k _ => congrArg₂ (· * ·) ?_ ?_
  · rw [blk1 m c t k]
    exact congrArg (fun z => Lay.rms z _ k) (funext fun k => blk0 m c t b hb x r hr k)
  · exact ((Lay.head_ld (iblk m c 2 t : Vec Ideal S16x512x256 .bf16) h.val _ (k0_off1_eq ⟨h.val, h.isLt⟩) h.isLt _ k l).trans (blk2 m c t h k l)).trans (W_at _ k h l)

theorem out_blk (c : Dev nD) (t : Fin cfg0.N) (b : Fin 2) (r : Fin 16384) (x : Fin 512) (hb : (b : ℕ) = t.val / 32) (hr : (r : ℕ) = t.val % 32 * 512 + x) (h : Fin 16) (l : Fin 256) :
    outsAt0 m c t (ix4 0 h x l) = G m c (ix4 b h r l) := by
  rw [out1, pay1_at]
  simp only [pd_blk m c t b r x hb hr, blk3 m c t x r hr]
  rfl

open Idealize.ShloMosaic.Pipeline (Dat)

theorem final (c : Dev nD) : (dats m 0 c).arrAt 4 cfg0.N = G m c :=
  (dats m 0 c).arrAt_eq_of_covers 4 _ (by decide +kernel) fun t hf y => by
    have hN : cfg0.N = 64 := N_0
    have htl : t.val < 64 := lt_of_lt_of_eq t.isLt hN
    blk_simp
    rw [after0_4]
    obtain ⟨y0, h, x, d, rfl⟩ : ∃ (y0 : Fin 1) (h : Fin 16) (x : Fin 512) (d : Fin 256), y = ix4 y0 h x d := ⟨y 0, y 1, y 2, y 3, by funext a; fin_cases a <;> rfl⟩
    obtain rfl : y0 = 0 := Subsingleton.elim _ _
    have hx := x.isLt
    have hd := d.isLt
    have hh := h.isLt
    have e : (win0_4.blk t).view.emb (ix4 0 h x d) = (ix4 (⟨t.val / 32, by omega⟩ : Fin 2) h (⟨t.val % 32 * 512 + x, by omega⟩ : Fin 16384) d : S2x16x16384x256.Idx) := by
      blk_ext [idx t]
    exact (out_blk m c t ⟨t.val / 32, by omega⟩ ⟨t.val % 32 * 512 + x, by omega⟩ x rfl rfl h d).trans (congrArg (G m c) e).symm

end Cert.QueriesIdeal.Qry
-- ==== Proof.Qry.Pre.lean ====
module
public import proofs.«01_k».proof.Proof.Gen.Pre_queries_pre
public import proofs.«01_k».proof.Proof.Att.Pre
public import proofs.«01_k».proof.Proof.Kvs.Slab
/-! What the precondition of the queries says, element by element; and the norm of real latents is real. -/
@[expose] public section
set_option maxRecDepth 16384
noncomputable section
namespace Cert.Pre_queries_pre.Qry
open Idealize.ShloMosaic Cert.Pre_queries_pre Cert.Pre_queries_pre.Gen
open Cert.Pre_attend_pre.Att (andi_one all_of lt_top)

theorem fn_one (A0 : FVec Ideal S2x16384x1152 .bf16) (A1 : FVec Ideal S512 .f32) (A2 : FVec Ideal S512x3072 .f32) (A3 : FVec Ideal S16384x128 .f32)
    (j : S_.Idx) (h : fn A0 A1 A2 A3 j = 1#1) :
    (∀ i, ∃ r : ℝ, A0 i = (r : EReal)) ∧ (∀ i, ∃ r : ℝ, A1 i = (r : EReal)) ∧ (∀ i, ∃ r : ℝ, A2 i = (r : EReal)) := by
  obtain ⟨h, h3⟩ := (andi_one _ _).1 h
  obtain ⟨h1, h2⟩ := (andi_one _ _).1 h
  exact ⟨fun i => lt_top _ (all_of _ _ _ _ j h1 i), fun i => lt_top _ (all_of _ _ _ _ j h2 i), fun i => lt_top _ (all_of _ _ _ _ j h3 i)⟩

theorem nr_pos : ∃ y : ℝ, 0 < y ∧ Lay.nr = (y : EReal) := by
  show ∃ y : ℝ, 0 < y ∧ Ideal.ieee 8 23 0x44000000#32 = (y : EReal)
  unfold Ideal.ieee
  dsimp only
  rw [if_neg (by decide), if_neg (by decide)]
  refine ⟨_, ?_, rfl⟩
  rw [if_neg (by decide)]
  positivity

theorem ep_pos : ∃ y : ℝ, 0 < y ∧ Lay.ep = (y : EReal) := by
  show ∃ y : ℝ, 0 < y ∧ Ideal.ieee 8 23 0x358637BD#32 = (y : EReal)
  unfold Ideal.ieee
  dsimp only
  rw [if_neg (by decide), if_neg (by decide)]
  refine ⟨_, ?_, rfl⟩
  rw [if_neg (by decide)]
  positivity

theorem rms_real {n : ℕ} (x : Fin n → EReal) (g : EReal) (j : Fin n) (hx : ∀ k, ∃ r : ℝ, x k = r) (hg : ∃ r : ℝ, g = r) : ∃ r : ℝ, Lay.rms x g j = r := by
  choose y hy using hx
  obtain ⟨g', rfl⟩ := hg
  obtain ⟨N, hN, eN⟩ := nr_pos
  obtain ⟨e, he, ee⟩ := ep_pos
  have hs : 0 ≤ ∑ k, y k * y k := Finset.sum_nonneg fun k _ => mul_self_nonneg _
  have hp : 0 < (∑ k, y k * y k) * (1 / N) + e := by positivity
  refine ⟨y j * (Real.sqrt ((∑ k, y k * y k) * (1 / N) + e))⁻¹ * g', ?_⟩
  unfold Lay.rms
  simp only [hy, ← EReal.coe_mul, ← Online.coe_sum']
  rw [eN, ee, Ideal.div_coe hN.ne', ← EReal.coe_mul, ← EReal.coe_add, Ideal.rsqrt_coe, if_neg (not_lt.2 hp.le), if_neg hp.ne', ← EReal.coe_mul, ← EReal.coe_mul]

end Cert.Pre_queries_pre.Qry
-- ==== Proof.Lai.Out.lean ====
module
public import proofs.«01_k».proof.Proof.Gen.LatentInIdeal.Value
public import proofs.«01_k».proof.Proof.Lay.Norm
public import Idealize.ShloMosaic.Lib.Pipeline.ValueKit
/-! The projection to the latents, with the rotated copy of its last columns: what the kernel leaves. -/
@[expose] public section
set_option maxRecDepth 16384
noncomputable section
namespace Cert.LatentInIdeal.Lai
open Idealize.ShloMosaic Idealize.ShloMosaic.TcCoe Idealize.SL Idealize.SL.Sem
open Cert.LatentInIdeal Cert.LatentInIdeal.Gen

/-- The column of the weight that a column of the widened weight repeats. -/
def src (q : Fin 1152) : Fin 1088 :=
  ⟨if q.val < 1088 then q.val else if (q.val - 1088) / 16 % 2 = 0 then q.val - 48 else q.val - 80, by
    have := q.isLt
    split
    · omega
    · split <;> omega⟩

/-- Which columns repeat theirs with the sign changed. -/
abbrev Flip (q : Fin 1152) : Prop := 1088 ≤ q.val ∧ (q.val - 1088) / 16 % 2 = 0

/-- The last columns as two pairs of halves. -/
abbrev X1 (A : Vec Ideal S2048x1088 .f32) : Vec Ideal S2048x2x2x16 .f32 :=
  shapeCast _ (extractStridedSlice S2048x64 ![0, 1024] A slices_S2048x1088_S2048x64_0_1024) shapeCasts_S2048x64_S2048x2x2x16

theorem X1_at (A : Vec Ideal S2048x1088 .f32) (k : Fin 2048) (i j : Fin 2) (s : Fin 16) :
    X1 A (ix4 k i j s) = A (ix2 k ⟨1024 + (i * 32 + j * 16 + s), by omega⟩) := by
  pointwise [X1]

/-- The halves of each pair exchanged, the first with its sign changed. -/
abbrev X2 (X : Vec Ideal S2048x2x2x16 .f32) : Vec Ideal S2048x2x2x16 .f32 :=
  concatenate S2048x2x2x16 2 [⟨S2048x2x1x16, broadcastInDim S2048x2x1x16 ![0, 1, 3] bcast_S2048x2x16_S2048x2x1x16_0_1_3 (Host.negf (F := Ideal) (φ := .f32) (shapeCast S2048x2x16 (extractStridedSlice S2048x2x1x16 ![0, 0, 1, 0] X slices_S2048x2x2x16_S2048x2x1x16_0_0_1_0) shapeCasts_S2048x2x1x16_S2048x2x16))⟩,
    ⟨S2048x2x1x16, broadcastInDim S2048x2x1x16 ![0, 1, 3] bcast_S2048x2x16_S2048x2x1x16_0_1_3 (shapeCast S2048x2x16 (extractStridedSlice S2048x2x1x16 ![0, 0, 0, 0] X slices_S2048x2x2x16_S2048x2x1x16_0_0_0_0) shapeCasts_S2048x2x1x16_S2048x2x16)⟩] concatenates_S2048x2x1x16_S2048x2x1x16_S2048x2x2x16_d2

theorem X2_at (X : Vec Ideal S2048x2x2x16 .f32) (k : Fin 2048) (i j : Fin 2) (s : Fin 16) :
    X2 X (ix4 k i j s) = if j.val = 0 then -X (ix4 k i 1 s) else X (ix4 k i 0 s) := by
  pointwise [X2]
  by_cases h : j.val = 0
  · rw [dif_pos (by omega), if_pos h]
  · rw [dif_neg (by omega), if_neg h]

/-- The widened weight. -/
abbrev W (A : Vec Ideal S2048x1088 .f32) : Vec Ideal S2048x1152 .bf16 :=
  truncf (F := Ideal) (φ := .f32) .bf16 (concatenate S2048x1152 1 [⟨S2048x1088, A⟩, ⟨S2048x64, shapeCast _ (X2 (X1 A)) shapeCasts_S2048x2x2x16_S2048x64⟩] concatenates_S2048x1088_S2048x64_S2048x1152_d1) bitsLt_bf16_f32

theorem W_at' (A : Vec Ideal S2048x1088 .f32) (X : Vec Ideal S2048x2x2x16 .f32) (k : Fin 2048) (q : Fin 1152) :
    (concatenate S2048x1152 1 [⟨S2048x1088, A⟩, ⟨S2048x64, shapeCast _ X shapeCasts_S2048x2x2x16_S2048x64⟩] concatenates_S2048x1088_S2048x64_S2048x1152_d1 : Vec Ideal S2048x1152 .f32) (ix2 k q)
      = if h : q.val < 1088 then A (ix2 k ⟨q, h⟩) else X (ix4 k ⟨(q - 1088) / 32, by omega⟩ ⟨(q - 1088) / 16 % 2, by omega⟩ ⟨(q - 1088) % 16, by omega⟩) := by
  pointwise

theorem W_at (A : Vec Ideal S2048x1088 .f32) (k : Fin 2048) (q : Fin 1152) :
    W A (ix2 k q) = if Flip q then -A (ix2 k (src q)) else A (ix2 k (src q)) := by
  have hq := q.isLt
  have E : ∀ (p p' : Fin 1088), p.val = p'.val → A (ix2 k p) = A (ix2 k p') := fun p p' h => by rw [Fin.ext h]
  refine (W_at' A (X2 (X1 A)) k q).trans ?_
  by_cases h : q.val < 1088
  · rw [dif_pos h, if_neg (by omega)]
    exact E _ _ (by show q.val = if q.val < 1088 then _ else _; rw [if_pos h])
  · rw [dif_neg h, X2_at]
    by_cases h2 : (q.val - 1088) / 16 % 2 = 0
    · rw [if_pos h2, if_pos ⟨by omega, h2⟩, X1_at]
      refine congrArg (- ·) (E _ _ ?_)
      show 1024 + ((q.val - 1088) / 32 * 32 + 1 * 16 + (q.val - 1088) % 16) = if q.val < 1088 then _ else if _ then _ else _
      rw [if_neg h, if_pos h2]
      omega
    · rw [if_neg h2, if_neg (fun h' => h2 h'.2), X1_at]
      refine E _ _ ?_
      show 1024 + ((q.val - 1088) / 32 * 32 + 0 * 16 + (q.val - 1088) % 16) = if q.val < 1088 then _ else if _ then _ else _
      rw [if_neg h, if_neg h2]
      omega

variable (m : (ℓ : Loc nD τ sig) → Buf (Elt Ideal) ℓ)

abbrev a0 (c : Dev nD) : Vec Ideal S2x16384x2048 .f32 := m ((c : Thread nD τ).loc main_arg0)
abbrev a1 (c : Dev nD) : Vec Ideal S2x1x2048 .f32 := m ((c : Thread nD τ).loc main_arg1)
abbrev a2 (c : Dev nD) : Vec Ideal S2x1x2048 .f32 := m ((c : Thread nD τ).loc main_arg2)
abbrev a3 (c : Dev nD) : Vec Ideal S2048x1088 .f32 := m ((c : Thread nD τ).loc main_arg3)

theorem idx : ∀ t : Fin cfg0.N, win0_0.index t = ![t.val / 32, t.val % 32, 0] ∧ win0_1.index t = ![t.val / 32, 0, 0] ∧ win0_2.index t = ![t.val / 32, 0, 0] ∧ win0_3.index t = ![0, 0] ∧ win0_4.index t = ![0, 0] ∧ win0_5.index t = ![0, t.val / 32, t.val % 32, 0] :=
  (by decide +kernel : ∀ t : Fin grid0.N, _)

theorem blk0 (c : Dev nD) (t : Fin cfg0.N) (b : Fin 2) (hb : (b : ℕ) = t.val / 32) (x : Fin 512) (r : Fin 16384) (hr : (r : ℕ) = t.val % 32 * 512 + x) (k : Fin 2048) :
    (iblk m c 0 t : Vec Ideal S1x512x2048 .f32) (ix3 0 x k) = a0 m c (ix3 b r k) := by blk_point [iblk, V, idx t, hb, hr]
theorem blk1 (c : Dev nD) (t : Fin cfg0.N) (b : Fin 2) (hb : (b : ℕ) = t.val / 32) (k : Fin 2048) :
    (iblk m c 1 t : Vec Ideal S1x1x2048 .f32) (ix3 0 0 k) = a1 m c (ix3 b 0 k) := by blk_point [iblk, V, idx t, hb]
theorem blk2 (c : Dev nD) (t : Fin cfg0.N) (b : Fin 2) (hb : (b : ℕ) = t.val / 32) (k : Fin 2048) :
    (iblk m c 2 t : Vec Ideal S1x1x2048 .f32) (ix3 0 0 k) = a2 m c (ix3 b 0 k) := by blk_point [iblk, V, idx t, hb]

theorem Vw (c : Dev nD) : V m c main_v13 = W (a3 m c) := by
  show StableHlo.after hostOps0 (fun b => m (c, b)) main_v13 = _
  after_results <;> rfl

theorem blk3 (c : Dev nD) (t : Fin cfg0.N) (k : Fin 2048) (q : Fin 1152) :
    (iblk m c 3 t : Vec Ideal S2048x1152 .bf16) (ix2 k q) = W (a3 m c) (ix2 k q) := by
  rw [← Vw m c]
  show (V m c main_v13 : Vec Ideal S2048x1152 .bf16) ((win0_3.blk t).view.emb (ix2 k q)) = _
  refine congrArg (V m c main_v13 : Vec Ideal S2048x1152 .bf16) ?_
  blk_ext [idx t]

theorem Vz (c : Dev nD) : V m c main_v14 = shapeCast S1x1152 (broadcastInDim S1152 ![] bcast_S_S1152 (constant (F := Ideal) S_ .f32 0x00000000#32)) shapeCasts_S1152_S1x1152 := by
  show StableHlo.after hostOps0 (fun b => m (c, b)) main_v14 = _
  after_results <;> rfl

theorem blk4 (c : Dev nD) (t : Fin cfg0.N) (q : Fin 1152) :
    (iblk m c 4 t : Vec Ideal S1x1152 .f32) (ix2 0 q) = (0 : EReal) := by
  have h : (iblk m c 4 t : Vec Ideal S1x1152 .f32) (ix2 0 q) = (V m c main_v14 : Vec Ideal S1x1152 .f32) (ix2 0 q) := by
    show (V m c main_v14 : Vec Ideal S1x1152 .f32) ((win0_4.blk t).view.emb (ix2 0 q)) = _
    refine congrArg (V m c main_v14 : Vec Ideal S1x1152 .f32) ?_
    blk_ext [idx t]
  rw [h, Vz]
  pointwise

theorem pay1_at (x : Vec Ideal S1x512x2048 .f32) (sc sh : Vec Ideal S1x1x2048 .f32) (r : Fin 512) (k : Fin 2048) :
    k0_pay1 (F := Ideal) x sc sh (ix2 r k) = x (ix3 0 r k) * (1 + sc (ix3 0 0 k)) + sh (ix3 0 0 k) := by
  pointwise [k0_pay1]

theorem pay2_at (u : Vec Ideal S512x2048 .bf16) (w : Vec Ideal S2048x1152 .bf16) (b : Vec Ideal S1x1152 .f32) (r : Fin 512) (q : Fin 1152) :
    k0_pay2 (F := Ideal) u w b (ix4 0 0 r q) = (∑ k : Fin 2048, u (ix2 r k) * w (ix2 k q)) + b (ix2 0 q) := by
  pointwise [k0_pay2]
  try simp only [Lay.zero_bits, zero_add]

theorem out_eq (c : Dev nD) (t : Fin cfg0.N) :
    outsAt0 m c t = k0_pay2 (F := Ideal) (k0_pay1 (iblk m c 0 t) (iblk m c 2 t) (iblk m c 1 t)) (iblk m c 3 t) (iblk m c 4 t) := by
  unfold outsAt0 out0_A_5
  frame_out
  try simp (disch := decide) only [View.readCov_cons_toLoadRect, read_unread_whole]
  try rfl

/-- One entry of the product. -/
def T (c : Dev nD) (b : Fin 2) (r : Fin 16384) (q : Fin 1088) : EReal :=
  ∑ k : Fin 2048, (a0 m c (ix3 b r k) * (1 + a2 m c (ix3 b 0 k)) + a1 m c (ix3 b 0 k)) * a3 m c (ix2 k q)

/-- The result. -/
def G (c : Dev nD) : Vec Ideal S1x2x16384x1152 .bf16 := fun i =>
  ∑ k : Fin 2048, (a0 m c (ix3 (i 1) (i 2) k) * (1 + a2 m c (ix3 (i 1) 0 k)) + a1 m c (ix3 (i 1) 0 k)) * (if Flip (i 3) then -a3 m c (ix2 k (src (i 3))) else a3 m c (ix2 k (src (i 3))))

theorem out_blk (c : Dev nD) (t : Fin cfg0.N) (b : Fin 2) (r : Fin 16384) (x : Fin 512) (hb : (b : ℕ) = t.val / 32) (hr : (r : ℕ) = t.val % 32 * 512 + x) (q : Fin 1152) :
    outsAt0 m c t (ix4 0 0 x q) = G m c (ix4 0 b r q) := by
  rw [out_eq, pay2_at, blk4, add_zero]
  refine Finset.sum_congr rfl fun k _ => ?_
  rw [pay1_at, blk0 m c t b hb x r hr k, blk1 m c t b hb k, blk2 m c t b hb k, blk3, W_at]
  rfl

open Idealize.ShloMosaic.Pipeline (Dat)

theorem final (c : Dev nD) : (dats m 0 c).arrAt 5 cfg0.N = G m c :=
  (dats m 0 c).arrAt_eq_of_covers 5 _ (by decide +kernel) fun t hf y => by
    have hN : cfg0.N = 64 := N_0
    have htl : t.val < 64 := lt_of_lt_of_eq t.isLt hN
    blk_simp
    rw [after0_5]
    obtain ⟨y0, y1, x, d, rfl⟩ : ∃ (y0 y1 : Fin 1) (x : Fin 512) (d : Fin 1152), y = ix4 y0 y1 x d := ⟨y 0, y 1, y 2, y 3, by funext a; fin_cases a <;> rfl⟩
    obtain rfl : y0 = 0 := Subsingleton.elim _ _
    obtain rfl : y1 = 0 := Subsingleton.elim _ _
    have hx := x.isLt
    have hd := d.isLt
    have e : (win0_5.blk t).view.emb (ix4 0 0 x d) = (ix4 0 (⟨t.val / 32, by omega⟩ : Fin 2) (⟨t.val % 32 * 512 + x, by omega⟩ : Fin 16384) d : S1x2x16384x1152.Idx) := by
      blk_ext [idx t]
    exact (out_blk m c t ⟨t.val / 32, by omega⟩ ⟨t.val % 32 * 512 + x, by omega⟩ x rfl rfl d).trans (congrArg (G m c) e).symm

end Cert.LatentInIdeal.Lai
-- ==== Proof.Lai.Pre.lean ====
module
public import proofs.«01_k».proof.Proof.Gen.Pre_latent_in_pre
public import proofs.«01_k».proof.Proof.Att.Pre
/-! What the precondition of the latent projection says, element by element. -/
@[expose] public section
set_option maxRecDepth 16384
noncomputable section
namespace Cert.Pre_latent_in_pre.Lai
open Idealize.ShloMosaic Cert.Pre_latent_in_pre Cert.Pre_latent_in_pre.Gen
open Cert.Pre_attend_pre.Att (andi_one all_of lt_top)

theorem fn_one (A0 : FVec Ideal S2x16384x2048 .f32) (A1 A2 : FVec Ideal S2x1x2048 .f32) (A3 : FVec Ideal S2048x1088 .f32)
    (j : S_.Idx) (h : fn A0 A1 A2 A3 j = 1#1) :
    (∀ i, ∃ r : ℝ, A0 i = (r : EReal)) ∧ (∀ i, ∃ r : ℝ, A1 i = (r : EReal)) ∧ (∀ i, ∃ r : ℝ, A2 i = (r : EReal)) ∧ (∀ i, ∃ r : ℝ, A3 i = (r : EReal)) := by
  obtain ⟨h, h4⟩ := (andi_one _ _).1 h
  obtain ⟨h, h3⟩ := (andi_one _ _).1 h
  obtain ⟨h1, h2⟩ := (andi_one _ _).1 h
  exact ⟨fun i => lt_top _ (all_of _ _ _ _ j h1 i), fun i => lt_top _ (all_of _ _ _ _ j h2 i), fun i => lt_top _ (all_of _ _ _ _ j h3 i), fun i => lt_top _ (all_of _ _ _ _ j h4 i)⟩

end Cert.Pre_latent_in_pre.Lai
-- ==== Proof.Lai.Ref.lean ====
module
public import proofs.«01_k».proof.Proof.Gen.LatentInRefIdeal.Run
public import proofs.«01_k».proof.Proof.Lai.Out
public import proofs.«01_k».proof.Proof.Lai.Pre
/-! The plain latent projection, followed by the rotated copy of its last columns, is what the kernel leaves. -/
@[expose] public section
set_option maxRecDepth 16384
noncomputable section
namespace Cert.LatentInRefIdeal.Lai
open Idealize.ShloMosaic Idealize.ShloMosaic.TcCoe Idealize.SL Idealize.SL.Sem
open Cert.LatentInRefIdeal Cert.LatentInRefIdeal.Gen
open Cert.LatentInIdeal.Lai (src Flip)

/-- The projection. -/
abbrev D (A0 : Vec Ideal S2x16384x2048 .f32) (A1 A2 : Vec Ideal S2x1x2048 .f32) (A3 : Vec Ideal S2048x1088 .f32) : Vec Ideal S2x16384x1088 .f32 :=
  Host.dotGeneral (F := Ideal) (φ₁ := .f32) (φ₂ := .f32) dot_S2x16384x2048_S2048x1088_S2x16384x1088_2_0_01_1_n_n none (addf (F := Ideal) (φ := .f32) (mulf A0 (broadcastInDim S2x16384x2048 ![0, 1, 2] bcast_S2x1x2048_S2x16384x2048_0_1_2 (addf (broadcastInDim S2x1x2048 ![] bcast_S_S2x1x2048 (constant S_ .f32 0x3F800000#32)) A2))) (broadcastInDim S2x16384x2048 ![0, 1, 2] bcast_S2x1x2048_S2x16384x2048_0_1_2 A1)) A3

theorem D_at (A0 : Vec Ideal S2x16384x2048 .f32) (A1 A2 : Vec Ideal S2x1x2048 .f32) (A3 : Vec Ideal S2048x1088 .f32) (b : Fin 2) (r : Fin 16384) (p : Fin 1088) :
    D A0 A1 A2 A3 (ix3 b r p) = ∑ k : Fin 2048, (A0 (ix3 b r k) * (1 + A2 (ix3 b 0 k)) + A1 (ix3 b 0 k)) * A3 (ix2 k p) := by
  pointwise [D]

/-- The last columns as two pairs of halves. -/
abbrev Y1 (A : Vec Ideal S2x16384x1088 .f32) : Vec Ideal S2x16384x2x2x16 .f32 :=
  shapeCast _ (extractStridedSlice S2x16384x64 ![0, 0, 1024] A slices_S2x16384x1088_S2x16384x64_0_0_1024) shapeCasts_S2x16384x64_S2x16384x2x2x16

theorem Y1_at (A : Vec Ideal S2x16384x1088 .f32) (b : Fin 2) (r : Fin 16384) (i j : Fin 2) (s : Fin 16) :
    Y1 A (ix5 b r i j s) = A (ix3 b r ⟨1024 + (i * 32 + j * 16 + s), by omega⟩) := by
  pointwise [Y1]

/-- The halves of each pair exchanged, the first with its sign changed. -/
abbrev Y2 (X : Vec Ideal S2x16384x2x2x16 .f32) : Vec Ideal S2x16384x2x2x16 .f32 :=
  concatenate S2x16384x2x2x16 3 [⟨S2x16384x2x1x16, broadcastInDim S2x16384x2x1x16 ![0, 1, 2, 4] bcast_S2x16384x2x16_S2x16384x2x1x16_0_1_2_4 (Host.negf (F := Ideal) (φ := .f32) (shapeCast S2x16384x2x16 (extractStridedSlice S2x16384x2x1x16 ![0, 0, 0, 1, 0] X slices_S2x16384x2x2x16_S2x16384x2x1x16_0_0_0_1_0) shapeCasts_S2x16384x2x1x16_S2x16384x2x16))⟩,
    ⟨S2x16384x2x1x16, broadcastInDim S2x16384x2x1x16 ![0, 1, 2, 4] bcast_S2x16384x2x16_S2x16384x2x1x16_0_1_2_4 (shapeCast S2x16384x2x16 (extractStridedSlice S2x16384x2x1x16 ![0, 0, 0, 0, 0] X slices_S2x16384x2x2x16_S2x16384x2x1x16_0_0_0_0_0) shapeCasts_S2x16384x2x1x16_S2x16384x2x16)⟩] concatenates_S2x16384x2x1x16_S2x16384x2x1x16_S2x16384x2x2x16_d3

theorem Y2_at (X : Vec Ideal S2x16384x2x2x16 .f32) (b : Fin 2) (r : Fin 16384) (i j : Fin 2) (s : Fin 16) :
    Y2 X (ix5 b r i j s) = if j.val = 0 then -X (ix5 b r i 1 s) else X (ix5 b r i 0 s) := by
  pointwise [Y2]
  by_cases h : j.val = 0
  · rw [dif_pos (by omega), if_pos h]
  · rw [dif_neg (by omega), if_neg h]

/-- The columns followed by the rotated ones. -/
abbrev R (A : Vec Ideal S2x16384x1088 .f32) (X : Vec Ideal S2x16384x2x2x16 .f32) : Vec Ideal S1x2x16384x1152 .bf16 :=
  truncf (F := Ideal) (φ := .f32) .bf16 (broadcastInDim S1x2x16384x1152 ![1, 2, 3] bcast_S2x16384x1152_S1x2x16384x1152_1_2_3 (concatenate S2x16384x1152 2 [⟨S2x16384x1088, A⟩, ⟨S2x16384x64, shapeCast _ X shapeCasts_S2x16384x2x2x16_S2x16384x64⟩] concatenates_S2x16384x1088_S2x16384x64_S2x16384x1152_d2)) bitsLt_bf16_f32

theorem R_at' (A : Vec Ideal S2x16384x1088 .f32) (X : Vec Ideal S2x16384x2x2x16 .f32) (b : Fin 2) (r : Fin 16384) (q : Fin 1152) :
    R A X (ix4 0 b r q) = if h : q.val < 1088 then A (ix3 b r ⟨q, h⟩) else X (ix5 b r ⟨(q - 1088) / 32, by omega⟩ ⟨(q - 1088) / 16 % 2, by omega⟩ ⟨(q - 1088) % 16, by omega⟩) := by
  pointwise [R]

theorem R_at (A : Vec Ideal S2x16384x1088 .f32) (b : Fin 2) (r : Fin 16384) (q : Fin 1152) :
    R A (Y2 (Y1 A)) (ix4 0 b r q) = if Flip q then -A (ix3 b r (src q)) else A (ix3 b r (src q)) := by
  have hq := q.isLt
  have E : ∀ (p p' : Fin 1088), p.val = p'.val → A (ix3 b r p) = A (ix3 b r p') := fun p p' h => by rw [Fin.ext h]
  refine (R_at' A (Y2 (Y1 A)) b r q).trans ?_
  by_cases h : q.val < 1088
  · rw [dif_pos h, if_neg (by omega)]
    exact E _ _ (by show q.val = if q.val < 1088 then _ else _; rw [if_pos h])
  · rw [dif_neg h, Y2_at]
    by_cases h2 : (q.val - 1088) / 16 % 2 = 0
    · rw [if_pos h2, if_pos ⟨by omega, h2⟩, Y1_at]
      refine congrArg (- ·) (E _ _ ?_)
      show 1024 + ((q.val - 1088) / 32 * 32 + 1 * 16 + (q.val - 1088) % 16) = if q.val < 1088 then _ else if _ then _ else _
      rw [if_neg h, if_pos h2]
      omega
    · rw [if_neg h2, if_neg (fun h' => h2 h'.2), Y1_at]
      refine E _ _ ?_
      show 1024 + ((q.val - 1088) / 32 * 32 + 0 * 16 + (q.val - 1088) % 16) = if q.val < 1088 then _ else if _ then _ else _
      rw [if_neg h, if_neg h2]
      omega

/-- A finite sum of reals with every term's sign changed. -/
theorem neg_sum {n : ℕ} (u w : Fin n → EReal) (hu : ∀ k, ∃ x : ℝ, u k = x) (hw : ∀ k, ∃ x : ℝ, w k = x) :
    -(∑ k, u k * w k) = ∑ k, u k * -w k := by
  choose x hx using hu
  choose y hy using hw
  simp only [hx, hy, ← EReal.coe_mul, ← EReal.coe_neg, ← Online.coe_sum']
  exact congrArg _ (by rw [← Finset.sum_neg_distrib]; exact Finset.sum_congr rfl fun k _ => by ring)

set_option maxHeartbeats 4000000 in
theorem ref_eq (m : (ℓ : Loc Cert.LatentInIdeal.nD Cert.LatentInIdeal.τ Cert.LatentInIdeal.sig) → Buf (Elt Ideal) ℓ) (c : Dev Cert.LatentInIdeal.nD)
    (h0 : ∀ i, ∃ x : ℝ, Cert.LatentInIdeal.Lai.a0 m c i = (x : EReal)) (h1 : ∀ i, ∃ x : ℝ, Cert.LatentInIdeal.Lai.a1 m c i = (x : EReal))
    (h2 : ∀ i, ∃ x : ℝ, Cert.LatentInIdeal.Lai.a2 m c i = (x : EReal)) (h3 : ∀ i, ∃ x : ℝ, Cert.LatentInIdeal.Lai.a3 m c i = (x : EReal)) :
    R (D (Cert.LatentInIdeal.Lai.a0 m c) (Cert.LatentInIdeal.Lai.a1 m c) (Cert.LatentInIdeal.Lai.a2 m c) (Cert.LatentInIdeal.Lai.a3 m c))
      (Y2 (Y1 (D (Cert.LatentInIdeal.Lai.a0 m c) (Cert.LatentInIdeal.Lai.a1 m c) (Cert.LatentInIdeal.Lai.a2 m c) (Cert.LatentInIdeal.Lai.a3 m c)))) = Cert.LatentInIdeal.Lai.G m c := by
  funext i
  obtain ⟨z, b, r, q, rfl⟩ : ∃ (z : Fin 1) (b : Fin 2) (r : Fin 16384) (q : Fin 1152), i = ix4 z b r q := ⟨i 0, i 1, i 2, i 3, by funext a; fin_cases a <;> rfl⟩
  obtain rfl : z = 0 := Subsingleton.elim _ _
  rw [R_at, D_at]
  show _ = ∑ k : Fin 2048, _ * (if Flip q then _ else _)
  by_cases h : Flip q
  · simp only [if_pos h]
    refine neg_sum _ _ (fun k => ?_) fun k => h3 _
    obtain ⟨x, hx⟩ := h0 (ix3 b r k)
    obtain ⟨y, hy⟩ := h1 (ix3 b 0 k)
    obtain ⟨z, hz⟩ := h2 (ix3 b 0 k)
    exact ⟨x * (1 + z) + y, by rw [hx, hy, hz]; norm_cast⟩
  · simp only [if_neg h]
    rfl

set_option maxHeartbeats 4000000 in
/-- The run of the plain program, its results by their names here. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = R (D (m ((c.tc : Thread nD τ).loc main_arg0)) (m ((c.tc : Thread nD τ).loc main_arg1)) (m ((c.tc : Thread nD τ).loc main_arg2)) (m ((c.tc : Thread nD τ).loc main_arg3))) (Y2 (Y1 (D (m ((c.tc : Thread nD τ).loc main_arg0)) (m ((c.tc : Thread nD τ).loc main_arg1)) (m ((c.tc : Thread nD τ).loc main_arg2)) (m ((c.tc : Thread nD τ).loc main_arg3)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.LatentInRefIdeal.Value.run (F := Ideal) m ρ

end Cert.LatentInRefIdeal.Lai
-- ==== Proof.Qry.Ref.lean ====
module
public import proofs.«01_k».proof.Proof.Gen.QueriesRefIdeal.Run
public import proofs.«01_k».proof.Proof.Qry.Out
public import proofs.«01_k».proof.Proof.Qry.Pre
public import proofs.«01_k».proof.Proof.Lai.Ref
/-! The plain queries are what the kernel leaves. -/
@[expose] public section
set_option maxRecDepth 16384
noncomputable section
namespace Cert.QueriesRefIdeal.Qry
open Idealize.ShloMosaic Idealize.ShloMosaic.TcCoe Idealize.SL Idealize.SL.Sem
open Cert.QueriesRefIdeal Cert.QueriesRefIdeal.Gen
open Cert.QueriesIdeal.Qry (src Flip Mq G G0 a0 a1 a2 a3 sc)

/-- The normed latents' projection. -/
abbrev D (A0 : Vec Ideal S2x16384x1152 .bf16) (A1 : Vec Ideal S512 .f32) (A2 : Vec Ideal S512x3072 .f32) : Vec Ideal S2x16384x3072 .f32 :=
  Host.dotGeneral (F := Ideal) (φ₁ := .f32) (φ₂ := .f32) dot_S2x16384x512_S512x3072_S2x16384x3072_2_0_01_1_n_n none (mulf (F := Ideal) (φ := .f32) (mulf (extf .f32 (extractStridedSlice S2x16384x512 ![0, 0, 0] A0 slices_S2x16384x1152_S2x16384x512_0_0_0) bitsLt_bf16_f32) (broadcastInDim S2x16384x512 ![0, 1, 2] bcast_S2x16384x1_S2x16384x512_0_1_2 (Host.rsqrt (addf (Host.divf (broadcastInDim S2x16384x1 ![0, 1] bcast_S2x16384_S2x16384x1_0_1 (Host.reduceAdd (mulf (extf .f32 (extractStridedSlice S2x16384x512 ![0, 0, 0] A0 slices_S2x16384x1152_S2x16384x512_0_0_0) bitsLt_bf16_f32) (extf .f32 (extractStridedSlice S2x16384x512 ![0, 0, 0] A0 slices_S2x16384x1152_S2x16384x512_0_0_0) bitsLt_bf16_f32)) (constant S_ .f32 0x00000000#32) reducesTo_S2x16384x512_S2x16384_d2 h_S_)) (broadcastInDim S2x16384x1 ![] bcast_S_S2x16384x1 (constant S_ .f32 0x44000000#32))) (broadcastInDim S2x16384x1 ![] bcast_S_S2x16384x1 (constant S_ .f32 0x358637BD#32)))))) (broadcastInDim S2x16384x512 ![0, 1, 2] bcast_S1x1x512_S2x16384x512_0_1_2 (broadcastInDim S1x1x512 ![2] bcast_S512_S1x1x512_2 A1))) A2

theorem D_at (A0 : Vec Ideal S2x16384x1152 .bf16) (A1 : Vec Ideal S512 .f32) (A2 : Vec Ideal S512x3072 .f32) (b : Fin 2) (r : Fin 16384) (p : Fin 3072) :
    D A0 A1 A2 (ix3 b r p) = ∑ k : Fin 512, Lay.rms (fun k : Fin 512 => A0 (ix3 b r ⟨k, by omega⟩)) (A1 (ix1 k)) k * A2 (ix2 k p) := by
  pointwise [D]
  simp only [Lay.zero_bits, zero_add, Lay.rms]

/-- Every head's rotary columns. -/
abbrev U (P : Vec Ideal S2x16384x3072 .f32) : Vec Ideal S2x16384x16x64 .f32 :=
  extractStridedSlice S2x16384x16x64 ![0, 0, 0, 128] (shapeCast S2x16384x16x192 P shapeCasts_S2x16384x3072_S2x16384x16x192) slices_S2x16384x16x192_S2x16384x16x64_0_0_0_128

/-- The halves of each pair exchanged, the first with its sign changed. -/
abbrev Y2 (X : Vec Ideal S2x16384x16x2x2x16 .f32) : Vec Ideal S2x16384x16x2x2x16 .f32 :=
  concatenate S2x16384x16x2x2x16 4 [⟨S2x16384x16x2x1x16, broadcastInDim S2x16384x16x2x1x16 ![0, 1, 2, 3, 5] bcast_S2x16384x16x2x16_S2x16384x16x2x1x16_0_1_2_3_5 (Host.negf (F := Ideal) (φ := .f32) (shapeCast S2x16384x16x2x16 (extractStridedSlice S2x16384x16x2x1x16 ![0, 0, 0, 0, 1, 0] X slices_S2x16384x16x2x2x16_S2x16384x16x2x1x16_0_0_0_0_1_0) shapeCasts_S2x16384x16x2x1x16_S2x16384x16x2x16))⟩,
    ⟨S2x16384x16x2x1x16, broadcastInDim S2x16384x16x2x1x16 ![0, 1, 2, 3, 5] bcast_S2x16384x16x2x16_S2x16384x16x2x1x16_0_1_2_3_5 (shapeCast S2x16384x16x2x16 (extractStridedSlice S2x16384x16x2x1x16 ![0, 0, 0, 0, 0, 0] X slices_S2x16384x16x2x2x16_S2x16384x16x2x1x16_0_0_0_0_0_0) shapeCasts_S2x16384x16x2x1x16_S2x16384x16x2x16)⟩] concatenates_S2x16384x16x2x1x16_S2x16384x16x2x1x16_S2x16384x16x2x2x16_d4

theorem Y2_at (X : Vec Ideal S2x16384x16x2x2x16 .f32) (b : Fin 2) (r : Fin 16384) (h : Fin 16) (i j : Fin 2) (s : Fin 16) :
    Y2 X (ix6 b r h i j s) = if j.val = 0 then -X (ix6 b r h i 1 s) else X (ix6 b r h i 0 s) := by
  pointwise [Y2]
  by_cases h : j.val = 0
  · rw [dif_pos (by omega), if_pos h]
  · rw [dif_neg (by omega), if_neg h]

/-- The rotary columns' half turn. -/
abbrev Rot (P : Vec Ideal S2x16384x3072 .f32) : Vec Ideal S2x16384x16x64 .f32 :=
  shapeCast S2x16384x16x64 (Y2 (shapeCast S2x16384x16x2x2x16 (U P) shapeCasts_S2x16384x16x64_S2x16384x16x2x2x16)) shapeCasts_S2x16384x16x2x2x16_S2x16384x16x64

theorem turn (X : Vec Ideal S2x16384x16x2x2x16 .f32) (b : Fin 2) (r : Fin 16384) (h : Fin 16) (p : Fin 64) :
    (shapeCast S2x16384x16x64 X shapeCasts_S2x16384x16x2x2x16_S2x16384x16x64 : Vec Ideal S2x16384x16x64 .f32) (ix4 b r h p)
      = X (ix6 b r h ⟨p / 32, by omega⟩ ⟨p / 16 % 2, by omega⟩ ⟨p % 16, by omega⟩) := by
  pointwise

theorem pairs (P : Vec Ideal S2x16384x3072 .f32) (b : Fin 2) (r : Fin 16384) (h : Fin 16) (i j : Fin 2) (s : Fin 16) :
    (shapeCast S2x16384x16x2x2x16 (U P) shapeCasts_S2x16384x16x64_S2x16384x16x2x2x16 : Vec Ideal S2x16384x16x2x2x16 .f32) (ix6 b r h i j s)
      = P (ix3 b r ⟨h * 192 + (128 + (i * 32 + j * 16 + s)), by omega⟩) := by
  pointwise [U]

theorem Rot_at (P : Vec Ideal S2x16384x3072 .f32) (b : Fin 2) (r : Fin 16384) (h : Fin 16) (p : Fin 64) :
    Rot P (ix4 b r h p) = if Flip ⟨192 + p, by omega⟩ then -P (ix3 b r ⟨h * 192 + src ⟨192 + p, by omega⟩, by omega⟩) else P (ix3 b r ⟨h * 192 + src ⟨192 + p, by omega⟩, by omega⟩) := by
  have hp := p.isLt
  have hh := h.isLt
  have E : ∀ (p p' : Fin 3072), p.val = p'.val → P (ix3 b r p) = P (ix3 b r p') := fun p p' h => by rw [Fin.ext h]
  refine (turn _ b r h p).trans ?_
  rw [Y2_at, pairs, pairs]
  by_cases h2 : p.val / 16 % 2 = 0
  · have h3 : Flip ⟨192 + p, by omega⟩ := ⟨by show 192 ≤ 192 + p.val; omega, by show (192 + p.val - 192) / 16 % 2 = 0; omega⟩
    refine (if_pos h2).trans (Eq.trans ?_ (if_pos h3).symm)
    refine congrArg (- ·) (E _ _ ?_)
    show h.val * 192 + (128 + (p.val / 32 * 32 + 1 * 16 + p.val % 16)) = h.val * 192 + (if 192 + p.val < 192 then _ else if (192 + p.val - 192) / 16 % 2 = 0 then 192 + p.val - 48 else _)
    rw [if_neg (by omega), if_pos (by omega)]
    omega
  · have h3 : ¬ Flip ⟨192 + p, by omega⟩ := fun h' => h2 (by have : (192 + p.val - 192) / 16 % 2 = 0 := h'.2; omega)
    refine (if_neg h2).trans (Eq.trans ?_ (if_neg h3).symm)
    refine E _ _ ?_
    show h.val * 192 + (128 + (p.val / 32 * 32 + 0 * 16 + p.val % 16)) = h.val * 192 + (if 192 + p.val < 192 then _ else if (192 + p.val - 192) / 16 % 2 = 0 then _ else 192 + p.val - 80)
    rw [if_neg (by omega), if_neg (by omega)]
    omega

/-- The rotated columns. -/
abbrev Rope (V W : Vec Ideal S2x16384x16x64 .f32) (A3 : Vec Ideal S16384x128 .f32) : Vec Ideal S2x16384x16x64 .f32 :=
  addf (F := Ideal) (φ := .f32) (mulf V (broadcastInDim S2x16384x16x64 ![0, 1, 2, 3] bcast_S1x16384x1x64_S2x16384x16x64_0_1_2_3 (broadcastInDim S1x16384x1x64 ![1, 3] bcast_S16384x64_S1x16384x1x64_1_3 (extractStridedSlice S16384x64 ![0, 0] A3 slices_S16384x128_S16384x64_0_0)))) (mulf W (broadcastInDim S2x16384x16x64 ![0, 1, 2, 3] bcast_S1x16384x1x64_S2x16384x16x64_0_1_2_3 (broadcastInDim S1x16384x1x64 ![1, 3] bcast_S16384x64_S1x16384x1x64_1_3 (extractStridedSlice S16384x64 ![0, 64] A3 slices_S16384x128_S16384x64_0_64))))

theorem Rope_at (V W : Vec Ideal S2x16384x16x64 .f32) (A3 : Vec Ideal S16384x128 .f32) (b : Fin 2) (r : Fin 16384) (h : Fin 16) (p : Fin 64) :
    Rope V W A3 (ix4 b r h p) = V (ix4 b r h p) * A3 (ix2 r ⟨p, by omega⟩) + W (ix4 b r h p) * A3 (ix2 r ⟨64 + p, by omega⟩) := by
  pointwise [Rope]

/-- The columns, the rotated ones twice, scaled, head by head. -/
abbrev O (P : Vec Ideal S2x16384x3072 .f32) (R : Vec Ideal S2x16384x16x64 .f32) : Vec Ideal S2x16x16384x256 .bf16 :=
  truncf (F := Ideal) (φ := .f32) .bf16 (mulf (transpose S2x16x16384x256 [0, 2, 1, 3] (concatenate S2x16384x16x256 3 [⟨S2x16384x16x128, (extractStridedSlice S2x16384x16x128 ![0, 0, 0, 0] (shapeCast S2x16384x16x192 P shapeCasts_S2x16384x3072_S2x16384x16x192) slices_S2x16384x16x192_S2x16384x16x128_0_0_0_0)⟩, ⟨S2x16384x16x64, R⟩, ⟨S2x16384x16x64, R⟩] concatenates_S2x16384x16x128_S2x16384x16x64_S2x16384x16x64_S2x16384x16x256_d3) transposes_S2x16384x16x256_S2x16x16384x256_0_2_1_3) (broadcastInDim S2x16x16384x256 ![] bcast_S_S2x16x16384x256 (constant S_ .f32 0x3DD53B95#32))) bitsLt_bf16_f32

theorem O_at (P : Vec Ideal S2x16384x3072 .f32) (R : Vec Ideal S2x16384x16x64 .f32) (b : Fin 2) (h : Fin 16) (r : Fin 16384) (l : Fin 256) :
    O P R (ix4 b h r l) = (if g : l.val < 128 then P (ix3 b r ⟨h * 192 + l, by omega⟩) else R (ix4 b r h ⟨(l - 128) % 64, by omega⟩)) * sc := by
  have hl := l.isLt
  pointwise [O]
  refine congrArg (· * sc) ?_
  have E : ∀ p p' : Fin 64, p.val = p'.val → R (ix4 b r h p) = R (ix4 b r h p') := fun p p' h => by rw [Fin.ext h]
  by_cases h1 : l.val < 128
  · refine (dif_pos h1).trans (Eq.trans ?_ (dif_pos h1).symm)
    rfl
  · refine (dif_neg h1).trans (Eq.trans ?_ (dif_neg h1).symm)
    by_cases h2 : l.val - 128 < 64
    · refine (dif_pos h2).trans (E _ _ ?_)
      show l.val - 128 = (l.val - 128) % 64
      omega
    · refine (dif_neg h2).trans (E _ _ ?_)
      show l.val - 128 - 64 = (l.val - 128) % 64
      omega

theorem res_at (m : (ℓ : Loc nD τ sig) → Buf (Elt Ideal) ℓ) (c : Dev nD) : Cert.QueriesRefIdeal.Value.res_out0 (F := Ideal) m c
    = O (D (m ((c.tc : Thread nD τ).loc main_arg0)) (m ((c.tc : Thread nD τ).loc main_arg1)) (m ((c.tc : Thread nD τ).loc main_arg2)))
      (Rope (U (D (m ((c.tc : Thread nD τ).loc main_arg0)) (m ((c.tc : Thread nD τ).loc main_arg1)) (m ((c.tc : Thread nD τ).loc main_arg2))))
        (Rot (D (m ((c.tc : Thread nD τ).loc main_arg0)) (m ((c.tc : Thread nD τ).loc main_arg1)) (m ((c.tc : Thread nD τ).loc main_arg2)))) (m ((c.tc : Thread nD τ).loc main_arg3))) := by
  unfold Cert.QueriesRefIdeal.Value.res_out0 Cert.QueriesRefIdeal.Value.res_main_v42
  rfl

variable (m : (ℓ : Loc Cert.QueriesIdeal.nD Cert.QueriesIdeal.τ Cert.QueriesIdeal.sig) → Buf (Elt Ideal) ℓ) (c : Dev Cert.QueriesIdeal.nD)

/-- The projection's column that a column of the widened product repeats. -/
theorem M_at (h0 : ∀ i, ∃ x : ℝ, a0 m c i = (x : EReal)) (h1 : ∀ i, ∃ x : ℝ, a1 m c i = (x : EReal)) (h2 : ∀ i, ∃ x : ℝ, a2 m c i = (x : EReal))
    (b : Fin 2) (h : Fin 16) (r : Fin 16384) (q : Fin 256) :
    Mq m c b h r q = if Flip q then -D (a0 m c) (a1 m c) (a2 m c) (ix3 b r ⟨h * 192 + src q, by omega⟩) else D (a0 m c) (a1 m c) (a2 m c) (ix3 b r ⟨h * 192 + src q, by omega⟩) := by
  rw [D_at]
  unfold Mq
  by_cases hf : Flip q
  · simp only [if_pos hf]
    exact (Cert.LatentInRefIdeal.Lai.neg_sum _ _ (fun k => Cert.Pre_queries_pre.Qry.rms_real _ _ _ (fun k => h0 _) (h1 _)) fun k => h2 _).symm
  · simp only [if_neg hf]

theorem ref_eq (h0 : ∀ i, ∃ x : ℝ, a0 m c i = (x : EReal)) (h1 : ∀ i, ∃ x : ℝ, a1 m c i = (x : EReal)) (h2 : ∀ i, ∃ x : ℝ, a2 m c i = (x : EReal)) :
    O (D (a0 m c) (a1 m c) (a2 m c)) (Rope (U (D (a0 m c) (a1 m c) (a2 m c))) (Rot (D (a0 m c) (a1 m c) (a2 m c))) (a3 m c)) = G m c := by
  funext i
  obtain ⟨b, h, r, l, rfl⟩ : ∃ (b : Fin 2) (h : Fin 16) (r : Fin 16384) (l : Fin 256), i = ix4 b h r l := ⟨i 0, i 1, i 2, i 3, by funext a; fin_cases a <;> rfl⟩
  have hl := l.isLt
  have hh := h.isLt
  have E : ∀ (p p' : Fin 3072), p.val = p'.val → D (a0 m c) (a1 m c) (a2 m c) (ix3 b r p) = D (a0 m c) (a1 m c) (a2 m c) (ix3 b r p') := fun p p' h => by rw [Fin.ext h]
  have lo : ∀ (q : Fin 256) (hq : q.val < 192), Mq m c b h r q = D (a0 m c) (a1 m c) (a2 m c) (ix3 b r ⟨h * 192 + q, by omega⟩) := fun q hq => by
    rw [M_at m c h0 h1 h2, if_neg (fun h' => by have := h'.1; omega)]
    exact E _ _ (by show h.val * 192 + (if q.val < 192 then _ else _) = _; rw [if_pos hq])
  have hi : ∀ (p : Fin 64), Mq m c b h r ⟨192 + p, by omega⟩ = Rot (D (a0 m c) (a1 m c) (a2 m c)) (ix4 b r h p) := fun p => by
    rw [M_at m c h0 h1 h2, Rot_at]
  have u : ∀ (p : Fin 64), Mq m c b h r ⟨128 + p, by omega⟩ = U (D (a0 m c) (a1 m c) (a2 m c)) (ix4 b r h p) := fun p => by
    rw [lo _ (by show 128 + p.val < 192; omega)]
    pointwise [U]
  have F : ∀ q q' : Fin 256, q.val = q'.val → Mq m c b h r q = Mq m c b h r q' := fun q q' h => by rw [Fin.ext h]
  have C : ∀ q q' : Fin 128, q.val = q'.val → a3 m c (ix2 r q) = a3 m c (ix2 r q') := fun q q' h => by rw [Fin.ext h]
  rw [O_at]
  refine Eq.trans ?_ (show G0 m c b h r l = _ from rfl)
  unfold G0
  refine congrArg (· * sc) ?_
  by_cases h1 : l.val < 128
  · refine (dif_pos h1).trans (Eq.trans ?_ (dif_pos h1).symm)
    exact (lo l (by omega)).symm
  · refine (dif_neg h1).trans (Eq.trans ?_ (dif_neg h1).symm)
    rw [Rope_at, ← u, ← hi]
    by_cases h3 : l.val < 192
    · refine congrArg₂ (· + ·) (congrArg₂ (· * ·) (F _ _ ?_) (C _ _ ?_)) (congrArg₂ (· * ·) (F _ _ ?_) (C _ _ ?_))
      · show 128 + (l.val - 128) % 64 = l.val; omega
      · show (l.val - 128) % 64 = l.val - 128; omega
      · show 192 + (l.val - 128) % 64 = 128 + (l.val - 128 + 128 - 64) % 128; omega
      · show 64 + (l.val - 128) % 64 = (l.val - 128 + 128 - 64) % 128; omega
    · rw [add_comm]
      refine congrArg₂ (· + ·) (congrArg₂ (· * ·) (F _ _ ?_) (C _ _ ?_)) (congrArg₂ (· * ·) (F _ _ ?_) (C _ _ ?_))
      · show 192 + (l.val - 128) % 64 = l.val; omega
      · show 64 + (l.val - 128) % 64 = l.val - 128; omega
      · show 128 + (l.val - 128) % 64 = 128 + (l.val - 128 + 128 - 64) % 128; omega
      · show (l.val - 128) % 64 = (l.val - 128 + 128 - 64) % 128; omega

end Cert.QueriesRefIdeal.Qry
-- ==== Proof.Kvs.Loop.lean ====
module
public import proofs.«01_k».proof.Proof.Gen.KeysValuesIdeal.Value
public import proofs.«01_k».proof.Proof.Kvs.Slab
/-! What the loop over the heads leaves in the two blocks, head by head. -/
@[expose] public section
set_option maxRecDepth 16384
noncomputable section
namespace Cert.KeysValuesIdeal.Kvs
open Idealize.ShloMosaic Idealize.ShloMosaic.TcCoe Idealize.SL Idealize.SL.Sem
open Cert.KeysValuesIdeal Cert.KeysValuesIdeal.Gen

section
variable (𝒱 : Variants) (c : Dev nD) (bd : Option 𝒱.V) (i : grid0.Coords) (arg2 : Memref sig .tc .vmem S1x512x512 .bf16) (harg2 : arg2.IsWhole) (arg3 : Memref sig .tc .vmem S1x512x128 .bf16) (harg3 : arg3.IsWhole) (arg4 : Memref sig .tc .vmem S1x512 .f32) (harg4 : arg4.IsWhole) (arg5 : Memref sig .tc .vmem S16x512x256 .bf16) (harg5 : arg5.IsWhole) (arg6 : Memref sig .tc .vmem S512x128 .f32) (harg6 : arg6.IsWhole) (arg7 : Memref sig .tc .vmem S1x16x512x256 .bf16) (harg7 : arg7.IsWhole) (arg8 : Memref sig .tc .vmem S1x16x144x512 .bf16) (harg8 : arg8.IsWhole) (v0 : Vec Ideal S1x512x512 .bf16) (v3 : Vec Ideal S1x512 .f32) (v18 : Vec Ideal S1x512x128 .bf16) (v21 : Vec Ideal S512x128 .f32) (w : Vec Ideal S16x512x256 .bf16)

/-- One head's weight. -/
abbrev hw (k : Fin k0_t1_loop.trips) : Vec Ideal S1x512x256 .bf16 := View.ld w (Rect.unit (s := S16x512x256) (k0_off1 k) S1x512x256.size (k0_off1_inb k))

theorem trip1 (k : Fin k0_t1_loop.trips) :
    (tripL_k0_t1 (F := Ideal) 𝒱 c bd i arg2 harg2 arg3 harg3 arg4 harg4 arg5 harg5 arg6 harg6 arg7 harg7 arg8 harg8 v0 v3 v18 v21 (harg5.unread w) k).1
      = [⟨Rect.unit (s := S1x16x512x256) (k0_off2 k) S1x1x512x256.size (k0_off2_inb k), k0_pay2 (F := Ideal) v0 v3 v18 v21 (hw w k)⟩] := by
  unfold tripL_k0_t1
  dsimp only
  unfold trip_k0_t1
  dsimp only
  frame_out
  try rfl

theorem trip2 (k : Fin k0_t1_loop.trips) :
    (tripL_k0_t1 (F := Ideal) 𝒱 c bd i arg2 harg2 arg3 harg3 arg4 harg4 arg5 harg5 arg6 harg6 arg7 harg7 arg8 harg8 v0 v3 v18 v21 (harg5.unread w) k).2
      = [⟨Rect.unit (s := S1x16x144x512) (k0_off3 k) S1x1x144x512.size (k0_off3_inb k), k0_pay3 (F := Ideal) v0 v3 (hw w k)⟩] := by
  unfold tripL_k0_t1
  dsimp only
  unfold trip_k0_t1
  dsimp only
  frame_out
  try rfl

theorem loop1 (h : Fin k0_t1_loop.trips) (g : Fin 16) (hg : g.val = h.val) (x : Fin 512) (l : Fin 256) : ∀ n ≤ k0_t1_loop.trips, h.val < n →
    View.canon (pb_k0_t1 (F := Ideal) 𝒱 c bd i arg2 harg2 arg3 harg3 arg4 harg4 arg5 harg5 arg6 harg6 arg7 harg7 arg8 harg8 v0 v3 v18 v21 (harg5.unread w) n).1 (ix4 0 g x l)
      = k0_pay2 (F := Ideal) v0 v3 v18 v21 (hw w h) (ix4 0 0 x l) := by
  intro n
  induction n with
  | zero => intro _ h0; exact absurd h0 (Nat.not_lt_zero _)
  | succ n ih =>
    intro hn hh
    refine (congrFun (congrArg View.canon ((congrArg Prod.fst (pb_k0_t1_succ (F := Ideal) 𝒱 c bd i arg2 harg2 arg3 harg3 arg4 harg4 arg5 harg5 arg6 harg6 arg7 harg7 arg8 harg8 v0 v3 v18 v21 (harg5.unread w) ⟨n, hn⟩)).trans
      (congrArg (fun z => z ++ _) (trip1 𝒱 c bd i arg2 harg2 arg3 harg3 arg4 harg4 arg5 harg5 arg6 harg6 arg7 harg7 arg8 harg8 v0 v3 v18 v21 w ⟨n, hn⟩)))) _).trans ?_
    refine Lay.head_cons n _ (k0_off2_eq ⟨n, hn⟩) _ _ _ _ _ _ _ (fun hi => ?_) fun hi => ih (by omega) ?_
    · obtain rfl : h = ⟨n, hn⟩ := Fin.ext (hg.symm.trans hi)
      rfl
    · omega

theorem loop2 (h : Fin k0_t1_loop.trips) (g : Fin 16) (hg : g.val = h.val) (x : Fin 144) (l : Fin 512) : ∀ n ≤ k0_t1_loop.trips, h.val < n →
    View.canon (pb_k0_t1 (F := Ideal) 𝒱 c bd i arg2 harg2 arg3 harg3 arg4 harg4 arg5 harg5 arg6 harg6 arg7 harg7 arg8 harg8 v0 v3 v18 v21 (harg5.unread w) n).2 (ix4 0 g x l)
      = k0_pay3 (F := Ideal) v0 v3 (hw w h) (ix4 0 0 x l) := by
  intro n
  induction n with
  | zero => intro _ h0; exact absurd h0 (Nat.not_lt_zero _)
  | succ n ih =>
    intro hn hh
    refine (congrFun (congrArg View.canon ((congrArg Prod.snd (pb_k0_t1_succ (F := Ideal) 𝒱 c bd i arg2 harg2 arg3 harg3 arg4 harg4 arg5 harg5 arg6 harg6 arg7 harg7 arg8 harg8 v0 v3 v18 v21 (harg5.unread w) ⟨n, hn⟩)).trans
      (congrArg (fun z => z ++ _) (trip2 𝒱 c bd i arg2 harg2 arg3 harg3 arg4 harg4 arg5 harg5 arg6 harg6 arg7 harg7 arg8 harg8 v0 v3 v18 v21 w ⟨n, hn⟩)))) _).trans ?_
    refine Lay.head_cons n _ (k0_off3_eq ⟨n, hn⟩) _ _ _ _ _ _ _ (fun hi => ?_) fun hi => ih (by omega) ?_
    · obtain rfl : h = ⟨n, hn⟩ := Fin.ext (hg.symm.trans hi)
      rfl
    · omega
end

variable (m : (ℓ : Loc nD τ sig) → Buf (Elt Ideal) ℓ)

theorem out1 (c : Dev nD) (t : Fin cfg0.N) (h : Fin 16) (x : Fin 512) (l : Fin 256) :
    (outsAt0 m c t).1 (ix4 0 h x l) = k0_pay2 (F := Ideal) (X0_0 m c t) (iblk m c 2 t) (iblk m c 1 t) (iblk m c 4 t) (hw (iblk m c 3 t) ⟨h.val, h.isLt⟩) (ix4 0 0 x l) := by
  unfold outsAt0 out0_A_5
  frame_out
  exact loop1 _ _ _ _ _ _ _ _ _ _ _ _ _ _ _ _ _ _ _ _ _ _ _ ⟨h.val, h.isLt⟩ h rfl x l k0_t1_loop.trips le_rfl h.isLt

theorem out2 (c : Dev nD) (t : Fin cfg0.N) (h : Fin 16) (x : Fin 144) (l : Fin 512) :
    (outsAt0 m c t).2 (ix4 0 h x l) = k0_pay3 (F := Ideal) (X0_0 m c t) (iblk m c 2 t) (hw (iblk m c 3 t) ⟨h.val, h.isLt⟩) (ix4 0 0 x l) := by
  unfold outsAt0 out0_A_6
  frame_out
  exact loop2 _ _ _ _ _ _ _ _ _ _ _ _ _ _ _ _ _ _ _ _ _ _ _ ⟨h.val, h.isLt⟩ h rfl x l k0_t1_loop.trips le_rfl h.isLt

end Cert.KeysValuesIdeal.Kvs
-- ==== Proof.Kvs.Point.lean ====
module
public import proofs.«01_k».proof.Proof.Kvs.Loop
/-! One entry of the keys and of the values, and the blocks they are computed from. -/
@[expose] public section
set_option maxRecDepth 16384
noncomputable section
namespace Cert.KeysValuesIdeal.Kvs
open Idealize.ShloMosaic Idealize.ShloMosaic.TcCoe Idealize.SL Idealize.SL.Sem
open Cert.KeysValuesIdeal Cert.KeysValuesIdeal.Gen

theorem pay1_at (v0 : Vec Ideal S1x512x512 .bf16) (v3 : Vec Ideal S1x512 .f32) (w : Vec Ideal S1x512x256 .bf16) (x : Fin 512) (l : Fin 256) :
    k0_pay1 (F := Ideal) v0 v3 w (ix2 x l) = ∑ k : Fin 512, Lay.rms (fun k => v0 (ix3 0 x k)) (v3 (ix2 0 k)) k * w (ix3 0 k l) := by
  pointwise [k0_pay1]
  simp only [Lay.zero_bits, zero_add, Lay.rms]

theorem lane (p : Fin 128) (a b : EReal) : Scalar.select (IntOp.cmpi .slt (BitVec.ofNat 32 p.val) 64#32) a b = if p.val < 64 then a else b := by
  have h : ∀ p : Fin 128, IntOp.cmpi .slt (BitVec.ofNat 32 p.val) 64#32 = if p.val < 64 then 1#1 else 0#1 := by decide
  rw [h]
  split <;> rfl

theorem pay2_at (v0 : Vec Ideal S1x512x512 .bf16) (v3 : Vec Ideal S1x512 .f32) (v18 : Vec Ideal S1x512x128 .bf16) (v21 : Vec Ideal S512x128 .f32) (w : Vec Ideal S1x512x256 .bf16) (x : Fin 512) (l : Fin 256) :
    k0_pay2 (F := Ideal) v0 v3 v18 v21 w (ix4 0 0 x l) = if l.val < 128 then k0_pay1 (F := Ideal) v0 v3 w (ix2 x l)
      else if h : 128 ≤ l.val ∧ l.val < 192 then v18 (ix3 0 x ⟨l - 128, by omega⟩) * v21 (ix2 x ⟨l - 128, by omega⟩) + v18 (ix3 0 x ⟨l - 64, by omega⟩) * v21 (ix2 x ⟨l - 64, by omega⟩) else 0 := by
  have hl := l.isLt
  have E : ∀ p p' : Fin 128, p.val = p'.val → v18 (ix3 0 x p) * v21 (ix2 x p) = v18 (ix3 0 x p') * v21 (ix2 x p') := fun p p' h => by rw [Fin.ext h]
  pointwise [k0_pay2]
  by_cases h1 : l.val < 128
  · rw [dif_pos h1, if_pos h1]
  · rw [dif_neg h1, if_neg h1]
    refine (lane ⟨l.val - 128, by omega⟩ _ _).trans ?_
    by_cases h2 : l.val < 192
    · rw [if_pos (by show l.val - 128 < 64; omega), dif_pos ⟨by omega, h2⟩]
      refine congrArg (_ + ·) (E _ _ ?_)
      show (l.val - 128 + 128 - 64) % 128 = l.val - 64
      omega
    · rw [if_neg (by show ¬ l.val - 128 < 64; omega), dif_neg fun h => h2 h.2]

theorem pay3_at (v0 : Vec Ideal S1x512x512 .bf16) (v3 : Vec Ideal S1x512 .f32) (w : Vec Ideal S1x512x256 .bf16) (j : Fin 144) (x : Fin 512) :
    k0_pay3 (F := Ideal) v0 v3 w (ix4 0 0 j x) = if h : j.val < 128 then k0_pay1 (F := Ideal) v0 v3 w (ix2 x ⟨128 + j, by omega⟩) else (1 : EReal) := by
  pointwise [k0_pay3]

variable (m : (ℓ : Loc nD τ sig) → Buf (Elt Ideal) ℓ)

abbrev a0 (c : Dev nD) : Vec Ideal S2x16384x1152 .bf16 := m ((c : Thread nD τ).loc main_arg0)
abbrev a1 (c : Dev nD) : Vec Ideal S512 .f32 := m ((c : Thread nD τ).loc main_arg1)
abbrev a2 (c : Dev nD) : Vec Ideal S512x4096 .f32 := m ((c : Thread nD τ).loc main_arg2)
abbrev a3 (c : Dev nD) : Vec Ideal S16384x128 .f32 := m ((c : Thread nD τ).loc main_arg3)

theorem idx : ∀ t : Fin cfg0.N, win0_0.index t = ![t.val / 32, t.val % 32, 1] ∧ win0_1.index t = ![t.val / 32, t.val % 32, 8] ∧ win0_2.index t = ![0, 0] ∧ win0_3.index t = ![0, 0, 0] ∧ win0_4.index t = ![t.val % 32, 0] ∧ win0_5.index t = ![t.val / 32, 0, t.val % 32, 0] ∧ win0_6.index t = ![t.val / 32, 0, 0, t.val % 32] :=
  (by decide +kernel : ∀ t : Fin grid0.N, _)

theorem blk0 (c : Dev nD) (t : Fin cfg0.N) (b : Fin 2) (hb : (b : ℕ) = t.val / 32) (x : Fin 512) (r : Fin 16384) (hr : (r : ℕ) = t.val % 32 * 512 + x) (k : Fin 512) :
    (X0_0 m c t : Vec Ideal S1x512x512 .bf16) (ix3 0 x k) = a0 m c (ix3 b r ⟨512 + k, by omega⟩) := by
  unfold X0_0 Pipeline.Window.fill
  rw [dif_pos (moved0_0 t _)]
  blk_point [iblk, V, idx t, hb, hr]
theorem blk1 (c : Dev nD) (t : Fin cfg0.N) (b : Fin 2) (hb : (b : ℕ) = t.val / 32) (x : Fin 512) (r : Fin 16384) (hr : (r : ℕ) = t.val % 32 * 512 + x) (k : Fin 128) :
    (iblk m c 1 t : Vec Ideal S1x512x128 .bf16) (ix3 0 x k) = a0 m c (ix3 b r ⟨1024 + k, by omega⟩) := by blk_point [iblk, V, idx t, hb, hr]
theorem blk2 (c : Dev nD) (t : Fin cfg0.N) (k : Fin 512) :
    (iblk m c 2 t : Vec Ideal S1x512 .f32) (ix2 0 k) = a1 m c (ix1 k) := by blk_point [iblk, V, idx t]
theorem blk3 (c : Dev nD) (t : Fin cfg0.N) (h : Fin 16) (k : Fin 512) (l : Fin 256) :
    (iblk m c 3 t : Vec Ideal S16x512x256 .bf16) (ix3 h k l) = a2 m c (ix2 k ⟨h * 256 + l, by omega⟩) := by blk_point [iblk, V, idx t]
theorem blk4 (c : Dev nD) (t : Fin cfg0.N) (x : Fin 512) (r : Fin 16384) (hr : (r : ℕ) = t.val % 32 * 512 + x) (k : Fin 128) :
    (iblk m c 4 t : Vec Ideal S512x128 .f32) (ix2 x k) = a3 m c (ix2 r k) := by blk_point [iblk, V, idx t, hr]

end Cert.KeysValuesIdeal.Kvs
-- ==== Proof.Kvs.Out.lean ====
module
public import proofs.«01_k».proof.Proof.Kvs.Point
/-! The keys and the values the kernel leaves. -/
@[expose] public section
set_option maxRecDepth 16384
noncomputable section
namespace Cert.KeysValuesIdeal.Kvs
open Idealize.ShloMosaic Idealize.ShloMosaic.TcCoe Idealize.SL Idealize.SL.Sem
open Cert.KeysValuesIdeal Cert.KeysValuesIdeal.Gen

variable (m : (ℓ : Loc nD τ sig) → Buf (Elt Ideal) ℓ)

/-- One entry of the normed latents' projection. -/
def pr (c : Dev nD) (b : Fin 2) (r : Fin 16384) (p : Fin 4096) : EReal :=
  ∑ k : Fin 512, Lay.rms (fun k : Fin 512 => a0 m c (ix3 b r ⟨512 + k, by omega⟩)) (a1 m c (ix1 k)) k * a2 m c (ix2 k p)

/-- The keys. -/
def G1 (c : Dev nD) : Vec Ideal S2x16x16384x256 .bf16 := fun i =>
  if (i 3).val < 128 then pr m c (i 0) (i 2) ⟨(i 1).val * 256 + (i 3).val, by have h1 : (i 1).val < 16 := (i 1).isLt; have h3 : (i 3).val < 256 := (i 3).isLt; omega⟩
  else if h : 128 ≤ (i 3).val ∧ (i 3).val < 192 then
    a0 m c (ix3 (i 0) (i 2) ⟨1024 + ((i 3).val - 128), by omega⟩) * a3 m c (ix2 (i 2) ⟨(i 3).val - 128, by omega⟩)
      + a0 m c (ix3 (i 0) (i 2) ⟨1024 + ((i 3).val - 64), by omega⟩) * a3 m c (ix2 (i 2) ⟨(i 3).val - 64, by omega⟩)
  else 0

/-- The values, one column to a position, over rows of ones. -/
def G2 (c : Dev nD) : Vec Ideal S2x16x144x16384 .bf16 := fun i =>
  if h : (i 2).val < 128 then pr m c (i 0) (i 3) ⟨(i 1).val * 256 + (128 + (i 2).val), by have h1 : (i 1).val < 16 := (i 1).isLt; omega⟩
  else (1 : EReal)

theorem pay1_blk (c : Dev nD) (t : Fin cfg0.N) (b : Fin 2) (r : Fin 16384) (x : Fin 512) (hb : (b : ℕ) = t.val / 32) (hr : (r : ℕ) = t.val % 32 * 512 + x) (h : Fin 16) (l : Fin 256) :
    k0_pay1 (F := Ideal) (X0_0 m c t) (iblk m c 2 t) (hw (iblk m c 3 t) ⟨h.val, h.isLt⟩) (ix2 x l) = pr m c b r ⟨h * 256 + l, by omega⟩ := by
  rw [pay1_at, pr]
  refine Finset.sum_congr rfl fun k _ => congrArg₂ (· * ·) ?_ ?_
  · rw [blk2 m c t k]
    exact congrArg (fun z => Lay.rms z _ k) (funext fun k => blk0 m c t b hb x r hr k)
  · exact (Lay.head_ld (iblk m c 3 t : Vec Ideal S16x512x256 .bf16) h.val _ (k0_off1_eq ⟨h.val, h.isLt⟩) h.isLt _ k l).trans (blk3 m c t h k l)

theorem out1_blk (c : Dev nD) (t : Fin cfg0.N) (b : Fin 2) (r : Fin 16384) (x : Fin 512) (hb : (b : ℕ) = t.val / 32) (hr : (r : ℕ) = t.val % 32 * 512 + x) (h : Fin 16) (l : Fin 256) :
    (outsAt0 m c t).1 (ix4 0 h x l) = G1 m c (ix4 b h r l) := by
  rw [out1, pay2_at, pay1_blk m c t b r x hb hr]
  by_cases h1 : l.val < 128
  · rw [if_pos h1]
    exact (if_pos h1).symm
  · rw [if_neg h1]
    refine Eq.trans ?_ (if_neg h1).symm
    by_cases h2 : 128 ≤ l.val ∧ l.val < 192
    · rw [dif_pos h2]
      refine Eq.trans ?_ (dif_pos h2).symm
      rw [blk1 m c t b hb x r hr, blk1 m c t b hb x r hr, blk4 m c t x r hr, blk4 m c t x r hr]
      rfl
    · rw [dif_neg h2]
      refine Eq.trans ?_ (dif_neg h2).symm
      rfl

theorem out2_blk (c : Dev nD) (t : Fin cfg0.N) (b : Fin 2) (r : Fin 16384) (x : Fin 512) (hb : (b : ℕ) = t.val / 32) (hr : (r : ℕ) = t.val % 32 * 512 + x) (h : Fin 16) (j : Fin 144) :
    (outsAt0 m c t).2 (ix4 0 h j x) = G2 m c (ix4 b h j r) := by
  rw [out2, pay3_at]
  unfold G2
  by_cases h1 : j.val < 128
  · rw [dif_pos h1, pay1_blk m c t b r x hb hr]
    refine Eq.trans ?_ (dif_pos h1).symm
    rfl
  · rw [dif_neg h1]
    refine Eq.trans ?_ (dif_neg h1).symm
    rfl

open Idealize.ShloMosaic.Pipeline (Dat)

theorem final1 (c : Dev nD) : (dats m 0 c).arrAt 5 cfg0.N = G1 m c :=
  (dats m 0 c).arrAt_eq_of_covers 5 _ (by decide +kernel) fun t hf y => by
    have hN : cfg0.N = 64 := N_0
    have htl : t.val < 64 := lt_of_lt_of_eq t.isLt hN
    blk_simp
    rw [after0_5]
    obtain ⟨y0, h, x, d, rfl⟩ : ∃ (y0 : Fin 1) (h : Fin 16) (x : Fin 512) (d : Fin 256), y = ix4 y0 h x d := ⟨y 0, y 1, y 2, y 3, by funext a; fin_cases a <;> rfl⟩
    obtain rfl : y0 = 0 := Subsingleton.elim _ _
    have hx := x.isLt
    have hd := d.isLt
    have hh := h.isLt
    have e : (win0_5.blk t).view.emb (ix4 0 h x d) = (ix4 (⟨t.val / 32, by omega⟩ : Fin 2) h (⟨t.val % 32 * 512 + x, by omega⟩ : Fin 16384) d : S2x16x16384x256.Idx) := by
      blk_ext [idx t]
    exact (out1_blk m c t ⟨t.val / 32, by omega⟩ ⟨t.val % 32 * 512 + x, by omega⟩ x rfl rfl h d).trans (congrArg (G1 m c) e).symm

theorem final2 (c : Dev nD) : (dats m 0 c).arrAt 6 cfg0.N = G2 m c :=
  (dats m 0 c).arrAt_eq_of_covers 6 _ (by decide +kernel) fun t hf y => by
    have hN : cfg0.N = 64 := N_0
    have htl : t.val < 64 := lt_of_lt_of_eq t.isLt hN
    blk_simp
    rw [after0_6]
    obtain ⟨y0, h, j, x, rfl⟩ : ∃ (y0 : Fin 1) (h : Fin 16) (j : Fin 144) (x : Fin 512), y = ix4 y0 h j x := ⟨y 0, y 1, y 2, y 3, by funext a; fin_cases a <;> rfl⟩
    obtain rfl : y0 = 0 := Subsingleton.elim _ _
    have hx := x.isLt
    have hj := j.isLt
    have hh := h.isLt
    have e : (win0_6.blk t).view.emb (ix4 0 h j x) = (ix4 (⟨t.val / 32, by omega⟩ : Fin 2) h j (⟨t.val % 32 * 512 + x, by omega⟩ : Fin 16384) : S2x16x144x16384.Idx) := by
      blk_ext [idx t]
    exact (out2_blk m c t ⟨t.val / 32, by omega⟩ ⟨t.val % 32 * 512 + x, by omega⟩ x rfl rfl h j).trans (congrArg (G2 m c) e).symm

end Cert.KeysValuesIdeal.Kvs
-- ==== Proof.Kvs.Ref.lean ====
module
public import proofs.«01_k».proof.Proof.Gen.KeysValuesRefIdeal.Run
public import proofs.«01_k».proof.Proof.Gen.Pre_keys_values_pre
public import proofs.«01_k».proof.Proof.Att.Pre
public import proofs.«01_k».proof.Proof.Kvs.Out
/-! The plain keys and values are what the kernel leaves. -/
@[expose] public section
set_option maxRecDepth 16384
noncomputable section
namespace Cert.KeysValuesRefIdeal.Kvs
open Idealize.ShloMosaic Idealize.ShloMosaic.TcCoe Idealize.SL Idealize.SL.Sem
open Cert.KeysValuesRefIdeal Cert.KeysValuesRefIdeal.Gen

/-- The halves of each pair exchanged, the first with its sign changed. -/
abbrev Y2 (X : Vec Ideal S2x16384x2x2x16 .f32) : Vec Ideal S2x16384x2x2x16 .f32 :=
  concatenate S2x16384x2x2x16 3 [⟨S2x16384x2x1x16, broadcastInDim S2x16384x2x1x16 ![0, 1, 2, 4] bcast_S2x16384x2x16_S2x16384x2x1x16_0_1_2_4 (Host.negf (F := Ideal) (φ := .f32) (shapeCast S2x16384x2x16 (extractStridedSlice S2x16384x2x1x16 ![0, 0, 0, 1, 0] X slices_S2x16384x2x2x16_S2x16384x2x1x16_0_0_0_1_0) shapeCasts_S2x16384x2x1x16_S2x16384x2x16))⟩,
    ⟨S2x16384x2x1x16, broadcastInDim S2x16384x2x1x16 ![0, 1, 2, 4] bcast_S2x16384x2x16_S2x16384x2x1x16_0_1_2_4 (shapeCast S2x16384x2x16 (extractStridedSlice S2x16384x2x1x16 ![0, 0, 0, 0, 0] X slices_S2x16384x2x2x16_S2x16384x2x1x16_0_0_0_0_0) shapeCasts_S2x16384x2x1x16_S2x16384x2x16)⟩] concatenates_S2x16384x2x1x16_S2x16384x2x1x16_S2x16384x2x2x16_d3

/-- The rotary columns of the latents. -/
abbrev K (A : Vec Ideal S2x16384x1152 .bf16) : Vec Ideal S2x16384x64 .f32 :=
  extractStridedSlice S2x16384x64 ![0, 0, 1024] (extf (F := Ideal) (φ := .bf16) .f32 A bitsLt_bf16_f32) slices_S2x16384x1152_S2x16384x64_0_0_1024

/-- Their half turn. -/
abbrev Rot (U : Vec Ideal S2x16384x64 .f32) : Vec Ideal S2x16384x64 .f32 :=
  shapeCast S2x16384x64 (Y2 (shapeCast S2x16384x2x2x16 U shapeCasts_S2x16384x64_S2x16384x2x2x16)) shapeCasts_S2x16384x2x2x16_S2x16384x64

/-- The half turn is what the last columns hold. -/
abbrev Turned (A : Vec Ideal S2x16384x1152 .bf16) : Prop := ∀ (b : Fin 2) (r : Fin 16384) (p : Fin 64), A (ix3 b r ⟨1088 + p, by omega⟩) = Rot (K A) (ix3 b r p)

theorem turned (A0 : Vec Ideal S2x16384x1152 .bf16) (A1 : Vec Ideal S512 .f32) (A2 : Vec Ideal S512x4096 .f32) (A3 : Vec Ideal S16384x128 .f32) (j : S_.Idx)
    (h : Cert.Pre_keys_values_pre.fn (F := Ideal) A0 A1 A2 A3 j = 1#1) : Turned A0 := by
  intro b r p
  have e := Cert.Pre_attend_pre.Att.cmp_one (Cert.Pre_attend_pre.Att.all_of _ _ _ _ j h (ix3 b r p))
  refine Eq.trans ?_ e
  pointwise

/-- The normed latents' projection. -/
abbrev D (A0 : Vec Ideal S2x16384x1152 .bf16) (A1 : Vec Ideal S512 .f32) (A2 : Vec Ideal S512x4096 .f32) : Vec Ideal S2x16384x4096 .f32 :=
  Host.dotGeneral (F := Ideal) (φ₁ := .f32) (φ₂ := .f32) dot_S2x16384x512_S512x4096_S2x16384x4096_2_0_01_1_n_n none (mulf (F := Ideal) (φ := .f32) (mulf (extf .f32 (extractStridedSlice S2x16384x512 ![0, 0, 512] A0 slices_S2x16384x1152_S2x16384x512_0_0_512) bitsLt_bf16_f32) (broadcastInDim S2x16384x512 ![0, 1, 2] bcast_S2x16384x1_S2x16384x512_0_1_2 (Host.rsqrt (addf (Host.divf (broadcastInDim S2x16384x1 ![0, 1] bcast_S2x16384_S2x16384x1_0_1 (Host.reduceAdd (mulf (extf .f32 (extractStridedSlice S2x16384x512 ![0, 0, 512] A0 slices_S2x16384x1152_S2x16384x512_0_0_512) bitsLt_bf16_f32) (extf .f32 (extractStridedSlice S2x16384x512 ![0, 0, 512] A0 slices_S2x16384x1152_S2x16384x512_0_0_512) bitsLt_bf16_f32)) (constant S_ .f32 0x00000000#32) reducesTo_S2x16384x512_S2x16384_d2 h_S_)) (broadcastInDim S2x16384x1 ![] bcast_S_S2x16384x1 (constant S_ .f32 0x44000000#32))) (broadcastInDim S2x16384x1 ![] bcast_S_S2x16384x1 (constant S_ .f32 0x358637BD#32)))))) (broadcastInDim S2x16384x512 ![0, 1, 2] bcast_S1x1x512_S2x16384x512_0_1_2 (broadcastInDim S1x1x512 ![2] bcast_S512_S1x1x512_2 A1))) A2

theorem D_at (A0 : Vec Ideal S2x16384x1152 .bf16) (A1 : Vec Ideal S512 .f32) (A2 : Vec Ideal S512x4096 .f32) (b : Fin 2) (r : Fin 16384) (p : Fin 4096) :
    D A0 A1 A2 (ix3 b r p) = ∑ k : Fin 512, Lay.rms (fun k : Fin 512 => A0 (ix3 b r ⟨512 + k, by omega⟩)) (A1 (ix1 k)) k * A2 (ix2 k p) := by
  pointwise [D]
  simp only [Lay.zero_bits, zero_add, Lay.rms]

/-- The keys from the projection, the rotary columns, and their half turn. -/
abbrev O1 (P : Vec Ideal S2x16384x4096 .f32) (U V : Vec Ideal S2x16384x64 .f32) (A3 : Vec Ideal S16384x128 .f32) : Vec Ideal S2x16x16384x256 .bf16 :=
  truncf (F := Ideal) (φ := .f32) .bf16 (transpose S2x16x16384x256 [0, 2, 1, 3] (concatenate S2x16384x16x256 3 [⟨S2x16384x16x128, (extractStridedSlice S2x16384x16x128 ![0, 0, 0, 0] (shapeCast _ P shapeCasts_S2x16384x4096_S2x16384x16x256) slices_S2x16384x16x256_S2x16384x16x128_0_0_0_0)⟩,
    ⟨S2x16384x16x64, (broadcastInDim S2x16384x16x64 ![0, 1, 2, 3] bcast_S2x16384x1x64_S2x16384x16x64_0_1_2_3 (broadcastInDim S2x16384x1x64 ![0, 1, 3] bcast_S2x16384x64_S2x16384x1x64_0_1_3 (addf (F := Ideal) (φ := .f32) (mulf U (broadcastInDim S2x16384x64 ![0, 1, 2] bcast_S1x16384x64_S2x16384x64_0_1_2 (broadcastInDim S1x16384x64 ![1, 2] bcast_S16384x64_S1x16384x64_1_2 (extractStridedSlice S16384x64 ![0, 0] A3 slices_S16384x128_S16384x64_0_0)))) (mulf V (broadcastInDim S2x16384x64 ![0, 1, 2] bcast_S1x16384x64_S2x16384x64_0_1_2 (broadcastInDim S1x16384x64 ![1, 2] bcast_S16384x64_S1x16384x64_1_2 (extractStridedSlice S16384x64 ![0, 64] A3 slices_S16384x128_S16384x64_0_64)))))))⟩,
    ⟨S2x16384x16x64, (broadcastInDim S2x16384x16x64 ![] bcast_S_S2x16384x16x64 (constant S_ .f32 0x00000000#32))⟩] concatenates_S2x16384x16x128_S2x16384x16x64_S2x16384x16x64_S2x16384x16x256_d3) transposes_S2x16384x16x256_S2x16x16384x256_0_2_1_3) bitsLt_bf16_f32

theorem O1_at (P : Vec Ideal S2x16384x4096 .f32) (U V : Vec Ideal S2x16384x64 .f32) (A3 : Vec Ideal S16384x128 .f32) (b : Fin 2) (h : Fin 16) (r : Fin 16384) (l : Fin 256) :
    O1 P U V A3 (ix4 b h r l) = if l.val < 128 then P (ix3 b r ⟨h * 256 + l, by omega⟩)
      else if h : 128 ≤ l.val ∧ l.val < 192 then U (ix3 b r ⟨l - 128, by omega⟩) * A3 (ix2 r ⟨l - 128, by omega⟩) + V (ix3 b r ⟨l - 128, by omega⟩) * A3 (ix2 r ⟨l - 64, by omega⟩) else (0 : EReal) := by
  pointwise [O1]
  have hl := l.isLt
  by_cases h1 : l.val < 128
  · rw [dif_pos h1, if_pos h1]
  · rw [dif_neg h1, if_neg h1]
    by_cases h2 : l.val - 128 < 64
    · have h3 : 128 ≤ l.val ∧ l.val < 192 := ⟨by omega, by omega⟩
      refine Eq.trans (dif_pos h2) (Eq.trans ?_ (dif_pos h3).symm)
      have e : (⟨64 + (l.val - 128), by omega⟩ : Fin 128) = ⟨l.val - 64, by omega⟩ := Fin.ext (by show 64 + (l.val - 128) = l.val - 64; omega)
      exact congrArg (fun z => U (ix3 b r ⟨l.val - 128, by omega⟩) * A3 (ix2 r ⟨l.val - 128, by omega⟩) + V (ix3 b r ⟨l.val - 128, by omega⟩) * A3 (ix2 r z)) e
    · have h3 : ¬ (128 ≤ l.val ∧ l.val < 192) := fun h => h2 (by omega)
      refine Eq.trans (dif_neg h2) (Eq.trans ?_ (dif_neg h3).symm)
      rfl

/-- The values, a column to a position, over rows of ones. -/
abbrev O2 (P : Vec Ideal S2x16384x4096 .f32) : Vec Ideal S2x16x144x16384 .bf16 :=
  truncf (F := Ideal) (φ := .f32) .bf16 (concatenate S2x16x144x16384 2 [⟨S2x16x128x16384, (transpose S2x16x128x16384 [0, 2, 3, 1] (extractStridedSlice S2x16384x16x128 ![0, 0, 0, 128] (shapeCast _ P shapeCasts_S2x16384x4096_S2x16384x16x256) slices_S2x16384x16x256_S2x16384x16x128_0_0_0_128) transposes_S2x16384x16x128_S2x16x128x16384_0_2_3_1)⟩,
    ⟨S2x16x16x16384, (broadcastInDim S2x16x16x16384 ![] bcast_S_S2x16x16x16384 (constant (F := Ideal) S_ .f32 0x3F800000#32))⟩] concatenates_S2x16x128x16384_S2x16x16x16384_S2x16x144x16384_d2) bitsLt_bf16_f32

theorem O2_at (P : Vec Ideal S2x16384x4096 .f32) (b : Fin 2) (h : Fin 16) (j : Fin 144) (r : Fin 16384) :
    O2 P (ix4 b h j r) = if g : j.val < 128 then P (ix3 b r ⟨h * 256 + (128 + j), by omega⟩) else (1 : EReal) := by
  pointwise [O2]

open Cert.KeysValuesIdeal.Kvs (a0 a1 a2 a3 G1 G2)

theorem ref1 (m : (ℓ : Loc Cert.KeysValuesIdeal.nD Cert.KeysValuesIdeal.τ Cert.KeysValuesIdeal.sig) → Buf (Elt Ideal) ℓ) (c : Dev Cert.KeysValuesIdeal.nD) (ht : Turned (a0 m c)) :
    O1 (D (a0 m c) (a1 m c) (a2 m c)) (K (a0 m c)) (Rot (K (a0 m c))) (a3 m c) = G1 m c := by
  funext i
  obtain ⟨b, h, r, l, rfl⟩ : ∃ (b : Fin 2) (h : Fin 16) (r : Fin 16384) (l : Fin 256), i = ix4 b h r l := ⟨i 0, i 1, i 2, i 3, by funext a; fin_cases a <;> rfl⟩
  have hl := l.isLt
  rw [O1_at, D_at]
  by_cases h1 : l.val < 128
  · rw [if_pos h1]
    exact (if_pos h1).symm
  · rw [if_neg h1]
    refine Eq.trans ?_ (if_neg h1).symm
    by_cases h2 : 128 ≤ l.val ∧ l.val < 192
    · rw [dif_pos h2]
      refine Eq.trans ?_ (dif_pos h2).symm
      rw [← ht]
      refine congrArg₂ (· + ·) (congrArg (· * _) ?_) (congrArg (· * _) (congrArg (fun z => a0 m c (ix3 b r z)) (Fin.ext ?_)))
      · pointwise [K]
      · show 1088 + (l.val - 128) = 1024 + (l.val - 64)
        omega
    · rw [dif_neg h2]
      refine Eq.trans ?_ (dif_neg h2).symm
      rfl

theorem ref2 (m : (ℓ : Loc Cert.KeysValuesIdeal.nD Cert.KeysValuesIdeal.τ Cert.KeysValuesIdeal.sig) → Buf (Elt Ideal) ℓ) (c : Dev Cert.KeysValuesIdeal.nD) :
    O2 (D (a0 m c) (a1 m c) (a2 m c)) = G2 m c := by
  funext i
  obtain ⟨b, h, j, r, rfl⟩ : ∃ (b : Fin 2) (h : Fin 16) (j : Fin 144) (r : Fin 16384), i = ix4 b h j r := ⟨i 0, i 1, i 2, i 3, by funext a; fin_cases a <;> rfl⟩
  rw [O2_at]
  unfold G2
  by_cases h1 : j.val < 128
  · rw [dif_pos h1, D_at]
    refine Eq.trans ?_ (dif_pos h1).symm
    rfl
  · rw [dif_neg h1]
    refine Eq.trans ?_ (dif_neg h1).symm
    rfl

set_option maxHeartbeats 4000000 in
/-- The run of the plain program, its results by their names here. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = O1 (D (m ((c.tc : Thread nD τ).loc main_arg0)) (m ((c.tc : Thread nD τ).loc main_arg1)) (m ((c.tc : Thread nD τ).loc main_arg2))) (K (m ((c.tc : Thread nD τ).loc main_arg0))) (Rot (K (m ((c.tc : Thread nD τ).loc main_arg0)))) (m ((c.tc : Thread nD τ).loc main_arg3))
      ∧ r.2.mem ((c.tc : Thread nD τ).loc main_v49) = O2 (D (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.KeysValuesRefIdeal.Value.run (F := Ideal) m ρ

end Cert.KeysValuesRefIdeal.Kvs
-- ==== Proof.Hyi.Point.lean ====
module
public import proofs.«01_k».proof.Proof.Gen.HyInIdeal.Value
public import Idealize.ShloMosaic.Lib.Pipeline.ValueKit
public import Idealize.ShloMosaic.Lib.Pipeline.ReadBack
/-! One slab of the short convolution, and the modulated rows with their halos, at an index. -/
@[expose] public section
set_option maxRecDepth 16384
noncomputable section
namespace Cert.HyInIdeal.Hyi
open Idealize.ShloMosaic Idealize.ShloMosaic.TcCoe Idealize.SL Idealize.SL.Sem
open Cert.HyInIdeal Cert.HyInIdeal.Gen

/-- A row of the product. -/
def rw' (u : Vec Ideal S528x2048 .bf16) (w : Vec Ideal S1x2048x512 .bf16) (e : Fin 528) (n : Fin 512) : EReal :=
  ∑ k : Fin 2048, u (ix2 e k) * w (ix3 0 k n)

/-- The three taps, the bias of the product and the bias of the convolution. -/
def cv (l x r b t0 t1 t2 cb : EReal) : EReal := l * t0 + x * t1 + r * t2 + (b * (t0 + t1 + t2) + cb)

/-- One slab as the kernel computes it. -/
abbrev slab (q : BitVec 32) (u : Vec Ideal S528x2048 .bf16) (w : Vec Ideal S1x2048x512 .bf16) (b : Vec Ideal S1x1x512 .f32) (t : Vec Ideal S1x3x512 .f32) (cb : Vec Ideal S1x1x512 .f32) : Vec Ideal S512x512 .f32 :=
  k0_pay15 (k0_pay10 b) (k0_pay11 t) (k0_pay12 q u w b) (k0_pay13 q u w b) (k0_pay14 t) cb

theorem sel (a b : BitVec 32) (x y : EReal) : Scalar.select (Scalar.cmpi CmpIPredicate.eq a b) x y = if a = b then x else y := by
  by_cases h : a = b
  · subst h
    simp [Scalar.select, Scalar.cmpi, IntOp.cmpi]
  · have hb : (a == b) = false := beq_eq_false_iff_ne.2 h
    simp only [Scalar.select, Scalar.cmpi, IntOp.cmpi, hb, h, if_false]
    exact if_neg (by decide)

theorem ext_at (q : BitVec 32) (u : Vec Ideal S528x2048 .bf16) (w : Vec Ideal S1x2048x512 .bf16) (b : Vec Ideal S1x1x512 .f32) (e : Fin 528) (n : Fin 512) :
    k0_pay12 q u w b (ix2 e n) = if (e.val < 8 ∧ q = 0#32) ∨ (520 ≤ e.val ∧ q = 31#32) then 0 - b (ix3 0 0 n) else rw' u w e n := by
  have hb : k0_pay10 b (ix2 0 n) = b (ix3 0 0 n) := by pointwise [k0_pay10]
  have he := e.isLt
  pointwise [k0_pay12]
  rw [hb]
  by_cases h1 : e.val < 8
  · have h2 : ¬ 520 ≤ e.val := by omega
    simp [h1, h2, sel, rw']
  · by_cases h3 : e.val - 8 < 512
    · have h2 : ¬ 520 ≤ e.val := by omega
      simp only [h1, h2, h3, dif_pos, dif_neg, not_false_iff, false_and, or_self, if_false, rw']
      refine Finset.sum_congr rfl fun k _ => congrArg (fun z => u (ix2 z k) * _) (Fin.ext ?_)
      show 8 + (e.val - 8) = e.val
      omega
    · have h2 : 520 ≤ e.val := by omega
      simp only [h1, h2, h3, dif_neg, not_false_iff, false_and, false_or, true_and, sel, rw']
      refine if_congr Iff.rfl rfl (Finset.sum_congr rfl fun k _ => congrArg (fun z => u (ix2 z k) * _) (Fin.ext ?_))
      show 520 + (e.val - 8 - 512) = e.val
      omega

theorem slab_at (q : BitVec 32) (u : Vec Ideal S528x2048 .bf16) (w : Vec Ideal S1x2048x512 .bf16) (b : Vec Ideal S1x1x512 .f32) (t : Vec Ideal S1x3x512 .f32) (cb : Vec Ideal S1x1x512 .f32) (x n : Fin 512) :
    slab q u w b t cb (ix2 x n) = cv (k0_pay12 q u w b (ix2 ⟨x + 7, by omega⟩ n)) (k0_pay12 q u w b (ix2 ⟨x + 8, by omega⟩ n)) (k0_pay12 q u w b (ix2 ⟨x + 9, by omega⟩ n))
      (b (ix3 0 0 n)) (t (ix3 0 0 n)) (t (ix3 0 1 n)) (t (ix3 0 2 n)) (cb (ix3 0 0 n)) := by
  have hb : k0_pay10 b (ix2 0 n) = b (ix3 0 0 n) := by pointwise [k0_pay10]
  have h0 : k0_pay11 t (ix2 0 n) = t (ix3 0 0 n) := by pointwise [k0_pay11]
  have h1 : k0_pay11 t (ix2 1 n) = t (ix3 0 1 n) := by pointwise [k0_pay11]
  have h2 : k0_pay11 t (ix2 2 n) = t (ix3 0 2 n) := by pointwise [k0_pay11]
  unfold slab
  pointwise [k0_pay15, k0_pay13, k0_pay14]
  have E : ∀ p p' : Fin 528, p.val = p'.val → k0_pay12 q u w b (ix2 p n) = k0_pay12 q u w b (ix2 p' n) := fun p p' h => congrArg (fun z => k0_pay12 q u w b (ix2 z n)) (Fin.ext h)
  have hx := x.isLt
  refine congrArg₂ (· + ·) (congrArg₂ (· + ·) (congrArg₂ (· + ·) (congrArg₂ (· * ·) (E _ _ ?_) h0) (congrArg₂ (· * ·) (E _ _ ?_) h1)) (congrArg₂ (· * ·) (E _ _ ?_) h2)) (by rw [hb, h0, h1, h2])
  · show (8 + x.val + 528 - 1) % 528 = x.val + 7
    omega
  · show 8 + x.val = x.val + 8
    omega
  · show (8 + x.val + 528 - 527) % 528 = x.val + 9
    omega

theorem u_at (sh sc : Vec Ideal S1x1x2048 .f32) (p : Vec Ideal S1x8x2048 .f32) (x : Vec Ideal S1x512x2048 .f32) (nx : Vec Ideal S1x8x2048 .f32) (e : Fin 528) (k : Fin 2048) :
    k0_pay3 sh sc p x nx (ix2 e k) = (if h : e.val < 8 then p (ix3 0 ⟨e, h⟩ k) else if h' : e.val - 8 < 512 then x (ix3 0 ⟨e - 8, h'⟩ k) else nx (ix3 0 ⟨e - 8 - 512, by omega⟩ k)) * (1 + sc (ix3 0 0 k)) + sh (ix3 0 0 k) := by
  pointwise [k0_pay3]

end Cert.HyInIdeal.Hyi
-- ==== Proof.Hyi.Case.lean ====
module
public import proofs.«01_k».proof.Proof.Hyi.Point
/-! What one grid point leaves in the scratch array and in its two blocks of the results. -/
@[expose] public section
set_option maxRecDepth 16384
noncomputable section
namespace Cert.HyInIdeal.Hyi
open Idealize.ShloMosaic Idealize.ShloMosaic.TcCoe Idealize.SL Idealize.SL.Sem
open Cert.HyInIdeal Cert.HyInIdeal.Gen

variable (m : (ℓ : Loc nD τ sig) → Buf (Elt Ideal) ℓ)

abbrev U (c : Dev nD) (n : ℕ) (h : n < cfg0.N) : Vec Ideal S528x2048 .bf16 := (outsAt0 m c n h).2.2

theorem lt_pred (t : Fin cfg0.N) : t.val - 1 < cfg0.N := lt_of_le_of_lt (Nat.sub_le _ _) t.isLt

/-- The vectors of one slab: the product's bias, the taps, the convolution's bias. -/
abbrev B0 (c : Dev nD) (t : Fin cfg0.N) : Vec Ideal S1x1x512 .f32 := View.ld (iblk m c 8 t) (Rect.unit ![0, 0, 0] ![1, 1, 512] inb_S3x1x512_S1x1x512_0_0_0)
abbrev B1 (c : Dev nD) (t : Fin cfg0.N) : Vec Ideal S1x1x512 .f32 := View.ld (iblk m c 8 t) (Rect.unit ![1, 0, 0] ![1, 1, 512] inb_S3x1x512_S1x1x512_1_0_0)
abbrev B2 (c : Dev nD) (t : Fin cfg0.N) : Vec Ideal S1x1x512 .f32 := View.ld (iblk m c 8 t) (Rect.unit ![2, 0, 0] ![1, 1, 512] inb_S3x1x512_S1x1x512_2_0_0)
abbrev T0 (c : Dev nD) (t : Fin cfg0.N) : Vec Ideal S1x3x512 .f32 := View.ld (iblk m c 9 t) (Rect.unit ![0, 0, 0] ![1, 3, 512] inb_S3x3x512_S1x3x512_0_0_0)
abbrev T1 (c : Dev nD) (t : Fin cfg0.N) : Vec Ideal S1x3x512 .f32 := View.ld (iblk m c 9 t) (Rect.unit ![1, 0, 0] ![1, 3, 512] inb_S3x3x512_S1x3x512_1_0_0)
abbrev T2 (c : Dev nD) (t : Fin cfg0.N) : Vec Ideal S1x3x512 .f32 := View.ld (iblk m c 9 t) (Rect.unit ![2, 0, 0] ![1, 3, 512] inb_S3x3x512_S1x3x512_2_0_0)
abbrev C0 (c : Dev nD) (t : Fin cfg0.N) : Vec Ideal S1x1x512 .f32 := View.ld (iblk m c 10 t) (Rect.unit ![0, 0, 0] ![1, 1, 512] inb_S3x1x512_S1x1x512_0_0_0)
abbrev C1 (c : Dev nD) (t : Fin cfg0.N) : Vec Ideal S1x1x512 .f32 := View.ld (iblk m c 10 t) (Rect.unit ![1, 0, 0] ![1, 1, 512] inb_S3x1x512_S1x1x512_1_0_0)
abbrev C2 (c : Dev nD) (t : Fin cfg0.N) : Vec Ideal S1x1x512 .f32 := View.ld (iblk m c 10 t) (Rect.unit ![2, 0, 0] ![1, 1, 512] inb_S3x1x512_S1x1x512_2_0_0)

/-- The row tile's number as the kernel compares it. -/
abbrev Q (t : Fin cfg0.N) : BitVec 32 := BitVec.ofNat 32 ((grid0.coords t) 1).val

theorem uA (c : Dev nD) (t : Fin cfg0.N) (h0 : t.val % 4 = 0) :
    U m c t.val t.isLt = k0_pay3 (iblk m c 3 t) (iblk m c 4 t) (iblk m c 1 t) (iblk m c 0 t) (iblk m c 2 t) := by
  unfold U
  rw [outsAt0_A m c t h0]
  frame_out
  try simp (disch := decide) only [View.readCov_cons_toLoadRect, read_unread_whole]
  try rfl

theorem uB (c : Dev nD) (t : Fin cfg0.N) (h0 : ¬t.val % 4 = 0) :
    U m c t.val t.isLt = U m c (t.val - 1) (lt_pred t) := by
  unfold U
  rw [outsAt0_B m c t h0]
  simp only [sout0_B_0]

theorem oA (c : Dev nD) (t : Fin cfg0.N) (h0 : t.val % 4 = 0) :
    (outsAt0 m c t.val t.isLt).1 = k0_pay1 (F := Ideal) (slab (Q t) (k0_pay3 (iblk m c 3 t) (iblk m c 4 t) (iblk m c 1 t) (iblk m c 0 t) (iblk m c 2 t)) (iblk m c 5 t) (B0 m c t) (T0 m c t) (C0 m c t)) := by
  rw [outsAt0_A m c t h0]
  frame_out
  try simp (disch := decide) only [View.readCov_cons_toLoadRect, read_unread_whole]
  try rfl

theorem oB (c : Dev nD) (t : Fin cfg0.N) (h0 : ¬t.val % 4 = 0) :
    (outsAt0 m c t.val t.isLt).1 = k0_pay1 (F := Ideal) (slab (Q t) (U m c (t.val - 1) (lt_pred t)) (iblk m c 5 t) (B0 m c t) (T0 m c t) (C0 m c t)) := by
  rw [outsAt0_B m c t h0]
  frame_out
  try simp (disch := decide) only [View.readCov_cons_toLoadRect, read_unread_whole]
  try rfl

/-- The product of two slabs, as a block. -/
abbrev gated (z y : Vec Ideal S512x512 .f32) : Vec Ideal S1x512x512 .bf16 := k0_pay1 (F := Ideal) (mulf (F := Ideal) (φ := .f32) z y)

theorem vA (c : Dev nD) (t : Fin cfg0.N) (h0 : t.val % 4 = 0) :
    (outsAt0 m c t.val t.isLt).2.1 = gated (slab (Q t) (k0_pay3 (iblk m c 3 t) (iblk m c 4 t) (iblk m c 1 t) (iblk m c 0 t) (iblk m c 2 t)) (iblk m c 7 t) (B2 m c t) (T2 m c t) (C2 m c t))
      (slab (Q t) (k0_pay3 (iblk m c 3 t) (iblk m c 4 t) (iblk m c 1 t) (iblk m c 0 t) (iblk m c 2 t)) (iblk m c 6 t) (B1 m c t) (T1 m c t) (C1 m c t)) := by
  rw [outsAt0_A m c t h0]
  frame_out
  try simp (disch := decide) only [View.readCov_cons_toLoadRect, read_unread_whole]
  try rfl

theorem vB (c : Dev nD) (t : Fin cfg0.N) (h0 : ¬t.val % 4 = 0) :
    (outsAt0 m c t.val t.isLt).2.1 = gated (slab (Q t) (U m c (t.val - 1) (lt_pred t)) (iblk m c 7 t) (B2 m c t) (T2 m c t) (C2 m c t))
      (slab (Q t) (U m c (t.val - 1) (lt_pred t)) (iblk m c 6 t) (B1 m c t) (T1 m c t) (C1 m c t)) := by
  rw [outsAt0_B m c t h0]
  frame_out
  try simp (disch := decide) only [View.readCov_cons_toLoadRect, read_unread_whole]
  try rfl

end Cert.HyInIdeal.Hyi
-- ==== Proof.Hyi.Block.lean ====
module
public import proofs.«01_k».proof.Proof.Hyi.Case
/-! The blocks one grid point is given, element by element. -/
@[expose] public section
set_option maxRecDepth 16384
noncomputable section
namespace Cert.HyInIdeal.Hyi
open Idealize.ShloMosaic Idealize.ShloMosaic.TcCoe Idealize.SL Idealize.SL.Sem
open Cert.HyInIdeal Cert.HyInIdeal.Gen

variable (m : (ℓ : Loc nD τ sig) → Buf (Elt Ideal) ℓ)

abbrev a0 (c : Dev nD) : Vec Ideal S2x16384x2048 .f32 := m ((c : Thread nD τ).loc main_arg0)
abbrev a1 (c : Dev nD) : Vec Ideal S2x1x2048 .f32 := m ((c : Thread nD τ).loc main_arg1)
abbrev a2 (c : Dev nD) : Vec Ideal S2x1x2048 .f32 := m ((c : Thread nD τ).loc main_arg2)
abbrev a3 (c : Dev nD) : Vec Ideal S2x2048x6144 .f32 := m ((c : Thread nD τ).loc main_arg3)
abbrev a4 (c : Dev nD) : Vec Ideal S6144 .f32 := m ((c : Thread nD τ).loc main_arg4)
abbrev a5 (c : Dev nD) : Vec Ideal S3x6144 .f32 := m ((c : Thread nD τ).loc main_arg5)
abbrev a6 (c : Dev nD) : Vec Ideal S6144 .f32 := m ((c : Thread nD τ).loc main_arg6)

theorem idx : ∀ t : Fin cfg0.N, win0_0.index t = ![t.val / 128, t.val / 4 % 32, 0] ∧ win0_1.index t = ![t.val / 128, t.val / 4 % 32 * 64 - 1, 0] ∧ win0_2.index t = ![t.val / 128, min ((t.val / 4 % 32 + 1) * 64) 2047, 0] ∧ win0_3.index t = ![t.val / 128, 0, 0] ∧ win0_4.index t = ![t.val / 128, 0, 0] ∧ win0_5.index t = ![1, 0, t.val % 4] ∧ win0_6.index t = ![1, 0, 4 + t.val % 4] ∧ win0_7.index t = ![1, 0, 8 + t.val % 4] ∧ win0_8.index t = ![0, 0, t.val % 4] ∧ win0_9.index t = ![0, 0, t.val % 4] ∧ win0_10.index t = ![0, 0, t.val % 4] ∧ win0_11.index t = ![t.val / 128, t.val / 4 % 32, t.val % 4] ∧ win0_12.index t = ![t.val / 128, t.val / 4 % 32, t.val % 4] :=
  (by decide +kernel : ∀ t : Fin grid0.N, _)

theorem coord : ∀ t : Fin cfg0.N, ((grid0.coords t) 1).val = t.val / 4 % 32 :=
  (by decide +kernel : ∀ t : Fin grid0.N, _)

theorem blk0 (c : Dev nD) (t : Fin cfg0.N) (b : Fin 2) (hb : (b : ℕ) = t.val / 128) (x : Fin 512) (r : Fin 16384) (hr : (r : ℕ) = t.val / 4 % 32 * 512 + x) (k : Fin 2048) :
    (iblk m c 0 t : Vec Ideal S1x512x2048 .f32) (ix3 0 x k) = a0 m c (ix3 b r k) := by blk_point [iblk, V, idx t, hb, hr]
theorem blk1 (c : Dev nD) (t : Fin cfg0.N) (b : Fin 2) (hb : (b : ℕ) = t.val / 128) (x : Fin 8) (r : Fin 16384) (hr : (r : ℕ) = (t.val / 4 % 32 * 64 - 1) * 8 + x) (k : Fin 2048) :
    (iblk m c 1 t : Vec Ideal S1x8x2048 .f32) (ix3 0 x k) = a0 m c (ix3 b r k) := by blk_point [iblk, V, idx t, hb, hr]
theorem blk2 (c : Dev nD) (t : Fin cfg0.N) (b : Fin 2) (hb : (b : ℕ) = t.val / 128) (x : Fin 8) (r : Fin 16384) (hr : (r : ℕ) = min ((t.val / 4 % 32 + 1) * 64) 2047 * 8 + x) (k : Fin 2048) :
    (iblk m c 2 t : Vec Ideal S1x8x2048 .f32) (ix3 0 x k) = a0 m c (ix3 b r k) := by blk_point [iblk, V, idx t, hb, hr]
theorem blk3 (c : Dev nD) (t : Fin cfg0.N) (b : Fin 2) (hb : (b : ℕ) = t.val / 128) (k : Fin 2048) :
    (iblk m c 3 t : Vec Ideal S1x1x2048 .f32) (ix3 0 0 k) = a1 m c (ix3 b 0 k) := by blk_point [iblk, V, idx t, hb]
theorem blk4 (c : Dev nD) (t : Fin cfg0.N) (b : Fin 2) (hb : (b : ℕ) = t.val / 128) (k : Fin 2048) :
    (iblk m c 4 t : Vec Ideal S1x1x2048 .f32) (ix3 0 0 k) = a2 m c (ix3 b 0 k) := by blk_point [iblk, V, idx t, hb]
theorem blk5 (c : Dev nD) (t : Fin cfg0.N) (k : Fin 2048) (n : Fin 512) (f : Fin 6144) (hf : (f : ℕ) = t.val % 4 * 512 + n) :
    (iblk m c 5 t : Vec Ideal S1x2048x512 .bf16) (ix3 0 k n) = a3 m c (ix3 1 k f) := by blk_point [iblk, V, idx t, hf]
theorem blk6 (c : Dev nD) (t : Fin cfg0.N) (k : Fin 2048) (n : Fin 512) (f : Fin 6144) (hf : (f : ℕ) = (4 + t.val % 4) * 512 + n) :
    (iblk m c 6 t : Vec Ideal S1x2048x512 .bf16) (ix3 0 k n) = a3 m c (ix3 1 k f) := by blk_point [iblk, V, idx t, hf]
theorem blk7 (c : Dev nD) (t : Fin cfg0.N) (k : Fin 2048) (n : Fin 512) (f : Fin 6144) (hf : (f : ℕ) = (8 + t.val % 4) * 512 + n) :
    (iblk m c 7 t : Vec Ideal S1x2048x512 .bf16) (ix3 0 k n) = a3 m c (ix3 1 k f) := by blk_point [iblk, V, idx t, hf]
theorem blk8 (c : Dev nD) (t : Fin cfg0.N) (s : Fin 3) (n : Fin 512) (f : Fin 6144) (hf : (f : ℕ) = s * 2048 + (t.val % 4 * 512 + n)) :
    (iblk m c 8 t : Vec Ideal S3x1x512 .f32) (ix3 s 0 n) = a4 m c (ix1 f) := by blk_point [iblk, V, idx t, hf]
theorem blk9 (c : Dev nD) (t : Fin cfg0.N) (s l : Fin 3) (n : Fin 512) (f : Fin 6144) (hf : (f : ℕ) = s * 2048 + (t.val % 4 * 512 + n)) :
    (iblk m c 9 t : Vec Ideal S3x3x512 .f32) (ix3 s l n) = a5 m c (ix2 l f) := by blk_point [iblk, V, idx t, hf]
theorem blk10 (c : Dev nD) (t : Fin cfg0.N) (s : Fin 3) (n : Fin 512) (f : Fin 6144) (hf : (f : ℕ) = s * 2048 + (t.val % 4 * 512 + n)) :
    (iblk m c 10 t : Vec Ideal S3x1x512 .f32) (ix3 s 0 n) = a6 m c (ix1 f) := by blk_point [iblk, V, idx t, hf]

theorem ld1 (v : Vec Ideal S3x1x512 .f32) (s : ℕ) (hs : s < 3) (h) (n : Fin 512) :
    View.ld v (Rect.unit (s := S3x1x512) ![s, 0, 0] ![1, 1, 512] h) (ix3 0 0 n) = v (ix3 ⟨s, hs⟩ 0 n) := by
  show v _ = v _
  congr 1
  funext a
  apply Fin.ext
  fin_cases a
  · show s + 1 * 0 = s; omega
  · rfl
  · show 0 + 1 * (n : ℕ) = n; omega

theorem ld3 (v : Vec Ideal S3x3x512 .f32) (s : ℕ) (hs : s < 3) (h) (l : Fin 3) (n : Fin 512) :
    View.ld v (Rect.unit (s := S3x3x512) ![s, 0, 0] ![1, 3, 512] h) (ix3 0 l n) = v (ix3 ⟨s, hs⟩ l n) := by
  show v _ = v _
  congr 1
  funext a
  apply Fin.ext
  fin_cases a
  · show s + 1 * 0 = s; omega
  · show 0 + 1 * (l : ℕ) = l; omega
  · show 0 + 1 * (n : ℕ) = n; omega

end Cert.HyInIdeal.Hyi
-- ==== Proof.Hyi.Fold.lean ====
module
public import proofs.«01_k».proof.Proof.Hyi.Block
/-! The rows held in scratch at every grid point, and the two results. -/
@[expose] public section
set_option maxRecDepth 16384
noncomputable section
namespace Cert.HyInIdeal.Hyi
open Idealize.ShloMosaic Idealize.ShloMosaic.TcCoe Idealize.SL Idealize.SL.Sem
open Cert.HyInIdeal Cert.HyInIdeal.Gen

variable (m : (ℓ : Loc nD τ sig) → Buf (Elt Ideal) ℓ)

/-- The modulated input. -/
def mo (c : Dev nD) (b : Fin 2) (r : Fin 16384) (k : Fin 2048) : EReal :=
  a0 m c (ix3 b r k) * (1 + a2 m c (ix3 b 0 k)) + a1 m c (ix3 b 0 k)

/-- The product without its bias, its rows counted from one, between a row before the first and a row after the last. -/
def ex (c : Dev nD) (b : Fin 2) (f : Fin 6144) (e : ℕ) : EReal :=
  if h : 1 ≤ e ∧ e ≤ 16384 then ∑ k : Fin 2048, mo m c b ⟨e - 1, by omega⟩ k * a3 m c (ix3 1 k f) else 0 - a4 m c (ix1 f)

/-- One element of the convolution. -/
def sc (c : Dev nD) (b : Fin 2) (r : Fin 16384) (f : Fin 6144) : EReal :=
  cv (ex m c b f r) (ex m c b f (r + 1)) (ex m c b f (r + 2)) (a4 m c (ix1 f)) (a5 m c (ix2 0 f)) (a5 m c (ix2 1 f)) (a5 m c (ix2 2 f)) (a6 m c (ix1 f))

theorem u_blk (c : Dev nD) (t : Fin cfg0.N) (b : Fin 2) (e : Fin 528) (r : Fin 16384) (hb : (b : ℕ) = t.val / 128) (h7 : 7 ≤ e.val) (h5 : e.val ≤ 520) (hr : (r : ℕ) + 8 = t.val / 4 % 32 * 512 + e) (k : Fin 2048) :
    k0_pay3 (iblk m c 3 t) (iblk m c 4 t) (iblk m c 1 t) (iblk m c 0 t) (iblk m c 2 t) (ix2 e k) = mo m c b r k := by
  have hrl := r.isLt
  rw [u_at, blk3 m c t b hb k, blk4 m c t b hb k, mo]
  refine congrArg (fun z => z * _ + _) ?_
  by_cases h1 : e.val < 8
  · rw [dif_pos h1]
    exact blk1 m c t b hb _ r (by show (r : ℕ) = _ + e.val; omega) k
  · rw [dif_neg h1]
    by_cases h2 : e.val - 8 < 512
    · rw [dif_pos h2]
      exact blk0 m c t b hb _ r (by show (r : ℕ) = _ + (e.val - 8); omega) k
    · rw [dif_neg h2]
      exact blk2 m c t b hb _ r (by show (r : ℕ) = _ + (e.val - 8 - 512); omega) k

theorem inv (c : Dev nD) (n : ℕ) : ∀ (h : n < cfg0.N) (b : Fin 2) (e : Fin 528) (r : Fin 16384), (b : ℕ) = n / 128 → 7 ≤ e.val → e.val ≤ 520 → (r : ℕ) + 8 = n / 4 % 32 * 512 + e →
    ∀ k, U m c n h (ix2 e k) = mo m c b r k := by
  induction n using Nat.strong_induction_on with
  | _ n ih =>
    intro h b e r hb h7 h5 hr k
    by_cases h0 : n % 4 = 0
    · rw [show U m c n h = _ from uA m c ⟨n, h⟩ h0]
      exact u_blk m c ⟨n, h⟩ b e r hb h7 h5 hr k
    · rw [show U m c n h = _ from uB m c ⟨n, h⟩ h0]
      exact ih (n - 1) (by omega) (lt_of_le_of_lt (Nat.sub_le _ _) h) b e r (by omega) h7 h5 (by omega) k

theorem q_eq (t : Fin cfg0.N) : Q t = BitVec.ofNat 32 (t.val / 4 % 32) := by
  rw [Q, coord t]

theorem q_iff (i v : ℕ) (hi : i < 32) (hv : v < 32) : BitVec.ofNat 32 i = BitVec.ofNat 32 v ↔ i = v := by
  constructor
  · intro h
    have := congrArg BitVec.toNat h
    simp only [BitVec.toNat_ofNat] at this
    omega
  · rintro rfl; rfl

theorem ext_eq (c : Dev nD) (t : Fin cfg0.N) (b : Fin 2) (f : Fin 6144) (u : Vec Ideal S528x2048 .bf16) (w : Vec Ideal S1x2048x512 .bf16) (bb : Vec Ideal S1x1x512 .f32) (n : Fin 512)
    (hu : ∀ (e : Fin 528) (r : Fin 16384), 7 ≤ e.val → e.val ≤ 520 → (r : ℕ) + 8 = t.val / 4 % 32 * 512 + e → ∀ k, u (ix2 e k) = mo m c b r k)
    (hw : ∀ k, w (ix3 0 k n) = a3 m c (ix3 1 k f)) (hbb : bb (ix3 0 0 n) = a4 m c (ix1 f)) (e : Fin 528) (h7 : 7 ≤ e.val) (h5 : e.val ≤ 520) :
    k0_pay12 (Q t) u w bb (ix2 e n) = ex m c b f (t.val / 4 % 32 * 512 + e - 7) := by
  have h32 : t.val / 4 % 32 < 32 := Nat.mod_lt _ (by decide)
  rw [ext_at, q_eq, ex, hbb]
  have q0 := q_iff (t.val / 4 % 32) 0 h32 (by decide)
  have q31 := q_iff (t.val / 4 % 32) 31 h32 (by decide)
  by_cases hg : 1 ≤ t.val / 4 % 32 * 512 + e.val - 7 ∧ t.val / 4 % 32 * 512 + e.val - 7 ≤ 16384
  · rw [dif_pos hg, if_neg ?_]
    · refine Finset.sum_congr rfl fun k _ => ?_
      rw [hu e ⟨t.val / 4 % 32 * 512 + e.val - 7 - 1, by omega⟩ h7 h5 (by show _ - 7 - 1 + 8 = _; omega) k, hw k]
    · rintro (⟨h1, h2⟩ | ⟨h1, h2⟩)
      · have := q0.1 h2; omega
      · have := q31.1 h2; omega
  · rw [dif_neg hg, if_pos ?_]
    by_cases h1 : e.val < 8
    · exact Or.inl ⟨h1, q0.2 (by omega)⟩
    · exact Or.inr ⟨by omega, q31.2 (by omega)⟩

theorem slab_eq (c : Dev nD) (t : Fin cfg0.N) (b : Fin 2) (r : Fin 16384) (x n : Fin 512) (f : Fin 6144) (hr : (r : ℕ) = t.val / 4 % 32 * 512 + x) (u : Vec Ideal S528x2048 .bf16) (w : Vec Ideal S1x2048x512 .bf16) (bb : Vec Ideal S1x1x512 .f32) (tt : Vec Ideal S1x3x512 .f32) (cc : Vec Ideal S1x1x512 .f32)
    (hu : ∀ (e : Fin 528) (r : Fin 16384), 7 ≤ e.val → e.val ≤ 520 → (r : ℕ) + 8 = t.val / 4 % 32 * 512 + e → ∀ k, u (ix2 e k) = mo m c b r k)
    (hw : ∀ k, w (ix3 0 k n) = a3 m c (ix3 1 k f)) (hbb : bb (ix3 0 0 n) = a4 m c (ix1 f)) (ht : ∀ l, tt (ix3 0 l n) = a5 m c (ix2 l f)) (hc : cc (ix3 0 0 n) = a6 m c (ix1 f)) :
    slab (Q t) u w bb tt cc (ix2 x n) = sc m c b r f := by
  have hx := x.isLt
  rw [slab_at, sc, hbb, ht 0, ht 1, ht 2, hc]
  rw [ext_eq m c t b f u w bb n hu hw hbb ⟨x + 7, by omega⟩ (by show 7 ≤ x.val + 7; omega) (by show x.val + 7 ≤ 520; omega),
    ext_eq m c t b f u w bb n hu hw hbb ⟨x + 8, by omega⟩ (by show 7 ≤ x.val + 8; omega) (by show x.val + 8 ≤ 520; omega),
    ext_eq m c t b f u w bb n hu hw hbb ⟨x + 9, by omega⟩ (by show 7 ≤ x.val + 9; omega) (by show x.val + 9 ≤ 520; omega)]
  rw [show t.val / 4 % 32 * 512 + (x.val + 7) - 7 = (r : ℕ) by omega, show t.val / 4 % 32 * 512 + (x.val + 8) - 7 = (r : ℕ) + 1 by omega, show t.val / 4 % 32 * 512 + (x.val + 9) - 7 = (r : ℕ) + 2 by omega]

/-- The columns of a slab. -/
def col (s : Fin 3) (n : Fin 2048) : Fin 6144 := ⟨s * 2048 + n, by omega⟩

/-- The first result: the convolution's first slab. -/
def G1 (c : Dev nD) : Vec Ideal S2x16384x2048 .bf16 := fun i => sc m c (i 0) (i 1) (col 0 (i 2))
/-- The second result: the product of the other two. -/
def G2 (c : Dev nD) : Vec Ideal S2x16384x2048 .bf16 := fun i => sc m c (i 0) (i 1) (col 2 (i 2)) * sc m c (i 0) (i 1) (col 1 (i 2))

theorem s0 (c : Dev nD) (t : Fin cfg0.N) (b : Fin 2) (r : Fin 16384) (x n : Fin 512) (d : Fin 2048) (hr : (r : ℕ) = t.val / 4 % 32 * 512 + x) (hd : (d : ℕ) = t.val % 4 * 512 + n) (u : Vec Ideal S528x2048 .bf16)
    (hu : ∀ (e : Fin 528) (r : Fin 16384), 7 ≤ e.val → e.val ≤ 520 → (r : ℕ) + 8 = t.val / 4 % 32 * 512 + e → ∀ k, u (ix2 e k) = mo m c b r k) :
    slab (Q t) u (iblk m c 5 t) (B0 m c t) (T0 m c t) (C0 m c t) (ix2 x n) = sc m c b r (col 0 d) := by
  have hf : ((col 0 d : Fin 6144) : ℕ) = (0 : Fin 3).val * 2048 + (t.val % 4 * 512 + n) := by show 0 * 2048 + d.val = 0 * 2048 + _; omega
  exact slab_eq m c t b r x n (col 0 d) hr u _ _ _ _ hu (fun k => blk5 m c t k n _ (by show 0 * 2048 + d.val = _; omega))
    ((ld1 _ 0 (by decide) _ n).trans (blk8 m c t 0 n _ hf)) (fun l => (ld3 _ 0 (by decide) _ l n).trans (blk9 m c t 0 l n _ hf)) ((ld1 _ 0 (by decide) _ n).trans (blk10 m c t 0 n _ hf))

theorem s1 (c : Dev nD) (t : Fin cfg0.N) (b : Fin 2) (r : Fin 16384) (x n : Fin 512) (d : Fin 2048) (hr : (r : ℕ) = t.val / 4 % 32 * 512 + x) (hd : (d : ℕ) = t.val % 4 * 512 + n) (u : Vec Ideal S528x2048 .bf16)
    (hu : ∀ (e : Fin 528) (r : Fin 16384), 7 ≤ e.val → e.val ≤ 520 → (r : ℕ) + 8 = t.val / 4 % 32 * 512 + e → ∀ k, u (ix2 e k) = mo m c b r k) :
    slab (Q t) u (iblk m c 6 t) (B1 m c t) (T1 m c t) (C1 m c t) (ix2 x n) = sc m c b r (col 1 d) := by
  have hf : ((col 1 d : Fin 6144) : ℕ) = (1 : Fin 3).val * 2048 + (t.val % 4 * 512 + n) := by show 1 * 2048 + d.val = 1 * 2048 + _; omega
  exact slab_eq m c t b r x n (col 1 d) hr u _ _ _ _ hu (fun k => blk6 m c t k n _ (by show 1 * 2048 + d.val = _; omega))
    ((ld1 _ 1 (by decide) _ n).trans (blk8 m c t 1 n _ hf)) (fun l => (ld3 _ 1 (by decide) _ l n).trans (blk9 m c t 1 l n _ hf)) ((ld1 _ 1 (by decide) _ n).trans (blk10 m c t 1 n _ hf))

theorem s2 (c : Dev nD) (t : Fin cfg0.N) (b : Fin 2) (r : Fin 16384) (x n : Fin 512) (d : Fin 2048) (hr : (r : ℕ) = t.val / 4 % 32 * 512 + x) (hd : (d : ℕ) = t.val % 4 * 512 + n) (u : Vec Ideal S528x2048 .bf16)
    (hu : ∀ (e : Fin 528) (r : Fin 16384), 7 ≤ e.val → e.val ≤ 520 → (r : ℕ) + 8 = t.val / 4 % 32 * 512 + e → ∀ k, u (ix2 e k) = mo m c b r k) :
    slab (Q t) u (iblk m c 7 t) (B2 m c t) (T2 m c t) (C2 m c t) (ix2 x n) = sc m c b r (col 2 d) := by
  have hf : ((col 2 d : Fin 6144) : ℕ) = (2 : Fin 3).val * 2048 + (t.val % 4 * 512 + n) := by show 2 * 2048 + d.val = 2 * 2048 + _; omega
  exact slab_eq m c t b r x n (col 2 d) hr u _ _ _ _ hu (fun k => blk7 m c t k n _ (by show 2 * 2048 + d.val = _; omega))
    ((ld1 _ 2 (by decide) _ n).trans (blk8 m c t 2 n _ hf)) (fun l => (ld3 _ 2 (by decide) _ l n).trans (blk9 m c t 2 l n _ hf)) ((ld1 _ 2 (by decide) _ n).trans (blk10 m c t 2 n _ hf))

theorem st_at (z : Vec Ideal S512x512 .f32) (x n : Fin 512) : k0_pay1 (F := Ideal) z (ix3 0 x n) = z (ix2 x n) := by
  pointwise [k0_pay1]

theorem outs (c : Dev nD) (t : Fin cfg0.N) (b : Fin 2) (r : Fin 16384) (x n : Fin 512) (d : Fin 2048) (hb : (b : ℕ) = t.val / 128) (hr : (r : ℕ) = t.val / 4 % 32 * 512 + x) (hd : (d : ℕ) = t.val % 4 * 512 + n) :
    (outsAt0 m c t.val t.isLt).1 (ix3 0 x n) = G1 m c (ix3 b r d) ∧ (outsAt0 m c t.val t.isLt).2.1 (ix3 0 x n) = G2 m c (ix3 b r d) := by
  by_cases h0 : t.val % 4 = 0
  · have hu := fun e r h7 h5 hr k => u_blk m c t b e r hb h7 h5 hr k
    constructor
    · rw [oA m c t h0, st_at]
      exact s0 m c t b r x n d hr hd _ hu
    · rw [vA m c t h0]
      refine (st_at _ x n).trans ?_
      exact congrArg₂ (· * ·) (s2 m c t b r x n d hr hd _ hu) (s1 m c t b r x n d hr hd _ hu)
  · have hu : ∀ (e : Fin 528) (r : Fin 16384), 7 ≤ e.val → e.val ≤ 520 → (r : ℕ) + 8 = t.val / 4 % 32 * 512 + e → ∀ k, U m c (t.val - 1) (lt_pred t) (ix2 e k) = mo m c b r k :=
      fun e r h7 h5 hr k => inv m c (t.val - 1) (lt_pred t) b e r (by omega) h7 h5 (by omega) k
    constructor
    · rw [oB m c t h0, st_at]
      exact s0 m c t b r x n d hr hd _ hu
    · rw [vB m c t h0]
      refine (st_at _ x n).trans ?_
      exact congrArg₂ (· * ·) (s2 m c t b r x n d hr hd _ hu) (s1 m c t b r x n d hr hd _ hu)

open Idealize.ShloMosaic.Pipeline (Dat)

theorem final1 (c : Dev nD) : (dats m 0 c).arrAt 11 cfg0.N = G1 m c :=
  (dats m 0 c).arrAt_eq_of_covers 11 _ (by decide +kernel) fun t hf y => by
    have hN : cfg0.N = 256 := N_0
    have htl : t.val < 256 := lt_of_lt_of_eq t.isLt hN
    blk_simp
    rw [after0_11]
    obtain ⟨y0, x, d, rfl⟩ : ∃ (y0 : Fin 1) (x : Fin 512) (d : Fin 512), y = ix3 y0 x d := ⟨y 0, y 1, y 2, by funext a; fin_cases a <;> rfl⟩
    obtain rfl : y0 = 0 := Subsingleton.elim _ _
    have hx := x.isLt
    have hd := d.isLt
    have e : (win0_11.blk t).view.emb (ix3 0 x d) = (ix3 (⟨t.val / 128, by omega⟩ : Fin 2) (⟨t.val / 4 % 32 * 512 + x, by omega⟩ : Fin 16384) (⟨t.val % 4 * 512 + d, by omega⟩ : Fin 2048) : S2x16384x2048.Idx) := by
      blk_ext [idx t]
    exact (outs m c t ⟨t.val / 128, by omega⟩ ⟨t.val / 4 % 32 * 512 + x, by omega⟩ x d ⟨t.val % 4 * 512 + d, by omega⟩ rfl rfl rfl).1.trans (congrArg (G1 m c) e).symm

theorem final2 (c : Dev nD) : (dats m 0 c).arrAt 12 cfg0.N = G2 m c :=
  (dats m 0 c).arrAt_eq_of_covers 12 _ (by decide +kernel) fun t hf y => by
    have hN : cfg0.N = 256 := N_0
    have htl : t.val < 256 := lt_of_lt_of_eq t.isLt hN
    blk_simp
    rw [after0_12]
    obtain ⟨y0, x, d, rfl⟩ : ∃ (y0 : Fin 1) (x : Fin 512) (d : Fin 512), y = ix3 y0 x d := ⟨y 0, y 1, y 2, by funext a; fin_cases a <;> rfl⟩
    obtain rfl : y0 = 0 := Subsingleton.elim _ _
    have hx := x.isLt
    have hd := d.isLt
    have e : (win0_12.blk t).view.emb (ix3 0 x d) = (ix3 (⟨t.val / 128, by omega⟩ : Fin 2) (⟨t.val / 4 % 32 * 512 + x, by omega⟩ : Fin 16384) (⟨t.val % 4 * 512 + d, by omega⟩ : Fin 2048) : S2x16384x2048.Idx) := by
      blk_ext [idx t]
    exact (outs m c t ⟨t.val / 128, by omega⟩ ⟨t.val / 4 % 32 * 512 + x, by omega⟩ x d ⟨t.val % 4 * 512 + d, by omega⟩ rfl rfl rfl).2.trans (congrArg (G2 m c) e).symm

end Cert.HyInIdeal.Hyi
-- ==== Proof.Hyi.Pre.lean ====
module
public import proofs.«01_k».proof.Proof.Gen.Pre_hyena_in_pre
public import proofs.«01_k».proof.Proof.Att.Pre
/-! What the precondition of the input projection says, element by element. -/
@[expose] public section
set_option maxRecDepth 16384
noncomputable section
namespace Cert.Pre_hyena_in_pre.Hyi
open Idealize.ShloMosaic Cert.Pre_hyena_in_pre Cert.Pre_hyena_in_pre.Gen
open Cert.Pre_attend_pre.Att (andi_one all_of lt_top)

theorem fn_one (A0 : FVec Ideal S2x16384x2048 .f32) (A1 A2 : FVec Ideal S2x1x2048 .f32) (A3 : FVec Ideal S2x2048x6144 .f32) (A4 : FVec Ideal S6144 .f32) (A5 : FVec Ideal S3x6144 .f32) (A6 : FVec Ideal S6144 .f32)
    (j : S_.Idx) (h : fn A0 A1 A2 A3 A4 A5 A6 j = 1#1) :
    (∀ i, ∃ r : ℝ, A4 i = (r : EReal)) ∧ (∀ i, ∃ r : ℝ, A5 i = (r : EReal)) := by
  obtain ⟨h1, h2⟩ := (andi_one _ _).1 h
  exact ⟨fun i => lt_top _ (all_of _ _ _ _ j h1 i), fun i => lt_top _ (all_of _ _ _ _ j h2 i)⟩

end Cert.Pre_hyena_in_pre.Hyi
-- ==== Proof.Hyi.Ref.lean ====
module
public import proofs.«01_k».proof.Proof.Gen.HyInRefIdeal.Run
public import proofs.«01_k».proof.Proof.Hyi.Fold
public import proofs.«01_k».proof.Proof.Hyi.Pre
/-! The plain projection with its short convolution is what the kernel leaves. -/
@[expose] public section
set_option maxRecDepth 16384
noncomputable section
namespace Cert.HyInRefIdeal.Hyi
open Idealize.ShloMosaic Idealize.ShloMosaic.TcCoe Idealize.SL Idealize.SL.Sem
open Cert.HyInRefIdeal Cert.HyInRefIdeal.Gen

/-- The projection with its bias. -/
abbrev P (A0 : Vec Ideal S2x16384x2048 .f32) (A1 A2 : Vec Ideal S2x1x2048 .f32) (A3 : Vec Ideal S2x2048x6144 .f32) (A4 : Vec Ideal S6144 .f32) : Vec Ideal S2x16384x6144 .f32 :=
  addf (F := Ideal) (φ := .f32) (Host.dotGeneral (F := Ideal) (φ₁ := .f32) (φ₂ := .f32) dot_S2x16384x2048_S2048x6144_S2x16384x6144_2_0_01_1_n_n none (addf (F := Ideal) (φ := .f32) (mulf A0 (broadcastInDim S2x16384x2048 ![0, 1, 2] bcast_S2x1x2048_S2x16384x2048_0_1_2 (addf (broadcastInDim S2x1x2048 ![] bcast_S_S2x1x2048 (constant S_ .f32 0x3F800000#32)) A2))) (broadcastInDim S2x16384x2048 ![0, 1, 2] bcast_S2x1x2048_S2x16384x2048_0_1_2 A1)) (shapeCast _ (extractStridedSlice S1x2048x6144 ![1, 0, 0] A3 slices_S2x2048x6144_S1x2048x6144_1_0_0) shapeCasts_S1x2048x6144_S2048x6144)) (broadcastInDim S2x16384x6144 ![0, 1, 2] bcast_S1x1x6144_S2x16384x6144_0_1_2 (broadcastInDim S1x1x6144 ![2] bcast_S6144_S1x1x6144_2 A4))

theorem P_at (A0 : Vec Ideal S2x16384x2048 .f32) (A1 A2 : Vec Ideal S2x1x2048 .f32) (A3 : Vec Ideal S2x2048x6144 .f32) (A4 : Vec Ideal S6144 .f32) (b : Fin 2) (r : Fin 16384) (f : Fin 6144) :
    P A0 A1 A2 A3 A4 (ix3 b r f) = (∑ k : Fin 2048, (A0 (ix3 b r k) * (1 + A2 (ix3 b 0 k)) + A1 (ix3 b 0 k)) * A3 (ix3 1 k f)) + A4 (ix1 f) := by
  pointwise [P]

/-- The rows between two rows of zeros. -/
abbrev Z (X : Vec Ideal S2x16384x6144 .f32) : Vec Ideal S2x16386x6144 .f32 :=
  pad S2x16386x6144 ![0, 1, 0] ![0, 1, 0] ![0, 0, 0] X (sitofp (F := Ideal) .f32 (constantI S_ 32 0#32)) pads_S2x16384x6144_S2x16386x6144_000_110_000 h_S_

theorem Z_at (X : Vec Ideal S2x16384x6144 .f32) (b : Fin 2) (e : Fin 16386) (f : Fin 6144) :
    Z X (ix3 b e f) = if h : 1 ≤ e.val ∧ e.val ≤ 16384 then X (ix3 b ⟨e - 1, by omega⟩ f) else 0 := by
  have z0 : (FloatOps.sitofp (F := Ideal) FTy.f32 (0#32 : BitVec 32) : EReal) = 0 := by
    show (((0#32 : BitVec 32).toInt : ℝ) : EReal) = 0
    simp
  pointwise [Z]
  by_cases h : 1 ≤ e.val ∧ e.val ≤ 16384
  · rw [dif_pos h, dif_pos ⟨h.1, by omega⟩]
  · rw [dif_neg h, dif_neg fun h' => h ⟨h'.1, by omega⟩]
    exact z0

/-- The convolution of three taps with its bias. -/
abbrev C (X : Vec Ideal S2x16386x6144 .f32) (A5 : Vec Ideal S3x6144 .f32) (A6 : Vec Ideal S6144 .f32) : Vec Ideal S2x16384x6144 .f32 :=
  addf (F := Ideal) (φ := .f32) (addf (addf (mulf (extractStridedSlice S2x16384x6144 ![0, 0, 0] X slices_S2x16386x6144_S2x16384x6144_0_0_0) (broadcastInDim S2x16384x6144 ![0, 1, 2] bcast_S1x1x6144_S2x16384x6144_0_1_2 (broadcastInDim S1x1x6144 ![2] bcast_S6144_S1x1x6144_2 (shapeCast _ (extractStridedSlice S1x6144 ![0, 0] A5 slices_S3x6144_S1x6144_0_0) shapeCasts_S1x6144_S6144)))) (mulf (extractStridedSlice S2x16384x6144 ![0, 1, 0] X slices_S2x16386x6144_S2x16384x6144_0_1_0) (broadcastInDim S2x16384x6144 ![0, 1, 2] bcast_S1x1x6144_S2x16384x6144_0_1_2 (broadcastInDim S1x1x6144 ![2] bcast_S6144_S1x1x6144_2 (shapeCast _ (extractStridedSlice S1x6144 ![1, 0] A5 slices_S3x6144_S1x6144_1_0) shapeCasts_S1x6144_S6144))))) (mulf (extractStridedSlice S2x16384x6144 ![0, 2, 0] X slices_S2x16386x6144_S2x16384x6144_0_2_0) (broadcastInDim S2x16384x6144 ![0, 1, 2] bcast_S1x1x6144_S2x16384x6144_0_1_2 (broadcastInDim S1x1x6144 ![2] bcast_S6144_S1x1x6144_2 (shapeCast _ (extractStridedSlice S1x6144 ![2, 0] A5 slices_S3x6144_S1x6144_2_0) shapeCasts_S1x6144_S6144))))) (broadcastInDim S2x16384x6144 ![0, 1, 2] bcast_S1x1x6144_S2x16384x6144_0_1_2 (broadcastInDim S1x1x6144 ![2] bcast_S6144_S1x1x6144_2 A6))

theorem C_at (X : Vec Ideal S2x16386x6144 .f32) (A5 : Vec Ideal S3x6144 .f32) (A6 : Vec Ideal S6144 .f32) (b : Fin 2) (r : Fin 16384) (f : Fin 6144) :
    C X A5 A6 (ix3 b r f) = X (ix3 b ⟨r, by omega⟩ f) * A5 (ix2 0 f) + X (ix3 b ⟨r + 1, by omega⟩ f) * A5 (ix2 1 f) + X (ix3 b ⟨r + 2, by omega⟩ f) * A5 (ix2 2 f) + A6 (ix1 f) := by
  have hr := r.isLt
  have E : ∀ p p' : Fin 16386, p.val = p'.val → X (ix3 b p f) = X (ix3 b p' f) := fun p p' h => congrArg (fun z => X (ix3 b z f)) (Fin.ext h)
  pointwise [C]
  refine congrArg (· + _) (congrArg₂ (· + ·) (congrArg₂ (· + ·) (congrArg (· * _) (E _ _ ?_)) (congrArg (· * _) (E _ _ ?_))) (congrArg (· * _) (E _ _ ?_)))
  · rfl
  · show 1 + r.val = r.val + 1
    omega
  · show 2 + r.val = r.val + 2
    omega

/-- The first slab of columns. -/
abbrev O1 (X : Vec Ideal S2x16384x6144 .f32) : Vec Ideal S2x16384x2048 .bf16 :=
  truncf (F := Ideal) (φ := .f32) .bf16 (extractStridedSlice S2x16384x2048 ![0, 0, 0] X slices_S2x16384x6144_S2x16384x2048_0_0_0) bitsLt_bf16_f32
/-- The third slab of columns by the second. -/
abbrev O2 (X : Vec Ideal S2x16384x6144 .f32) : Vec Ideal S2x16384x2048 .bf16 :=
  truncf (F := Ideal) (φ := .f32) .bf16 (mulf (extractStridedSlice S2x16384x2048 ![0, 0, 4096] X slices_S2x16384x6144_S2x16384x2048_0_0_4096) (extractStridedSlice S2x16384x2048 ![0, 0, 2048] X slices_S2x16384x6144_S2x16384x2048_0_0_2048)) bitsLt_bf16_f32

open Cert.HyInIdeal.Hyi (col)

theorem O1_at (X : Vec Ideal S2x16384x6144 .f32) (b : Fin 2) (r : Fin 16384) (d : Fin 2048) : O1 X (ix3 b r d) = X (ix3 b r (col 0 d)) := by
  have E : ∀ p p' : Fin 6144, p.val = p'.val → X (ix3 b r p) = X (ix3 b r p') := fun p p' h => congrArg (fun z => X (ix3 b r z)) (Fin.ext h)
  pointwise [O1]
  refine E _ _ ?_
  show d.val = 0 * 2048 + d.val
  omega

theorem O2_at (X : Vec Ideal S2x16384x6144 .f32) (b : Fin 2) (r : Fin 16384) (d : Fin 2048) : O2 X (ix3 b r d) = X (ix3 b r (col 2 d)) * X (ix3 b r (col 1 d)) := by
  have E : ∀ p p' : Fin 6144, p.val = p'.val → X (ix3 b r p) = X (ix3 b r p') := fun p p' h => congrArg (fun z => X (ix3 b r z)) (Fin.ext h)
  pointwise [O2]
  refine congrArg₂ (· * ·) (E _ _ ?_) (E _ _ ?_)
  · show 4096 + d.val = 2 * 2048 + d.val
    omega
  · show 2048 + d.val = 1 * 2048 + d.val
    omega

theorem dist (l : EReal) (b t : ℝ) : (l + b) * t = l * t + b * t := by
  rcases le_total 0 t with h | h
  · exact EReal.right_distrib_of_nonneg_of_ne_top (by exact_mod_cast h) (EReal.coe_ne_top t) l b
  · have e := EReal.right_distrib_of_nonneg_of_ne_top (x := ((-t : ℝ) : EReal)) (by exact_mod_cast neg_nonneg.2 h) (EReal.coe_ne_top _) l b
    have n : ∀ x : EReal, x * (t : EReal) = -(x * ((-t : ℝ) : EReal)) := fun x => by rw [EReal.coe_neg, mul_neg, neg_neg]
    rw [n, e, n l, n b, ← EReal.coe_mul, EReal.neg_add (Or.inr (EReal.coe_ne_top _)) (Or.inr (EReal.coe_ne_bot _)), sub_eq_add_neg]

open Cert.HyInIdeal.Hyi (cv) in
/-- The bias of the product drawn out of the three taps. -/
theorem cv_eq (l x r cb : EReal) (b t0 t1 t2 : ℝ) : (l + b) * t0 + (x + b) * t1 + (r + b) * t2 + cb = cv l x r b t0 t1 t2 cb := by
  have e : (b : EReal) * (t0 + t1 + t2) = b * t0 + b * t1 + b * t2 := by norm_cast; ring
  rw [cv, dist, dist, dist, e]
  abel

set_option maxHeartbeats 4000000 in
theorem res1 (m : (ℓ : Loc nD τ sig) → Buf (Elt Ideal) ℓ) (c : Dev nD) :
    Value.res_out0 m c = O1 (C (Z (P (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg5)) (m ((c.tc : Thread nD τ).loc main_arg6))) := by
  unfold Value.res_out0 Value.res_main_v39
  rfl

set_option maxHeartbeats 4000000 in
theorem res2 (m : (ℓ : Loc nD τ sig) → Buf (Elt Ideal) ℓ) (c : Dev nD) :
    Value.res_out1 m c = O2 (C (Z (P (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg5)) (m ((c.tc : Thread nD τ).loc main_arg6))) := by
  unfold Value.res_out1 Value.res_main_v41
  rfl

open Cert.HyInIdeal.Hyi in
theorem z_eq (m : (ℓ : Loc Cert.HyInIdeal.nD Cert.HyInIdeal.τ Cert.HyInIdeal.sig) → Buf (Elt Ideal) ℓ) (c : Dev Cert.HyInIdeal.nD) (h4 : ∀ i, ∃ x : ℝ, a4 m c i = (x : EReal)) (b : Fin 2) (e : Fin 16386) (f : Fin 6144) :
    Z (P (a0 m c) (a1 m c) (a2 m c) (a3 m c) (a4 m c)) (ix3 b e f) = ex m c b f e + a4 m c (ix1 f) := by
  rw [Z_at, ex]
  by_cases h : 1 ≤ e.val ∧ e.val ≤ 16384
  · rw [dif_pos h, dif_pos h, P_at]
    rfl
  · rw [dif_neg h, dif_neg h]
    obtain ⟨x, hx⟩ := h4 (ix1 f)
    rw [hx]
    rw [← EReal.coe_zero, ← EReal.coe_sub, ← EReal.coe_add]
    exact congrArg _ (by ring)

open Cert.HyInIdeal.Hyi in
theorem c_eq (m : (ℓ : Loc Cert.HyInIdeal.nD Cert.HyInIdeal.τ Cert.HyInIdeal.sig) → Buf (Elt Ideal) ℓ) (c : Dev Cert.HyInIdeal.nD) (h4 : ∀ i, ∃ x : ℝ, a4 m c i = (x : EReal)) (h5 : ∀ i, ∃ x : ℝ, a5 m c i = (x : EReal)) (b : Fin 2) (r : Fin 16384) (f : Fin 6144) :
    C (Z (P (a0 m c) (a1 m c) (a2 m c) (a3 m c) (a4 m c))) (a5 m c) (a6 m c) (ix3 b r f) = sc m c b r f := by
  rw [C_at, z_eq m c h4, z_eq m c h4, z_eq m c h4, sc]
  obtain ⟨x, hx⟩ := h4 (ix1 f)
  obtain ⟨t0, ht0⟩ := h5 (ix2 0 f)
  obtain ⟨t1, ht1⟩ := h5 (ix2 1 f)
  obtain ⟨t2, ht2⟩ := h5 (ix2 2 f)
  rw [hx, ht0, ht1, ht2]
  exact cv_eq _ _ _ _ x t0 t1 t2

open Cert.HyInIdeal.Hyi in
theorem ref1 (m : (ℓ : Loc Cert.HyInIdeal.nD Cert.HyInIdeal.τ Cert.HyInIdeal.sig) → Buf (Elt Ideal) ℓ) (c : Dev Cert.HyInIdeal.nD) (h4 : ∀ i, ∃ x : ℝ, a4 m c i = (x : EReal)) (h5 : ∀ i, ∃ x : ℝ, a5 m c i = (x : EReal)) :
    O1 (C (Z (P (a0 m c) (a1 m c) (a2 m c) (a3 m c) (a4 m c))) (a5 m c) (a6 m c)) = G1 m c := by
  funext i
  obtain ⟨b, r, n, rfl⟩ : ∃ (b : Fin 2) (r : Fin 16384) (n : Fin 2048), i = ix3 b r n := ⟨i 0, i 1, i 2, by funext a; fin_cases a <;> rfl⟩
  exact (O1_at _ b r n).trans (c_eq m c h4 h5 b r _)

open Cert.HyInIdeal.Hyi in
theorem ref2 (m : (ℓ : Loc Cert.HyInIdeal.nD Cert.HyInIdeal.τ Cert.HyInIdeal.sig) → Buf (Elt Ideal) ℓ) (c : Dev Cert.HyInIdeal.nD) (h4 : ∀ i, ∃ x : ℝ, a4 m c i = (x : EReal)) (h5 : ∀ i, ∃ x : ℝ, a5 m c i = (x : EReal)) :
    O2 (C (Z (P (a0 m c) (a1 m c) (a2 m c) (a3 m c) (a4 m c))) (a5 m c) (a6 m c)) = G2 m c := by
  funext i
  obtain ⟨b, r, n, rfl⟩ : ∃ (b : Fin 2) (r : Fin 16384) (n : Fin 2048), i = ix3 b r n := ⟨i 0, i 1, i 2, by funext a; fin_cases a <;> rfl⟩
  exact (O2_at _ b r n).trans (congrArg₂ (· * ·) (c_eq m c h4 h5 b r _) (c_eq m c h4 h5 b r _))

end Cert.HyInRefIdeal.Hyi
-- ==== Proof.Ato.Out.lean ====
module
public import proofs.«01_k».proof.Proof.Gen.AttnOutIdeal.Value
public import proofs.«01_k».proof.Proof.Lay.Norm
public import Idealize.ShloMosaic.Lib.Pipeline.ValueKit
/-! The attention output projection with its residual and norm: what the kernel leaves. -/
@[expose] public section
set_option maxRecDepth 16384
noncomputable section
namespace Cert.AttnOutIdeal.Ato
open Idealize.ShloMosaic Idealize.ShloMosaic.TcCoe Idealize.SL Idealize.SL.Sem
open Cert.AttnOutIdeal Cert.AttnOutIdeal.Gen

theorem out_at (o : Vec Ideal S1x512x2048 .bf16) (w : Vec Ideal S2048x2048 .bf16) (h : Vec Ideal S1x512x2048 .f32) (ga : Vec Ideal S1x1x2048 .f32) (g b : Vec Ideal S1x2048 .f32)
    (x : Fin 512) (n : Fin 2048) :
    out0_6 o w h ga g b (ix3 0 x n) = Lay.ln (fun k => Lay.al * h (ix3 0 x k) + ga (ix3 0 0 k) * ∑ j : Fin 2048, o (ix3 0 x j) * w (ix2 j k)) (g (ix2 0 n)) (b (ix2 0 n)) n := by
  unfold out0_6
  frame_out
  pointwise [k0_pay1, k0_pay2, k0_pay3]
  simp only [Lay.zero_bits, zero_add, Lay.ln]

variable (m : (ℓ : Loc nD τ sig) → Buf (Elt Ideal) ℓ)

abbrev a0 (c : Dev nD) : Vec Ideal S2x16384x2048 .bf16 := m ((c : Thread nD τ).loc main_arg0)
abbrev a1 (c : Dev nD) : Vec Ideal S2048x2048 .f32 := m ((c : Thread nD τ).loc main_arg1)
abbrev a2 (c : Dev nD) : Vec Ideal S2x16384x2048 .f32 := m ((c : Thread nD τ).loc main_arg2)
abbrev a3 (c : Dev nD) : Vec Ideal S2x1x2048 .f32 := m ((c : Thread nD τ).loc main_arg3)
abbrev a4 (c : Dev nD) : Vec Ideal S2048 .f32 := m ((c : Thread nD τ).loc main_arg4)
abbrev a5 (c : Dev nD) : Vec Ideal S2048 .f32 := m ((c : Thread nD τ).loc main_arg5)

theorem idx : ∀ t : Fin cfg0.N, win0_0.index t = ![t.val / 32, t.val % 32, 0] ∧ win0_1.index t = ![0, 0] ∧ win0_2.index t = ![t.val / 32, t.val % 32, 0] ∧ win0_3.index t = ![t.val / 32, 0, 0] ∧ win0_4.index t = ![0, 0] ∧ win0_5.index t = ![0, 0] ∧ win0_6.index t = ![t.val / 32, t.val % 32, 0] :=
  (by decide +kernel : ∀ t : Fin grid0.N, _)

theorem blk0 (c : Dev nD) (t : Fin cfg0.N) (b : Fin 2) (hb : (b : ℕ) = t.val / 32) (x : Fin 512) (r : Fin 16384) (hr : (r : ℕ) = t.val % 32 * 512 + x) (k : Fin 2048) :
    (iblk m c 0 t : Vec Ideal S1x512x2048 .bf16) (ix3 0 x k) = a0 m c (ix3 b r k) := by blk_point [iblk, V, idx t, hb, hr]
theorem blk1 (c : Dev nD) (t : Fin cfg0.N) (j k : Fin 2048) :
    (iblk m c 1 t : Vec Ideal S2048x2048 .bf16) (ix2 j k) = a1 m c (ix2 j k) := by blk_point [iblk, V, idx t]
theorem blk2 (c : Dev nD) (t : Fin cfg0.N) (b : Fin 2) (hb : (b : ℕ) = t.val / 32) (x : Fin 512) (r : Fin 16384) (hr : (r : ℕ) = t.val % 32 * 512 + x) (k : Fin 2048) :
    (iblk m c 2 t : Vec Ideal S1x512x2048 .f32) (ix3 0 x k) = a2 m c (ix3 b r k) := by blk_point [iblk, V, idx t, hb, hr]
theorem blk3 (c : Dev nD) (t : Fin cfg0.N) (b : Fin 2) (hb : (b : ℕ) = t.val / 32) (k : Fin 2048) :
    (iblk m c 3 t : Vec Ideal S1x1x2048 .f32) (ix3 0 0 k) = a3 m c (ix3 b 0 k) := by blk_point [iblk, V, idx t, hb]
theorem blk4 (c : Dev nD) (t : Fin cfg0.N) (k : Fin 2048) :
    (iblk m c 4 t : Vec Ideal S1x2048 .f32) (ix2 0 k) = a4 m c (ix1 k) := by blk_point [iblk, V, idx t]
theorem blk5 (c : Dev nD) (t : Fin cfg0.N) (k : Fin 2048) :
    (iblk m c 5 t : Vec Ideal S1x2048 .f32) (ix2 0 k) = a5 m c (ix1 k) := by blk_point [iblk, V, idx t]

/-- The result. -/
def G (c : Dev nD) : Vec Ideal S2x16384x2048 .f32 := fun i =>
  Lay.ln (fun k => Lay.al * a2 m c (ix3 (i 0) (i 1) k) + a3 m c (ix3 (i 0) 0 k) * ∑ j : Fin 2048, a0 m c (ix3 (i 0) (i 1) j) * a1 m c (ix2 j k))
    (a4 m c (ix1 (i 2))) (a5 m c (ix1 (i 2))) (i 2)

theorem out_blk (c : Dev nD) (t : Fin cfg0.N) (b : Fin 2) (r : Fin 16384) (x : Fin 512) (hb : (b : ℕ) = t.val / 32) (hr : (r : ℕ) = t.val % 32 * 512 + x) (n : Fin 2048) :
    out0_6 (iblk m c 0 t) (iblk m c 1 t) (iblk m c 2 t) (iblk m c 3 t) (iblk m c 4 t) (iblk m c 5 t) (ix3 0 x n) = G m c (ix3 b r n) := by
  rw [out_at, blk4 m c t n, blk5 m c t n]
  refine congrArg (fun z => Lay.ln z _ _ n) (funext fun k => ?_)
  rw [blk2 m c t b hb x r hr k, blk3 m c t b hb k]
  refine congrArg (fun z : EReal => Lay.al * a2 m c (ix3 b r k) + a3 m c (ix3 b 0 k) * z) (Finset.sum_congr rfl fun j _ => ?_)
  rw [blk0 m c t b hb x r hr j, blk1 m c t j k]
  rfl

open Idealize.ShloMosaic.Pipeline (Dat)

theorem final (c : Dev nD) : (dats m 0 c).arrAt 6 cfg0.N = G m c :=
  (dats m 0 c).arrAt_eq_of_covers 6 _ (by decide +kernel) fun t hf y => by
    have hN : cfg0.N = 64 := N_0
    have htl : t.val < 64 := lt_of_lt_of_eq t.isLt hN
    blk_simp
    rw [after0_6]
    obtain ⟨y0, x, d, rfl⟩ : ∃ (y0 : Fin 1) (x : Fin 512) (d : Fin 2048), y = ix3 y0 x d := ⟨y 0, y 1, y 2, by funext a; fin_cases a <;> rfl⟩
    obtain rfl : y0 = 0 := Subsingleton.elim _ _
    have hx := x.isLt
    have hd := d.isLt
    have e : (win0_6.blk t).view.emb (ix3 0 x d) = (ix3 (⟨t.val / 32, by omega⟩ : Fin 2) (⟨t.val % 32 * 512 + x, by omega⟩ : Fin 16384) d : S2x16384x2048.Idx) := by
      blk_ext [idx t]
    exact (out_blk m c t ⟨t.val / 32, by omega⟩ ⟨t.val % 32 * 512 + x, by omega⟩ x rfl rfl d).trans (congrArg (G m c) e).symm

end Cert.AttnOutIdeal.Ato
-- ==== Proof.Ato.Ref.lean ====
module
public import proofs.«01_k».proof.Proof.Gen.AttnOutRefIdeal.Run
public import proofs.«01_k».proof.Proof.Ato.Out
/-! The plain attention output projection with its residual and norm is what the kernel leaves. -/
@[expose] public section
set_option maxRecDepth 16384
noncomputable section
namespace Cert.AttnOutRefIdeal.Ato
open Idealize.ShloMosaic Idealize.ShloMosaic.TcCoe Idealize.SL Idealize.SL.Sem
open Cert.AttnOutRefIdeal Cert.AttnOutRefIdeal.Gen

/-- The residual sum before the norm. -/
abbrev X (A0 : Vec Ideal S2x16384x2048 .bf16) (A1 : Vec Ideal S2048x2048 .f32) (A2 : Vec Ideal S2x16384x2048 .f32) (A3 : Vec Ideal S2x1x2048 .f32) : Vec Ideal S2x16384x2048 .f32 :=
  addf (F := Ideal) (φ := .f32) (mulf (broadcastInDim S2x16384x2048 ![] bcast_S_S2x16384x2048 (constant S_ .f32 0x3FD744FD#32)) A2) (mulf (broadcastInDim S2x16384x2048 ![0, 1, 2] bcast_S2x1x2048_S2x16384x2048_0_1_2 A3) (Host.dotGeneral (F := Ideal) (φ₁ := .f32) (φ₂ := .f32) dot_S2x16384x2048_S2048x2048_S2x16384x2048_2_0_01_1_n_n none (extf .f32 A0 bitsLt_bf16_f32) A1))

theorem X_at (A0 : Vec Ideal S2x16384x2048 .bf16) (A1 : Vec Ideal S2048x2048 .f32) (A2 : Vec Ideal S2x16384x2048 .f32) (A3 : Vec Ideal S2x1x2048 .f32) (b : Fin 2) (r : Fin 16384) (n : Fin 2048) :
    X A0 A1 A2 A3 (ix3 b r n) = Lay.al * A2 (ix3 b r n) + A3 (ix3 b 0 n) * ∑ j : Fin 2048, A0 (ix3 b r j) * A1 (ix2 j n) := by
  pointwise [X]

/-- A row less its mean. -/
abbrev Ce (X : Vec Ideal S2x16384x2048 .f32) : Vec Ideal S2x16384x2048 .f32 :=
  subf (F := Ideal) (φ := .f32) X (broadcastInDim S2x16384x2048 ![0, 1, 2] bcast_S2x16384x1_S2x16384x2048_0_1_2 (Host.divf (broadcastInDim S2x16384x1 ![0, 1] bcast_S2x16384_S2x16384x1_0_1 (Host.reduceAdd X (constant S_ .f32 0x00000000#32) reducesTo_S2x16384x2048_S2x16384_d2 h_S_)) (broadcastInDim S2x16384x1 ![] bcast_S_S2x16384x1 (constant S_ .f32 0x45000000#32))))

theorem Ce_at (X : Vec Ideal S2x16384x2048 .f32) (b : Fin 2) (r : Fin 16384) (n : Fin 2048) :
    Ce X (ix3 b r n) = X (ix3 b r n) - Ideal.div (∑ k : Fin 2048, X (ix3 b r k)) Lay.nd := by
  pointwise [Ce]

/-- The norm over the last axis, given the centred rows. -/
abbrev Lc (Z : Vec Ideal S2x16384x2048 .f32) (G B : Vec Ideal S2048 .f32) : Vec Ideal S2x16384x2048 .f32 :=
  addf (F := Ideal) (φ := .f32) (mulf (mulf Z (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf Z Z) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 G))) (broadcastInDim S2x16384x2048 ![0, 1, 2] bcast_S1x1x2048_S2x16384x2048_0_1_2 (broadcastInDim S1x1x2048 ![2] bcast_S2048_S1x1x2048_2 B))

theorem Lc_at (Z : Vec Ideal S2x16384x2048 .f32) (G B : Vec Ideal S2048 .f32) (b : Fin 2) (r : Fin 16384) (n : Fin 2048) :
    Lc Z G B (ix3 b r n) = Z (ix3 b r n) * Ideal.rsqrt (Ideal.div (∑ k : Fin 2048, Z (ix3 b r k) * Z (ix3 b r k)) Lay.nd + Lay.ep) * G (ix1 n) + B (ix1 n) := by
  pointwise [Lc]

/-- The norm over the last axis. -/
abbrev Ln (X : Vec Ideal S2x16384x2048 .f32) (G B : Vec Ideal S2048 .f32) : Vec Ideal S2x16384x2048 .f32 := Lc (Ce X) G B

theorem Ln_at (X : Vec Ideal S2x16384x2048 .f32) (G B : Vec Ideal S2048 .f32) (b : Fin 2) (r : Fin 16384) (n : Fin 2048) :
    Ln X G B (ix3 b r n) = Lay.ln (fun k => X (ix3 b r k)) (G (ix1 n)) (B (ix1 n)) n := by
  show Lc (Ce X) G B (ix3 b r n) = _
  rw [Lc_at]
  simp only [Ce_at, Lay.ln]

set_option maxHeartbeats 4000000 in
theorem res_at (m : (ℓ : Loc nD τ sig) → Buf (Elt Ideal) ℓ) (c : Dev nD) :
    Value.res_out0 m c = Ln (X (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) (m ((c.tc : Thread nD τ).loc main_arg5)) := by
  unfold Value.res_out0 Value.res_main_v30
  rfl

open Cert.AttnOutIdeal.Ato in
theorem ref_eq (m : (ℓ : Loc Cert.AttnOutIdeal.nD Cert.AttnOutIdeal.τ Cert.AttnOutIdeal.sig) → Buf (Elt Ideal) ℓ) (c : Dev Cert.AttnOutIdeal.nD) :
    Ln (X (a0 m c) (a1 m c) (a2 m c) (a3 m c)) (a4 m c) (a5 m c) = G m c := by
  funext i
  obtain ⟨b, r, n, rfl⟩ : ∃ (b : Fin 2) (r : Fin 16384) (n : Fin 2048), i = ix3 b r n := ⟨i 0, i 1, i 2, by funext a; fin_cases a <;> rfl⟩
  exact (Ln_at _ _ _ b r n).trans (congrArg (fun z => Lay.ln z _ _ n) (funext fun k => X_at _ _ _ _ b r k))

end Cert.AttnOutRefIdeal.Ato
-- ==== Proof.Hyo.Out.lean ====
module
public import proofs.«01_k».proof.Proof.Gen.HyOutIdeal.Value
public import proofs.«01_k».proof.Proof.Lay.Norm
public import Idealize.ShloMosaic.Lib.Pipeline.ValueKit
/-! The gated convolution output projection with its residual and norm: what the kernel leaves. -/
@[expose] public section
set_option maxRecDepth 16384
noncomputable section
namespace Cert.HyOutIdeal.Hyo
open Idealize.ShloMosaic Idealize.ShloMosaic.TcCoe Idealize.SL Idealize.SL.Sem
open Cert.HyOutIdeal Cert.HyOutIdeal.Gen

theorem pre_at (x0 cv v : Vec Ideal S1x512x2048 .bf16) (bi : Vec Ideal S1x2048 .f32) (w : Vec Ideal S1x2048x2048 .bf16) (bo : Vec Ideal S1x2048 .f32) (h : Vec Ideal S1x512x2048 .f32) (ga : Vec Ideal S1x1x2048 .f32)
    (x : Fin 512) (k : Fin 2048) :
    k0_pay2 x0 cv v bi w bo h ga (ix2 x k) = Lay.al * h (ix3 0 x k) + ga (ix3 0 0 k) * ((∑ j : Fin 2048, x0 (ix3 0 x j) * (cv (ix3 0 x j) + v (ix3 0 x j) * bi (ix2 0 j)) * w (ix3 0 j k)) + bo (ix2 0 k)) := by
  pointwise [k0_pay2]
  try simp only [Lay.zero_bits, zero_add]

theorem norm_at (z : Vec Ideal S512x2048 .f32) (g b : Vec Ideal S1x2048 .f32) (x : Fin 512) (n : Fin 2048) :
    k0_pay1 z g b (ix3 0 x n) = Lay.ln (fun k => z (ix2 x k)) (g (ix2 0 n)) (b (ix2 0 n)) n := by
  pointwise [k0_pay1]
  simp only [Lay.zero_bits, zero_add, Lay.ln]

theorem out_at (x0 cv v : Vec Ideal S1x512x2048 .bf16) (bi : Vec Ideal S1x2048 .f32) (w : Vec Ideal S1x2048x2048 .bf16) (bo : Vec Ideal S1x2048 .f32) (h : Vec Ideal S1x512x2048 .f32) (ga : Vec Ideal S1x1x2048 .f32)
    (g b : Vec Ideal S1x2048 .f32) (x : Fin 512) (n : Fin 2048) :
    out0_10 x0 cv v bi w bo h ga g b (ix3 0 x n) = Lay.ln (fun k => Lay.al * h (ix3 0 x k) + ga (ix3 0 0 k) * ((∑ j : Fin 2048, x0 (ix3 0 x j) * (cv (ix3 0 x j) + v (ix3 0 x j) * bi (ix2 0 j)) * w (ix3 0 j k)) + bo (ix2 0 k))) (g (ix2 0 n)) (b (ix2 0 n)) n := by
  unfold out0_10
  frame_out
  rw [norm_at]
  simp only [pre_at]

variable (m : (ℓ : Loc nD τ sig) → Buf (Elt Ideal) ℓ)

abbrev a0 (c : Dev nD) : Vec Ideal S2x16384x2048 .bf16 := m ((c : Thread nD τ).loc main_arg0)
abbrev a1 (c : Dev nD) : Vec Ideal S2x16384x2048 .bf16 := m ((c : Thread nD τ).loc main_arg1)
abbrev a2 (c : Dev nD) : Vec Ideal S2x16384x2048 .bf16 := m ((c : Thread nD τ).loc main_arg2)
abbrev a3 (c : Dev nD) : Vec Ideal S2048 .f32 := m ((c : Thread nD τ).loc main_arg3)
abbrev a4 (c : Dev nD) : Vec Ideal S2x2048x2048 .f32 := m ((c : Thread nD τ).loc main_arg4)
abbrev a5 (c : Dev nD) : Vec Ideal S2048 .f32 := m ((c : Thread nD τ).loc main_arg5)
abbrev a6 (c : Dev nD) : Vec Ideal S2x16384x2048 .f32 := m ((c : Thread nD τ).loc main_arg6)
abbrev a7 (c : Dev nD) : Vec Ideal S2x1x2048 .f32 := m ((c : Thread nD τ).loc main_arg7)
abbrev a8 (c : Dev nD) : Vec Ideal S2048 .f32 := m ((c : Thread nD τ).loc main_arg8)
abbrev a9 (c : Dev nD) : Vec Ideal S2048 .f32 := m ((c : Thread nD τ).loc main_arg9)

theorem idx : ∀ t : Fin cfg0.N, win0_0.index t = ![t.val / 32, t.val % 32, 0] ∧ win0_1.index t = ![t.val / 32, t.val % 32, 0] ∧ win0_2.index t = ![t.val / 32, t.val % 32, 0] ∧ win0_3.index t = ![0, 0] ∧ win0_4.index t = ![1, 0, 0] ∧ win0_5.index t = ![0, 0] ∧ win0_6.index t = ![t.val / 32, t.val % 32, 0] ∧ win0_7.index t = ![t.val / 32, 0, 0] ∧ win0_8.index t = ![0, 0] ∧ win0_9.index t = ![0, 0] ∧ win0_10.index t = ![t.val / 32, t.val % 32, 0] :=
  (by decide +kernel : ∀ t : Fin grid0.N, _)

theorem blk0 (c : Dev nD) (t : Fin cfg0.N) (b : Fin 2) (hb : (b : ℕ) = t.val / 32) (x : Fin 512) (r : Fin 16384) (hr : (r : ℕ) = t.val % 32 * 512 + x) (k : Fin 2048) :
    (iblk m c 0 t : Vec Ideal S1x512x2048 .bf16) (ix3 0 x k) = a0 m c (ix3 b r k) := by blk_point [iblk, V, idx t, hb, hr]
theorem blk1 (c : Dev nD) (t : Fin cfg0.N) (b : Fin 2) (hb : (b : ℕ) = t.val / 32) (x : Fin 512) (r : Fin 16384) (hr : (r : ℕ) = t.val % 32 * 512 + x) (k : Fin 2048) :
    (iblk m c 1 t : Vec Ideal S1x512x2048 .bf16) (ix3 0 x k) = a1 m c (ix3 b r k) := by blk_point [iblk, V, idx t, hb, hr]
theorem blk2 (c : Dev nD) (t : Fin cfg0.N) (b : Fin 2) (hb : (b : ℕ) = t.val / 32) (x : Fin 512) (r : Fin 16384) (hr : (r : ℕ) = t.val % 32 * 512 + x) (k : Fin 2048) :
    (iblk m c 2 t : Vec Ideal S1x512x2048 .bf16) (ix3 0 x k) = a2 m c (ix3 b r k) := by blk_point [iblk, V, idx t, hb, hr]
theorem blk3 (c : Dev nD) (t : Fin cfg0.N) (k : Fin 2048) :
    (iblk m c 3 t : Vec Ideal S1x2048 .f32) (ix2 0 k) = a3 m c (ix1 k) := by blk_point [iblk, V, idx t]
theorem blk4 (c : Dev nD) (t : Fin cfg0.N) (j k : Fin 2048) :
    (iblk m c 4 t : Vec Ideal S1x2048x2048 .bf16) (ix3 0 j k) = a4 m c (ix3 1 j k) := by blk_point [iblk, V, idx t]
theorem blk5 (c : Dev nD) (t : Fin cfg0.N) (k : Fin 2048) :
    (iblk m c 5 t : Vec Ideal S1x2048 .f32) (ix2 0 k) = a5 m c (ix1 k) := by blk_point [iblk, V, idx t]
theorem blk6 (c : Dev nD) (t : Fin cfg0.N) (b : Fin 2) (hb : (b : ℕ) = t.val / 32) (x : Fin 512) (r : Fin 16384) (hr : (r : ℕ) = t.val % 32 * 512 + x) (k : Fin 2048) :
    (iblk m c 6 t : Vec Ideal S1x512x2048 .f32) (ix3 0 x k) = a6 m c (ix3 b r k) := by blk_point [iblk, V, idx t, hb, hr]
theorem blk7 (c : Dev nD) (t : Fin cfg0.N) (b : Fin 2) (hb : (b : ℕ) = t.val / 32) (k : Fin 2048) :
    (iblk m c 7 t : Vec Ideal S1x1x2048 .f32) (ix3 0 0 k) = a7 m c (ix3 b 0 k) := by blk_point [iblk, V, idx t, hb]
theorem blk8 (c : Dev nD) (t : Fin cfg0.N) (k : Fin 2048) :
    (iblk m c 8 t : Vec Ideal S1x2048 .f32) (ix2 0 k) = a8 m c (ix1 k) := by blk_point [iblk, V, idx t]
theorem blk9 (c : Dev nD) (t : Fin cfg0.N) (k : Fin 2048) :
    (iblk m c 9 t : Vec Ideal S1x2048 .f32) (ix2 0 k) = a9 m c (ix1 k) := by blk_point [iblk, V, idx t]

/-- The result. -/
def G (c : Dev nD) : Vec Ideal S2x16384x2048 .f32 := fun i =>
  Lay.ln (fun k => Lay.al * a6 m c (ix3 (i 0) (i 1) k) + a7 m c (ix3 (i 0) 0 k) * ((∑ j : Fin 2048, a0 m c (ix3 (i 0) (i 1) j) * (a1 m c (ix3 (i 0) (i 1) j) + a2 m c (ix3 (i 0) (i 1) j) * a3 m c (ix1 j)) * a4 m c (ix3 1 j k)) + a5 m c (ix1 k)))
    (a8 m c (ix1 (i 2))) (a9 m c (ix1 (i 2))) (i 2)

theorem out_blk (c : Dev nD) (t : Fin cfg0.N) (b : Fin 2) (r : Fin 16384) (x : Fin 512) (hb : (b : ℕ) = t.val / 32) (hr : (r : ℕ) = t.val % 32 * 512 + x) (n : Fin 2048) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 x n) = G m c (ix3 b r n) := by
  rw [out_at, blk8 m c t n, blk9 m c t n]
  refine congrArg (fun z => Lay.ln z _ _ n) (funext fun k => ?_)
  rw [blk6 m c t b hb x r hr k, blk7 m c t b hb k, blk5 m c t k]
  refine congrArg (fun z : EReal => Lay.al * a6 m c (ix3 b r k) + a7 m c (ix3 b 0 k) * (z + a5 m c (ix1 k))) (Finset.sum_congr rfl fun j _ => ?_)
  rw [blk0 m c t b hb x r hr j, blk1 m c t b hb x r hr j, blk2 m c t b hb x r hr j, blk3 m c t j, blk4 m c t j k]
  rfl

open Idealize.ShloMosaic.Pipeline (Dat)

theorem final (c : Dev nD) : (dats m 0 c).arrAt 10 cfg0.N = G m c :=
  (dats m 0 c).arrAt_eq_of_covers 10 _ (by decide +kernel) fun t hf y => by
    have hN : cfg0.N = 64 := N_0
    have htl : t.val < 64 := lt_of_lt_of_eq t.isLt hN
    blk_simp
    rw [after0_10]
    obtain ⟨y0, x, d, rfl⟩ : ∃ (y0 : Fin 1) (x : Fin 512) (d : Fin 2048), y = ix3 y0 x d := ⟨y 0, y 1, y 2, by funext a; fin_cases a <;> rfl⟩
    obtain rfl : y0 = 0 := Subsingleton.elim _ _
    have hx := x.isLt
    have hd := d.isLt
    have e : (win0_10.blk t).view.emb (ix3 0 x d) = (ix3 (⟨t.val / 32, by omega⟩ : Fin 2) (⟨t.val % 32 * 512 + x, by omega⟩ : Fin 16384) d : S2x16384x2048.Idx) := by
      blk_ext [idx t]
    exact (out_blk m c t ⟨t.val / 32, by omega⟩ ⟨t.val % 32 * 512 + x, by omega⟩ x rfl rfl d).trans (congrArg (G m c) e).symm

end Cert.HyOutIdeal.Hyo
-- ==== Proof.Hyo.Ref.lean ====
module
public import proofs.«01_k».proof.Proof.Gen.HyOutRefIdeal.Run
public import proofs.«01_k».proof.Proof.Hyo.Out
/-! The plain gated convolution output projection with its residual and norm is what the kernel leaves. -/
@[expose] public section
set_option maxRecDepth 16384
noncomputable section
namespace Cert.HyOutRefIdeal.Hyo
open Idealize.ShloMosaic Idealize.ShloMosaic.TcCoe Idealize.SL Idealize.SL.Sem
open Cert.HyOutRefIdeal Cert.HyOutRefIdeal.Gen

/-- The residual sum before the norm. -/
abbrev X (A0 A1 A2 : Vec Ideal S2x16384x2048 .bf16) (A3 : Vec Ideal S2048 .f32) (A4 : Vec Ideal S2x2048x2048 .f32) (A5 : Vec Ideal S2048 .f32) (A6 : Vec Ideal S2x16384x2048 .f32) (A7 : Vec Ideal S2x1x2048 .f32) : Vec Ideal S2x16384x2048 .f32 :=
  addf (F := Ideal) (φ := .f32) (mulf (broadcastInDim S2x16384x2048 ![] bcast_S_S2x16384x2048 (constant S_ .f32 0x3FD744FD#32)) A6) (mulf (broadcastInDim S2x16384x2048 ![0, 1, 2] bcast_S2x1x2048_S2x16384x2048_0_1_2 A7) (addf (Host.dotGeneral (F := Ideal) (φ₁ := .f32) (φ₂ := .f32) dot_S2x16384x2048_S2048x2048_S2x16384x2048_2_0_01_1_n_n none (mulf (extf .f32 A0 bitsLt_bf16_f32) (addf (extf .f32 A1 bitsLt_bf16_f32) (mulf (extf .f32 A2 bitsLt_bf16_f32) (broadcastInDim S2x16384x2048 ![0, 1, 2] bcast_S1x1x2048_S2x16384x2048_0_1_2 (broadcastInDim S1x1x2048 ![2] bcast_S2048_S1x1x2048_2 A3))))) (shapeCast _ (extractStridedSlice S1x2048x2048 ![1, 0, 0] A4 slices_S2x2048x2048_S1x2048x2048_1_0_0) shapeCasts_S1x2048x2048_S2048x2048)) (broadcastInDim S2x16384x2048 ![0, 1, 2] bcast_S1x1x2048_S2x16384x2048_0_1_2 (broadcastInDim S1x1x2048 ![2] bcast_S2048_S1x1x2048_2 A5))))

theorem X_at (A0 A1 A2 : Vec Ideal S2x16384x2048 .bf16) (A3 : Vec Ideal S2048 .f32) (A4 : Vec Ideal S2x2048x2048 .f32) (A5 : Vec Ideal S2048 .f32) (A6 : Vec Ideal S2x16384x2048 .f32) (A7 : Vec Ideal S2x1x2048 .f32) (b : Fin 2) (r : Fin 16384) (n : Fin 2048) :
    X A0 A1 A2 A3 A4 A5 A6 A7 (ix3 b r n) = Lay.al * A6 (ix3 b r n) + A7 (ix3 b 0 n) * ((∑ j : Fin 2048, A0 (ix3 b r j) * (A1 (ix3 b r j) + A2 (ix3 b r j) * A3 (ix1 j)) * A4 (ix3 1 j n)) + A5 (ix1 n)) := by
  pointwise [X]

/-- A row less its mean. -/
abbrev Ce (X : Vec Ideal S2x16384x2048 .f32) : Vec Ideal S2x16384x2048 .f32 :=
  subf (F := Ideal) (φ := .f32) X (broadcastInDim S2x16384x2048 ![0, 1, 2] bcast_S2x16384x1_S2x16384x2048_0_1_2 (Host.divf (broadcastInDim S2x16384x1 ![0, 1] bcast_S2x16384_S2x16384x1_0_1 (Host.reduceAdd X (constant S_ .f32 0x00000000#32) reducesTo_S2x16384x2048_S2x16384_d2 h_S_)) (broadcastInDim S2x16384x1 ![] bcast_S_S2x16384x1 (constant S_ .f32 0x45000000#32))))

theorem Ce_at (X : Vec Ideal S2x16384x2048 .f32) (b : Fin 2) (r : Fin 16384) (n : Fin 2048) :
    Ce X (ix3 b r n) = X (ix3 b r n) - Ideal.div (∑ k : Fin 2048, X (ix3 b r k)) Lay.nd := by
  pointwise [Ce]

/-- The norm over the last axis, given the centred rows. -/
abbrev Lc (Z : Vec Ideal S2x16384x2048 .f32) (G B : Vec Ideal S2048 .f32) : Vec Ideal S2x16384x2048 .f32 :=
  addf (F := Ideal) (φ := .f32) (mulf (mulf Z (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf Z Z) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 G))) (broadcastInDim S2x16384x2048 ![0, 1, 2] bcast_S1x1x2048_S2x16384x2048_0_1_2 (broadcastInDim S1x1x2048 ![2] bcast_S2048_S1x1x2048_2 B))

theorem Lc_at (Z : Vec Ideal S2x16384x2048 .f32) (G B : Vec Ideal S2048 .f32) (b : Fin 2) (r : Fin 16384) (n : Fin 2048) :
    Lc Z G B (ix3 b r n) = Z (ix3 b r n) * Ideal.rsqrt (Ideal.div (∑ k : Fin 2048, Z (ix3 b r k) * Z (ix3 b r k)) Lay.nd + Lay.ep) * G (ix1 n) + B (ix1 n) := by
  pointwise [Lc]

/-- The norm over the last axis. -/
abbrev Ln (X : Vec Ideal S2x16384x2048 .f32) (G B : Vec Ideal S2048 .f32) : Vec Ideal S2x16384x2048 .f32 := Lc (Ce X) G B

theorem Ln_at (X : Vec Ideal S2x16384x2048 .f32) (G B : Vec Ideal S2048 .f32) (b : Fin 2) (r : Fin 16384) (n : Fin 2048) :
    Ln X G B (ix3 b r n) = Lay.ln (fun k => X (ix3 b r k)) (G (ix1 n)) (B (ix1 n)) n := by
  show Lc (Ce X) G B (ix3 b r n) = _
  rw [Lc_at]
  simp only [Ce_at, Lay.ln]

set_option maxHeartbeats 4000000 in
theorem res_at (m : (ℓ : Loc nD τ sig) → Buf (Elt Ideal) ℓ) (c : Dev nD) :
    Value.res_out0 m c = Ln (X (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) := by
  unfold Value.res_out0 Value.res_main_v42
  rfl

open Cert.HyOutIdeal.Hyo in
theorem ref_eq (m : (ℓ : Loc Cert.HyOutIdeal.nD Cert.HyOutIdeal.τ Cert.HyOutIdeal.sig) → Buf (Elt Ideal) ℓ) (c : Dev Cert.HyOutIdeal.nD) :
    Ln (X (a0 m c) (a1 m c) (a2 m c) (a3 m c) (a4 m c) (a5 m c) (a6 m c) (a7 m c)) (a8 m c) (a9 m c) = G m c := by
  funext i
  obtain ⟨b, r, n, rfl⟩ : ∃ (b : Fin 2) (r : Fin 16384) (n : Fin 2048), i = ix3 b r n := ⟨i 0, i 1, i 2, by funext a; fin_cases a <;> rfl⟩
  exact (Ln_at _ _ _ b r n).trans (congrArg (fun z => Lay.ln z _ _ n) (funext fun k => X_at _ _ _ _ _ _ _ _ b r k))

end Cert.HyOutRefIdeal.Hyo
-- ==== Proof.Ffn.Point.lean ====
module
public import proofs.«01_k».proof.Proof.Gen.FfnIdeal.Value
public import proofs.«01_k».proof.Proof.Lay.Norm
/-! The feed-forward kernel's stores read at an index. -/
@[expose] public section
set_option maxRecDepth 16384
noncomputable section
namespace Cert.FfnIdeal.Ffn
open Idealize.ShloMosaic Idealize.ShloMosaic.TcCoe Idealize.SL Idealize.SL.Sem
open Cert.FfnIdeal Cert.FfnIdeal.Gen

theorem u_at (h : Vec Ideal S1x512x2048 .f32) (sc sh : Vec Ideal S1x1x2048 .f32) (r : Fin 512) (k : Fin 2048) :
    k0_pay2 h sc sh (ix2 r k) = h (ix3 0 r k) * (1 + sc (ix3 0 0 k)) + sh (ix3 0 0 k) := by
  pointwise [k0_pay2]

theorem z_at (r : Fin 512) (n : Fin 2048) : k0_pay3 (F := Ideal) (ix2 r n) = 0 := by
  rw [← Lay.zero_bits]
  pointwise [k0_pay3]

theorem acc_at (u : Vec Ideal S512x2048 .bf16) (wg wu : Vec Ideal S1x2048x512 .bf16) (a : Vec Ideal S512x2048 .f32) (wd : Vec Ideal S1x512x2048 .bf16)
    (r : Fin 512) (n : Fin 2048) :
    k0_pay4 u wg wu a wd (ix2 r n) = a (ix2 r n) + ∑ f : Fin 512,
      Lay.act (∑ k : Fin 2048, u (ix2 r k) * wg (ix3 0 k f)) (∑ k : Fin 2048, u (ix2 r k) * wu (ix3 0 k f)) * wd (ix3 0 f n) := by
  pointwise [k0_pay4]
  simp only [Lay.zero_bits, zero_sub, zero_add, Lay.act]

theorem out_at (h : Vec Ideal S1x512x2048 .f32) (ga : Vec Ideal S1x1x2048 .f32) (a : Vec Ideal S512x2048 .f32) (g b : Vec Ideal S1x2048 .f32)
    (r : Fin 512) (n : Fin 2048) :
    k0_pay1 h ga a g b (ix3 0 r n) = Lay.ln (fun k => Lay.al * h (ix3 0 r k) + ga (ix3 0 0 k) * a (ix2 r k)) (g (ix2 0 n)) (b (ix2 0 n)) n := by
  pointwise [k0_pay1]
  simp only [Lay.zero_bits, zero_add, Lay.ln]

end Cert.FfnIdeal.Ffn
-- ==== Proof.Ffn.Case.lean ====
module
public import proofs.«01_k».proof.Proof.Ffn.Point
public import Idealize.ShloMosaic.Lib.Pipeline.ValueKit
public import Idealize.ShloMosaic.Lib.Pipeline.ReadBack
/-! What one grid point leaves in the scratch arrays and in its block of the result. -/
@[expose] public section
set_option maxRecDepth 16384
noncomputable section
namespace Cert.FfnIdeal.Ffn
open Idealize.ShloMosaic Idealize.ShloMosaic.TcCoe Idealize.SL Idealize.SL.Sem
open Cert.FfnIdeal Cert.FfnIdeal.Gen

variable (m : (ℓ : Loc nD τ sig) → Buf (Elt Ideal) ℓ)

abbrev U (c : Dev nD) (n : ℕ) (h : n < cfg0.N) : Vec Ideal S512x2048 .bf16 := (outsAt0 m c n h).2.1
abbrev A (c : Dev nD) (n : ℕ) (h : n < cfg0.N) : Vec Ideal S512x2048 .f32 := (outsAt0 m c n h).2.2

theorem lt_pred (t : Fin cfg0.N) : t.val - 1 < cfg0.N := lt_of_le_of_lt (Nat.sub_le _ _) t.isLt

theorem uA (c : Dev nD) (t : Fin cfg0.N) (h0 : t.val % 11 = 0) (h1 : ¬t.val % 11 = 10) :
    U m c t.val t.isLt = k0_pay2 (iblk m c 0 t) (iblk m c 2 t) (iblk m c 1 t) := by
  unfold U
  rw [outsAt0_A m c t h0 h1]
  frame_out
  try simp (disch := decide) only [View.readCov_cons_toLoadRect, read_unread_whole]
  try rfl

theorem aA (c : Dev nD) (t : Fin cfg0.N) (h0 : t.val % 11 = 0) (h1 : ¬t.val % 11 = 10) :
    A m c t.val t.isLt = k0_pay4 (k0_pay2 (iblk m c 0 t) (iblk m c 2 t) (iblk m c 1 t)) (iblk m c 4 t) (iblk m c 5 t) (k0_pay3 (F := Ideal)) (iblk m c 6 t) := by
  unfold A
  rw [outsAt0_A m c t h0 h1]
  frame_out
  try simp (disch := decide) only [View.readCov_cons_toLoadRect, read_unread_whole]
  try rfl

theorem uB (c : Dev nD) (t : Fin cfg0.N) (h0 : ¬t.val % 11 = 0) (h1 : ¬t.val % 11 = 10) :
    U m c t.val t.isLt = U m c (t.val - 1) (lt_pred t) := by
  unfold U
  rw [outsAt0_B m c t h0 h1]
  simp only [sout0_B_0]

theorem aB (c : Dev nD) (t : Fin cfg0.N) (h0 : ¬t.val % 11 = 0) (h1 : ¬t.val % 11 = 10) :
    A m c t.val t.isLt = k0_pay4 (U m c (t.val - 1) (lt_pred t)) (iblk m c 4 t) (iblk m c 5 t) (A m c (t.val - 1) (lt_pred t)) (iblk m c 6 t) := by
  unfold A
  rw [outsAt0_B m c t h0 h1]
  frame_out
  try simp (disch := decide) only [View.readCov_cons_toLoadRect, read_unread_whole]
  try rfl

theorem oC (c : Dev nD) (t : Fin cfg0.N) (h0 : ¬t.val % 11 = 0) (h1 : t.val % 11 = 10) :
    (outsAt0 m c t.val t.isLt).1 = k0_pay1 (iblk m c 0 t) (iblk m c 3 t)
      (k0_pay4 (U m c (t.val - 1) (lt_pred t)) (iblk m c 4 t) (iblk m c 5 t) (A m c (t.val - 1) (lt_pred t)) (iblk m c 6 t)) (iblk m c 7 t) (iblk m c 8 t) := by
  rw [outsAt0_C m c t h0 h1]
  frame_out
  try simp (disch := decide) only [View.readCov_cons_toLoadRect, read_unread_whole]
  try rfl

end Cert.FfnIdeal.Ffn
-- ==== Proof.Ffn.Block.lean ====
module
public import proofs.«01_k».proof.Proof.Ffn.Case
/-! The blocks a grid point reads, as entries of the arguments. -/
@[expose] public section
set_option maxRecDepth 16384
noncomputable section
namespace Cert.FfnIdeal.Ffn
open Idealize.ShloMosaic Idealize.ShloMosaic.TcCoe Idealize.SL Idealize.SL.Sem
open Cert.FfnIdeal Cert.FfnIdeal.Gen

variable (m : (ℓ : Loc nD τ sig) → Buf (Elt Ideal) ℓ)

abbrev a0 (c : Dev nD) : Vec Ideal S2x16384x2048 .f32 := m ((c : Thread nD τ).loc main_arg0)
abbrev a1 (c : Dev nD) : Vec Ideal S2x1x2048 .f32 := m ((c : Thread nD τ).loc main_arg1)
abbrev a2 (c : Dev nD) : Vec Ideal S2x1x2048 .f32 := m ((c : Thread nD τ).loc main_arg2)
abbrev a3 (c : Dev nD) : Vec Ideal S2x1x2048 .f32 := m ((c : Thread nD τ).loc main_arg3)
abbrev a4 (c : Dev nD) : Vec Ideal S4x2048x5632 .f32 := m ((c : Thread nD τ).loc main_arg4)
abbrev a5 (c : Dev nD) : Vec Ideal S4x2048x5632 .f32 := m ((c : Thread nD τ).loc main_arg5)
abbrev a6 (c : Dev nD) : Vec Ideal S4x5632x2048 .f32 := m ((c : Thread nD τ).loc main_arg6)
abbrev a7 (c : Dev nD) : Vec Ideal S2048 .f32 := m ((c : Thread nD τ).loc main_arg7)
abbrev a8 (c : Dev nD) : Vec Ideal S2048 .f32 := m ((c : Thread nD τ).loc main_arg8)

theorem idx : ∀ t : Fin cfg0.N, win0_0.index t = ![t.val / 352, t.val / 11 % 32, 0] ∧ win0_1.index t = ![t.val / 352, 0, 0]
    ∧ win0_2.index t = ![t.val / 352, 0, 0] ∧ win0_3.index t = ![t.val / 352, 0, 0] ∧ win0_4.index t = ![3, 0, t.val % 11]
    ∧ win0_5.index t = ![3, 0, t.val % 11] ∧ win0_6.index t = ![3, t.val % 11, 0] ∧ win0_7.index t = ![0, 0] ∧ win0_8.index t = ![0, 0]
    ∧ win0_9.index t = ![t.val / 352, t.val / 11 % 32, 0] :=
  (by decide +kernel : ∀ t : Fin grid0.N, _)

theorem blk0 (c : Dev nD) (t : Fin cfg0.N) (b : Fin 2) (hb : (b : ℕ) = t.val / 352) (x : Fin 512) (r : Fin 16384) (hr : (r : ℕ) = t.val / 11 % 32 * 512 + x) (k : Fin 2048) :
    (iblk m c 0 t : Vec Ideal S1x512x2048 .f32) (ix3 0 x k) = a0 m c (ix3 b r k) := by blk_point [iblk, V, idx t, hb, hr]
theorem blk1 (c : Dev nD) (t : Fin cfg0.N) (b : Fin 2) (hb : (b : ℕ) = t.val / 352) (k : Fin 2048) :
    (iblk m c 1 t : Vec Ideal S1x1x2048 .f32) (ix3 0 0 k) = a1 m c (ix3 b 0 k) := by blk_point [iblk, V, idx t, hb]
theorem blk2 (c : Dev nD) (t : Fin cfg0.N) (b : Fin 2) (hb : (b : ℕ) = t.val / 352) (k : Fin 2048) :
    (iblk m c 2 t : Vec Ideal S1x1x2048 .f32) (ix3 0 0 k) = a2 m c (ix3 b 0 k) := by blk_point [iblk, V, idx t, hb]
theorem blk3 (c : Dev nD) (t : Fin cfg0.N) (b : Fin 2) (hb : (b : ℕ) = t.val / 352) (k : Fin 2048) :
    (iblk m c 3 t : Vec Ideal S1x1x2048 .f32) (ix3 0 0 k) = a3 m c (ix3 b 0 k) := by blk_point [iblk, V, idx t, hb]
theorem blk4 (c : Dev nD) (t : Fin cfg0.N) (k : Fin 2048) (f : Fin 512) (F : Fin 5632) (hF : (F : ℕ) = t.val % 11 * 512 + f) :
    (iblk m c 4 t : Vec Ideal S1x2048x512 .bf16) (ix3 0 k f) = a4 m c (ix3 3 k F) := by blk_point [iblk, V, idx t, hF]
theorem blk5 (c : Dev nD) (t : Fin cfg0.N) (k : Fin 2048) (f : Fin 512) (F : Fin 5632) (hF : (F : ℕ) = t.val % 11 * 512 + f) :
    (iblk m c 5 t : Vec Ideal S1x2048x512 .bf16) (ix3 0 k f) = a5 m c (ix3 3 k F) := by blk_point [iblk, V, idx t, hF]
theorem blk6 (c : Dev nD) (t : Fin cfg0.N) (k : Fin 2048) (f : Fin 512) (F : Fin 5632) (hF : (F : ℕ) = t.val % 11 * 512 + f) :
    (iblk m c 6 t : Vec Ideal S1x512x2048 .bf16) (ix3 0 f k) = a6 m c (ix3 3 F k) := by blk_point [iblk, V, idx t, hF]
theorem blk7 (c : Dev nD) (t : Fin cfg0.N) (k : Fin 2048) :
    (iblk m c 7 t : Vec Ideal S1x2048 .f32) (ix2 0 k) = a7 m c (ix1 k) := by blk_point [iblk, V, idx t]
theorem blk8 (c : Dev nD) (t : Fin cfg0.N) (k : Fin 2048) :
    (iblk m c 8 t : Vec Ideal S1x2048 .f32) (ix2 0 k) = a8 m c (ix1 k) := by blk_point [iblk, V, idx t]

end Cert.FfnIdeal.Ffn
-- ==== Proof.Ffn.Fold.lean ====
module
public import proofs.«01_k».proof.Proof.Ffn.Block
/-! The accumulator as a sum over the tiles of the hidden axis, and the block written at the last tile. -/
@[expose] public section
set_option maxRecDepth 16384
noncomputable section
namespace Cert.FfnIdeal.Ffn
open Idealize.ShloMosaic Idealize.ShloMosaic.TcCoe Idealize.SL Idealize.SL.Sem
open Cert.FfnIdeal Cert.FfnIdeal.Gen

variable (m : (ℓ : Loc nD τ sig) → Buf (Elt Ideal) ℓ)

/-- The modulated input. -/
def mo (c : Dev nD) (b : Fin 2) (r : Fin 16384) (k : Fin 2048) : EReal :=
  a0 m c (ix3 b r k) * (1 + a2 m c (ix3 b 0 k)) + a1 m c (ix3 b 0 k)

/-- The hidden activation. -/
def hid (c : Dev nD) (b : Fin 2) (r : Fin 16384) (F : Fin 5632) : EReal :=
  Lay.act (∑ k : Fin 2048, mo m c b r k * a4 m c (ix3 3 k F)) (∑ k : Fin 2048, mo m c b r k * a5 m c (ix3 3 k F))

/-- One term of the second product, by its position on the hidden axis. -/
def term (c : Dev nD) (b : Fin 2) (r : Fin 16384) (n : Fin 2048) (F : ℕ) : EReal :=
  if h : F < 5632 then hid m c b r ⟨F, h⟩ * a6 m c (ix3 3 ⟨F, h⟩ n) else 0

/-- The terms of one tile of the hidden axis. -/
def tile (c : Dev nD) (b : Fin 2) (r : Fin 16384) (n : Fin 2048) (j : ℕ) : EReal :=
  ∑ f : Fin 512, term m c b r n (j * 512 + f)

theorem step (c : Dev nD) (t : Fin cfg0.N) (b : Fin 2) (r : Fin 16384) (u : Vec Ideal S512x2048 .bf16) (a : Vec Ideal S512x2048 .f32) (x : Fin 512)
    (hu : ∀ k, u (ix2 x k) = mo m c b r k) (n : Fin 2048) :
    k0_pay4 u (iblk m c 4 t) (iblk m c 5 t) a (iblk m c 6 t) (ix2 x n) = a (ix2 x n) + tile m c b r n (t.val % 11) := by
  rw [acc_at, tile]
  refine congrArg (a (ix2 x n) + ·) (Finset.sum_congr rfl fun f _ => ?_)
  have hf := f.isLt
  have h5 : t.val % 11 * 512 + f.val < 5632 := by omega
  rw [term, dif_pos h5, hid, blk6 m c t n f ⟨_, h5⟩ rfl]
  simp only [hu]
  refine congrArg (· * _) (congrArg₂ Lay.act (Finset.sum_congr rfl fun k _ => ?_) (Finset.sum_congr rfl fun k _ => ?_))
  · rw [blk4 m c t k f ⟨_, h5⟩ rfl]
  · rw [blk5 m c t k f ⟨_, h5⟩ rfl]

theorem u_blk (c : Dev nD) (t : Fin cfg0.N) (b : Fin 2) (r : Fin 16384) (x : Fin 512) (hb : (b : ℕ) = t.val / 352) (hr : (r : ℕ) = t.val / 11 % 32 * 512 + x) (k : Fin 2048) :
    k0_pay2 (iblk m c 0 t) (iblk m c 2 t) (iblk m c 1 t) (ix2 x k) = mo m c b r k := by
  rw [u_at, blk0 m c t b hb x r hr k, blk1 m c t b hb k, blk2 m c t b hb k, mo]

theorem inv (c : Dev nD) (n : ℕ) : ∀ (h : n < cfg0.N), ¬n % 11 = 10 → ∀ (b : Fin 2) (r : Fin 16384) (x : Fin 512), (b : ℕ) = n / 352 → (r : ℕ) = n / 11 % 32 * 512 + x →
    (∀ k, U m c n h (ix2 x k) = mo m c b r k) ∧ ∀ y, A m c n h (ix2 x y) = ∑ j ∈ Finset.range (n % 11 + 1), tile m c b r y j := by
  induction n using Nat.strong_induction_on with
  | _ n ih =>
    intro h h1 b r x hb hr
    by_cases h0 : n % 11 = 0
    · have hu : ∀ k, U m c n h (ix2 x k) = mo m c b r k := fun k => by
        rw [show U m c n h = _ from uA m c ⟨n, h⟩ h0 h1]
        exact u_blk m c ⟨n, h⟩ b r x hb hr k
      refine ⟨hu, fun y => ?_⟩
      rw [show A m c n h = _ from aA m c ⟨n, h⟩ h0 h1, step m c ⟨n, h⟩ b r _ _ x (fun k => u_blk m c ⟨n, h⟩ b r x hb hr k), z_at, zero_add, h0]
      simp [Finset.sum_range_one, h0]
    · obtain ⟨iu, ia⟩ := ih (n - 1) (by omega) (lt_of_le_of_lt (Nat.sub_le _ _) h) (by omega) b r x (by omega) (by omega)
      refine ⟨fun k => ?_, fun y => ?_⟩
      · rw [show U m c n h = _ from uB m c ⟨n, h⟩ h0 h1]
        exact iu k
      · rw [show A m c n h = _ from aB m c ⟨n, h⟩ h0 h1, step m c ⟨n, h⟩ b r _ _ x iu]
        rw [Finset.sum_range_succ]
        refine congrArg (· + _) ((ia y).trans ?_)
        rw [show (n - 1) % 11 + 1 = n % 11 by omega]

theorem tiles (c : Dev nD) (b : Fin 2) (r : Fin 16384) (n : Fin 2048) :
    ∑ j ∈ Finset.range 11, tile m c b r n j = ∑ F : Fin 5632, hid m c b r F * a6 m c (ix3 3 F n) := by
  have e := Fin.sum_univ_tiles 11 512 rfl (fun F : Fin (11 * 512) => term m c b r n F)
  rw [Finset.sum_range]
  refine Eq.trans ?_ (e.symm.trans ?_)
  · rfl
  · refine Finset.sum_congr rfl fun F _ => ?_
    rw [term, dif_pos F.isLt]

/-- The result. -/
def G (c : Dev nD) : Vec Ideal S2x16384x2048 .f32 := fun i =>
  Lay.ln (fun k => Lay.al * a0 m c (ix3 (i 0) (i 1) k) + a3 m c (ix3 (i 0) 0 k) * ∑ F : Fin 5632, hid m c (i 0) (i 1) F * a6 m c (ix3 3 F k))
    (a7 m c (ix1 (i 2))) (a8 m c (ix1 (i 2))) (i 2)

theorem out_last (c : Dev nD) (t : Fin cfg0.N) (h1 : t.val % 11 = 10) (b : Fin 2) (r : Fin 16384) (x : Fin 512) (hb : (b : ℕ) = t.val / 352)
    (hr : (r : ℕ) = t.val / 11 % 32 * 512 + x) (n : Fin 2048) :
    (outsAt0 m c t.val t.isLt).1 (ix3 0 x n) = G m c (ix3 b r n) := by
  obtain ⟨iu, ia⟩ := inv m c (t.val - 1) (lt_pred t) (by omega) b r x (by omega) (by omega)
  rw [oC m c t (by omega) h1, out_at]
  show _ = Lay.ln (fun k => Lay.al * a0 m c (ix3 b r k) + a3 m c (ix3 b 0 k) * ∑ F : Fin 5632, hid m c b r F * a6 m c (ix3 3 F k))
    (a7 m c (ix1 n)) (a8 m c (ix1 n)) n
  rw [blk7 m c t n, blk8 m c t n]
  refine congrArg (fun z => Lay.ln z _ _ n) (funext fun k => ?_)
  rw [blk0 m c t b hb x r hr k, blk3 m c t b hb k, step m c t b r _ _ x iu, ia, ← tiles]
  refine congrArg (fun z : EReal => Lay.al * a0 m c (ix3 b r k) + a3 m c (ix3 b 0 k) * z) ?_
  rw [show (t.val - 1) % 11 + 1 = 10 by omega, h1, ← Finset.sum_range_succ]

open Idealize.ShloMosaic.Pipeline (Dat)

theorem final (c : Dev nD) : (dats m 0 c).arrAt 9 cfg0.N = G m c :=
  (dats m 0 c).arrAt_eq_of_covers 9 _ (by decide +kernel) fun t hf y => by
    have h4 : t.val % 11 = 10 := (flush0_9 t).1 hf
    have hN : cfg0.N = 704 := N_0
    have htl : t.val < 704 := lt_of_lt_of_eq t.isLt hN
    blk_simp
    rw [after0_9]
    obtain ⟨y0, x, d, rfl⟩ : ∃ (y0 : Fin 1) (x : Fin 512) (d : Fin 2048), y = ix3 y0 x d := ⟨y 0, y 1, y 2, by funext a; fin_cases a <;> rfl⟩
    obtain rfl : y0 = 0 := Subsingleton.elim _ _
    have hx := x.isLt
    have hd := d.isLt
    have e : (win0_9.blk t).view.emb (ix3 0 x d) = (ix3 (⟨t.val / 352, by omega⟩ : Fin 2) (⟨t.val / 11 % 32 * 512 + x, by omega⟩ : Fin 16384) d : S2x16384x2048.Idx) := by
      blk_ext [idx t]
    exact (out_last m c t h4 ⟨t.val / 352, by omega⟩ ⟨t.val / 11 % 32 * 512 + x, by omega⟩ x rfl rfl d).trans (congrArg (G m c) e).symm

end Cert.FfnIdeal.Ffn
-- ==== Proof.Ffn.Ref.lean ====
module
public import proofs.«01_k».proof.Proof.Gen.FfnRefIdeal.Run
public import proofs.«01_k».proof.Proof.Lay.Norm
/-! The plain feed-forward layer read at an index. -/
@[expose] public section
set_option maxRecDepth 16384
noncomputable section
namespace Cert.FfnRefIdeal.Ffn
open Idealize.ShloMosaic Idealize.ShloMosaic.TcCoe Idealize.SL Idealize.SL.Sem
open Cert.FfnRefIdeal Cert.FfnRefIdeal.Gen

/-- The modulated input. -/
abbrev U (A0 : Vec Ideal S2x16384x2048 .f32) (A1 A2 : Vec Ideal S2x1x2048 .f32) : Vec Ideal S2x16384x2048 .f32 :=
  addf (F := Ideal) (φ := .f32) (mulf A0 (broadcastInDim S2x16384x2048 ![0, 1, 2] bcast_S2x1x2048_S2x16384x2048_0_1_2 (addf (broadcastInDim S2x1x2048 ![] bcast_S_S2x1x2048 (constant S_ .f32 0x3F800000#32)) A2))) (broadcastInDim S2x16384x2048 ![0, 1, 2] bcast_S2x1x2048_S2x16384x2048_0_1_2 A1)

theorem U_at (A0 : Vec Ideal S2x16384x2048 .f32) (A1 A2 : Vec Ideal S2x1x2048 .f32) (b : Fin 2) (r : Fin 16384) (k : Fin 2048) :
    U A0 A1 A2 (ix3 b r k) = A0 (ix3 b r k) * (1 + A2 (ix3 b 0 k)) + A1 (ix3 b 0 k) := by
  pointwise [U]

/-- The product with a layer's weight of a stack. -/
abbrev Pr (X : Vec Ideal S2x16384x2048 .f32) (W : Vec Ideal S4x2048x5632 .f32) : Vec Ideal S2x16384x5632 .f32 :=
  Host.dotGeneral (F := Ideal) (φ₁ := .f32) (φ₂ := .f32) dot_S2x16384x2048_S2048x5632_S2x16384x5632_2_0_01_1_n_n none X (shapeCast _ (extractStridedSlice S1x2048x5632 ![3, 0, 0] W slices_S4x2048x5632_S1x2048x5632_3_0_0) shapeCasts_S1x2048x5632_S2048x5632)

theorem Pr_at (X : Vec Ideal S2x16384x2048 .f32) (W : Vec Ideal S4x2048x5632 .f32) (b : Fin 2) (r : Fin 16384) (f : Fin 5632) :
    Pr X W (ix3 b r f) = ∑ k : Fin 2048, X (ix3 b r k) * W (ix3 3 k f) := by
  pointwise [Pr]

/-- The gated unit's result. -/
abbrev Y (P Q : Vec Ideal S2x16384x5632 .f32) (W : Vec Ideal S4x5632x2048 .f32) : Vec Ideal S2x16384x2048 .f32 :=
  Host.dotGeneral (F := Ideal) (φ₁ := .f32) (φ₂ := .f32) dot_S2x16384x5632_S5632x2048_S2x16384x2048_2_0_01_1_n_n none (mulf (mulf P (Host.divf (broadcastInDim S2x16384x5632 ![] bcast_S_S2x16384x5632 (constant S_ .f32 0x3F800000#32)) (addf (broadcastInDim S2x16384x5632 ![] bcast_S_S2x16384x5632 (constant S_ .f32 0x3F800000#32)) (Host.exp (Host.negf P))))) Q) (shapeCast _ (extractStridedSlice S1x5632x2048 ![3, 0, 0] W slices_S4x5632x2048_S1x5632x2048_3_0_0) shapeCasts_S1x5632x2048_S5632x2048)

theorem Y_at (P Q : Vec Ideal S2x16384x5632 .f32) (W : Vec Ideal S4x5632x2048 .f32) (b : Fin 2) (r : Fin 16384) (n : Fin 2048) :
    Y P Q W (ix3 b r n) = ∑ f : Fin 5632, Lay.act (P (ix3 b r f)) (Q (ix3 b r f)) * W (ix3 3 f n) := by
  pointwise [Y]
  rfl

/-- The residual sum before the norm. -/
abbrev X (A0 : Vec Ideal S2x16384x2048 .f32) (A3 : Vec Ideal S2x1x2048 .f32) (Y : Vec Ideal S2x16384x2048 .f32) : Vec Ideal S2x16384x2048 .f32 :=
  addf (F := Ideal) (φ := .f32) (mulf (broadcastInDim S2x16384x2048 ![] bcast_S_S2x16384x2048 (constant S_ .f32 0x3FD744FD#32)) A0) (mulf (broadcastInDim S2x16384x2048 ![0, 1, 2] bcast_S2x1x2048_S2x16384x2048_0_1_2 A3) Y)

theorem X_at (A0 : Vec Ideal S2x16384x2048 .f32) (A3 : Vec Ideal S2x1x2048 .f32) (Y : Vec Ideal S2x16384x2048 .f32) (b : Fin 2) (r : Fin 16384) (n : Fin 2048) :
    X A0 A3 Y (ix3 b r n) = Lay.al * A0 (ix3 b r n) + A3 (ix3 b 0 n) * Y (ix3 b r n) := by
  pointwise [X]

/-- A row less its mean. -/
abbrev Ce (X : Vec Ideal S2x16384x2048 .f32) : Vec Ideal S2x16384x2048 .f32 :=
  subf (F := Ideal) (φ := .f32) X (broadcastInDim S2x16384x2048 ![0, 1, 2] bcast_S2x16384x1_S2x16384x2048_0_1_2 (Host.divf (broadcastInDim S2x16384x1 ![0, 1] bcast_S2x16384_S2x16384x1_0_1 (Host.reduceAdd X (constant S_ .f32 0x00000000#32) reducesTo_S2x16384x2048_S2x16384_d2 h_S_)) (broadcastInDim S2x16384x1 ![] bcast_S_S2x16384x1 (constant S_ .f32 0x45000000#32))))

theorem Ce_at (X : Vec Ideal S2x16384x2048 .f32) (b : Fin 2) (r : Fin 16384) (n : Fin 2048) :
    Ce X (ix3 b r n) = X (ix3 b r n) - Ideal.div (∑ k : Fin 2048, X (ix3 b r k)) Lay.nd := by
  pointwise [Ce]

/-- The norm over the last axis, given the centred rows. -/
abbrev Lc (Z : Vec Ideal S2x16384x2048 .f32) (G B : Vec Ideal S2048 .f32) : Vec Ideal S2x16384x2048 .f32 :=
  addf (F := Ideal) (φ := .f32) (mulf (mulf Z (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf Z Z) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 G))) (broadcastInDim S2x16384x2048 ![0, 1, 2] bcast_S1x1x2048_S2x16384x2048_0_1_2 (broadcastInDim S1x1x2048 ![2] bcast_S2048_S1x1x2048_2 B))

theorem Lc_at (Z : Vec Ideal S2x16384x2048 .f32) (G B : Vec Ideal S2048 .f32) (b : Fin 2) (r : Fin 16384) (n : Fin 2048) :
    Lc Z G B (ix3 b r n) = Z (ix3 b r n) * Ideal.rsqrt (Ideal.div (∑ k : Fin 2048, Z (ix3 b r k) * Z (ix3 b r k)) Lay.nd + Lay.ep) * G (ix1 n) + B (ix1 n) := by
  pointwise [Lc]

/-- The norm over the last axis. -/
abbrev Ln (X : Vec Ideal S2x16384x2048 .f32) (G B : Vec Ideal S2048 .f32) : Vec Ideal S2x16384x2048 .f32 := Lc (Ce X) G B

theorem Ln_at (X : Vec Ideal S2x16384x2048 .f32) (G B : Vec Ideal S2048 .f32) (b : Fin 2) (r : Fin 16384) (n : Fin 2048) :
    Ln X G B (ix3 b r n) = Lay.ln (fun k => X (ix3 b r k)) (G (ix1 n)) (B (ix1 n)) n := by
  show Lc (Ce X) G B (ix3 b r n) = _
  rw [Lc_at]
  simp only [Ce_at, Lay.ln]

set_option maxHeartbeats 4000000 in
theorem res_at (m : (ℓ : Loc nD τ sig) → Buf (Elt Ideal) ℓ) (c : Dev nD) :
    Value.res_out0 m c = Ln (X (m ((c.tc : Thread nD τ).loc main_arg0)) (m ((c.tc : Thread nD τ).loc main_arg3))
      (Y (Pr (U (m ((c.tc : Thread nD τ).loc main_arg0)) (m ((c.tc : Thread nD τ).loc main_arg1)) (m ((c.tc : Thread nD τ).loc main_arg2))) (m ((c.tc : Thread nD τ).loc main_arg4)))
        (Pr (U (m ((c.tc : Thread nD τ).loc main_arg0)) (m ((c.tc : Thread nD τ).loc main_arg1)) (m ((c.tc : Thread nD τ).loc main_arg2))) (m ((c.tc : Thread nD τ).loc main_arg5)))
        (m ((c.tc : Thread nD τ).loc main_arg6)))) (m ((c.tc : Thread nD τ).loc main_arg7)) (m ((c.tc : Thread nD τ).loc main_arg8)) := by
  unfold Value.res_out0 Value.res_main_v45
  rfl

end Cert.FfnRefIdeal.Ffn
-- ==== Proof.Ffn.Equal.lean ====
module
public import proofs.«01_k».proof.Proof.Ffn.Fold
public import proofs.«01_k».proof.Proof.Ffn.Ref
/-! The plain feed-forward layer is what the kernel leaves. -/
@[expose] public section
set_option maxRecDepth 16384
noncomputable section
namespace Cert.FfnIdeal.Ffn
open Idealize.ShloMosaic Idealize.ShloMosaic.TcCoe Idealize.SL Idealize.SL.Sem
open Cert.FfnIdeal Cert.FfnIdeal.Gen

open Cert.FfnRefIdeal.Ffn in
theorem ref_eq (m : (ℓ : Loc nD τ sig) → Buf (Elt Ideal) ℓ) (c : Dev nD) :
    Ln (X (a0 m c) (a3 m c) (Y (Pr (Cert.FfnRefIdeal.Ffn.U (a0 m c) (a1 m c) (a2 m c)) (a4 m c)) (Pr (Cert.FfnRefIdeal.Ffn.U (a0 m c) (a1 m c) (a2 m c)) (a5 m c)) (a6 m c))) (a7 m c) (a8 m c) = G m c := by
  funext i
  obtain ⟨b, r, n, rfl⟩ : ∃ (b : Fin 2) (r : Fin 16384) (n : Fin 2048), i = ix3 b r n := ⟨i 0, i 1, i 2, by funext a; fin_cases a <;> rfl⟩
  refine (Ln_at _ _ _ b r n).trans (congrArg (fun z => Lay.ln z _ _ n) (funext fun k => ?_))
  refine (X_at _ _ _ b r k).trans (congrArg (fun z : EReal => Lay.al * a0 m c (ix3 b r k) + a3 m c (ix3 b 0 k) * z) ?_)
  refine (Y_at _ _ _ b r k).trans (Finset.sum_congr rfl fun F _ => congrArg (· * _) ?_)
  exact congrArg₂ Lay.act ((Pr_at _ _ b r F).trans (Finset.sum_congr rfl fun k _ => congrArg (· * _) (U_at _ _ _ b r k)))
    ((Pr_at _ _ b r F).trans (Finset.sum_congr rfl fun k _ => congrArg (· * _) (U_at _ _ _ b r k)))

end Cert.FfnIdeal.Ffn
-- ==== Proof.Poo.Pre.lean ====
module
public import proofs.«01_k».proof.Proof.Gen.Pre_pool_pre
public import proofs.«01_k».proof.Proof.Att.Pre
/-! What the precondition of the pooling mixer says, element by element. -/
@[expose] public section
set_option maxRecDepth 16384
noncomputable section
namespace Cert.Pre_pool_pre.Poo
open Idealize.ShloMosaic Cert.Pre_pool_pre Cert.Pre_pool_pre.Gen
open Cert.Pre_attend_pre.Att (andi_one all_of lt_top)

theorem fn_one (A0 : FVec Ideal S2x16384x2048 .f32) (A1 A2 A3 : FVec Ideal S2x1x2048 .f32) (A4 : FVec Ideal S4x512x512 .f32) (A5 A6 A7 : FVec Ideal S2048 .f32)
    (j : S_.Idx) (h : fn A0 A1 A2 A3 A4 A5 A6 A7 j = 1#1) :
    (∀ i, ∃ r : ℝ, A0 i = (r : EReal)) ∧ (∀ i, ∃ r : ℝ, A1 i = (r : EReal)) ∧ (∀ i, ∃ r : ℝ, A2 i = (r : EReal)) := by
  obtain ⟨h01, h2⟩ := (andi_one _ _).1 h
  obtain ⟨h0, h1⟩ := (andi_one _ _).1 h01
  exact ⟨fun i => lt_top _ (all_of _ _ _ _ j h0 i), fun i => lt_top _ (all_of _ _ _ _ j h1 i), fun i => lt_top _ (all_of _ _ _ _ j h2 i)⟩

end Cert.Pre_pool_pre.Poo
-- ==== Proof.Poo.Sum.lean ====
module
public import Idealize.ShloMosaic.Lib.Pipeline.ValueKit
/-! Sums over a window of rows, rows outside the sequence counting as zero, and the window's ends as words. -/
@[expose] public section
set_option maxRecDepth 16384
noncomputable section
namespace Poo
open Idealize.ShloMosaic

/-- A column of the sequence, eight rows of zeros before it and zeros after it. -/
def pad (u : Fin 16384 → EReal) (e : ℕ) : EReal := if h : 8 ≤ e ∧ e < 16392 then u ⟨e - 8, by omega⟩ else 0

theorem pad_in (u : Fin 16384 → EReal) (e : ℕ) (h : 8 ≤ e ∧ e < 16392) : pad u e = u ⟨e - 8, by omega⟩ := dif_pos h

theorem pad_out (u : Fin 16384 → EReal) (e : ℕ) (h : ¬ (8 ≤ e ∧ e < 16392)) : pad u e = 0 := dif_neg h

/-- The sum of `w` rows from `a` on. -/
def ws (f : ℕ → EReal) (w a : ℕ) : EReal := ∑ j ∈ Finset.range w, f (a + j)

theorem ws_one (f : ℕ → EReal) (a : ℕ) : ws f 1 a = f a := by
  simp [ws]

theorem ws_add (f : ℕ → EReal) (w a : ℕ) : ws f w a + ws f w (a + w) = ws f (w + w) a := by
  unfold ws
  rw [Finset.sum_range_add]
  exact congrArg _ (Finset.sum_congr rfl fun j _ => congrArg f (by omega))

/-- The sum of the rows before `n`. -/
def cs (u : Fin 16384 → EReal) (n : ℕ) : EReal := ∑ j ∈ Finset.range n, if h : j < 16384 then u ⟨j, h⟩ else 0

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Rows of reals: the difference of two running sums is the window's sum. -/
theorem diff_real (g : ℕ → ℝ) (lo : ∀ e, e < 8 → g e = 0) (hi : ∀ e, 16392 ≤ e → g e = 0) (r h : ℕ) (hr : r < 16384) (hh : h ≤ 8) :
    (∑ j ∈ Finset.range (min (r + h) 16384), g (j + 8)) - (∑ j ∈ Finset.range (r - h), g (j + 8)) = ∑ j ∈ Finset.range (h + h), g (r + 8 - h + j) := by
  have S : ∀ n, ∑ j ∈ Finset.range n, g (j + 8) = ∑ j ∈ Finset.range (n + 8), g j := fun n => by
    rw [Nat.add_comm n 8, Finset.sum_range_add, Finset.sum_eq_zero (s := Finset.range 8) fun j hj => lo j (Finset.mem_range.1 hj), zero_add]
    exact Finset.sum_congr rfl fun j _ => congrArg g (by omega)
  have T : ∀ k, ∑ j ∈ Finset.range (16392 + k), g j = ∑ j ∈ Finset.range 16392, g j := fun k => by
    rw [Finset.sum_range_add, Finset.sum_eq_zero (s := Finset.range k) fun j _ => hi _ (by omega), add_zero]
  have Z : ∀ n, n ≤ 8 → ∑ j ∈ Finset.range n, g j = 0 := fun n hn => Finset.sum_eq_zero fun j hj => lo j (by have := Finset.mem_range.1 hj; omega)
  have W : ∑ j ∈ Finset.range (r + 8 - h + (h + h)), g j = ∑ j ∈ Finset.range (r + 8 - h), g j + ∑ j ∈ Finset.range (h + h), g (r + 8 - h + j) := Finset.sum_range_add _ _ _
  have A : ∑ j ∈ Finset.range (min (r + h) 16384 + 8), g j = ∑ j ∈ Finset.range (r + 8 - h + (h + h)), g j := by
    by_cases c : r + h ≤ 16384
    · rw [Nat.min_eq_left c]
      congr 2
      omega
    · rw [Nat.min_eq_right (by omega)]
      obtain ⟨k, hk⟩ : ∃ k, r + 8 - h + (h + h) = 16392 + k := ⟨r + h - 16384, by omega⟩
      rw [hk, T]
  have B : ∑ j ∈ Finset.range (r - h + 8), g j = ∑ j ∈ Finset.range (r + 8 - h), g j := by
    by_cases c : h ≤ r
    · congr 2
      omega
    · rw [Z _ (by omega), Z _ (by omega)]
  rw [S, S, A, B, W]
  ring

/-- Finite rows: the difference of two running sums is the window's sum. -/
theorem diff (u : Fin 16384 → EReal) (hu : ∀ i, ∃ x : ℝ, u i = (x : EReal)) (r h : ℕ) (hr : r < 16384) (hh : h ≤ 8) :
    cs u (min (r + h) 16384) - cs u (r - h) = ws (pad u) (h + h) (r + 8 - h) := by
  choose v hv using hu
  let g : ℕ → ℝ := fun e => if q : 8 ≤ e ∧ e < 16392 then v ⟨e - 8, by omega⟩ else 0
  have hg : ∀ e, pad u e = ((g e : ℝ) : EReal) := fun e => by
    by_cases q : 8 ≤ e ∧ e < 16392
    · rw [pad, dif_pos q, hv]
      exact (congrArg (fun z : ℝ => (z : EReal)) (dif_pos q : g e = v ⟨e - 8, by omega⟩)).symm
    · rw [pad, dif_neg q]
      exact (congrArg (fun z : ℝ => (z : EReal)) (dif_neg q : g e = 0)).symm
  have hc : ∀ n, cs u n = ((∑ j ∈ Finset.range n, g (j + 8) : ℝ) : EReal) := fun n => by
    rw [← coe_sum]
    refine Finset.sum_congr rfl fun j _ => ?_
    rw [← hg]
    by_cases q : j < 16384
    · have q' : 8 ≤ j + 8 ∧ j + 8 < 16392 := by omega
      rw [dif_pos q, pad, dif_pos q']
      rfl
    · have q' : ¬ (8 ≤ j + 8 ∧ j + 8 < 16392) := by omega
      rw [dif_neg q, pad, dif_neg q']
  have hw : ws (pad u) (h + h) (r + 8 - h) = ((∑ j ∈ Finset.range (h + h), g (r + 8 - h + j) : ℝ) : EReal) := by
    rw [← coe_sum]
    exact Finset.sum_congr rfl fun j _ => hg _
  rw [hc, hc, hw, ← EReal.coe_sub]
  exact congrArg _ (diff_real g (fun e he => dif_neg (by omega)) (fun e he => dif_neg (by omega)) r h hr hh)

/-- The number of rows of the window about `r` that lie in the sequence, as a word. -/
def cn (h r : ℕ) : BitVec 32 := BitVec.ofNat 32 (min (r + h) 16384 - (r - h))

theorem max_int (x y : BitVec 32) : (IntOp.maxsi x y).toInt = max x.toInt y.toInt := by
  unfold IntOp.maxsi
  have h := BitVec.slt_iff_toInt_lt (x := y) (y := x)
  split
  · next c => have := h.1 c; omega
  · next c => have : ¬ y.toInt < x.toInt := fun q => c (h.2 q)
              omega

theorem min_int (x y : BitVec 32) : (IntOp.minsi x y).toInt = min x.toInt y.toInt := by
  unfold IntOp.minsi
  have h := BitVec.slt_iff_toInt_lt (x := x) (y := y)
  split
  · next c => have := h.1 c; omega
  · next c => have : ¬ x.toInt < y.toInt := fun q => c (h.2 q)
              omega

theorem nat_int (n : ℕ) (hn : n < 2147483648) : (BitVec.ofNat 32 n).toInt = n := by
  rw [BitVec.toInt_eq_toNat_bmod, BitVec.toNat_ofNat, Int.bmod_def]
  norm_num
  omega

theorem add_int (r h : ℕ) (hr : r < 16384) (hh : h ≤ 8) : (BitVec.ofNat 32 r + BitVec.ofNat 32 h).toInt = (r : ℤ) + h := by
  rw [BitVec.toInt_add, nat_int r (by omega), nat_int h (by omega), Int.bmod_def]
  norm_num
  omega

theorem sub_int (r h : ℕ) (hr : r < 16384) (hh : h ≤ 8) : (BitVec.ofNat 32 r - BitVec.ofNat 32 h).toInt = (r : ℤ) - h := by
  rw [BitVec.toInt_sub, nat_int r (by omega), nat_int h (by omega), Int.bmod_def]
  norm_num
  omega

theorem hi_word (h : ℕ) (hh : h ≤ 8) (r : ℕ) (hr : r < 16384) :
    IntOp.minsi 16384#32 (IntOp.maxsi 0#32 (BitVec.ofNat 32 r + BitVec.ofNat 32 h)) = BitVec.ofNat 32 (min (r + h) 16384) := by
  apply BitVec.eq_of_toInt_eq
  rw [min_int, max_int, add_int r h hr hh, nat_int 16384 (by omega), nat_int 0 (by omega), nat_int _ (by omega)]
  omega

theorem lo_word (h : ℕ) (hh : h ≤ 8) (r : ℕ) (hr : r < 16384) :
    IntOp.minsi 16384#32 (IntOp.maxsi 0#32 (BitVec.ofNat 32 r - BitVec.ofNat 32 h)) = BitVec.ofNat 32 (r - h) := by
  apply BitVec.eq_of_toInt_eq
  rw [min_int, max_int, sub_int r h hr hh, nat_int 16384 (by omega), nat_int 0 (by omega), nat_int _ (by omega)]
  omega

theorem cn_sub (h r : ℕ) (hr : r < 16384) : BitVec.ofNat 32 (min (r + h) 16384) - BitVec.ofNat 32 (r - h) = cn h r := by
  unfold cn
  apply BitVec.eq_of_toInt_eq
  rw [BitVec.toInt_sub, nat_int _ (by omega), nat_int _ (by omega), nat_int _ (by omega), Int.bmod_def]
  norm_num
  omega

/-- The count as one grid point computes it from its row of the block. -/
theorem cn_word (h : ℕ) (hh : h ≤ 8) (q x : ℕ) (hq : q < 32) (hx : x < 512) :
    IntOp.minsi (BitVec.ofNat 32 q * 512#32 + BitVec.ofNat 32 x + BitVec.ofNat 32 h) 16384#32 - IntOp.maxsi (BitVec.ofNat 32 q * 512#32 + BitVec.ofNat 32 x - BitVec.ofNat 32 h) 0#32 = cn h (q * 512 + x) := by
  have e : BitVec.ofNat 32 q * 512#32 + BitVec.ofNat 32 x = BitVec.ofNat 32 (q * 512 + x) := by
    rw [BitVec.ofNat_add, BitVec.ofNat_mul]
  rw [e, ← cn_sub h _ (by omega)]
  refine congrArg₂ (· - ·) (BitVec.eq_of_toInt_eq ?_) (BitVec.eq_of_toInt_eq ?_)
  · rw [min_int, add_int _ h (by omega) hh, nat_int 16384 (by omega), nat_int _ (by omega)]
    omega
  · rw [max_int, sub_int _ h (by omega) hh, nat_int 0 (by omega), nat_int _ (by omega)]
    omega

end Poo
-- ==== Proof.Poo.Ops.lean ====
module
public import proofs.«01_k».proof.Proof.Gen.PoolRefIdeal
public import proofs.«01_k».proof.Proof.Poo.Sum
public import proofs.«01_k».proof.Proof.Lay.Norm
public import Idealize.ShloMosaic.Lib.ReduceAll
public import Idealize.ShloMosaic.Lib.Pipeline.ReadBack
/-! The running sum down the rows, and the reads of it at given rows, at an index. -/
@[expose] public section
set_option maxRecDepth 16384
noncomputable section
namespace Cert.PoolRefIdeal.Poo
open Idealize.ShloMosaic Idealize.ShloMosaic.TcCoe Idealize.SL Idealize.SL.Sem
open Cert.PoolRefIdeal Cert.PoolRefIdeal.Gen
open _root_.Poo (cs cn nat_int)

theorem fold_add {ι : Type} (l : List ι) (f : ι → EReal) : ∀ z : EReal, l.foldl (fun r n => r + f n) z = z + (l.map f).sum := by
  induction l with
  | nil => intro z; simp
  | cons a l ih => intro z; rw [List.foldl_cons, ih, List.map_cons, List.sum_cons, add_assoc]

/-- The window of the running sum: one column of 16384 rows. -/
abbrev Wn : Shape := ⟨4, ![1, 16384, 1, 1]⟩

theorem Wn_num : Wn.numel = 16384 := by decide +kernel

theorem Wn_symm (n : Fin Wn.numel) : Wn.rowMajor.symm n = (ix4 (0 : Fin 1) (⟨n.val, lt_of_lt_of_eq n.isLt Wn_num⟩ : Fin 16384) (0 : Fin 1) (0 : Fin 1) : Wn.Idx) :=
  (Equiv.symm_apply_eq _).2 (Fin.ext (by
    rw [Shape.rowMajor_val_four]
    show n.val = ((0 * 16384 + n.val) * 1 + 0) * 1 + 0
    omega))

theorem cum_range (X : ℕ → EReal) (N M r : ℕ) (hM : M = N + 1) (hr : r ≤ N) : ∑ n ∈ Finset.range M, (if N ≤ r + n then X (r + n - N) else 0) = ∑ j ∈ Finset.range (r + 1), X j := by
  subst hM
  obtain ⟨d, rfl⟩ : ∃ d, N = d + r := ⟨N - r, by omega⟩
  rw [show d + r + 1 = d + (r + 1) by omega, Finset.sum_range_add,
    Finset.sum_eq_zero (s := Finset.range d) fun j hj => if_neg (by have := Finset.mem_range.1 hj; omega), zero_add]
  refine Finset.sum_congr rfl fun j _ => ?_
  rw [if_pos (by omega)]
  exact congrArg X (by omega)

theorem add_window {s t u : Shape} (w st lo hi : Fin s.rank → ℕ) (x : Vec Ideal s .f32) (z : Vec Ideal u .f32) (h : s.ReduceWindows w st lo hi t) (hu : 0 < u.numel) :
    Host.reduceWindowAdd (F := Ideal) (φ := .f32) w st lo hi x z h hu = Host.reduceWindow (fun a b : EReal => a + b) w st lo hi x (fun _ : (⟨0, ![]⟩ : Shape).Idx => (z (Shape.Idx.first hu) : EReal)) h (by decide) := rfl

theorem win_sum {s t u : Shape} (w st lo hi : Fin s.rank → ℕ) (x : s.Idx → EReal) (h : s.ReduceWindows w st lo hi t) (hu : 0 < u.numel) (j : t.Idx) (N : ℕ) (hN : (⟨s.rank, w⟩ : Shape).numel = N) (f : ℕ → EReal)
    (hp : ∀ (n : Fin (⟨s.rank, w⟩ : Shape).numel) (hin : ∀ a, lo a ≤ (j (a.cast h.1.symm)).val * st a + ((⟨s.rank, w⟩ : Shape).rowMajor.symm n a).val ∧ (j (a.cast h.1.symm)).val * st a + ((⟨s.rank, w⟩ : Shape).rowMajor.symm n a).val - lo a < s.size a), x (fun a => ⟨_, (hin a).2⟩) = f n.val)
    (hq : ∀ n : Fin (⟨s.rank, w⟩ : Shape).numel, ¬ (∀ a, lo a ≤ (j (a.cast h.1.symm)).val * st a + ((⟨s.rank, w⟩ : Shape).rowMajor.symm n a).val ∧ (j (a.cast h.1.symm)).val * st a + ((⟨s.rank, w⟩ : Shape).rowMajor.symm n a).val - lo a < s.size a) → f n.val = 0) :
    Host.reduceWindow (fun a b : EReal => a + b) w st lo hi x (fun _ : u.Idx => 0) h hu j = ∑ n ∈ Finset.range N, f n := by
  subst hN
  unfold Host.reduceWindow
  refine (fold_add _ _ _).trans ?_
  rw [zero_add, ← Fin.sum_univ_eq_sum_range, Fin.sum_univ_def]
  refine congrArg List.sum (List.map_congr_left fun n _ => ?_)
  split
  · next hin => exact hp n hin
  · next hin => exact (hq n hin).symm

theorem cum_at (x : Vec Ideal S2x16384x4x512 .f32) (z : Vec Ideal S_ .f32) (hz : ∀ i, z i = (0 : EReal)) (b : Fin 2) (r : Fin 16384) (g : Fin 4) (k : Fin 512) :
    Host.reduceWindowAdd (F := Ideal) (φ := .f32) ![1, 16384, 1, 1] ![1, 1, 1, 1] ![0, 16383, 0, 0] ![0, 0, 0, 0] x z reduceWindows_S2x16384x4x512_S2x16384x4x512_w1s1p0_0_w16384s1p16383_0_w1s1p0_0_w1s1p0_0 h_S_ (ix4 b r g k) = cs (fun i => x (ix4 b i g k)) (r + 1) := by
  have hr := r.isLt
  have hb := b.isLt
  have hg := g.isLt
  have hk := k.isLt
  rw [add_window, hz]
  have hn : ∀ n : Fin Wn.numel, n.val < 16384 := fun n => lt_of_lt_of_eq n.isLt Wn_num
  have w0 : ∀ n, (Wn.rowMajor.symm n 0).val = 0 := fun n => by rw [Wn_symm]; rfl
  have w1 : ∀ n, (Wn.rowMajor.symm n 1).val = n.val := fun n => by rw [Wn_symm]; rfl
  have w2 : ∀ n, (Wn.rowMajor.symm n 2).val = 0 := fun n => by rw [Wn_symm]; rfl
  have w3 : ∀ n, (Wn.rowMajor.symm n 3).val = 0 := fun n => by rw [Wn_symm]; rfl
  refine (win_sum _ _ _ _ x _ _ _ 16384 Wn_num (fun n => if 16383 ≤ r.val + n then (if h : r.val + n - 16383 < 16384 then x (ix4 b ⟨r.val + n - 16383, h⟩ g k) else 0) else 0) (fun n hin => ?_) (fun n hin => ?_)).trans
    (cum_range (fun j => if h : j < 16384 then x (ix4 b ⟨j, h⟩ g k) else 0) 16383 16384 r (by norm_num) (by omega))
  · have h1 := (hin (1 : Fin 4)).1
    change 16383 ≤ r.val * 1 + (Wn.rowMajor.symm n 1).val at h1
    have hn := hn n
    rw [w1] at h1
    have q : 16383 ≤ r.val + n.val := by omega
    have h2 : r.val + n.val - 16383 < 16384 := by omega
    refine Eq.trans ?_ ((if_pos q).trans (dif_pos h2)).symm
    refine congrArg x (funext fun a => Fin.ext ?_)
    fin_cases a
    · show b.val * 1 + (Wn.rowMajor.symm n 0).val - 0 = b.val
      rw [w0]
      omega
    · show r.val * 1 + (Wn.rowMajor.symm n 1).val - 16383 = r.val + n.val - 16383
      rw [w1]
      omega
    · show g.val * 1 + (Wn.rowMajor.symm n 2).val - 0 = g.val
      rw [w2]
      omega
    · show k.val * 1 + (Wn.rowMajor.symm n 3).val - 0 = k.val
      rw [w3]
      omega
  · have hn := hn n
    refine if_neg fun q => hin fun a => ?_
    fin_cases a
    · show 0 ≤ b.val * 1 + (Wn.rowMajor.symm n 0).val ∧ b.val * 1 + (Wn.rowMajor.symm n 0).val - 0 < 2
      rw [w0]
      omega
    · show 16383 ≤ r.val * 1 + (Wn.rowMajor.symm n 1).val ∧ r.val * 1 + (Wn.rowMajor.symm n 1).val - 16383 < 16384
      rw [w1]
      omega
    · show 0 ≤ g.val * 1 + (Wn.rowMajor.symm n 2).val ∧ g.val * 1 + (Wn.rowMajor.symm n 2).val - 0 < 4
      rw [w2]
      omega
    · show 0 ≤ k.val * 1 + (Wn.rowMajor.symm n 3).val ∧ k.val * 1 + (Wn.rowMajor.symm n 3).val - 0 < 512
      rw [w3]
      omega

theorem gather_at (x : Vec Ideal S2x16385x512 .f32) (J : IVec S16384x1 32) (b : Fin 2) (r : Fin 16384) (k : Fin 512) (n : ℕ) (hn : n ≤ 16384) (h : J (ix2 r 0) = BitVec.ofNat 32 n) :
    Host.gather gather_S2x16385x512_S16384x1_S2x16384x512_02_1_n_n_1_1_21512 x J (ix3 b r k) = x (ix3 b ⟨n, by omega⟩ k) := by
  unfold Host.gather
  refine congrArg x (funext fun a => Fin.ext ?_)
  show GatherDims.start _ (ix3 b r k : S2x16384x512.Idx) J a + GatherDims.batchCoord _ _ a + GatherDims.offCoord _ _ a = _
  rw [GatherDims.batchCoord_eq_zero _ _ _ List.not_mem_nil]
  fin_cases a
  · show GatherDims.start gather_S2x16385x512_S16384x1_S2x16384x512_02_1_n_n_1_1_21512 (ix3 b r k : S2x16384x512.Idx) J (0 : Fin 3) + 0 + GatherDims.offCoord gather_S2x16385x512_S16384x1_S2x16384x512_02_1_n_n_1_1_21512 (ix3 b r k : S2x16384x512.Idx) (0 : Fin 3) = b.val
    unfold GatherDims.start GatherDims.offCoord
    rw [dif_neg (by decide), dif_pos (by decide)]
    show 0 + 0 + b.val = b.val
    omega
  · show GatherDims.start gather_S2x16385x512_S16384x1_S2x16384x512_02_1_n_n_1_1_21512 (ix3 b r k : S2x16384x512.Idx) J (1 : Fin 3) + 0 + GatherDims.offCoord gather_S2x16385x512_S16384x1_S2x16384x512_02_1_n_n_1_1_21512 (ix3 b r k : S2x16384x512.Idx) (1 : Fin 3) = n
    unfold GatherDims.start GatherDims.offCoord
    rw [dif_pos (by decide), dif_neg (by decide)]
    have hsi : ∀ p, GatherDims.siIdx gather_S2x16385x512_S16384x1_S2x16384x512_02_1_n_n_1_1_21512 (ix3 b r k : S2x16384x512.Idx) p = (ix2 r 0 : S16384x1.Idx) := fun p => by
      funext a
      fin_cases a
      · rfl
      · exact Subsingleton.elim (α := Fin 1) _ _
    rw [hsi, h, nat_int n (by omega)]
    show min (n : ℤ).toNat 16384 + 0 + 0 = n
    omega
  · show GatherDims.start gather_S2x16385x512_S16384x1_S2x16384x512_02_1_n_n_1_1_21512 (ix3 b r k : S2x16384x512.Idx) J (2 : Fin 3) + 0 + GatherDims.offCoord gather_S2x16385x512_S16384x1_S2x16384x512_02_1_n_n_1_1_21512 (ix3 b r k : S2x16384x512.Idx) (2 : Fin 3) = k.val
    unfold GatherDims.start GatherDims.offCoord
    rw [dif_neg (by decide), dif_pos (by decide)]
    show 0 + 0 + k.val = k.val
    omega

/-- The rows to read, with a negative one turned round. -/
abbrev Ix (I : IVec S16384 32) : IVec S16384x1 32 :=
  broadcastInDim S16384x1 ![0] bcast_S16384_S16384x1_0 (select (cmpi .slt I (broadcastInDim S16384 ![] bcast_S_S16384 (constantI S_ 32 0#32))) (addi I (broadcastInDim S16384 ![] bcast_S_S16384 (constantI S_ 32 16385#32))) I)

theorem Ix_at (I : IVec S16384 32) (r : Fin 16384) (n : ℕ) (hn : n ≤ 16384) (h : I (ix1 r) = BitVec.ofNat 32 n) : Ix I (ix2 r 0) = BitVec.ofNat 32 n := by
  have e : (BitVec.ofNat 32 n).slt 0#32 = false := by
    by_contra c
    have := BitVec.slt_iff_toInt_lt.1 (Bool.not_eq_false _ ▸ c : (BitVec.ofNat 32 n).slt 0#32 = true)
    rw [nat_int n (by omega), nat_int 0 (by omega)] at this
    omega
  pointwise [Ix]
  rw [h]
  simp [Scalar.select, IntOp.cmpi, e]

/-- The reads, with a row out of range giving no number. -/
abbrev Tk (C : Vec Ideal S2x16385x512 .f32) (J : IVec S16384x1 32) : Vec Ideal S2x16384x512 .f32 :=
  select (broadcastInDim S2x16384x512 ![1] bcast_S16384_S2x16384x512_1 (Host.reduce IntOp.andi (andi (cmpi .sge J (broadcastInDim S16384x1 ![] bcast_S_S16384x1 (constantI S_ 32 0#32))) (cmpi .sle J (broadcastInDim S16384x1 ![0, 1] bcast_S1x1_S16384x1_0_1 (broadcastInDim S1x1 ![1] bcast_S1_S1x1_1 (constantI S1 32 16384#32))))) (constantI S_ 1 1#1) reducesTo_S16384x1_S16384_d1 h_S_)) (Host.gather gather_S2x16385x512_S16384x1_S2x16384x512_02_1_n_n_1_1_21512 C J) (broadcastInDim S2x16384x512 ![] bcast_S_S2x16384x512 (constant (F := Ideal) S_ .f32 0x7FC00000#32))

theorem in_range (n : ℕ) (hn : n ≤ 16384) : IntOp.andi (IntOp.cmpi .sge (BitVec.ofNat 32 n) 0#32) (IntOp.cmpi .sle (BitVec.ofNat 32 n) 16384#32) = 1#1 := by
  have a : (0#32).sle (BitVec.ofNat 32 n) = true := by
    rw [BitVec.sle_iff_toInt_le, nat_int n (by omega), nat_int 0 (by omega)]
    omega
  have b : (BitVec.ofNat 32 n).sle 16384#32 = true := by
    rw [BitVec.sle_iff_toInt_le, nat_int n (by omega), nat_int 16384 (by omega)]
    omega
  simp [IntOp.cmpi, a, b, IntOp.andi]

theorem pick (P : IVec S16384 1) (hP : ∀ j, P j = 1#1) (x y : Vec Ideal S2x16384x512 .f32) (i : S2x16384x512.Idx) :
    select (broadcastInDim S2x16384x512 ![1] bcast_S16384_S2x16384x512_1 P) x y i = x i := by
  unfold select
  exact if_pos (hP _)

theorem Tk_at (C : Vec Ideal S2x16385x512 .f32) (J : IVec S16384x1 32) (n : Fin 16384 → ℕ) (hn : ∀ r, n r ≤ 16384) (h : ∀ r, J (ix2 r 0) = BitVec.ofNat 32 (n r)) (b : Fin 2) (r : Fin 16384) (k : Fin 512) :
    Tk C J (ix3 b r k) = C (ix3 b ⟨n r, by have := hn r; omega⟩ k) := by
  refine Eq.trans ?_ (gather_at C J b r k (n r) (hn r) (h r))
  have hm : ∀ j, Host.reduce IntOp.andi (andi (cmpi .sge J (broadcastInDim S16384x1 ![] bcast_S_S16384x1 (constantI S_ 32 0#32))) (cmpi .sle J (broadcastInDim S16384x1 ![0, 1] bcast_S1x1_S16384x1_0_1 (broadcastInDim S1x1 ![1] bcast_S1_S1x1_1 (constantI S1 32 16384#32))))) (constantI S_ 1 1#1) reducesTo_S16384x1_S16384_d1 h_S_ j = 1#1 := fun j =>
    Host.reduce_andi_one _ _ _ _ j rfl fun i => by
      obtain ⟨r, z, rfl⟩ : ∃ (r : Fin 16384) (z : Fin 1), i = ix2 r z := ⟨i 0, i 1, by funext a; fin_cases a <;> rfl⟩
      obtain rfl : z = 0 := Subsingleton.elim _ _
      show IntOp.andi (IntOp.cmpi .sge (J (ix2 r 0)) 0#32) (IntOp.cmpi .sle (J (ix2 r 0)) 16384#32) = 1#1
      rw [h r]
      exact in_range _ (hn r)
  exact pick _ hm _ _ _

end Cert.PoolRefIdeal.Poo
-- ==== Proof.Poo.Point.lean ====
module
public import proofs.«01_k».proof.Proof.Gen.PoolIdeal.Value
public import proofs.«01_k».proof.Proof.Poo.Sum
public import proofs.«01_k».proof.Proof.Lay.Norm
public import Idealize.ShloMosaic.Lib.Pipeline.ReadBack
/-! The pooled, projected and normed rows of one block, at an index. -/
@[expose] public section
set_option maxRecDepth 16384
noncomputable section
namespace Cert.PoolIdeal.Poo
open Idealize.ShloMosaic Idealize.ShloMosaic.TcCoe Idealize.SL Idealize.SL.Sem
open Cert.PoolIdeal Cert.PoolIdeal.Gen
open _root_.Poo (pad ws cn ws_one ws_add cn_word)

/-- A step of the doubling: a row and the row `528 - s` below it. -/
abbrev R (s : BitVec 32) (a : Vec Ideal S528x512 .f32) : Vec Ideal S528x512 .f32 :=
  addf (F := Ideal) (φ := .f32) a (dynamicRotate 0 s none a rotates_S528x512_d0)

/-- The rows from `8 - h` on. -/
abbrev Cut (h : BitVec 32) (a : Vec Ideal S528x512 .f32) : Vec Ideal S512x512 .f32 :=
  extractStridedSlice S512x512 ![8, 0] (dynamicRotate 0 h none a rotates_S528x512_d0) slices_S528x512_o8_0_S512x512

/-- The words the count of rows is made from. -/
abbrev Nn (h : BitVec 32) (v : IVec S512x1 32) : IVec S512x1 32 :=
  subi (minsi (addi v (broadcast S512x1 h)) (broadcast S512x1 16384#32)) (maxsi (subi v (broadcast S512x1 h)) (broadcast S512x1 0#32))

/-- A group's pooled columns less the columns, projected. -/
abbrev Mm (s : Vec Ideal S512x512 .f32) (n : IVec S512x1 32) (u : Vec Ideal S512x512 .f32) (w : Vec Ideal S1x512x512 .bf16) : Vec Ideal S512x512 .f32 :=
  matmul (F := Ideal) (φ₁ := .bf16) (φ₂ := .bf16) dot_S512x512_S512x512_S512x512_1_0_0_1_n_n none (truncf .bf16 (subf (divf s (broadcastTo S512x512 (sitofp .f32 n) broadcasts_S512x1_S512x512)) u) bitsLt_bf16_f32) (shapeCast S512x512 w shapeCasts_S1x512x512_S512x512) (constant S512x512 .f32 0x00000000#32)

theorem Mm_at (s : Vec Ideal S512x512 .f32) (n : IVec S512x1 32) (u : Vec Ideal S512x512 .f32) (w : Vec Ideal S1x512x512 .bf16) (x e : Fin 512) :
    Mm s n u w (ix2 x e) = ∑ c : Fin 512, (Ideal.div (s (ix2 x c)) (FloatOps.sitofp (F := Ideal) .f32 (n (ix2 x 0))) - u (ix2 x c)) * w (ix3 0 c e) := by
  pointwise [Mm]

theorem Nn_at (h : BitVec 32) (v : IVec S512x1 32) (x : Fin 512) :
    Nn h v (ix2 x 0) = IntOp.minsi (v (ix2 x 0) + h) 16384#32 - IntOp.maxsi (v (ix2 x 0) - h) 0#32 := rfl

theorem rows_at (q : ℕ) (x : Fin 512) : k0_pay7 (BitVec.ofNat 32 q) 512#32 (ix2 x 0) = BitVec.ofNat 32 q * 512#32 + BitVec.ofNat 32 x.val := by
  pointwise [k0_pay7]
  rfl

theorem pay8 (q : BitVec 32) (u : Vec Ideal S512x2048 .f32) (v : Vec Ideal S528x2048 .f32) (w : Vec Ideal S1x512x512 .bf16) :
    k0_pay8 q u v 512#32 w = Mm (Cut 1#32 (R 527#32 (extractStridedSlice S528x512 ![0, 0] v slices_S528x2048_o0_0_S528x512))) (Nn 1#32 (k0_pay7 q 512#32)) (extractStridedSlice S512x512 ![0, 0] u slices_S512x2048_o0_0_S512x512) w := rfl

theorem pay11 (q : BitVec 32) (u : Vec Ideal S512x2048 .f32) (v : Vec Ideal S528x2048 .f32) (w : Vec Ideal S1x512x512 .bf16) :
    k0_pay11 u (k0_pay9 v) (k0_pay10 q 512#32) w = Mm (Cut 2#32 (R 526#32 (R 527#32 (extractStridedSlice S528x512 ![0, 512] v slices_S528x2048_o0_512_S528x512)))) (Nn 2#32 (k0_pay7 q 512#32)) (extractStridedSlice S512x512 ![0, 512] u slices_S512x2048_o0_512_S512x512) w := rfl

theorem pay12 (n : IVec S512x1 32) (u : Vec Ideal S512x2048 .f32) (v : Vec Ideal S528x2048 .f32) (w : Vec Ideal S1x512x512 .bf16) :
    k0_pay12 u v n w = Mm (Cut 4#32 (R 524#32 (R 526#32 (R 527#32 (extractStridedSlice S528x512 ![0, 1024] v slices_S528x2048_o0_1024_S528x512))))) (Nn 4#32 n) (extractStridedSlice S512x512 ![0, 1024] u slices_S512x2048_o0_1024_S512x512) w := rfl

/-- The four groups' products side by side, scaled, gated and added to the scaled residual. -/
abbrev Jn (h : Vec Ideal S512x2048 .f32) (p0 p1 p2 p3 : Vec Ideal S512x512 .f32) (sc : Vec Ideal S1x2048 .f32) (ga : Vec Ideal S1x1x2048 .f32) : Vec Ideal S512x2048 .f32 :=
  addf (F := Ideal) (φ := .f32) (mulf (broadcast S512x2048 (Scalar.ofBits (F := Ideal) .f32 0x3FD744FD#32)) h) (mulf (broadcastTo S512x2048 (shapeCast S1x2048 ga shapeCasts_S1x1x2048_S1x2048) broadcasts_S1x2048_S512x2048) (mulf (concatenate S512x2048 1 [⟨S512x512, p0⟩, ⟨S512x512, p1⟩, ⟨S512x512, p2⟩, ⟨S512x512, p3⟩] concatenates_S512x512_S512x512_S512x512_S512x512_S512x2048_d1) (broadcastTo S512x2048 (shapeCast S1x2048 sc shapeCasts_S1x2048_S1x2048) broadcasts_S1x2048_S512x2048)))

theorem pay14 (h u : Vec Ideal S512x2048 .f32) (n : IVec S512x1 32) (p0 p1 p2 : Vec Ideal S512x512 .f32) (v : Vec Ideal S528x2048 .f32) (w : Vec Ideal S1x512x512 .bf16) (sc : Vec Ideal S1x2048 .f32) (ga : Vec Ideal S1x1x2048 .f32) :
    k0_pay14 h u n p0 p1 p2 (k0_pay13 v) 524#32 w sc ga = Jn h p0 p1 p2 (Mm (Cut 8#32 (R 520#32 (R 524#32 (R 526#32 (R 527#32 (extractStridedSlice S528x512 ![0, 1536] v slices_S528x2048_o0_1536_S528x512)))))) (Nn 8#32 n) (extractStridedSlice S512x512 ![0, 1536] u slices_S512x2048_o0_1536_S512x512) w) sc ga := rfl

theorem Jn_at (h : Vec Ideal S512x2048 .f32) (p0 p1 p2 p3 : Vec Ideal S512x512 .f32) (sc : Vec Ideal S1x2048 .f32) (ga : Vec Ideal S1x1x2048 .f32) (x : Fin 512) (n : Fin 2048) (z : EReal)
    (h0 : ∀ q : n.val < 512, p0 (ix2 x ⟨n, q⟩) = z) (h1 : ∀ q : 512 ≤ n.val ∧ n.val < 1024, p1 (ix2 x ⟨n - 512, by omega⟩) = z)
    (h2 : ∀ q : 1024 ≤ n.val ∧ n.val < 1536, p2 (ix2 x ⟨n - 1024, by omega⟩) = z) (h3 : ∀ q : 1536 ≤ n.val, p3 (ix2 x ⟨n - 1536, by omega⟩) = z) :
    Jn h p0 p1 p2 p3 sc ga (ix2 x n) = Lay.al * h (ix2 x n) + ga (ix3 0 0 n) * (z * sc (ix2 0 n)) := by
  have hn := n.isLt
  pointwise [Jn]
  refine congrArg (fun y : EReal => Lay.al * h (ix2 x n) + ga (ix3 0 0 n) * (y * sc (ix2 0 n))) ?_
  by_cases q0 : n.val < 512
  · exact (dif_pos q0).trans (h0 q0)
  · refine (dif_neg q0).trans ?_
    by_cases q1 : n.val - 512 < 512
    · exact (dif_pos q1).trans (h1 (by omega))
    · refine (dif_neg q1).trans ?_
      by_cases q2 : n.val - 512 - 512 < 512
      · exact (dif_pos q2).trans ((congrArg (fun y => p2 (ix2 x y)) (Fin.ext (by show n.val - 512 - 512 = n.val - 1024; omega))).trans (h2 (by omega)))
      · exact (dif_neg q2).trans ((congrArg (fun y => p3 (ix2 x y)) (Fin.ext (by show n.val - 512 - 512 - 512 = n.val - 1536; omega))).trans (h3 (by omega)))

theorem step (a b : Vec Ideal S528x512 .f32) (f : ℕ → EReal) (c : Fin 512) (m : ℕ) (hm : 0 < m)
    (hb : ∀ (e : Fin 528) (h : e.val + m < 528), b (ix2 e c) = a (ix2 e c) + a (ix2 ⟨e + m, h⟩ c))
    (ha : ∀ e : Fin 528, e.val + m ≤ 528 → a (ix2 e c) = ws f m e) (e : Fin 528) (he : e.val + (m + m) ≤ 528) : b (ix2 e c) = ws f (m + m) e := by
  rw [hb e (by omega), ha e (by omega), ha ⟨e + m, by omega⟩ (by show e.val + m + m ≤ 528; omega)]
  exact ws_add f m e

theorem R1 (a : Vec Ideal S528x512 .f32) (c : Fin 512) (e : Fin 528) (h : e.val + 1 < 528) : R 527#32 a (ix2 e c) = a (ix2 e c) + a (ix2 ⟨e + 1, h⟩ c) := by
  pointwise [R]
  exact congrArg (fun z => a (ix2 e c) + a (ix2 z c)) (Fin.ext (by show (e.val + 528 - 527) % 528 = e.val + 1; omega))
theorem R2 (a : Vec Ideal S528x512 .f32) (c : Fin 512) (e : Fin 528) (h : e.val + 2 < 528) : R 526#32 a (ix2 e c) = a (ix2 e c) + a (ix2 ⟨e + 2, h⟩ c) := by
  pointwise [R]
  exact congrArg (fun z => a (ix2 e c) + a (ix2 z c)) (Fin.ext (by show (e.val + 528 - 526) % 528 = e.val + 2; omega))
theorem R4 (a : Vec Ideal S528x512 .f32) (c : Fin 512) (e : Fin 528) (h : e.val + 4 < 528) : R 524#32 a (ix2 e c) = a (ix2 e c) + a (ix2 ⟨e + 4, h⟩ c) := by
  pointwise [R]
  exact congrArg (fun z => a (ix2 e c) + a (ix2 z c)) (Fin.ext (by show (e.val + 528 - 524) % 528 = e.val + 4; omega))
theorem R8 (a : Vec Ideal S528x512 .f32) (c : Fin 512) (e : Fin 528) (h : e.val + 8 < 528) : R 520#32 a (ix2 e c) = a (ix2 e c) + a (ix2 ⟨e + 8, h⟩ c) := by
  pointwise [R]
  exact congrArg (fun z => a (ix2 e c) + a (ix2 z c)) (Fin.ext (by show (e.val + 528 - 520) % 528 = e.val + 8; omega))

theorem C1 (a : Vec Ideal S528x512 .f32) (x c : Fin 512) : Cut 1#32 a (ix2 x c) = a (ix2 ⟨x + 7, by omega⟩ c) := by
  pointwise [Cut]
  exact congrArg (fun z => a (ix2 z c)) (Fin.ext (by show (8 + x.val + 528 - 1) % 528 = x.val + 7; omega))
theorem C2 (a : Vec Ideal S528x512 .f32) (x c : Fin 512) : Cut 2#32 a (ix2 x c) = a (ix2 ⟨x + 6, by omega⟩ c) := by
  pointwise [Cut]
  exact congrArg (fun z => a (ix2 z c)) (Fin.ext (by show (8 + x.val + 528 - 2) % 528 = x.val + 6; omega))
theorem C4 (a : Vec Ideal S528x512 .f32) (x c : Fin 512) : Cut 4#32 a (ix2 x c) = a (ix2 ⟨x + 4, by omega⟩ c) := by
  pointwise [Cut]
  exact congrArg (fun z => a (ix2 z c)) (Fin.ext (by show (8 + x.val + 528 - 4) % 528 = x.val + 4; omega))
theorem C8 (a : Vec Ideal S528x512 .f32) (x c : Fin 512) : Cut 8#32 a (ix2 x c) = a (ix2 ⟨x, by omega⟩ c) := by
  pointwise [Cut]
  exact congrArg (fun z => a (ix2 z c)) (Fin.ext (by show (8 + x.val + 528 - 8) % 528 = x.val; omega))

section
variable (a : Vec Ideal S528x512 .f32) (f : ℕ → EReal) (c : Fin 512) (ha : ∀ e : Fin 528, a (ix2 e c) = f e)
include ha

theorem w2 (e : Fin 528) (he : e.val + 2 ≤ 528) : R 527#32 a (ix2 e c) = ws f 2 e :=
  step a _ f c 1 (by decide) (R1 a c) (fun e _ => (ha e).trans (ws_one f e).symm) e he
theorem w4 (e : Fin 528) (he : e.val + 4 ≤ 528) : R 526#32 (R 527#32 a) (ix2 e c) = ws f 4 e :=
  step _ _ f c 2 (by decide) (R2 _ c) (w2 a f c ha) e he
theorem w8 (e : Fin 528) (he : e.val + 8 ≤ 528) : R 524#32 (R 526#32 (R 527#32 a)) (ix2 e c) = ws f 8 e :=
  step _ _ f c 4 (by decide) (R4 _ c) (w4 a f c ha) e he
theorem w16 (e : Fin 528) (he : e.val + 16 ≤ 528) : R 520#32 (R 524#32 (R 526#32 (R 527#32 a))) (ix2 e c) = ws f 16 e :=
  step _ _ f c 8 (by decide) (R8 _ c) (w8 a f c ha) e he

theorem s1 (x : Fin 512) : Cut 1#32 (R 527#32 a) (ix2 x c) = ws f 2 (x + 7) :=
  (C1 _ x c).trans (w2 a f c ha _ (by show x.val + 7 + 2 ≤ 528; omega))
theorem s2 (x : Fin 512) : Cut 2#32 (R 526#32 (R 527#32 a)) (ix2 x c) = ws f 4 (x + 6) :=
  (C2 _ x c).trans (w4 a f c ha _ (by show x.val + 6 + 4 ≤ 528; omega))
theorem s4 (x : Fin 512) : Cut 4#32 (R 524#32 (R 526#32 (R 527#32 a))) (ix2 x c) = ws f 8 (x + 4) :=
  (C4 _ x c).trans (w8 a f c ha _ (by show x.val + 4 + 8 ≤ 528; omega))
theorem s8 (x : Fin 512) : Cut 8#32 (R 520#32 (R 524#32 (R 526#32 (R 527#32 a)))) (ix2 x c) = ws f 16 x :=
  (C8 _ x c).trans (w16 a f c ha _ (by show x.val + 16 ≤ 528; omega))
end

theorem sel (a b : BitVec 32) (x y : EReal) : Scalar.select (Scalar.cmpi CmpIPredicate.eq a b) x y = if a = b then x else y := by
  by_cases h : a = b
  · subst h
    simp [Scalar.select, Scalar.cmpi, IntOp.cmpi]
  · have hb : (a == b) = false := beq_eq_false_iff_ne.2 h
    simp only [Scalar.select, Scalar.cmpi, IntOp.cmpi, hb, h, if_false]
    exact if_neg (by decide)

/-- A row modulated. -/
def mo (h sc sh : EReal) : EReal := h * (1 + sc) + sh

theorem u_at (sh sc : Vec Ideal S1x1x2048 .f32) (x : Vec Ideal S1x512x2048 .f32) (y : Fin 512) (k : Fin 2048) :
    k0_pay5 sh sc x (ix2 y k) = mo (x (ix3 0 y k)) (sc (ix3 0 0 k)) (sh (ix3 0 0 k)) := by
  pointwise [k0_pay5, k0_pay4, k0_pay3, k0_pay2]
  rfl

theorem norm_at (z : Vec Ideal S512x2048 .f32) (g b : Vec Ideal S1x2048 .f32) (x : Fin 512) (n : Fin 2048) :
    k0_pay1 (F := Ideal) z g b (ix3 0 x n) = Lay.ln (fun k => z (ix2 x k)) (g (ix2 0 n)) (b (ix2 0 n)) n := by
  pointwise [k0_pay1]
  simp only [Lay.zero_bits, zero_add, Lay.ln]

/-- The rows of one block between its eight rows before and its eight rows after. -/
theorem e_at (i : grid0.Coords) (sh sc : Vec Ideal S1x1x2048 .f32) (x : Vec Ideal S1x512x2048 .f32) (p nx : Vec Ideal S1x8x2048 .f32) (e : Fin 528) (k : Fin 2048) :
    k0_pay6 i sh sc x p nx (ix2 e k) = if h : e.val < 8 then (if BitVec.ofNat 32 (i 1).val = 0#32 then 0 else mo (p (ix3 0 ⟨e, h⟩ k)) (sc (ix3 0 0 k)) (sh (ix3 0 0 k)))
      else if h' : e.val - 8 < 512 then mo (x (ix3 0 ⟨e - 8, h'⟩ k)) (sc (ix3 0 0 k)) (sh (ix3 0 0 k))
      else (if BitVec.ofNat 32 (i 1).val = 31#32 then 0 else mo (nx (ix3 0 ⟨e - 8 - 512, by omega⟩ k)) (sc (ix3 0 0 k)) (sh (ix3 0 0 k))) := by
  pointwise [k0_pay6]
  have h2 : k0_pay2 sh (ix2 0 k) = sh (ix3 0 0 k) := by pointwise [k0_pay2]
  have h3 : k0_pay3 sc (ix2 0 k) = sc (ix3 0 0 k) := by pointwise [k0_pay3]
  rw [h2, h3]
  by_cases q : e.val < 8
  · refine (dif_pos q).trans (Eq.trans ?_ (dif_pos q).symm)
    exact sel _ _ _ _
  · refine (dif_neg q).trans (Eq.trans ?_ (dif_neg q).symm)
    by_cases q' : e.val - 8 < 512
    · refine (dif_pos q').trans (Eq.trans ?_ (dif_pos q').symm)
      exact u_at _ _ _ _ _
    · refine (dif_neg q').trans (Eq.trans ?_ (dif_neg q').symm)
      exact sel _ _ _ _

end Cert.PoolIdeal.Poo
-- ==== Proof.Poo.Out.lean ====
module
public import proofs.«01_k».proof.Proof.Poo.Point
public import Idealize.ShloMosaic.Lib.Pipeline.ValueKit
/-! The pooling mixer with its residual and norm: what the kernel leaves. -/
@[expose] public section
set_option maxRecDepth 16384
noncomputable section
namespace Cert.PoolIdeal.Poo
open Idealize.ShloMosaic Idealize.ShloMosaic.TcCoe Idealize.SL Idealize.SL.Sem
open Cert.PoolIdeal Cert.PoolIdeal.Gen
open _root_.Poo (pad ws cn cn_word pad_in pad_out)

variable (m : (ℓ : Loc nD τ sig) → Buf (Elt Ideal) ℓ)

abbrev a0 (c : Dev nD) : Vec Ideal S2x16384x2048 .f32 := m ((c : Thread nD τ).loc main_arg0)
abbrev a1 (c : Dev nD) : Vec Ideal S2x1x2048 .f32 := m ((c : Thread nD τ).loc main_arg1)
abbrev a2 (c : Dev nD) : Vec Ideal S2x1x2048 .f32 := m ((c : Thread nD τ).loc main_arg2)
abbrev a3 (c : Dev nD) : Vec Ideal S2x1x2048 .f32 := m ((c : Thread nD τ).loc main_arg3)
abbrev a4 (c : Dev nD) : Vec Ideal S4x512x512 .f32 := m ((c : Thread nD τ).loc main_arg4)
abbrev a5 (c : Dev nD) : Vec Ideal S2048 .f32 := m ((c : Thread nD τ).loc main_arg5)
abbrev a6 (c : Dev nD) : Vec Ideal S2048 .f32 := m ((c : Thread nD τ).loc main_arg6)
abbrev a7 (c : Dev nD) : Vec Ideal S2048 .f32 := m ((c : Thread nD τ).loc main_arg7)

theorem idx : ∀ t : Fin cfg0.N, win0_0.index t = ![t.val / 32, t.val % 32, 0] ∧ win0_1.index t = ![t.val / 32, t.val % 32 * 64 - 1, 0] ∧ win0_2.index t = ![t.val / 32, min ((t.val % 32 + 1) * 64) 2047, 0] ∧ win0_3.index t = ![t.val / 32, 0, 0] ∧ win0_4.index t = ![t.val / 32, 0, 0] ∧ win0_5.index t = ![t.val / 32, 0, 0] ∧ win0_6.index t = ![0, 0, 0] ∧ win0_7.index t = ![0, 0] ∧ win0_8.index t = ![0, 0] ∧ win0_9.index t = ![0, 0] ∧ win0_10.index t = ![t.val / 32, t.val % 32, 0] :=
  (by decide +kernel : ∀ t : Fin grid0.N, _)

theorem coord : ∀ t : Fin cfg0.N, ((grid0.coords t) 1).val = t.val % 32 :=
  (by decide +kernel : ∀ t : Fin grid0.N, _)

theorem blk0 (c : Dev nD) (t : Fin cfg0.N) (b : Fin 2) (hb : (b : ℕ) = t.val / 32) (x : Fin 512) (r : Fin 16384) (hr : (r : ℕ) = t.val % 32 * 512 + x) (k : Fin 2048) :
    (iblk m c 0 t : Vec Ideal S1x512x2048 .f32) (ix3 0 x k) = a0 m c (ix3 b r k) := by blk_point [iblk, V, idx t, hb, hr]
theorem blk1 (c : Dev nD) (t : Fin cfg0.N) (b : Fin 2) (hb : (b : ℕ) = t.val / 32) (x : Fin 8) (r : Fin 16384) (hr : (r : ℕ) = (t.val % 32 * 64 - 1) * 8 + x) (k : Fin 2048) :
    (iblk m c 1 t : Vec Ideal S1x8x2048 .f32) (ix3 0 x k) = a0 m c (ix3 b r k) := by blk_point [iblk, V, idx t, hb, hr]
theorem blk2 (c : Dev nD) (t : Fin cfg0.N) (b : Fin 2) (hb : (b : ℕ) = t.val / 32) (x : Fin 8) (r : Fin 16384) (hr : (r : ℕ) = min ((t.val % 32 + 1) * 64) 2047 * 8 + x) (k : Fin 2048) :
    (iblk m c 2 t : Vec Ideal S1x8x2048 .f32) (ix3 0 x k) = a0 m c (ix3 b r k) := by blk_point [iblk, V, idx t, hb, hr]
theorem blk3 (c : Dev nD) (t : Fin cfg0.N) (b : Fin 2) (hb : (b : ℕ) = t.val / 32) (k : Fin 2048) :
    (iblk m c 3 t : Vec Ideal S1x1x2048 .f32) (ix3 0 0 k) = a1 m c (ix3 b 0 k) := by blk_point [iblk, V, idx t, hb]
theorem blk4 (c : Dev nD) (t : Fin cfg0.N) (b : Fin 2) (hb : (b : ℕ) = t.val / 32) (k : Fin 2048) :
    (iblk m c 4 t : Vec Ideal S1x1x2048 .f32) (ix3 0 0 k) = a2 m c (ix3 b 0 k) := by blk_point [iblk, V, idx t, hb]
theorem blk5 (c : Dev nD) (t : Fin cfg0.N) (b : Fin 2) (hb : (b : ℕ) = t.val / 32) (k : Fin 2048) :
    (iblk m c 5 t : Vec Ideal S1x1x2048 .f32) (ix3 0 0 k) = a3 m c (ix3 b 0 k) := by blk_point [iblk, V, idx t, hb]
theorem blk6 (c : Dev nD) (t : Fin cfg0.N) (g : Fin 4) (k e : Fin 512) :
    (iblk m c 6 t : Vec Ideal S4x512x512 .bf16) (ix3 g k e) = a4 m c (ix3 g k e) := by blk_point [iblk, V, idx t]
theorem blk7 (c : Dev nD) (t : Fin cfg0.N) (k : Fin 2048) :
    (iblk m c 7 t : Vec Ideal S1x2048 .f32) (ix2 0 k) = a5 m c (ix1 k) := by blk_point [iblk, V, idx t]
theorem blk8 (c : Dev nD) (t : Fin cfg0.N) (k : Fin 2048) :
    (iblk m c 8 t : Vec Ideal S1x2048 .f32) (ix2 0 k) = a6 m c (ix1 k) := by blk_point [iblk, V, idx t]
theorem blk9 (c : Dev nD) (t : Fin cfg0.N) (k : Fin 2048) :
    (iblk m c 9 t : Vec Ideal S1x2048 .f32) (ix2 0 k) = a7 m c (ix1 k) := by blk_point [iblk, V, idx t]

/-- A column of the modulated sequence. -/
def col (c : Dev nD) (b : Fin 2) (k : Fin 2048) (r : Fin 16384) : EReal := mo (a0 m c (ix3 b r k)) (a2 m c (ix3 b 0 k)) (a1 m c (ix3 b 0 k))

/-- The mean over the window about a row, less the row, for column `k` of the group of half window `h`. -/
def df (c : Dev nD) (b : Fin 2) (r : Fin 16384) (h : ℕ) (k : Fin 2048) : EReal :=
  Ideal.div (ws (pad (col m c b k)) (h + h) (r + 8 - h)) (FloatOps.sitofp (F := Ideal) .f32 (cn h r)) - col m c b k r

/-- The projection of a group, at output column `n`. -/
def pj (c : Dev nD) (b : Fin 2) (r : Fin 16384) (n : Fin 2048) : EReal :=
  ∑ j : Fin 512, df m c b r (2 ^ (n.val / 512)) ⟨n.val / 512 * 512 + j.val, by omega⟩ * a4 m c (ix3 ⟨n.val / 512, by omega⟩ j ⟨n.val % 512, by omega⟩)

/-- The result. -/
def G (c : Dev nD) : Vec Ideal S2x16384x2048 .f32 := fun i =>
  Lay.ln (fun k => Lay.al * a0 m c (ix3 (i 0) (i 1) k) + a3 m c (ix3 (i 0) 0 k) * (pj m c (i 0) (i 1) k * a5 m c (ix1 k)))
    (a6 m c (ix1 (i 2))) (a7 m c (ix1 (i 2))) (i 2)

theorem ext_blk (c : Dev nD) (t : Fin cfg0.N) (b : Fin 2) (hb : (b : ℕ) = t.val / 32) (e : Fin 528) (k : Fin 2048) :
    k0_pay6 (F := Ideal) (grid0.coords t) (iblk m c 3 t) (iblk m c 4 t) (iblk m c 0 t) (iblk m c 1 t) (iblk m c 2 t) (ix2 e k) = pad (col m c b k) (t.val % 32 * 512 + e) := by
  have hN : cfg0.N = 64 := N_0
  have htl : t.val < 64 := lt_of_lt_of_eq t.isLt hN
  have he := e.isLt
  rw [e_at, coord, blk3 m c t b hb, blk4 m c t b hb]
  have w : ∀ n, n < 32 → (BitVec.ofNat 32 n = BitVec.ofNat 32 (t.val % 32) ↔ n = t.val % 32) := fun n hn => by
    constructor
    · intro h
      have := congrArg BitVec.toNat h
      simp only [BitVec.toNat_ofNat] at this
      omega
    · intro h
      rw [h]
  by_cases q : e.val < 8
  · refine (dif_pos q).trans ?_
    by_cases z : t.val % 32 = 0
    · rw [if_pos ((w 0 (by omega)).2 z.symm).symm, pad_out _ _ (by omega)]
    · have p : 8 ≤ t.val % 32 * 512 + e.val ∧ t.val % 32 * 512 + e.val < 16392 := by omega
      rw [if_neg (fun h => z ((w 0 (by omega)).1 h.symm).symm), pad_in _ _ p]
      rw [blk1 m c t b hb ⟨e, q⟩ ⟨t.val % 32 * 512 + e.val - 8, by omega⟩ (by show t.val % 32 * 512 + e.val - 8 = (t.val % 32 * 64 - 1) * 8 + e.val; omega)]
      rfl
  · refine (dif_neg q).trans ?_
    by_cases q' : e.val - 8 < 512
    · have p : 8 ≤ t.val % 32 * 512 + e.val ∧ t.val % 32 * 512 + e.val < 16392 := by omega
      refine (dif_pos q').trans ?_
      rw [pad_in _ _ p]
      rw [blk0 m c t b hb ⟨e - 8, q'⟩ ⟨t.val % 32 * 512 + e.val - 8, by omega⟩ (by show t.val % 32 * 512 + e.val - 8 = t.val % 32 * 512 + (e.val - 8); omega)]
      rfl
    · refine (dif_neg q').trans ?_
      by_cases z : t.val % 32 = 31
      · rw [if_pos ((w 31 (by omega)).2 z.symm).symm, pad_out _ _ (by omega)]
      · have p : 8 ≤ t.val % 32 * 512 + e.val ∧ t.val % 32 * 512 + e.val < 16392 := by omega
        rw [if_neg (fun h => z ((w 31 (by omega)).1 h.symm).symm), pad_in _ _ p]
        rw [blk2 m c t b hb ⟨e - 8 - 512, by omega⟩ ⟨t.val % 32 * 512 + e.val - 8, by omega⟩ (by show t.val % 32 * 512 + e.val - 8 = min ((t.val % 32 + 1) * 64) 2047 * 8 + (e.val - 8 - 512); omega)]
        rfl

theorem u_blk (c : Dev nD) (t : Fin cfg0.N) (b : Fin 2) (hb : (b : ℕ) = t.val / 32) (x : Fin 512) (r : Fin 16384) (hr : (r : ℕ) = t.val % 32 * 512 + x) (k : Fin 2048) :
    k0_pay5 (F := Ideal) (iblk m c 3 t) (iblk m c 4 t) (iblk m c 0 t) (ix2 x k) = col m c b k r := by
  rw [u_at, blk3 m c t b hb, blk4 m c t b hb, blk0 m c t b hb x r hr]
  rfl

theorem ldw (v : Vec Ideal S4x512x512 .bf16) (s : ℕ) (hs : s < 4) (h) (l n : Fin 512) :
    View.ld v (Rect.unit (s := S4x512x512) ![s, 0, 0] ![1, 512, 512] h) (ix3 0 l n) = v (ix3 ⟨s, hs⟩ l n) := by
  show v _ = v _
  congr 1
  funext a
  apply Fin.ext
  fin_cases a
  · show s + 1 * 0 = s; omega
  · show 0 + 1 * (l : ℕ) = l; omega
  · show 0 + 1 * (n : ℕ) = n; omega

theorem ws_shift (f : ℕ → EReal) (w s a : ℕ) : ws (fun e => f (s + e)) w a = ws f w (s + a) :=
  Finset.sum_congr rfl fun j _ => congrArg f (by omega)

/-- One group of one block. -/
theorem grp (c : Dev nD) (t : Fin cfg0.N) (b : Fin 2) (hb : (b : ℕ) = t.val / 32) (x : Fin 512) (r : Fin 16384) (hr : (r : ℕ) = t.val % 32 * 512 + x) (g : ℕ) (hg : g < 4) (e : Fin 512) (h : ℕ) (hh : h ≤ 8) (e2 : h = 2 ^ g)
    (S U : Vec Ideal S512x512 .f32) (w : Vec Ideal S1x512x512 .bf16)
    (hS : ∀ j : Fin 512, S (ix2 x j) = ws (fun y => pad (col m c b ⟨g * 512 + j, by omega⟩) (t.val % 32 * 512 + y)) (h + h) (x + 8 - h))
    (hU : ∀ j : Fin 512, U (ix2 x j) = col m c b ⟨g * 512 + j, by omega⟩ r)
    (hw : ∀ j : Fin 512, w (ix3 0 j e) = a4 m c (ix3 ⟨g, hg⟩ j e)) (n : Fin 2048) (hn : n.val = g * 512 + e) :
    Mm S (Nn (BitVec.ofNat 32 h) (k0_pay7 (BitVec.ofNat 32 (t.val % 32)) 512#32)) U w (ix2 x e) = pj m c b r n := by
  have n1 : n.val / 512 = g := by omega
  have n2 : n.val % 512 = e := by omega
  rw [Mm_at, Nn_at, rows_at, cn_word h hh _ _ (by omega) x.isLt]
  unfold pj df
  refine Finset.sum_congr rfl fun j _ => ?_
  rw [hS j, hU j, hw j, ws_shift]
  have k1 : (⟨n.val / 512 * 512 + j.val, by omega⟩ : Fin 2048) = ⟨g * 512 + j, by omega⟩ := Fin.ext (by show n.val / 512 * 512 + j.val = g * 512 + j.val; rw [n1])
  have k2 : (⟨n.val / 512, by omega⟩ : Fin 4) = ⟨g, hg⟩ := Fin.ext n1
  have k3 : (⟨n.val % 512, by omega⟩ : Fin 512) = e := Fin.ext n2
  rw [k1, k2, k3, n1, ← e2, hr]
  have k4 : t.val % 32 * 512 + (x.val + 8 - h) = t.val % 32 * 512 + x.val + 8 - h := by omega
  rw [k4]

theorem sl0 (v : Vec Ideal S528x2048 .f32) (e : Fin 528) (j : Fin 512) : (extractStridedSlice S528x512 ![0, 0] v slices_S528x2048_o0_0_S528x512 : Vec Ideal S528x512 .f32) (ix2 e j) = v (ix2 e ⟨0 * 512 + j, by omega⟩) := by
  have h : (⟨j.val, by omega⟩ : Fin 2048) = ⟨0 * 512 + j, by omega⟩ := Fin.ext (by show j.val = 0 * 512 + j.val; omega)
  rw [← h]
  pointwise
theorem su0 (v : Vec Ideal S512x2048 .f32) (e : Fin 512) (j : Fin 512) : (extractStridedSlice S512x512 ![0, 0] v slices_S512x2048_o0_0_S512x512 : Vec Ideal S512x512 .f32) (ix2 e j) = v (ix2 e ⟨0 * 512 + j, by omega⟩) := by
  have h : (⟨j.val, by omega⟩ : Fin 2048) = ⟨0 * 512 + j, by omega⟩ := Fin.ext (by show j.val = 0 * 512 + j.val; omega)
  rw [← h]
  pointwise
theorem sl1 (v : Vec Ideal S528x2048 .f32) (e : Fin 528) (j : Fin 512) : (extractStridedSlice S528x512 ![0, 512] v slices_S528x2048_o0_512_S528x512 : Vec Ideal S528x512 .f32) (ix2 e j) = v (ix2 e ⟨1 * 512 + j, by omega⟩) := by
  have h : (⟨512 + j.val, by omega⟩ : Fin 2048) = ⟨1 * 512 + j, by omega⟩ := Fin.ext (by show 512 + j.val = 1 * 512 + j.val; omega)
  rw [← h]
  pointwise
theorem su1 (v : Vec Ideal S512x2048 .f32) (e : Fin 512) (j : Fin 512) : (extractStridedSlice S512x512 ![0, 512] v slices_S512x2048_o0_512_S512x512 : Vec Ideal S512x512 .f32) (ix2 e j) = v (ix2 e ⟨1 * 512 + j, by omega⟩) := by
  have h : (⟨512 + j.val, by omega⟩ : Fin 2048) = ⟨1 * 512 + j, by omega⟩ := Fin.ext (by show 512 + j.val = 1 * 512 + j.val; omega)
  rw [← h]
  pointwise
theorem sl2 (v : Vec Ideal S528x2048 .f32) (e : Fin 528) (j : Fin 512) : (extractStridedSlice S528x512 ![0, 1024] v slices_S528x2048_o0_1024_S528x512 : Vec Ideal S528x512 .f32) (ix2 e j) = v (ix2 e ⟨2 * 512 + j, by omega⟩) := by
  have h : (⟨1024 + j.val, by omega⟩ : Fin 2048) = ⟨2 * 512 + j, by omega⟩ := Fin.ext (by show 1024 + j.val = 2 * 512 + j.val; omega)
  rw [← h]
  pointwise
theorem su2 (v : Vec Ideal S512x2048 .f32) (e : Fin 512) (j : Fin 512) : (extractStridedSlice S512x512 ![0, 1024] v slices_S512x2048_o0_1024_S512x512 : Vec Ideal S512x512 .f32) (ix2 e j) = v (ix2 e ⟨2 * 512 + j, by omega⟩) := by
  have h : (⟨1024 + j.val, by omega⟩ : Fin 2048) = ⟨2 * 512 + j, by omega⟩ := Fin.ext (by show 1024 + j.val = 2 * 512 + j.val; omega)
  rw [← h]
  pointwise
theorem sl3 (v : Vec Ideal S528x2048 .f32) (e : Fin 528) (j : Fin 512) : (extractStridedSlice S528x512 ![0, 1536] v slices_S528x2048_o0_1536_S528x512 : Vec Ideal S528x512 .f32) (ix2 e j) = v (ix2 e ⟨3 * 512 + j, by omega⟩) := by
  have h : (⟨1536 + j.val, by omega⟩ : Fin 2048) = ⟨3 * 512 + j, by omega⟩ := Fin.ext (by show 1536 + j.val = 3 * 512 + j.val; omega)
  rw [← h]
  pointwise
theorem su3 (v : Vec Ideal S512x2048 .f32) (e : Fin 512) (j : Fin 512) : (extractStridedSlice S512x512 ![0, 1536] v slices_S512x2048_o0_1536_S512x512 : Vec Ideal S512x512 .f32) (ix2 e j) = v (ix2 e ⟨3 * 512 + j, by omega⟩) := by
  have h : (⟨1536 + j.val, by omega⟩ : Fin 2048) = ⟨3 * 512 + j, by omega⟩ := Fin.ext (by show 1536 + j.val = 3 * 512 + j.val; omega)
  rw [← h]
  pointwise

theorem out_blk (c : Dev nD) (t : Fin cfg0.N) (b : Fin 2) (r : Fin 16384) (x : Fin 512) (hb : (b : ℕ) = t.val / 32) (hr : (r : ℕ) = t.val % 32 * 512 + x) (n : Fin 2048) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 x n) = G m c (ix3 b r n) := by
  unfold_out out0_10
  frame_out
  rw [norm_at, pay14, coord]
  have h8 : k0_pay15 (F := Ideal) (iblk m c 8 t) (ix2 0 n) = a6 m c (ix1 n) := Eq.trans (by pointwise [k0_pay15]) (blk8 m c t n)
  have h9 : k0_pay16 (F := Ideal) (iblk m c 9 t) (ix2 0 n) = a7 m c (ix1 n) := Eq.trans (by pointwise [k0_pay16]) (blk9 m c t n)
  rw [h8, h9]
  refine congrArg (fun z => Lay.ln z _ _ n) (funext fun n => ?_)
  have hn := n.isLt
  have h4 : k0_pay4 (F := Ideal) (iblk m c 0 t) (ix2 x n) = a0 m c (ix3 b r n) := Eq.trans (by pointwise [k0_pay4]) (blk0 m c t b hb x r hr n)
  refine (Jn_at _ _ _ _ _ _ _ x n (pj m c b r n) ?_ ?_ ?_ ?_).trans ?_
  · intro q
    rw [pay8]
    refine grp m c t b hb x r hr 0 (by decide) ⟨n.val, by omega⟩ 1 (by decide) (by decide) _ _ _ (fun j => ?_) (fun j => ?_) (fun j => ?_) n (by show n.val = 0 * 512 + (n.val); omega)
    · refine (s1 _ (fun y => pad (col m c b ⟨0 * 512 + j, by omega⟩) (t.val % 32 * 512 + y)) j (fun y => ?_) x).trans (congrArg (ws _ _) (by omega))
      refine Eq.trans ?_ (ext_blk m c t b hb y ⟨0 * 512 + j, by omega⟩)
      exact sl0 _ y j
    · refine Eq.trans ?_ (u_blk m c t b hb x r hr ⟨0 * 512 + j, by omega⟩)
      exact su0 _ x j
    · exact (ldw _ 0 (by decide) _ j _).trans (blk6 m c t _ j _)
  · intro q
    rw [pay11]
    refine grp m c t b hb x r hr 1 (by decide) ⟨n.val - 512, by omega⟩ 2 (by decide) (by decide) _ _ _ (fun j => ?_) (fun j => ?_) (fun j => ?_) n (by show n.val = 1 * 512 + (n.val - 512); omega)
    · refine (s2 _ (fun y => pad (col m c b ⟨1 * 512 + j, by omega⟩) (t.val % 32 * 512 + y)) j (fun y => ?_) x).trans (congrArg (ws _ _) (by omega))
      refine Eq.trans ?_ (ext_blk m c t b hb y ⟨1 * 512 + j, by omega⟩)
      exact sl1 _ y j
    · refine Eq.trans ?_ (u_blk m c t b hb x r hr ⟨1 * 512 + j, by omega⟩)
      exact su1 _ x j
    · exact (ldw _ 1 (by decide) _ j _).trans (blk6 m c t _ j _)
  · intro q
    rw [pay12]
    refine grp m c t b hb x r hr 2 (by decide) ⟨n.val - 1024, by omega⟩ 4 (by decide) (by decide) _ _ _ (fun j => ?_) (fun j => ?_) (fun j => ?_) n (by show n.val = 2 * 512 + (n.val - 1024); omega)
    · refine (s4 _ (fun y => pad (col m c b ⟨2 * 512 + j, by omega⟩) (t.val % 32 * 512 + y)) j (fun y => ?_) x).trans (congrArg (ws _ _) (by omega))
      refine Eq.trans ?_ (ext_blk m c t b hb y ⟨2 * 512 + j, by omega⟩)
      exact sl2 _ y j
    · refine Eq.trans ?_ (u_blk m c t b hb x r hr ⟨2 * 512 + j, by omega⟩)
      exact su2 _ x j
    · exact (ldw _ 2 (by decide) _ j _).trans (blk6 m c t _ j _)
  · intro q
    refine grp m c t b hb x r hr 3 (by decide) ⟨n.val - 1536, by omega⟩ 8 (by decide) (by decide) _ _ _ (fun j => ?_) (fun j => ?_) (fun j => ?_) n (by show n.val = 3 * 512 + (n.val - 1536); omega)
    · refine (s8 _ (fun y => pad (col m c b ⟨3 * 512 + j, by omega⟩) (t.val % 32 * 512 + y)) j (fun y => ?_) x).trans (congrArg (ws _ _) (by omega))
      refine Eq.trans ?_ (ext_blk m c t b hb y ⟨3 * 512 + j, by omega⟩)
      exact sl3 _ y j
    · refine Eq.trans ?_ (u_blk m c t b hb x r hr ⟨3 * 512 + j, by omega⟩)
      exact su3 _ x j
    · exact (ldw _ 3 (by decide) _ j _).trans (blk6 m c t _ j _)
  · rw [h4, blk5 m c t b hb, blk7 m c t]
    rfl

open Idealize.ShloMosaic.Pipeline (Dat)

theorem final (c : Dev nD) : (dats m 0 c).arrAt 10 cfg0.N = G m c :=
  (dats m 0 c).arrAt_eq_of_covers 10 _ (by decide +kernel) fun t hf y => by
    have hN : cfg0.N = 64 := N_0
    have htl : t.val < 64 := lt_of_lt_of_eq t.isLt hN
    blk_simp
    rw [after0_10]
    obtain ⟨y0, x, d, rfl⟩ : ∃ (y0 : Fin 1) (x : Fin 512) (d : Fin 2048), y = ix3 y0 x d := ⟨y 0, y 1, y 2, by funext a; fin_cases a <;> rfl⟩
    obtain rfl : y0 = 0 := Subsingleton.elim _ _
    have hx := x.isLt
    have hd := d.isLt
    have e : (win0_10.blk t).view.emb (ix3 0 x d) = (ix3 (⟨t.val / 32, by omega⟩ : Fin 2) (⟨t.val % 32 * 512 + x, by omega⟩ : Fin 16384) d : S2x16384x2048.Idx) := by
      blk_ext [idx t]
    exact (out_blk m c t ⟨t.val / 32, by omega⟩ ⟨t.val % 32 * 512 + x, by omega⟩ x rfl rfl d).trans (congrArg (G m c) e).symm

end Cert.PoolIdeal.Poo
-- ==== Proof.Poo.Ref.lean ====
module
public import proofs.«01_k».proof.Proof.Gen.PoolRefIdeal.Run
public import proofs.«01_k».proof.Proof.Poo.Ops
public import proofs.«01_k».proof.Proof.Poo.Out
/-! The plain pooling mixer with its residual and norm is what the kernel leaves. -/
@[expose] public section
set_option maxRecDepth 16384
noncomputable section
namespace Cert.PoolRefIdeal.Poo
open Idealize.ShloMosaic Idealize.ShloMosaic.TcCoe Idealize.SL Idealize.SL.Sem
open Cert.PoolRefIdeal Cert.PoolRefIdeal.Gen
open _root_.Poo (pad ws cs cn cn_sub hi_word lo_word diff)

/-- The modulated sequence, its columns in four groups. -/
abbrev U (A0 : Vec Ideal S2x16384x2048 .f32) (A1 A2 : Vec Ideal S2x1x2048 .f32) : Vec Ideal S2x16384x4x512 .f32 :=
  shapeCast _ (addf (F := Ideal) (φ := .f32) (mulf A0 (broadcastInDim S2x16384x2048 ![0, 1, 2] bcast_S2x1x2048_S2x16384x2048_0_1_2 (addf (broadcastInDim S2x1x2048 ![] bcast_S_S2x1x2048 (constant S_ .f32 0x3F800000#32)) A2))) (broadcastInDim S2x16384x2048 ![0, 1, 2] bcast_S2x1x2048_S2x16384x2048_0_1_2 A1)) shapeCasts_S2x16384x2048_S2x16384x4x512

theorem U_at (A0 : Vec Ideal S2x16384x2048 .f32) (A1 A2 : Vec Ideal S2x1x2048 .f32) (b : Fin 2) (r : Fin 16384) (g : Fin 4) (k : Fin 512) :
    U A0 A1 A2 (ix4 b r g k) = A0 (ix3 b r ⟨g * 512 + k, by omega⟩) * (1 + A2 (ix3 b 0 ⟨g * 512 + k, by omega⟩)) + A1 (ix3 b 0 ⟨g * 512 + k, by omega⟩) := by
  pointwise [U]

/-- The running sums down the rows, with a row of zeros first. -/
abbrev CS (V : Vec Ideal S2x16384x4x512 .f32) : Vec Ideal S2x16385x4x512 .f32 :=
  concatenate S2x16385x4x512 1 [⟨S2x1x4x512, (broadcastInDim S2x1x4x512 ![] bcast_S_S2x1x4x512 (constant (F := Ideal) S_ .f32 0x00000000#32))⟩, ⟨S2x16384x4x512, (Host.reduceWindowAdd (F := Ideal) (φ := .f32) ![1, 16384, 1, 1] ![1, 1, 1, 1] ![0, 16383, 0, 0] ![0, 0, 0, 0] V (broadcastInDim S_ ![] bcast_S_S_ (constant S_ .f32 0x00000000#32)) reduceWindows_S2x16384x4x512_S2x16384x4x512_w1s1p0_0_w16384s1p16383_0_w1s1p0_0_w1s1p0_0 h_S_)⟩] concatenates_S2x1x4x512_S2x16384x4x512_S2x16385x4x512_d1

theorem join_at (W : Vec Ideal S2x16384x4x512 .f32) (b : Fin 2) (n : Fin 16385) (g : Fin 4) (k : Fin 512) :
    (concatenate S2x16385x4x512 1 [⟨S2x1x4x512, (broadcastInDim S2x1x4x512 ![] bcast_S_S2x1x4x512 (constant (F := Ideal) S_ .f32 0x00000000#32))⟩, ⟨S2x16384x4x512, W⟩] concatenates_S2x1x4x512_S2x16384x4x512_S2x16385x4x512_d1 : Vec Ideal S2x16385x4x512 .f32) (ix4 b n g k) = if h : n.val < 1 then (0 : EReal) else W (ix4 b ⟨n - 1, by omega⟩ g k) := by
  pointwise

theorem zero_at (i : S_.Idx) : (broadcastInDim S_ ![] bcast_S_S_ (constant (F := Ideal) S_ .f32 0x00000000#32) : Vec Ideal S_ .f32) i = (0 : EReal) := Lay.zero_bits

theorem CS_at (V : Vec Ideal S2x16384x4x512 .f32) (b : Fin 2) (n : Fin 16385) (g : Fin 4) (k : Fin 512) :
    CS V (ix4 b n g k) = cs (fun i => V (ix4 b i g k)) n := by
  refine (join_at _ b n g k).trans ?_
  by_cases h : n.val < 1
  · have h0 : n.val = 0 := by omega
    refine (dif_pos h).trans ?_
    rw [h0]
    rfl
  · refine (dif_neg h).trans ((cum_at V _ zero_at b ⟨n - 1, by omega⟩ g k).trans (congrArg _ ?_))
    show n.val - 1 + 1 = n.val
    omega

/-- The row after the window's last. -/
abbrev Hi (h : BitVec 32) : IVec S16384 32 :=
  minsi (broadcastInDim S16384 ![] bcast_S_S16384 (id (constantI S_ 32 16384#32))) (maxsi (broadcastInDim S16384 ![] bcast_S_S16384 (id (constantI S_ 32 0#32))) (addi (iotaInDim S16384 32 0) (broadcastInDim S16384 ![] bcast_S_S16384 (constantI S_ 32 h))))
/-- The window's first row. -/
abbrev Lo (h : BitVec 32) : IVec S16384 32 :=
  minsi (broadcastInDim S16384 ![] bcast_S_S16384 (id (constantI S_ 32 16384#32))) (maxsi (broadcastInDim S16384 ![] bcast_S_S16384 (id (constantI S_ 32 0#32))) (subi (iotaInDim S16384 32 0) (broadcastInDim S16384 ![] bcast_S_S16384 (constantI S_ 32 h))))

theorem Hi_at (h : ℕ) (hh : h ≤ 8) (r : Fin 16384) : Hi (BitVec.ofNat 32 h) (ix1 r) = BitVec.ofNat 32 (min (r + h) 16384) :=
  hi_word h hh r r.isLt
theorem Lo_at (h : ℕ) (hh : h ≤ 8) (r : Fin 16384) : Lo (BitVec.ofNat 32 h) (ix1 r) = BitVec.ofNat 32 (r - h) :=
  lo_word h hh r r.isLt

/-- The mean over the window less the row, for one group. -/
abbrev Gv (C : Vec Ideal S2x16385x512 .f32) (V : Vec Ideal S2x16384x512 .f32) (L H : IVec S16384 32) : Vec Ideal S2x16384x512 .f32 :=
  subf (F := Ideal) (φ := .f32) (Host.divf (subf (Tk C (Ix H)) (Tk C (Ix L))) (broadcastInDim S2x16384x512 ![0, 1, 2] bcast_S1x16384x1_S2x16384x512_0_1_2 (broadcastInDim S1x16384x1 ![1] bcast_S16384_S1x16384x1_1 (sitofp .f32 (subi H L))))) V

theorem gv_at (T1 T2 V : Vec Ideal S2x16384x512 .f32) (L H : IVec S16384 32) (b : Fin 2) (r : Fin 16384) (k : Fin 512) :
    subf (F := Ideal) (φ := .f32) (Host.divf (subf T1 T2) (broadcastInDim S2x16384x512 ![0, 1, 2] bcast_S1x16384x1_S2x16384x512_0_1_2 (broadcastInDim S1x16384x1 ![1] bcast_S16384_S1x16384x1_1 (sitofp .f32 (subi H L))))) V (ix3 b r k) = Ideal.div (T1 (ix3 b r k) - T2 (ix3 b r k)) (FloatOps.sitofp (F := Ideal) .f32 (H (ix1 r) - L (ix1 r))) - V (ix3 b r k) := by
  pointwise
  rfl

theorem Gv_at (C : Vec Ideal S2x16385x512 .f32) (V : Vec Ideal S2x16384x512 .f32) (h : ℕ) (hh : h ≤ 8) (b : Fin 2) (r : Fin 16384) (k : Fin 512) (u : Fin 16384 → EReal) (hu : ∀ i, ∃ x : ℝ, u i = (x : EReal))
    (hC : ∀ n : Fin 16385, C (ix3 b n k) = cs u n) (hV : V (ix3 b r k) = u r) :
    Gv C V (Lo (BitVec.ofNat 32 h)) (Hi (BitVec.ofNat 32 h)) (ix3 b r k) = Ideal.div (ws (pad u) (h + h) (r + 8 - h)) (FloatOps.sitofp (F := Ideal) .f32 (cn h r)) - u r := by
  have hr := r.isLt
  refine (gv_at _ _ _ _ _ b r k).trans ?_
  rw [Hi_at h hh, Lo_at h hh, cn_sub h r hr, hV,
    Tk_at C _ (fun r => min (r + h) 16384) (fun r => Nat.min_le_right _ _) (fun r => Ix_at _ r _ (Nat.min_le_right _ _) (Hi_at h hh r)),
    Tk_at C _ (fun r => r - h) (fun r => by have := r.isLt; show r.val - h ≤ 16384; omega) (fun r => Ix_at _ r _ (by have := r.isLt; omega) (Lo_at h hh r)),
    hC, hC]
  exact congrArg (fun z => Ideal.div z _ - _) (diff u hu r h hr hh)

/-- The running sums of group 0. -/
abbrev C0 (C : Vec Ideal S2x16385x4x512 .f32) : Vec Ideal S2x16385x512 .f32 :=
  shapeCast _ (extractStridedSlice S2x16385x1x512 ![0, 0, 0, 0] C slices_S2x16385x4x512_S2x16385x1x512_0_0_0_0) shapeCasts_S2x16385x1x512_S2x16385x512
theorem C0_at (C : Vec Ideal S2x16385x4x512 .f32) (b : Fin 2) (n : Fin 16385) (k : Fin 512) : C0 C (ix3 b n k) = C (ix4 b n 0 k) := by
  pointwise [C0]
/-- The columns of group 0. -/
abbrev V0 (V : Vec Ideal S2x16384x4x512 .f32) : Vec Ideal S2x16384x512 .f32 :=
  shapeCast _ (extractStridedSlice S2x16384x1x512 ![0, 0, 0, 0] V slices_S2x16384x4x512_S2x16384x1x512_0_0_0_0) shapeCasts_S2x16384x1x512_S2x16384x512
theorem V0_at (V : Vec Ideal S2x16384x4x512 .f32) (b : Fin 2) (n : Fin 16384) (k : Fin 512) : V0 V (ix3 b n k) = V (ix4 b n 0 k) := by
  pointwise [V0]
/-- The running sums of group 1. -/
abbrev C1 (C : Vec Ideal S2x16385x4x512 .f32) : Vec Ideal S2x16385x512 .f32 :=
  shapeCast _ (extractStridedSlice S2x16385x1x512 ![0, 0, 1, 0] C slices_S2x16385x4x512_S2x16385x1x512_0_0_1_0) shapeCasts_S2x16385x1x512_S2x16385x512
theorem C1_at (C : Vec Ideal S2x16385x4x512 .f32) (b : Fin 2) (n : Fin 16385) (k : Fin 512) : C1 C (ix3 b n k) = C (ix4 b n 1 k) := by
  pointwise [C1]
/-- The columns of group 1. -/
abbrev V1 (V : Vec Ideal S2x16384x4x512 .f32) : Vec Ideal S2x16384x512 .f32 :=
  shapeCast _ (extractStridedSlice S2x16384x1x512 ![0, 0, 1, 0] V slices_S2x16384x4x512_S2x16384x1x512_0_0_1_0) shapeCasts_S2x16384x1x512_S2x16384x512
theorem V1_at (V : Vec Ideal S2x16384x4x512 .f32) (b : Fin 2) (n : Fin 16384) (k : Fin 512) : V1 V (ix3 b n k) = V (ix4 b n 1 k) := by
  pointwise [V1]
/-- The running sums of group 2. -/
abbrev C2 (C : Vec Ideal S2x16385x4x512 .f32) : Vec Ideal S2x16385x512 .f32 :=
  shapeCast _ (extractStridedSlice S2x16385x1x512 ![0, 0, 2, 0] C slices_S2x16385x4x512_S2x16385x1x512_0_0_2_0) shapeCasts_S2x16385x1x512_S2x16385x512
theorem C2_at (C : Vec Ideal S2x16385x4x512 .f32) (b : Fin 2) (n : Fin 16385) (k : Fin 512) : C2 C (ix3 b n k) = C (ix4 b n 2 k) := by
  pointwise [C2]
/-- The columns of group 2. -/
abbrev V2 (V : Vec Ideal S2x16384x4x512 .f32) : Vec Ideal S2x16384x512 .f32 :=
  shapeCast _ (extractStridedSlice S2x16384x1x512 ![0, 0, 2, 0] V slices_S2x16384x4x512_S2x16384x1x512_0_0_2_0) shapeCasts_S2x16384x1x512_S2x16384x512
theorem V2_at (V : Vec Ideal S2x16384x4x512 .f32) (b : Fin 2) (n : Fin 16384) (k : Fin 512) : V2 V (ix3 b n k) = V (ix4 b n 2 k) := by
  pointwise [V2]
/-- The running sums of group 3. -/
abbrev C3 (C : Vec Ideal S2x16385x4x512 .f32) : Vec Ideal S2x16385x512 .f32 :=
  shapeCast _ (extractStridedSlice S2x16385x1x512 ![0, 0, 3, 0] C slices_S2x16385x4x512_S2x16385x1x512_0_0_3_0) shapeCasts_S2x16385x1x512_S2x16385x512
theorem C3_at (C : Vec Ideal S2x16385x4x512 .f32) (b : Fin 2) (n : Fin 16385) (k : Fin 512) : C3 C (ix3 b n k) = C (ix4 b n 3 k) := by
  pointwise [C3]
/-- The columns of group 3. -/
abbrev V3 (V : Vec Ideal S2x16384x4x512 .f32) : Vec Ideal S2x16384x512 .f32 :=
  shapeCast _ (extractStridedSlice S2x16384x1x512 ![0, 0, 3, 0] V slices_S2x16384x4x512_S2x16384x1x512_0_0_3_0) shapeCasts_S2x16384x1x512_S2x16384x512
theorem V3_at (V : Vec Ideal S2x16384x4x512 .f32) (b : Fin 2) (n : Fin 16384) (k : Fin 512) : V3 V (ix3 b n k) = V (ix4 b n 3 k) := by
  pointwise [V3]

/-- The four groups side by side. -/
abbrev St (g0 g1 g2 g3 : Vec Ideal S2x16384x512 .f32) : Vec Ideal S2x16384x4x512 .f32 :=
  concatenate S2x16384x4x512 2 [⟨S2x16384x1x512, (broadcastInDim S2x16384x1x512 ![0, 1, 3] bcast_S2x16384x512_S2x16384x1x512_0_1_3 g0)⟩, ⟨S2x16384x1x512, (broadcastInDim S2x16384x1x512 ![0, 1, 3] bcast_S2x16384x512_S2x16384x1x512_0_1_3 g1)⟩, ⟨S2x16384x1x512, (broadcastInDim S2x16384x1x512 ![0, 1, 3] bcast_S2x16384x512_S2x16384x1x512_0_1_3 g2)⟩, ⟨S2x16384x1x512, (broadcastInDim S2x16384x1x512 ![0, 1, 3] bcast_S2x16384x512_S2x16384x1x512_0_1_3 g3)⟩] concatenates_S2x16384x1x512_S2x16384x1x512_S2x16384x1x512_S2x16384x1x512_S2x16384x4x512_d2
theorem St0 (g0 g1 g2 g3 : Vec Ideal S2x16384x512 .f32) (b : Fin 2) (r : Fin 16384) (k : Fin 512) : St g0 g1 g2 g3 (ix4 b r 0 k) = g0 (ix3 b r k) := by
  pointwise [St]
theorem St1 (g0 g1 g2 g3 : Vec Ideal S2x16384x512 .f32) (b : Fin 2) (r : Fin 16384) (k : Fin 512) : St g0 g1 g2 g3 (ix4 b r 1 k) = g1 (ix3 b r k) := by
  pointwise [St]
theorem St2 (g0 g1 g2 g3 : Vec Ideal S2x16384x512 .f32) (b : Fin 2) (r : Fin 16384) (k : Fin 512) : St g0 g1 g2 g3 (ix4 b r 2 k) = g2 (ix3 b r k) := by
  pointwise [St]
theorem St3 (g0 g1 g2 g3 : Vec Ideal S2x16384x512 .f32) (b : Fin 2) (r : Fin 16384) (k : Fin 512) : St g0 g1 g2 g3 (ix4 b r 3 k) = g3 (ix3 b r k) := by
  pointwise [St]

/-- The four groups of the modulated sequence `V`. -/
abbrev Sv (V : Vec Ideal S2x16384x4x512 .f32) : Vec Ideal S2x16384x4x512 .f32 :=
  St (Gv (C0 (CS V)) (V0 V) (Lo 1#32) (Hi 1#32)) (Gv (C1 (CS V)) (V1 V) (Lo 2#32) (Hi 2#32)) (Gv (C2 (CS V)) (V2 V) (Lo 4#32) (Hi 4#32)) (Gv (C3 (CS V)) (V3 V) (Lo 8#32) (Hi 8#32))

theorem Sv_at (V : Vec Ideal S2x16384x4x512 .f32) (hV : ∀ i, ∃ x : ℝ, V i = (x : EReal)) (b : Fin 2) (r : Fin 16384) (g : Fin 4) (k : Fin 512) :
    Sv V (ix4 b r g k) = Ideal.div (ws (pad (fun i => V (ix4 b i g k))) (2 ^ g.val + 2 ^ g.val) (r + 8 - 2 ^ g.val)) (FloatOps.sitofp (F := Ideal) .f32 (cn (2 ^ g.val) r)) - V (ix4 b r g k) := by
  fin_cases g
  · exact (St0 _ _ _ _ b r k).trans (Gv_at _ _ 1 (by decide) b r k (fun i => V (ix4 b i 0 k)) (fun i => hV _) (fun n => (C0_at _ b n k).trans (CS_at V b n 0 k)) (V0_at V b r k))
  · exact (St1 _ _ _ _ b r k).trans (Gv_at _ _ 2 (by decide) b r k (fun i => V (ix4 b i 1 k)) (fun i => hV _) (fun n => (C1_at _ b n k).trans (CS_at V b n 1 k)) (V1_at V b r k))
  · exact (St2 _ _ _ _ b r k).trans (Gv_at _ _ 4 (by decide) b r k (fun i => V (ix4 b i 2 k)) (fun i => hV _) (fun n => (C2_at _ b n k).trans (CS_at V b n 2 k)) (V2_at V b r k))
  · exact (St3 _ _ _ _ b r k).trans (Gv_at _ _ 8 (by decide) b r k (fun i => V (ix4 b i 3 k)) (fun i => hV _) (fun n => (C3_at _ b n k).trans (CS_at V b n 3 k)) (V3_at V b r k))

/-- The residual sum before the norm. -/
abbrev X (A0 : Vec Ideal S2x16384x2048 .f32) (A3 : Vec Ideal S2x1x2048 .f32) (A4 : Vec Ideal S4x512x512 .f32) (A5 : Vec Ideal S2048 .f32) (S : Vec Ideal S2x16384x4x512 .f32) : Vec Ideal S2x16384x2048 .f32 :=
  addf (F := Ideal) (φ := .f32) (mulf (broadcastInDim S2x16384x2048 ![] bcast_S_S2x16384x2048 (constant S_ .f32 0x3FD744FD#32)) A0) (mulf (broadcastInDim S2x16384x2048 ![0, 1, 2] bcast_S2x1x2048_S2x16384x2048_0_1_2 A3) (mulf (shapeCast _ (transpose S2x16384x4x512 [2, 3, 0, 1] (Host.dotGeneral (F := Ideal) (φ₁ := .f32) (φ₂ := .f32) dot_S4x512x512_S2x16384x4x512_S4x512x2x16384_1_3_2_01_0_2 none A4 S) transposes_S4x512x2x16384_S2x16384x4x512_2_3_0_1) shapeCasts_S2x16384x4x512_S2x16384x2048) (broadcastInDim S2x16384x2048 ![0, 1, 2] bcast_S1x1x2048_S2x16384x2048_0_1_2 (broadcastInDim S1x1x2048 ![2] bcast_S2048_S1x1x2048_2 A5))))

theorem X_at (A0 : Vec Ideal S2x16384x2048 .f32) (A3 : Vec Ideal S2x1x2048 .f32) (A4 : Vec Ideal S4x512x512 .f32) (A5 : Vec Ideal S2048 .f32) (S : Vec Ideal S2x16384x4x512 .f32) (b : Fin 2) (r : Fin 16384) (n : Fin 2048) :
    X A0 A3 A4 A5 S (ix3 b r n) = Lay.al * A0 (ix3 b r n) + A3 (ix3 b 0 n) * ((∑ j : Fin 512, A4 (ix3 ⟨n.val / 512, by omega⟩ j ⟨n.val % 512, by omega⟩) * S (ix4 b r ⟨n.val / 512, by omega⟩ j)) * A5 (ix1 n)) := by
  pointwise [X]

/-- A row less its mean. -/
abbrev Ce (X : Vec Ideal S2x16384x2048 .f32) : Vec Ideal S2x16384x2048 .f32 :=
  subf (F := Ideal) (φ := .f32) X (broadcastInDim S2x16384x2048 ![0, 1, 2] bcast_S2x16384x1_S2x16384x2048_0_1_2 (Host.divf (broadcastInDim S2x16384x1 ![0, 1] bcast_S2x16384_S2x16384x1_0_1 (Host.reduceAdd X (constant S_ .f32 0x00000000#32) reducesTo_S2x16384x2048_S2x16384_d2 h_S_)) (broadcastInDim S2x16384x1 ![] bcast_S_S2x16384x1 (constant S_ .f32 0x45000000#32))))

theorem Ce_at (X : Vec Ideal S2x16384x2048 .f32) (b : Fin 2) (r : Fin 16384) (n : Fin 2048) :
    Ce X (ix3 b r n) = X (ix3 b r n) - Ideal.div (∑ k : Fin 2048, X (ix3 b r k)) Lay.nd := by
  pointwise [Ce]

/-- The norm over the last axis, given the centred rows. -/
abbrev Lc (Z : Vec Ideal S2x16384x2048 .f32) (G B : Vec Ideal S2048 .f32) : Vec Ideal S2x16384x2048 .f32 :=
  addf (F := Ideal) (φ := .f32) (mulf (mulf Z (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf Z Z) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 G))) (broadcastInDim S2x16384x2048 ![0, 1, 2] bcast_S1x1x2048_S2x16384x2048_0_1_2 (broadcastInDim S1x1x2048 ![2] bcast_S2048_S1x1x2048_2 B))

theorem Lc_at (Z : Vec Ideal S2x16384x2048 .f32) (G B : Vec Ideal S2048 .f32) (b : Fin 2) (r : Fin 16384) (n : Fin 2048) :
    Lc Z G B (ix3 b r n) = Z (ix3 b r n) * Ideal.rsqrt (Ideal.div (∑ k : Fin 2048, Z (ix3 b r k) * Z (ix3 b r k)) Lay.nd + Lay.ep) * G (ix1 n) + B (ix1 n) := by
  pointwise [Lc]

/-- The norm over the last axis. -/
abbrev Ln (X : Vec Ideal S2x16384x2048 .f32) (G B : Vec Ideal S2048 .f32) : Vec Ideal S2x16384x2048 .f32 := Lc (Ce X) G B

theorem Ln_at (X : Vec Ideal S2x16384x2048 .f32) (G B : Vec Ideal S2048 .f32) (b : Fin 2) (r : Fin 16384) (n : Fin 2048) :
    Ln X G B (ix3 b r n) = Lay.ln (fun k => X (ix3 b r k)) (G (ix1 n)) (B (ix1 n)) n := by
  show Lc (Ce X) G B (ix3 b r n) = _
  rw [Lc_at]
  simp only [Ce_at, Lay.ln]

open Cert.PoolIdeal.Poo (a0 a1 a2 a3 a4 a5 a6 a7 G col df pj mo)

theorem ref_eq (m : (ℓ : Loc Cert.PoolIdeal.nD Cert.PoolIdeal.τ Cert.PoolIdeal.sig) → Buf (Elt Ideal) ℓ) (c : Dev Cert.PoolIdeal.nD)
    (h0 : ∀ i, ∃ x : ℝ, a0 m c i = (x : EReal)) (h1 : ∀ i, ∃ x : ℝ, a1 m c i = (x : EReal)) (h2 : ∀ i, ∃ x : ℝ, a2 m c i = (x : EReal)) :
    Ln (X (a0 m c) (a3 m c) (a4 m c) (a5 m c) (Sv (U (a0 m c) (a1 m c) (a2 m c)))) (a6 m c) (a7 m c) = G m c := by
  have hU : ∀ i, ∃ x : ℝ, U (a0 m c) (a1 m c) (a2 m c) i = (x : EReal) := fun i => by
    obtain ⟨b, r, g, k, rfl⟩ : ∃ (b : Fin 2) (r : Fin 16384) (g : Fin 4) (k : Fin 512), i = ix4 b r g k := ⟨i 0, i 1, i 2, i 3, by funext a; fin_cases a <;> rfl⟩
    obtain ⟨x, hx⟩ := h0 (ix3 b r ⟨g * 512 + k, by omega⟩)
    obtain ⟨y, hy⟩ := h1 (ix3 b 0 ⟨g * 512 + k, by omega⟩)
    obtain ⟨z, hz⟩ := h2 (ix3 b 0 ⟨g * 512 + k, by omega⟩)
    refine ⟨x * (1 + z) + y, ?_⟩
    rw [U_at, hx, hy, hz]
    push_cast
    rfl
  funext i
  obtain ⟨b, r, n, rfl⟩ : ∃ (b : Fin 2) (r : Fin 16384) (n : Fin 2048), i = ix3 b r n := ⟨i 0, i 1, i 2, by funext a; fin_cases a <;> rfl⟩
  refine (Ln_at _ _ _ b r n).trans (congrArg (fun z => Lay.ln z _ _ n) (funext fun n => ?_))
  rw [X_at]
  refine congrArg (fun z => Lay.al * a0 m c (ix3 b r n) + a3 m c (ix3 b 0 n) * (z * a5 m c (ix1 n))) ?_
  show _ = pj m c b r n
  unfold pj
  refine Finset.sum_congr rfl fun j _ => ?_
  rw [mul_comm, Sv_at _ hU]
  refine congrArg (· * _) ?_
  have e : (fun i => U (a0 m c) (a1 m c) (a2 m c) (ix4 b i ⟨n.val / 512, by omega⟩ j)) = col m c b ⟨n.val / 512 * 512 + j.val, by omega⟩ := funext fun i => U_at _ _ _ b i _ j
  exact congrArg (fun u => Ideal.div (ws (pad u) (2 ^ (n.val / 512) + 2 ^ (n.val / 512)) (r + 8 - 2 ^ (n.val / 512))) (FloatOps.sitofp (F := Ideal) .f32 (cn (2 ^ (n.val / 512)) r)) - u r) e

set_option maxHeartbeats 4000000 in
/-- The run of the plain program, its result by the names here. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v126) = Ln (X (m ((c.tc : Thread nD τ).loc main_arg0)) (m ((c.tc : Thread nD τ).loc main_arg3)) (m ((c.tc : Thread nD τ).loc main_arg4)) (m ((c.tc : Thread nD τ).loc main_arg5)) (Sv (U (m ((c.tc : Thread nD τ).loc main_arg0)) (m ((c.tc : Thread nD τ).loc main_arg1)) (m ((c.tc : Thread nD τ).loc main_arg2))))) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.PoolRefIdeal.Value.run (F := Ideal) m ρ

end Cert.PoolRefIdeal.Poo
-- ==== Proof.lean ====
module
public import proofs.«01_k».proof.Defs
public import proofs.«01_k».proof.Proof.Gen.Attend
public import proofs.«01_k».proof.Proof.Gen.Attend.Frame
public import proofs.«01_k».proof.Proof.Gen.AttendIdeal
public import proofs.«01_k».proof.Proof.Gen.AttendIdeal.Frame
public import proofs.«01_k».proof.Proof.Gen.AttendRefIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.HyOut
public import proofs.«01_k».proof.Proof.Gen.HyOut.Frame
public import proofs.«01_k».proof.Proof.Gen.HyOutIdeal
public import proofs.«01_k».proof.Proof.Gen.HyOutIdeal.Frame
public import proofs.«01_k».proof.Proof.Gen.HyOutIdeal.Value
public import proofs.«01_k».proof.Proof.Gen.HyOutRefIdeal
public import proofs.«01_k».proof.Proof.Gen.HyOutRefIdeal.Run
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.Pre_attend_pre
public import proofs.«01_k».proof.Proof.Gen.HyIn
public import proofs.«01_k».proof.Proof.Gen.HyIn.Frame
public import proofs.«01_k».proof.Proof.Gen.HyInIdeal
public import proofs.«01_k».proof.Proof.Gen.HyInIdeal.Frame
public import proofs.«01_k».proof.Proof.Gen.HyInIdeal.Value
public import proofs.«01_k».proof.Proof.Gen.HyInRefIdeal
public import proofs.«01_k».proof.Proof.Gen.HyInRefIdeal.Run
public import proofs.«01_k».proof.Proof.Gen.LatentIn
public import proofs.«01_k».proof.Proof.Gen.LatentIn.Frame
public import proofs.«01_k».proof.Proof.Gen.LatentInIdeal
public import proofs.«01_k».proof.Proof.Gen.LatentInIdeal.Frame
public import proofs.«01_k».proof.Proof.Gen.LatentInIdeal.Value
public import proofs.«01_k».proof.Proof.Gen.LatentInRefIdeal
public import proofs.«01_k».proof.Proof.Gen.LatentInRefIdeal.Run
public import proofs.«01_k».proof.Proof.Gen.Queries
public import proofs.«01_k».proof.Proof.Gen.Queries.Frame
public import proofs.«01_k».proof.Proof.Gen.QueriesIdeal
public import proofs.«01_k».proof.Proof.Gen.QueriesIdeal.Frame
public import proofs.«01_k».proof.Proof.Gen.QueriesIdeal.Value
public import proofs.«01_k».proof.Proof.Gen.QueriesRefIdeal
public import proofs.«01_k».proof.Proof.Gen.QueriesRefIdeal.Run
public import proofs.«01_k».proof.Proof.Gen.KeysValues
public import proofs.«01_k».proof.Proof.Gen.KeysValues.Frame
public import proofs.«01_k».proof.Proof.Gen.KeysValuesIdeal
public import proofs.«01_k».proof.Proof.Gen.KeysValuesIdeal.Frame
public import proofs.«01_k».proof.Proof.Gen.KeysValuesIdeal.Value
public import proofs.«01_k».proof.Proof.Gen.KeysValuesRefIdeal
public import proofs.«01_k».proof.Proof.Gen.KeysValuesRefIdeal.Run
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.Pre_pool_pre
public import proofs.«01_k».proof.Proof.Gen.Pre_hyena_in_pre
public import proofs.«01_k».proof.Proof.Gen.Pre_latent_in_pre
public import proofs.«01_k».proof.Proof.Gen.Pre_queries_pre
public import proofs.«01_k».proof.Proof.Gen.Pre_keys_values_pre
public import proofs.«01_k».proof.Proof.Gen.AttendIdeal.Value
public import proofs.«01_k».proof.Proof.Gen.AttendRefIdeal.Run
public import proofs.«01_k».proof.Proof.Att.Equal
public import proofs.«01_k».proof.Proof.Qry.Ref
public import proofs.«01_k».proof.Proof.Kvs.Ref
public import proofs.«01_k».proof.Proof.Lai.Ref
public import proofs.«01_k».proof.Proof.Hyi.Ref
public import proofs.«01_k».proof.Proof.Ato.Ref
public import proofs.«01_k».proof.Proof.Hyo.Ref
public import proofs.«01_k».proof.Proof.Ffn.Equal
public import Idealize.ShloMosaic.Lib.Pipeline.ValueKit
public import Idealize.ShloMosaic.Lib.Quiescent
public import Idealize.ShloMosaic.Adequacy
public import Idealize.ShloMosaic.Init
public import proofs.«01_k».proof.Proof.Poo.Pre
public import proofs.«01_k».proof.Proof.Poo.Ref

@[expose] public section

noncomputable section

namespace Cert.Proof

open Idealize.ShloMosaic Idealize.SL.Sem Cert.Attend

theorem attendRef_frame : Cert.quiescent_AttendRefIdeal := fun m ρ _ =>
  (θ_run Cert.AttendRefIdeal.defs _ _).mono (fun r h => ⟨fun c => (h c).2, Idealize.ShloMosaic.sem_eq_zero_of_no_sems (by decide) r.2⟩)
    (Cert.AttendRefIdeal.Value.run (F := Ideal) m ρ)

set_option maxRecDepth 16384 in
theorem attend : Cert.algebraic_AttendIdeal_AttendRefIdeal_pre_attend_pre := fun m g m' g' hpre hargs =>
  ⟨fun c => Cert.AttendIdeal.Att.G m c,
    (θ_run _ _ _).mono (fun r h c => ⟨(h c).1.trans (Cert.AttendIdeal.Att.final m c (Cert.AttendIdeal.Att.fin_of m c ix0 (congrFun (hpre c) ix0))), (h c).2⟩)
      (Cert.AttendIdeal.Value.run_blocks m g),
    (θ_run _ _ _).mono (fun r h c => ⟨(h c).1.trans (by
        obtain ⟨e0, e1, e2, e3, e4⟩ := hargs c
        rw [e0, e1, e2, e3, e4]
        exact Cert.AttendIdeal.Att.ref_eq m c ix0 (congrFun (hpre c) ix0) _ fun b hd r d y hy =>
          Cert.AttendRefIdeal.Att.O_at _ _ (Cert.AttendRefIdeal.Att.E (Cert.AttendRefIdeal.Att.S _ _ _)) b hd r d y hy), (h c).2⟩)
      (Cert.AttendRefIdeal.Value.run m' g')⟩

theorem ffnRef_frame : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

set_option maxRecDepth 16384 in
theorem ffn : Cert.algebraic_FfnIdeal_FfnRefIdeal := fun m g m' g' _ hargs =>
  ⟨fun c => Cert.FfnIdeal.Ffn.G m c,
    (θ_run _ _ _).mono (fun r h c => ⟨(h c).1.trans (Cert.FfnIdeal.Ffn.final m c), (h c).2⟩) (Cert.FfnIdeal.Value.run_blocks m g),
    (θ_run _ _ _).mono (fun r h c => ⟨(h c).1.trans (by
        obtain ⟨e0, e1, e2, e3, e4, e5, e6, e7, e8⟩ := hargs c
        refine (Cert.FfnRefIdeal.Ffn.res_at m' c).trans ?_
        rw [e0, e1, e2, e3, e4, e5, e6, e7, e8]
        exact Cert.FfnIdeal.Ffn.ref_eq m c), (h c).2⟩)
      (Cert.FfnRefIdeal.Value.run m' g')⟩

theorem hyOutRef_frame : Cert.quiescent_HyOutRefIdeal := fun m ρ _ =>
  (θ_run Cert.HyOutRefIdeal.defs _ _).mono (fun r h => ⟨fun c => (h c).2, Idealize.ShloMosaic.sem_eq_zero_of_no_sems (by decide) r.2⟩)
    (Cert.HyOutRefIdeal.Value.run (F := Ideal) m ρ)

set_option maxRecDepth 16384 in
theorem hyOut : Cert.algebraic_HyOutIdeal_HyOutRefIdeal := fun m g m' g' _ hargs =>
  ⟨fun c => Cert.HyOutIdeal.Hyo.G m c,
    (θ_run _ _ _).mono (fun r h c => ⟨(h c).1.trans (Cert.HyOutIdeal.Hyo.final m c), (h c).2⟩) (Cert.HyOutIdeal.Value.run_blocks m g),
    (θ_run _ _ _).mono (fun r h c => ⟨(h c).1.trans (by
        obtain ⟨e0, e1, e2, e3, e4, e5, e6, e7, e8, e9⟩ := hargs c
        refine (Cert.HyOutRefIdeal.Hyo.res_at m' c).trans ?_
        rw [e0, e1, e2, e3, e4, e5, e6, e7, e8, e9]
        exact Cert.HyOutRefIdeal.Hyo.ref_eq m c), (h c).2⟩)
      (Cert.HyOutRefIdeal.Value.run m' g')⟩

theorem attnOutRef_frame : Cert.quiescent_AttnOutRefIdeal := fun m ρ _ =>
  (θ_run Cert.AttnOutRefIdeal.defs _ _).mono (fun r h => ⟨fun c => (h c).2, Idealize.ShloMosaic.sem_eq_zero_of_no_sems (by decide) r.2⟩)
    (Cert.AttnOutRefIdeal.Value.run (F := Ideal) m ρ)

set_option maxRecDepth 16384 in
theorem attnOut : Cert.algebraic_AttnOutIdeal_AttnOutRefIdeal := fun m g m' g' _ hargs =>
  ⟨fun c => Cert.AttnOutIdeal.Ato.G m c,
    (θ_run _ _ _).mono (fun r h c => ⟨(h c).1.trans (Cert.AttnOutIdeal.Ato.final m c), (h c).2⟩) (Cert.AttnOutIdeal.Value.run_blocks m g),
    (θ_run _ _ _).mono (fun r h c => ⟨(h c).1.trans (by
        obtain ⟨e0, e1, e2, e3, e4, e5⟩ := hargs c
        refine (Cert.AttnOutRefIdeal.Ato.res_at m' c).trans ?_
        rw [e0, e1, e2, e3, e4, e5]
        exact Cert.AttnOutRefIdeal.Ato.ref_eq m c), (h c).2⟩)
      (Cert.AttnOutRefIdeal.Value.run m' g')⟩

theorem hyInRef_frame : Cert.quiescent_HyInRefIdeal := fun m ρ _ =>
  (θ_run Cert.HyInRefIdeal.defs _ _).mono (fun r h => ⟨fun c => (h c).2.2, Idealize.ShloMosaic.sem_eq_zero_of_no_sems (by decide) r.2⟩)
    (Cert.HyInRefIdeal.Value.run (F := Ideal) m ρ)

set_option maxRecDepth 16384 in
theorem hyIn : Cert.algebraic_HyInIdeal_HyInRefIdeal_pre_hyena_in_pre := fun m g m' g' hpre hargs =>
  ⟨fun c => Cert.HyInIdeal.Hyi.G1 m c, fun c => Cert.HyInIdeal.Hyi.G2 m c,
    (θ_run _ _ _).mono (fun r h c => ⟨(h c).1.trans (Cert.HyInIdeal.Hyi.final1 m c), (h c).2.1.trans (Cert.HyInIdeal.Hyi.final2 m c), (h c).2.2⟩) (Cert.HyInIdeal.Value.run_blocks m g),
    (θ_run _ _ _).mono (fun r h c => by
      obtain ⟨e0, e1, e2, e3, e4, e5, e6⟩ := hargs c
      obtain ⟨h4, h5⟩ := Cert.Pre_hyena_in_pre.Hyi.fn_one _ _ _ _ _ _ _ ix0 (congrFun (hpre c) ix0)
      refine ⟨(h c).1.trans ?_, (h c).2.1.trans ?_, (h c).2.2⟩
      · refine (Cert.HyInRefIdeal.Hyi.res1 m' c).trans ?_
        rw [e0, e1, e2, e3, e4, e5, e6]
        exact Cert.HyInRefIdeal.Hyi.ref1 m c h4 h5
      · refine (Cert.HyInRefIdeal.Hyi.res2 m' c).trans ?_
        rw [e0, e1, e2, e3, e4, e5, e6]
        exact Cert.HyInRefIdeal.Hyi.ref2 m c h4 h5)
      (Cert.HyInRefIdeal.Value.run m' g')⟩

theorem poolRef_frame : Cert.quiescent_PoolRefIdeal := fun m ρ _ =>
  (θ_run Cert.PoolRefIdeal.defs _ _).mono (fun r h => ⟨fun c => (h c).2, Idealize.ShloMosaic.sem_eq_zero_of_no_sems (by decide) r.2⟩)
    (Cert.PoolRefIdeal.Value.run (F := Ideal) m ρ)

set_option maxRecDepth 16384 in
theorem pool : Cert.algebraic_PoolIdeal_PoolRefIdeal_pre_pool_pre := fun m g m' g' hpre hargs =>
  ⟨fun c => Cert.PoolIdeal.Poo.G m c,
    (θ_run _ _ _).mono (fun r h c => ⟨(h c).1.trans (Cert.PoolIdeal.Poo.final m c), (h c).2⟩) (Cert.PoolIdeal.Value.run_blocks m g),
    (θ_run _ _ _).mono (fun r h c => ⟨(h c).1.trans (by
        obtain ⟨e0, e1, e2, e3, e4, e5, e6, e7⟩ := hargs c
        obtain ⟨h0, h1, h2⟩ := Cert.Pre_pool_pre.Poo.fn_one _ _ _ _ _ _ _ _ ix0 (congrFun (hpre c) ix0)
        rw [e0, e1, e2, e3, e4, e5, e6, e7]
        exact Cert.PoolRefIdeal.Poo.ref_eq m c h0 h1 h2), (h c).2⟩)
      (Cert.PoolRefIdeal.Poo.run m' g')⟩

theorem latentInRef_frame : Cert.quiescent_LatentInRefIdeal := fun m ρ _ =>
  (θ_run Cert.LatentInRefIdeal.defs _ _).mono (fun r h => ⟨fun c => (h c).2, Idealize.ShloMosaic.sem_eq_zero_of_no_sems (by decide) r.2⟩)
    (Cert.LatentInRefIdeal.Value.run (F := Ideal) m ρ)

set_option maxRecDepth 16384 in
theorem latentIn : Cert.algebraic_LatentInIdeal_LatentInRefIdeal_pre_latent_in_pre := fun m g m' g' hpre hargs =>
  ⟨fun c => Cert.LatentInIdeal.Lai.G m c,
    (θ_run _ _ _).mono (fun r h c => ⟨(h c).1.trans (Cert.LatentInIdeal.Lai.final m c), (h c).2⟩) (Cert.LatentInIdeal.Value.run_blocks m g),
    (θ_run _ _ _).mono (fun r h c => ⟨(h c).1.trans (by
        obtain ⟨e0, e1, e2, e3⟩ := hargs c
        obtain ⟨h0, h1, h2, h3⟩ := Cert.Pre_latent_in_pre.Lai.fn_one _ _ _ _ ix0 (congrFun (hpre c) ix0)
        rw [e0, e1, e2, e3]
        exact Cert.LatentInRefIdeal.Lai.ref_eq m c h0 h1 h2 h3), (h c).2⟩)
      (Cert.LatentInRefIdeal.Lai.run m' g')⟩

theorem queriesRef_frame : Cert.quiescent_QueriesRefIdeal := fun m ρ _ =>
  (θ_run Cert.QueriesRefIdeal.defs _ _).mono (fun r h => ⟨fun c => (h c).2, Idealize.ShloMosaic.sem_eq_zero_of_no_sems (by decide) r.2⟩)
    (Cert.QueriesRefIdeal.Value.run (F := Ideal) m ρ)

set_option maxRecDepth 16384 in
theorem queries : Cert.algebraic_QueriesIdeal_QueriesRefIdeal_pre_queries_pre := fun m g m' g' hpre hargs =>
  ⟨fun c => Cert.QueriesIdeal.Qry.G m c,
    (θ_run _ _ _).mono (fun r h c => ⟨(h c).1.trans (Cert.QueriesIdeal.Qry.final m c), (h c).2⟩) (Cert.QueriesIdeal.Value.run_blocks m g),
    (θ_run _ _ _).mono (fun r h c => ⟨(h c).1.trans (by
        obtain ⟨e0, e1, e2, e3⟩ := hargs c
        obtain ⟨h0, h1, h2⟩ := Cert.Pre_queries_pre.Qry.fn_one _ _ _ _ ix0 (congrFun (hpre c) ix0)
        refine (Cert.QueriesRefIdeal.Qry.res_at m' c).trans ?_
        rw [e0, e1, e2, e3]
        exact Cert.QueriesRefIdeal.Qry.ref_eq m c h0 h1 h2), (h c).2⟩)
      (Cert.QueriesRefIdeal.Value.run m' g')⟩

theorem keysValuesRef_frame : Cert.quiescent_KeysValuesRefIdeal := fun m ρ _ =>
  (θ_run Cert.KeysValuesRefIdeal.defs _ _).mono (fun r h => ⟨fun c => (h c).2.2, Idealize.ShloMosaic.sem_eq_zero_of_no_sems (by decide) r.2⟩)
    (Cert.KeysValuesRefIdeal.Value.run (F := Ideal) m ρ)

set_option maxRecDepth 16384 in
theorem keysValues : Cert.algebraic_KeysValuesIdeal_KeysValuesRefIdeal_pre_keys_values_pre := fun m g m' g' hpre hargs =>
  ⟨fun c => Cert.KeysValuesIdeal.Kvs.G1 m c, fun c => Cert.KeysValuesIdeal.Kvs.G2 m c,
    (θ_run _ _ _).mono (fun r h c => ⟨(h c).1.trans (Cert.KeysValuesIdeal.Kvs.final1 m c), (h c).2.1.trans (Cert.KeysValuesIdeal.Kvs.final2 m c), (h c).2.2⟩) (Cert.KeysValuesIdeal.Value.run_blocks m g),
    (θ_run _ _ _).mono (fun r h c => by
      obtain ⟨e0, e1, e2, e3⟩ := hargs c
      have ht := Cert.KeysValuesRefIdeal.Kvs.turned _ _ _ _ ix0 (congrFun (hpre c) ix0)
      refine ⟨(h c).1.trans ?_, (h c).2.1.trans ?_, (h c).2.2⟩
      · rw [e0, e1, e2, e3]
        exact Cert.KeysValuesRefIdeal.Kvs.ref1 m c ht
      · rw [e0, e1, e2]
        exact Cert.KeysValuesRefIdeal.Kvs.ref2 m c)
      (Cert.KeysValuesRefIdeal.Kvs.run m' g')⟩

theorem claim : Cert.Claim := ⟨Cert.Attend.Gen.facts, Cert.AttendIdeal.Gen.facts, Cert.AttendRefIdeal.Gen.facts, Cert.Ffn.Gen.facts, Cert.FfnIdeal.Gen.facts, Cert.FfnRefIdeal.Gen.facts, Cert.HyOut.Gen.facts, Cert.HyOutIdeal.Gen.facts, Cert.HyOutRefIdeal.Gen.facts, Cert.AttnOut.Gen.facts, Cert.AttnOutIdeal.Gen.facts, Cert.AttnOutRefIdeal.Gen.facts, Cert.HyIn.Gen.facts, Cert.HyInIdeal.Gen.facts, Cert.HyInRefIdeal.Gen.facts, Cert.Pool.Gen.facts, Cert.PoolIdeal.Gen.facts, Cert.PoolRefIdeal.Gen.facts, Cert.LatentIn.Gen.facts, Cert.LatentInIdeal.Gen.facts, Cert.LatentInRefIdeal.Gen.facts, Cert.Queries.Gen.facts, Cert.QueriesIdeal.Gen.facts, Cert.QueriesRefIdeal.Gen.facts, Cert.KeysValues.Gen.facts, Cert.KeysValuesIdeal.Gen.facts, Cert.KeysValuesRefIdeal.Gen.facts, Cert.Pre_attend_pre.Gen.facts, Cert.Pre_hyena_in_pre.Gen.facts, Cert.Pre_pool_pre.Gen.facts, Cert.Pre_latent_in_pre.Gen.facts, Cert.Pre_queries_pre.Gen.facts, Cert.Pre_keys_values_pre.Gen.facts,
  fun m ρ _ => Cert.Attend.Gen.frame m ρ,
  fun m ρ _ => Cert.AttendIdeal.Gen.frame m ρ,
  fun m ρ _ => Cert.AttendIdeal.Gen.frame m ρ,
  fun m ρ _ => attendRef_frame m ρ trivial,
  fun m ρ _ => attendRef_frame m ρ trivial,
  fun m ρ _ => Cert.Ffn.Gen.frame m ρ,
  fun m ρ _ => Cert.FfnIdeal.Gen.frame m ρ,
  fun m ρ _ => ffnRef_frame m ρ trivial,
  fun m ρ _ => Cert.HyOut.Gen.frame m ρ,
  fun m ρ _ => Cert.HyOutIdeal.Gen.frame m ρ,
  fun m ρ _ => hyOutRef_frame m ρ trivial,
  fun m ρ _ => Cert.AttnOut.Gen.frame m ρ,
  fun m ρ _ => Cert.AttnOutIdeal.Gen.frame m ρ,
  fun m ρ _ => attnOutRef_frame m ρ trivial,
  fun m ρ _ => Cert.HyIn.Gen.frame m ρ,
  fun m ρ _ => Cert.HyInIdeal.Gen.frame m ρ,
  fun m ρ _ => Cert.HyInIdeal.Gen.frame m ρ,
  fun m ρ _ => hyInRef_frame m ρ trivial,
  fun m ρ _ => hyInRef_frame m ρ trivial,
  fun m ρ _ => Cert.Pool.Gen.frame m ρ,
  fun m ρ _ => Cert.PoolIdeal.Gen.frame m ρ,
  fun m ρ _ => Cert.PoolIdeal.Gen.frame m ρ,
  fun m ρ _ => poolRef_frame m ρ trivial,
  fun m ρ _ => poolRef_frame m ρ trivial,
  fun m ρ _ => Cert.LatentIn.Gen.frame m ρ,
  fun m ρ _ => Cert.LatentInIdeal.Gen.frame m ρ,
  fun m ρ _ => Cert.LatentInIdeal.Gen.frame m ρ,
  fun m ρ _ => latentInRef_frame m ρ trivial,
  fun m ρ _ => latentInRef_frame m ρ trivial,
  fun m ρ _ => Cert.Queries.Gen.frame m ρ,
  fun m ρ _ => Cert.QueriesIdeal.Gen.frame m ρ,
  fun m ρ _ => Cert.QueriesIdeal.Gen.frame m ρ,
  fun m ρ _ => queriesRef_frame m ρ trivial,
  fun m ρ _ => queriesRef_frame m ρ trivial,
  fun m ρ _ => Cert.KeysValues.Gen.frame m ρ,
  fun m ρ _ => Cert.KeysValuesIdeal.Gen.frame m ρ,
  fun m ρ _ => Cert.KeysValuesIdeal.Gen.frame m ρ,
  fun m ρ _ => keysValuesRef_frame m ρ trivial,
  fun m ρ _ => keysValuesRef_frame m ρ trivial,
  trivial,
  attend,
  trivial,
  ffn,
  trivial,
  hyOut,
  trivial,
  attnOut,
  trivial,
  hyIn,
  trivial,
  pool,
  trivial,
  latentIn,
  trivial,
  queries,
  trivial,
  keysValues⟩

end Cert.Proof

end
